-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInReferenceIdeal (m : (ℓ : Loc Cert.SsdInReferenceIdeal.nD Cert.SsdInReferenceIdeal.τ Cert.SsdInReferenceIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_GmIn (m : (ℓ : Loc Cert.GmIn.nD Cert.GmIn.τ Cert.GmIn.sig) → Buf (Elt Bits) ℓ) : Prop :=
  True

def Pre_GmInIdeal (m : (ℓ : Loc Cert.GmInIdeal.nD Cert.GmInIdeal.τ Cert.GmInIdeal.sig) → Buf (Elt Ideal) ℓ) : Prop :=
  True

def Pre_GmInReferenceIdeal (m : (ℓ : Loc Cert.GmInReferenceIdeal.nD Cert.GmInReferenceIdeal.τ Cert.GmInReferenceIdeal.sig) → Buf (Elt Ideal) ℓ) : Prop :=
  True

def Pre_GmGate (m : (ℓ : Loc Cert.GmGate.nD Cert.GmGate.τ Cert.GmGate.sig) → Buf (Elt Bits) ℓ) : Prop :=
  True

def Pre_GmGateIdeal (m : (ℓ : Loc Cert.GmGateIdeal.nD Cert.GmGateIdeal.τ Cert.GmGateIdeal.sig) → Buf (Elt Ideal) ℓ) : Prop :=
  True

def Pre_GmGateReferenceIdeal (m : (ℓ : Loc Cert.GmGateReferenceIdeal.nD Cert.GmGateReferenceIdeal.τ Cert.GmGateReferenceIdeal.sig) → Buf (Elt Ideal) ℓ) : Prop :=
  True

def Pre_SsdDt (m : (ℓ : Loc Cert.SsdDt.nD Cert.SsdDt.τ Cert.SsdDt.sig) → Buf (Elt Bits) ℓ) : Prop :=
  True

def Pre_SsdDtIdeal (m : (ℓ : Loc Cert.SsdDtIdeal.nD Cert.SsdDtIdeal.τ Cert.SsdDtIdeal.sig) → Buf (Elt Ideal) ℓ) : Prop :=
  True

def Pre_SsdDtReferenceIdeal (m : (ℓ : Loc Cert.SsdDtReferenceIdeal.nD Cert.SsdDtReferenceIdeal.τ Cert.SsdDtReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ r.2.sem = fun _ => 0)

def quiescent_SsdInReferenceIdeal [hSsdInReferenceIdeal : Cert.SsdInReferenceIdeal.Facts] : Prop :=
  ∀ (m : (ℓ : Loc Cert.SsdInReferenceIdeal.nD Cert.SsdInReferenceIdeal.τ Cert.SsdInReferenceIdeal.sig) → Buf (Elt Ideal) ℓ) (g : Dev Cert.SsdInReferenceIdeal.nD → PrngReg), Pre_SsdInReferenceIdeal m →
    θ_run (Cert.SsdInReferenceIdeal.defs (F := Ideal)) (onTc (τ := Cert.SsdInReferenceIdeal.τ) (Cert.SsdInReferenceIdeal.main (F := Ideal))) ⟨m, fun _ => 0, g⟩ (fun r => (∀ c : Dev Cert.SsdInReferenceIdeal.nD,
      r.2.mem ((c.tc : Thread Cert.SsdInReferenceIdeal.nD Cert.SsdInReferenceIdeal.τ).loc Cert.SsdInReferenceIdeal.main_arg0) = m ((c.tc : Thread Cert.SsdInReferenceIdeal.nD Cert.SsdInReferenceIdeal.τ).loc Cert.SsdInReferenceIdeal.main_arg0)
      ∧ r.2.mem ((c.tc : Thread Cert.SsdInReferenceIdeal.nD Cert.SsdInReferenceIdeal.τ).loc Cert.SsdInReferenceIdeal.main_arg1) = m ((c.tc : Thread Cert.SsdInReferenceIdeal.nD Cert.SsdInReferenceIdeal.τ).loc Cert.SsdInReferenceIdeal.main_arg1)
      ∧ r.2.mem ((c.tc : Thread Cert.SsdInReferenceIdeal.nD Cert.SsdInReferenceIdeal.τ).loc Cert.SsdInReferenceIdeal.main_arg2) = m ((c.tc : Thread Cert.SsdInReferenceIdeal.nD Cert.SsdInReferenceIdeal.τ).loc Cert.SsdInReferenceIdeal.main_arg2))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1)
      ∧ r.2.mem ((c.tc : Thread Cert.SsdOutReferenceIdeal.nD Cert.SsdOutReferenceIdeal.τ).loc Cert.SsdOutReferenceIdeal.main_arg2) = m ((c.tc : Thread Cert.SsdOutReferenceIdeal.nD Cert.SsdOutReferenceIdeal.τ).loc Cert.SsdOutReferenceIdeal.main_arg2))
      ∧ r.2.sem = fun _ => 0)

def quiescent_GmIn [hGmIn : Cert.GmIn.Facts] : Prop :=
  ∀ (m : (ℓ : Loc Cert.GmIn.nD Cert.GmIn.τ Cert.GmIn.sig) → Buf (Elt Bits) ℓ) (g : Dev Cert.GmIn.nD → PrngReg), Pre_GmIn m →
    θ_run (Cert.GmIn.defs (F := Bits)) (onTc (τ := Cert.GmIn.τ) (Cert.GmIn.main (F := Bits))) ⟨m, fun _ => 0, g⟩ (fun r => (∀ c : Dev Cert.GmIn.nD,
      r.2.mem ((c.tc : Thread Cert.GmIn.nD Cert.GmIn.τ).loc Cert.GmIn.main_arg0) = m ((c.tc : Thread Cert.GmIn.nD Cert.GmIn.τ).loc Cert.GmIn.main_arg0)
      ∧ r.2.mem ((c.tc : Thread Cert.GmIn.nD Cert.GmIn.τ).loc Cert.GmIn.main_arg1) = m ((c.tc : Thread Cert.GmIn.nD Cert.GmIn.τ).loc Cert.GmIn.main_arg1)
      ∧ r.2.mem ((c.tc : Thread Cert.GmIn.nD Cert.GmIn.τ).loc Cert.GmIn.main_arg2) = m ((c.tc : Thread Cert.GmIn.nD Cert.GmIn.τ).loc Cert.GmIn.main_arg2))
      ∧ r.2.sem = fun _ => 0)

def quiescent_GmInIdeal [hGmInIdeal : Cert.GmInIdeal.Facts] : Prop :=
  ∀ (m : (ℓ : Loc Cert.GmInIdeal.nD Cert.GmInIdeal.τ Cert.GmInIdeal.sig) → Buf (Elt Ideal) ℓ) (g : Dev Cert.GmInIdeal.nD → PrngReg), Pre_GmInIdeal m →
    θ_run (Cert.GmInIdeal.defs (F := Ideal)) (onTc (τ := Cert.GmInIdeal.τ) (Cert.GmInIdeal.main (F := Ideal))) ⟨m, fun _ => 0, g⟩ (fun r => (∀ c : Dev Cert.GmInIdeal.nD,
      r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
      ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1)
      ∧ r.2.mem ((c.tc : Thread Cert.GmInIdeal.nD Cert.GmInIdeal.τ).loc Cert.GmInIdeal.main_arg2) = m ((c.tc : Thread Cert.GmInIdeal.nD Cert.GmInIdeal.τ).loc Cert.GmInIdeal.main_arg2))
      ∧ r.2.sem = fun _ => 0)

def quiescent_GmInReferenceIdeal [hGmInReferenceIdeal : Cert.GmInReferenceIdeal.Facts] : Prop :=
  ∀ (m : (ℓ : Loc Cert.GmInReferenceIdeal.nD Cert.GmInReferenceIdeal.τ Cert.GmInReferenceIdeal.sig) → Buf (Elt Ideal) ℓ) (g : Dev Cert.GmInReferenceIdeal.nD → PrngReg), Pre_GmInReferenceIdeal m →
    θ_run (Cert.GmInReferenceIdeal.defs (F := Ideal)) (onTc (τ := Cert.GmInReferenceIdeal.τ) (Cert.GmInReferenceIdeal.main (F := Ideal))) ⟨m, fun _ => 0, g⟩ (fun r => (∀ c : Dev Cert.GmInReferenceIdeal.nD,
      r.2.mem ((c.tc : Thread Cert.GmInReferenceIdeal.nD Cert.GmInReferenceIdeal.τ).loc Cert.GmInReferenceIdeal.main_arg0) = m ((c.tc : Thread Cert.GmInReferenceIdeal.nD Cert.GmInReferenceIdeal.τ).loc Cert.GmInReferenceIdeal.main_arg0)
      ∧ r.2.mem ((c.tc : Thread Cert.GmInReferenceIdeal.nD Cert.GmInReferenceIdeal.τ).loc Cert.GmInReferenceIdeal.main_arg1) = m ((c.tc : Thread Cert.GmInReferenceIdeal.nD Cert.GmInReferenceIdeal.τ).loc Cert.GmInReferenceIdeal.main_arg1)
      ∧ r.2.mem ((c.tc : Thread Cert.GmInReferenceIdeal.nD Cert.GmInReferenceIdeal.τ).loc Cert.GmInReferenceIdeal.main_arg2) = m ((c.tc : Thread Cert.GmInReferenceIdeal.nD Cert.GmInReferenceIdeal.τ).loc Cert.GmInReferenceIdeal.main_arg2))
      ∧ r.2.sem = fun _ => 0)

def quiescent_GmGate [hGmGate : Cert.GmGate.Facts] : Prop :=
  ∀ (m : (ℓ : Loc Cert.GmGate.nD Cert.GmGate.τ Cert.GmGate.sig) → Buf (Elt Bits) ℓ) (g : Dev Cert.GmGate.nD → PrngReg), Pre_GmGate m →
    θ_run (Cert.GmGate.defs (F := Bits)) (onTc (τ := Cert.GmGate.τ) (Cert.GmGate.main (F := Bits))) ⟨m, fun _ => 0, g⟩ (fun r => (∀ c : Dev Cert.GmGate.nD,
      r.2.mem ((c.tc : Thread Cert.GmGate.nD Cert.GmGate.τ).loc Cert.GmGate.main_arg0) = m ((c.tc : Thread Cert.GmGate.nD Cert.GmGate.τ).loc Cert.GmGate.main_arg0)
      ∧ r.2.mem ((c.tc : Thread Cert.GmGate.nD Cert.GmGate.τ).loc Cert.GmGate.main_arg1) = m ((c.tc : Thread Cert.GmGate.nD Cert.GmGate.τ).loc Cert.GmGate.main_arg1)
      ∧ r.2.mem ((c.tc : Thread Cert.GmGate.nD Cert.GmGate.τ).loc Cert.GmGate.main_arg2) = m ((c.tc : Thread Cert.GmGate.nD Cert.GmGate.τ).loc Cert.GmGate.main_arg2)
      ∧ r.2.mem ((c.tc : Thread Cert.GmGate.nD Cert.GmGate.τ).loc Cert.GmGate.main_arg3) = m ((c.tc : Thread Cert.GmGate.nD Cert.GmGate.τ).loc Cert.GmGate.main_arg3)
      ∧ r.2.mem ((c.tc : Thread Cert.GmGate.nD Cert.GmGate.τ).loc Cert.GmGate.main_arg4) = m ((c.tc : Thread Cert.GmGate.nD Cert.GmGate.τ).loc Cert.GmGate.main_arg4)
      ∧ r.2.mem ((c.tc : Thread Cert.GmGate.nD Cert.GmGate.τ).loc Cert.GmGate.main_arg5) = m ((c.tc : Thread Cert.GmGate.nD Cert.GmGate.τ).loc Cert.GmGate.main_arg5))
      ∧ r.2.sem = fun _ => 0)

def quiescent_GmGateIdeal [hGmGateIdeal : Cert.GmGateIdeal.Facts] : Prop :=
  ∀ (m : (ℓ : Loc Cert.GmGateIdeal.nD Cert.GmGateIdeal.τ Cert.GmGateIdeal.sig) → Buf (Elt Ideal) ℓ) (g : Dev Cert.GmGateIdeal.nD → PrngReg), Pre_GmGateIdeal m →
    θ_run (Cert.GmGateIdeal.defs (F := Ideal)) (onTc (τ := Cert.GmGateIdeal.τ) (Cert.GmGateIdeal.main (F := Ideal))) ⟨m, fun _ => 0, g⟩ (fun r => (∀ c : Dev Cert.GmGateIdeal.nD,
      r.2.mem ((c.tc : Thread Cert.GmGateIdeal.nD Cert.GmGateIdeal.τ).loc Cert.GmGateIdeal.main_arg0) = m ((c.tc : Thread Cert.GmGateIdeal.nD Cert.GmGateIdeal.τ).loc Cert.GmGateIdeal.main_arg0)
      ∧ r.2.mem ((c.tc : Thread Cert.GmGateIdeal.nD Cert.GmGateIdeal.τ).loc Cert.GmGateIdeal.main_arg1) = m ((c.tc : Thread Cert.GmGateIdeal.nD Cert.GmGateIdeal.τ).loc Cert.GmGateIdeal.main_arg1)
      ∧ r.2.mem ((c.tc : Thread Cert.GmGateIdeal.nD Cert.GmGateIdeal.τ).loc Cert.GmGateIdeal.main_arg2) = m ((c.tc : Thread Cert.GmGateIdeal.nD Cert.GmGateIdeal.τ).loc Cert.GmGateIdeal.main_arg2)
      ∧ r.2.mem ((c.tc : Thread Cert.GmGateIdeal.nD Cert.GmGateIdeal.τ).loc Cert.GmGateIdeal.main_arg3) = m ((c.tc : Thread Cert.GmGateIdeal.nD Cert.GmGateIdeal.τ).loc Cert.GmGateIdeal.main_arg3)
      ∧ r.2.mem ((c.tc : Thread Cert.GmGateIdeal.nD Cert.GmGateIdeal.τ).loc Cert.GmGateIdeal.main_arg4) = m ((c.tc : Thread Cert.GmGateIdeal.nD Cert.GmGateIdeal.τ).loc Cert.GmGateIdeal.main_arg4)
      ∧ r.2.mem ((c.tc : Thread Cert.GmGateIdeal.nD Cert.GmGateIdeal.τ).loc Cert.GmGateIdeal.main_arg5) = m ((c.tc : Thread Cert.GmGateIdeal.nD Cert.GmGateIdeal.τ).loc Cert.GmGateIdeal.main_arg5))
      ∧ r.2.sem = fun _ => 0)

def quiescent_GmGateReferenceIdeal [hGmGateReferenceIdeal : Cert.GmGateReferenceIdeal.Facts] : Prop :=
  ∀ (m : (ℓ : Loc Cert.GmGateReferenceIdeal.nD Cert.GmGateReferenceIdeal.τ Cert.GmGateReferenceIdeal.sig) → Buf (Elt Ideal) ℓ) (g : Dev Cert.GmGateReferenceIdeal.nD → PrngReg), Pre_GmGateReferenceIdeal m →
    θ_run (Cert.GmGateReferenceIdeal.defs (F := Ideal)) (onTc (τ := Cert.GmGateReferenceIdeal.τ) (Cert.GmGateReferenceIdeal.main (F := Ideal))) ⟨m, fun _ => 0, g⟩ (fun r => (∀ c : Dev Cert.GmGateReferenceIdeal.nD,
      r.2.mem ((c.tc : Thread Cert.GmGateReferenceIdeal.nD Cert.GmGateReferenceIdeal.τ).loc Cert.GmGateReferenceIdeal.main_arg0) = m ((c.tc : Thread Cert.GmGateReferenceIdeal.nD Cert.GmGateReferenceIdeal.τ).loc Cert.GmGateReferenceIdeal.main_arg0)
      ∧ r.2.mem ((c.tc : Thread Cert.GmGateReferenceIdeal.nD Cert.GmGateReferenceIdeal.τ).loc Cert.GmGateReferenceIdeal.main_arg1) = m ((c.tc : Thread Cert.GmGateReferenceIdeal.nD Cert.GmGateReferenceIdeal.τ).loc Cert.GmGateReferenceIdeal.main_arg1)
      ∧ r.2.mem ((c.tc : Thread Cert.GmGateReferenceIdeal.nD Cert.GmGateReferenceIdeal.τ).loc Cert.GmGateReferenceIdeal.main_arg2) = m ((c.tc : Thread Cert.GmGateReferenceIdeal.nD Cert.GmGateReferenceIdeal.τ).loc Cert.GmGateReferenceIdeal.main_arg2)
      ∧ r.2.mem ((c.tc : Thread Cert.GmGateReferenceIdeal.nD Cert.GmGateReferenceIdeal.τ).loc Cert.GmGateReferenceIdeal.main_arg3) = m ((c.tc : Thread Cert.GmGateReferenceIdeal.nD Cert.GmGateReferenceIdeal.τ).loc Cert.GmGateReferenceIdeal.main_arg3)
      ∧ r.2.mem ((c.tc : Thread Cert.GmGateReferenceIdeal.nD Cert.GmGateReferenceIdeal.τ).loc Cert.GmGateReferenceIdeal.main_arg4) = m ((c.tc : Thread Cert.GmGateReferenceIdeal.nD Cert.GmGateReferenceIdeal.τ).loc Cert.GmGateReferenceIdeal.main_arg4)
      ∧ r.2.mem ((c.tc : Thread Cert.GmGateReferenceIdeal.nD Cert.GmGateReferenceIdeal.τ).loc Cert.GmGateReferenceIdeal.main_arg5) = m ((c.tc : Thread Cert.GmGateReferenceIdeal.nD Cert.GmGateReferenceIdeal.τ).loc Cert.GmGateReferenceIdeal.main_arg5))
      ∧ r.2.sem = fun _ => 0)

def quiescent_SsdDt [hSsdDt : Cert.SsdDt.Facts] : Prop :=
  ∀ (m : (ℓ : Loc Cert.SsdDt.nD Cert.SsdDt.τ Cert.SsdDt.sig) → Buf (Elt Bits) ℓ) (g : Dev Cert.SsdDt.nD → PrngReg), Pre_SsdDt m →
    θ_run (Cert.SsdDt.defs (F := Bits)) (onTc (τ := Cert.SsdDt.τ) (Cert.SsdDt.main (F := Bits))) ⟨m, fun _ => 0, g⟩ (fun r => (∀ c : Dev Cert.SsdDt.nD,
      r.2.mem ((c.tc : Thread Cert.SsdDt.nD Cert.SsdDt.τ).loc Cert.SsdDt.main_arg0) = m ((c.tc : Thread Cert.SsdDt.nD Cert.SsdDt.τ).loc Cert.SsdDt.main_arg0)
      ∧ r.2.mem ((c.tc : Thread Cert.SsdDt.nD Cert.SsdDt.τ).loc Cert.SsdDt.main_arg1) = m ((c.tc : Thread Cert.SsdDt.nD Cert.SsdDt.τ).loc Cert.SsdDt.main_arg1)
      ∧ r.2.mem ((c.tc : Thread Cert.SsdDt.nD Cert.SsdDt.τ).loc Cert.SsdDt.main_arg2) = m ((c.tc : Thread Cert.SsdDt.nD Cert.SsdDt.τ).loc Cert.SsdDt.main_arg2))
      ∧ r.2.sem = fun _ => 0)

def quiescent_SsdDtIdeal [hSsdDtIdeal : Cert.SsdDtIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg), Pre_SsdDtIdeal m →
    θ_run (Cert.SsdDtIdeal.defs (F := Ideal)) (onTc (τ := Cert.SsdDtIdeal.τ) (Cert.SsdDtIdeal.main (F := Ideal))) ⟨m, fun _ => 0, g⟩ (fun r => (∀ c : Dev Cert.SsdDtIdeal.nD,
      r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
      ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
      ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2))
      ∧ r.2.sem = fun _ => 0)

def quiescent_SsdDtReferenceIdeal [hSsdDtReferenceIdeal : Cert.SsdDtReferenceIdeal.Facts] : Prop :=
  ∀ (m : (ℓ : Loc Cert.SsdDtReferenceIdeal.nD Cert.SsdDtReferenceIdeal.τ Cert.SsdDtReferenceIdeal.sig) → Buf (Elt Ideal) ℓ) (g : Dev Cert.SsdDtReferenceIdeal.nD → PrngReg), Pre_SsdDtReferenceIdeal m →
    θ_run (Cert.SsdDtReferenceIdeal.defs (F := Ideal)) (onTc (τ := Cert.SsdDtReferenceIdeal.τ) (Cert.SsdDtReferenceIdeal.main (F := Ideal))) ⟨m, fun _ => 0, g⟩ (fun r => (∀ c : Dev Cert.SsdDtReferenceIdeal.nD,
      r.2.mem ((c.tc : Thread Cert.SsdDtReferenceIdeal.nD Cert.SsdDtReferenceIdeal.τ).loc Cert.SsdDtReferenceIdeal.main_arg0) = m ((c.tc : Thread Cert.SsdDtReferenceIdeal.nD Cert.SsdDtReferenceIdeal.τ).loc Cert.SsdDtReferenceIdeal.main_arg0)
      ∧ r.2.mem ((c.tc : Thread Cert.SsdDtReferenceIdeal.nD Cert.SsdDtReferenceIdeal.τ).loc Cert.SsdDtReferenceIdeal.main_arg1) = m ((c.tc : Thread Cert.SsdDtReferenceIdeal.nD Cert.SsdDtReferenceIdeal.τ).loc Cert.SsdDtReferenceIdeal.main_arg1)
      ∧ r.2.mem ((c.tc : Thread Cert.SsdDtReferenceIdeal.nD Cert.SsdDtReferenceIdeal.τ).loc Cert.SsdDtReferenceIdeal.main_arg2) = m ((c.tc : Thread Cert.SsdDtReferenceIdeal.nD Cert.SsdDtReferenceIdeal.τ).loc Cert.SsdDtReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v24) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v14)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v14) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v57) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_SsdIn_SsdInIdeal : Prop :=
  True

def algebraic_SsdInIdeal_SsdInReferenceIdeal [hSsdInIdeal : Cert.SsdInIdeal.Facts] [hSsdInReferenceIdeal : Cert.SsdInReferenceIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInReferenceIdeal.nD Cert.SsdInReferenceIdeal.τ Cert.SsdInReferenceIdeal.sig) → Buf (Elt Ideal) ℓ) (g' : Dev Cert.SsdInReferenceIdeal.nD → PrngReg), Pre_SsdInIdeal m →
    (∀ c : Dev Cert.SsdInIdeal.nD,
      m' ((c.tc : Thread Cert.SsdInReferenceIdeal.nD Cert.SsdInReferenceIdeal.τ).loc Cert.SsdInReferenceIdeal.main_arg0) = m ((c.tc : Thread Cert.SsdInIdeal.nD Cert.SsdInIdeal.τ).loc Cert.SsdInIdeal.main_arg0)
      ∧ m' ((c.tc : Thread Cert.SsdInReferenceIdeal.nD Cert.SsdInReferenceIdeal.τ).loc Cert.SsdInReferenceIdeal.main_arg1) = m ((c.tc : Thread Cert.SsdInIdeal.nD Cert.SsdInIdeal.τ).loc Cert.SsdInIdeal.main_arg1)
      ∧ m' ((c.tc : Thread Cert.SsdInReferenceIdeal.nD Cert.SsdInReferenceIdeal.τ).loc Cert.SsdInReferenceIdeal.main_arg2) = m ((c.tc : Thread Cert.SsdInIdeal.nD Cert.SsdInIdeal.τ).loc Cert.SsdInIdeal.main_arg2)) →
    ∃ (v0 : (c : Dev Cert.SsdInIdeal.nD) → Buf (Elt Ideal) ((c.tc : Thread Cert.SsdInIdeal.nD Cert.SsdInIdeal.τ).loc Cert.SsdInIdeal.main_v5)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v5) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ θ_run (Cert.SsdInReferenceIdeal.defs (F := Ideal)) (onTc (τ := Cert.SsdInReferenceIdeal.τ) (Cert.SsdInReferenceIdeal.main (F := Ideal))) ⟨m', fun _ => 0, g'⟩ (fun r => ∀ c : Dev Cert.SsdInReferenceIdeal.nD,
          r.2.mem ((c.tc : Thread Cert.SsdInReferenceIdeal.nD Cert.SsdInReferenceIdeal.τ).loc Cert.SsdInReferenceIdeal.main_v19) = v0 c
          ∧ r.2.mem ((c.tc : Thread Cert.SsdInReferenceIdeal.nD Cert.SsdInReferenceIdeal.τ).loc Cert.SsdInReferenceIdeal.main_arg0) = m' ((c.tc : Thread Cert.SsdInReferenceIdeal.nD Cert.SsdInReferenceIdeal.τ).loc Cert.SsdInReferenceIdeal.main_arg0)
          ∧ r.2.mem ((c.tc : Thread Cert.SsdInReferenceIdeal.nD Cert.SsdInReferenceIdeal.τ).loc Cert.SsdInReferenceIdeal.main_arg1) = m' ((c.tc : Thread Cert.SsdInReferenceIdeal.nD Cert.SsdInReferenceIdeal.τ).loc Cert.SsdInReferenceIdeal.main_arg1)
          ∧ r.2.mem ((c.tc : Thread Cert.SsdInReferenceIdeal.nD Cert.SsdInReferenceIdeal.τ).loc Cert.SsdInReferenceIdeal.main_arg2) = m' ((c.tc : Thread Cert.SsdInReferenceIdeal.nD Cert.SsdInReferenceIdeal.τ).loc Cert.SsdInReferenceIdeal.main_arg2))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)
      ∧ m' ((c.tc : Thread Cert.SsdOutReferenceIdeal.nD Cert.SsdOutReferenceIdeal.τ).loc Cert.SsdOutReferenceIdeal.main_arg2) = m ((c.tc : Thread Cert.SsdOutIdeal.nD Cert.SsdOutIdeal.τ).loc Cert.SsdOutIdeal.main_arg2)) →
    ∃ (v0 : (c : Dev Cert.SsdOutIdeal.nD) → Buf (Elt Ideal) ((c.tc : Thread Cert.SsdOutIdeal.nD Cert.SsdOutIdeal.τ).loc Cert.SsdOutIdeal.main_v4)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v4) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v3) = v0 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1)
          ∧ r.2.mem ((c.tc : Thread Cert.SsdOutReferenceIdeal.nD Cert.SsdOutReferenceIdeal.τ).loc Cert.SsdOutReferenceIdeal.main_arg2) = m' ((c.tc : Thread Cert.SsdOutReferenceIdeal.nD Cert.SsdOutReferenceIdeal.τ).loc Cert.SsdOutReferenceIdeal.main_arg2))

def preserves_GmIn_GmInIdeal : Prop :=
  True

def algebraic_GmInIdeal_GmInReferenceIdeal [hGmInIdeal : Cert.GmInIdeal.Facts] [hGmInReferenceIdeal : Cert.GmInReferenceIdeal.Facts] : Prop :=
  ∀ (m : (ℓ : Loc Cert.GmInIdeal.nD Cert.GmInIdeal.τ Cert.GmInIdeal.sig) → Buf (Elt Ideal) ℓ) (g : Dev Cert.GmInIdeal.nD → PrngReg)
    (m' : (ℓ : Loc Cert.GmInReferenceIdeal.nD Cert.GmInReferenceIdeal.τ Cert.GmInReferenceIdeal.sig) → Buf (Elt Ideal) ℓ) (g' : Dev Cert.GmInReferenceIdeal.nD → PrngReg), Pre_GmInIdeal m →
    (∀ c : Dev Cert.GmInIdeal.nD,
      m' ((c.tc : Thread Cert.GmInReferenceIdeal.nD Cert.GmInReferenceIdeal.τ).loc Cert.GmInReferenceIdeal.main_arg0) = m ((c.tc : Thread Cert.GmInIdeal.nD Cert.GmInIdeal.τ).loc Cert.GmInIdeal.main_arg0)
      ∧ m' ((c.tc : Thread Cert.GmInReferenceIdeal.nD Cert.GmInReferenceIdeal.τ).loc Cert.GmInReferenceIdeal.main_arg1) = m ((c.tc : Thread Cert.GmInIdeal.nD Cert.GmInIdeal.τ).loc Cert.GmInIdeal.main_arg1)
      ∧ m' ((c.tc : Thread Cert.GmInReferenceIdeal.nD Cert.GmInReferenceIdeal.τ).loc Cert.GmInReferenceIdeal.main_arg2) = m ((c.tc : Thread Cert.GmInIdeal.nD Cert.GmInIdeal.τ).loc Cert.GmInIdeal.main_arg2)) →
    ∃ (v0 : (c : Dev Cert.GmInIdeal.nD) → Buf (Elt Ideal) ((c.tc : Thread Cert.GmInIdeal.nD Cert.GmInIdeal.τ).loc Cert.GmInIdeal.main_v5)),
      θ_run (Cert.GmInIdeal.defs (F := Ideal)) (onTc (τ := Cert.GmInIdeal.τ) (Cert.GmInIdeal.main (F := Ideal))) ⟨m, fun _ => 0, g⟩ (fun r => ∀ c : Dev Cert.GmInIdeal.nD,
          r.2.mem ((c.tc : Thread Cert.GmInIdeal.nD Cert.GmInIdeal.τ).loc Cert.GmInIdeal.main_v5) = v0 c
          ∧ r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
          ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1)
          ∧ r.2.mem ((c.tc : Thread Cert.GmInIdeal.nD Cert.GmInIdeal.τ).loc Cert.GmInIdeal.main_arg2) = m ((c.tc : Thread Cert.GmInIdeal.nD Cert.GmInIdeal.τ).loc Cert.GmInIdeal.main_arg2))
      ∧ θ_run (Cert.GmInReferenceIdeal.defs (F := Ideal)) (onTc (τ := Cert.GmInReferenceIdeal.τ) (Cert.GmInReferenceIdeal.main (F := Ideal))) ⟨m', fun _ => 0, g'⟩ (fun r => ∀ c : Dev Cert.GmInReferenceIdeal.nD,
          r.2.mem ((c.tc : Thread Cert.GmInReferenceIdeal.nD Cert.GmInReferenceIdeal.τ).loc Cert.GmInReferenceIdeal.main_v25) = v0 c
          ∧ r.2.mem ((c.tc : Thread Cert.GmInReferenceIdeal.nD Cert.GmInReferenceIdeal.τ).loc Cert.GmInReferenceIdeal.main_arg0) = m' ((c.tc : Thread Cert.GmInReferenceIdeal.nD Cert.GmInReferenceIdeal.τ).loc Cert.GmInReferenceIdeal.main_arg0)
          ∧ r.2.mem ((c.tc : Thread Cert.GmInReferenceIdeal.nD Cert.GmInReferenceIdeal.τ).loc Cert.GmInReferenceIdeal.main_arg1) = m' ((c.tc : Thread Cert.GmInReferenceIdeal.nD Cert.GmInReferenceIdeal.τ).loc Cert.GmInReferenceIdeal.main_arg1)
          ∧ r.2.mem ((c.tc : Thread Cert.GmInReferenceIdeal.nD Cert.GmInReferenceIdeal.τ).loc Cert.GmInReferenceIdeal.main_arg2) = m' ((c.tc : Thread Cert.GmInReferenceIdeal.nD Cert.GmInReferenceIdeal.τ).loc Cert.GmInReferenceIdeal.main_arg2))

def preserves_GmGate_GmGateIdeal : Prop :=
  True

def algebraic_GmGateIdeal_GmGateReferenceIdeal [hGmGateIdeal : Cert.GmGateIdeal.Facts] [hGmGateReferenceIdeal : Cert.GmGateReferenceIdeal.Facts] : Prop :=
  ∀ (m : (ℓ : Loc Cert.GmGateIdeal.nD Cert.GmGateIdeal.τ Cert.GmGateIdeal.sig) → Buf (Elt Ideal) ℓ) (g : Dev Cert.GmGateIdeal.nD → PrngReg)
    (m' : (ℓ : Loc Cert.GmGateReferenceIdeal.nD Cert.GmGateReferenceIdeal.τ Cert.GmGateReferenceIdeal.sig) → Buf (Elt Ideal) ℓ) (g' : Dev Cert.GmGateReferenceIdeal.nD → PrngReg), Pre_GmGateIdeal m →
    (∀ c : Dev Cert.GmGateIdeal.nD,
      m' ((c.tc : Thread Cert.GmGateReferenceIdeal.nD Cert.GmGateReferenceIdeal.τ).loc Cert.GmGateReferenceIdeal.main_arg0) = m ((c.tc : Thread Cert.GmGateIdeal.nD Cert.GmGateIdeal.τ).loc Cert.GmGateIdeal.main_arg0)
      ∧ m' ((c.tc : Thread Cert.GmGateReferenceIdeal.nD Cert.GmGateReferenceIdeal.τ).loc Cert.GmGateReferenceIdeal.main_arg1) = m ((c.tc : Thread Cert.GmGateIdeal.nD Cert.GmGateIdeal.τ).loc Cert.GmGateIdeal.main_arg1)
      ∧ m' ((c.tc : Thread Cert.GmGateReferenceIdeal.nD Cert.GmGateReferenceIdeal.τ).loc Cert.GmGateReferenceIdeal.main_arg2) = m ((c.tc : Thread Cert.GmGateIdeal.nD Cert.GmGateIdeal.τ).loc Cert.GmGateIdeal.main_arg2)
      ∧ m' ((c.tc : Thread Cert.GmGateReferenceIdeal.nD Cert.GmGateReferenceIdeal.τ).loc Cert.GmGateReferenceIdeal.main_arg3) = m ((c.tc : Thread Cert.GmGateIdeal.nD Cert.GmGateIdeal.τ).loc Cert.GmGateIdeal.main_arg3)
      ∧ m' ((c.tc : Thread Cert.GmGateReferenceIdeal.nD Cert.GmGateReferenceIdeal.τ).loc Cert.GmGateReferenceIdeal.main_arg4) = m ((c.tc : Thread Cert.GmGateIdeal.nD Cert.GmGateIdeal.τ).loc Cert.GmGateIdeal.main_arg4)
      ∧ m' ((c.tc : Thread Cert.GmGateReferenceIdeal.nD Cert.GmGateReferenceIdeal.τ).loc Cert.GmGateReferenceIdeal.main_arg5) = m ((c.tc : Thread Cert.GmGateIdeal.nD Cert.GmGateIdeal.τ).loc Cert.GmGateIdeal.main_arg5)) →
    ∃ (v0 : (c : Dev Cert.GmGateIdeal.nD) → Buf (Elt Ideal) ((c.tc : Thread Cert.GmGateIdeal.nD Cert.GmGateIdeal.τ).loc Cert.GmGateIdeal.main_v9)),
      θ_run (Cert.GmGateIdeal.defs (F := Ideal)) (onTc (τ := Cert.GmGateIdeal.τ) (Cert.GmGateIdeal.main (F := Ideal))) ⟨m, fun _ => 0, g⟩ (fun r => ∀ c : Dev Cert.GmGateIdeal.nD,
          r.2.mem ((c.tc : Thread Cert.GmGateIdeal.nD Cert.GmGateIdeal.τ).loc Cert.GmGateIdeal.main_v9) = v0 c
          ∧ r.2.mem ((c.tc : Thread Cert.GmGateIdeal.nD Cert.GmGateIdeal.τ).loc Cert.GmGateIdeal.main_arg0) = m ((c.tc : Thread Cert.GmGateIdeal.nD Cert.GmGateIdeal.τ).loc Cert.GmGateIdeal.main_arg0)
          ∧ r.2.mem ((c.tc : Thread Cert.GmGateIdeal.nD Cert.GmGateIdeal.τ).loc Cert.GmGateIdeal.main_arg1) = m ((c.tc : Thread Cert.GmGateIdeal.nD Cert.GmGateIdeal.τ).loc Cert.GmGateIdeal.main_arg1)
          ∧ r.2.mem ((c.tc : Thread Cert.GmGateIdeal.nD Cert.GmGateIdeal.τ).loc Cert.GmGateIdeal.main_arg2) = m ((c.tc : Thread Cert.GmGateIdeal.nD Cert.GmGateIdeal.τ).loc Cert.GmGateIdeal.main_arg2)
          ∧ r.2.mem ((c.tc : Thread Cert.GmGateIdeal.nD Cert.GmGateIdeal.τ).loc Cert.GmGateIdeal.main_arg3) = m ((c.tc : Thread Cert.GmGateIdeal.nD Cert.GmGateIdeal.τ).loc Cert.GmGateIdeal.main_arg3)
          ∧ r.2.mem ((c.tc : Thread Cert.GmGateIdeal.nD Cert.GmGateIdeal.τ).loc Cert.GmGateIdeal.main_arg4) = m ((c.tc : Thread Cert.GmGateIdeal.nD Cert.GmGateIdeal.τ).loc Cert.GmGateIdeal.main_arg4)
          ∧ r.2.mem ((c.tc : Thread Cert.GmGateIdeal.nD Cert.GmGateIdeal.τ).loc Cert.GmGateIdeal.main_arg5) = m ((c.tc : Thread Cert.GmGateIdeal.nD Cert.GmGateIdeal.τ).loc Cert.GmGateIdeal.main_arg5))
      ∧ θ_run (Cert.GmGateReferenceIdeal.defs (F := Ideal)) (onTc (τ := Cert.GmGateReferenceIdeal.τ) (Cert.GmGateReferenceIdeal.main (F := Ideal))) ⟨m', fun _ => 0, g'⟩ (fun r => ∀ c : Dev Cert.GmGateReferenceIdeal.nD,
          r.2.mem ((c.tc : Thread Cert.GmGateReferenceIdeal.nD Cert.GmGateReferenceIdeal.τ).loc Cert.GmGateReferenceIdeal.main_v36) = v0 c
          ∧ r.2.mem ((c.tc : Thread Cert.GmGateReferenceIdeal.nD Cert.GmGateReferenceIdeal.τ).loc Cert.GmGateReferenceIdeal.main_arg0) = m' ((c.tc : Thread Cert.GmGateReferenceIdeal.nD Cert.GmGateReferenceIdeal.τ).loc Cert.GmGateReferenceIdeal.main_arg0)
          ∧ r.2.mem ((c.tc : Thread Cert.GmGateReferenceIdeal.nD Cert.GmGateReferenceIdeal.τ).loc Cert.GmGateReferenceIdeal.main_arg1) = m' ((c.tc : Thread Cert.GmGateReferenceIdeal.nD Cert.GmGateReferenceIdeal.τ).loc Cert.GmGateReferenceIdeal.main_arg1)
          ∧ r.2.mem ((c.tc : Thread Cert.GmGateReferenceIdeal.nD Cert.GmGateReferenceIdeal.τ).loc Cert.GmGateReferenceIdeal.main_arg2) = m' ((c.tc : Thread Cert.GmGateReferenceIdeal.nD Cert.GmGateReferenceIdeal.τ).loc Cert.GmGateReferenceIdeal.main_arg2)
          ∧ r.2.mem ((c.tc : Thread Cert.GmGateReferenceIdeal.nD Cert.GmGateReferenceIdeal.τ).loc Cert.GmGateReferenceIdeal.main_arg3) = m' ((c.tc : Thread Cert.GmGateReferenceIdeal.nD Cert.GmGateReferenceIdeal.τ).loc Cert.GmGateReferenceIdeal.main_arg3)
          ∧ r.2.mem ((c.tc : Thread Cert.GmGateReferenceIdeal.nD Cert.GmGateReferenceIdeal.τ).loc Cert.GmGateReferenceIdeal.main_arg4) = m' ((c.tc : Thread Cert.GmGateReferenceIdeal.nD Cert.GmGateReferenceIdeal.τ).loc Cert.GmGateReferenceIdeal.main_arg4)
          ∧ r.2.mem ((c.tc : Thread Cert.GmGateReferenceIdeal.nD Cert.GmGateReferenceIdeal.τ).loc Cert.GmGateReferenceIdeal.main_arg5) = m' ((c.tc : Thread Cert.GmGateReferenceIdeal.nD Cert.GmGateReferenceIdeal.τ).loc Cert.GmGateReferenceIdeal.main_arg5))

def preserves_SsdDt_SsdDtIdeal : Prop :=
  True

def algebraic_SsdDtIdeal_SsdDtReferenceIdeal [hSsdDtIdeal : Cert.SsdDtIdeal.Facts] [hSsdDtReferenceIdeal : Cert.SsdDtReferenceIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg)
    (m' : (ℓ : Loc Cert.SsdDtReferenceIdeal.nD Cert.SsdDtReferenceIdeal.τ Cert.SsdDtReferenceIdeal.sig) → Buf (Elt Ideal) ℓ) (g' : Dev Cert.SsdDtReferenceIdeal.nD → PrngReg), Pre_SsdDtIdeal m →
    (∀ c : Dev Cert.SsdDtIdeal.nD,
      m' ((c.tc : Thread Cert.SsdDtReferenceIdeal.nD Cert.SsdDtReferenceIdeal.τ).loc Cert.SsdDtReferenceIdeal.main_arg0) = m ((c.tc : Thread Cert.SsdDtIdeal.nD Cert.SsdDtIdeal.τ).loc Cert.SsdDtIdeal.main_arg0)
      ∧ m' ((c.tc : Thread Cert.SsdDtReferenceIdeal.nD Cert.SsdDtReferenceIdeal.τ).loc Cert.SsdDtReferenceIdeal.main_arg1) = m ((c.tc : Thread Cert.SsdDtIdeal.nD Cert.SsdDtIdeal.τ).loc Cert.SsdDtIdeal.main_arg1)
      ∧ m' ((c.tc : Thread Cert.SsdDtReferenceIdeal.nD Cert.SsdDtReferenceIdeal.τ).loc Cert.SsdDtReferenceIdeal.main_arg2) = m ((c.tc : Thread Cert.SsdDtIdeal.nD Cert.SsdDtIdeal.τ).loc Cert.SsdDtIdeal.main_arg2)) →
    ∃ (v0 : (c : Dev Cert.SsdDtIdeal.nD) → Buf (Elt Ideal) ((c.tc : Thread Cert.SsdDtIdeal.nD Cert.SsdDtIdeal.τ).loc Cert.SsdDtIdeal.main_v9)),
      θ_run (Cert.SsdDtIdeal.defs (F := Ideal)) (onTc (τ := Cert.SsdDtIdeal.τ) (Cert.SsdDtIdeal.main (F := Ideal))) ⟨m, fun _ => 0, g⟩ (fun r => ∀ c : Dev Cert.SsdDtIdeal.nD,
          r.2.mem ((c.tc : Thread Cert.SsdDtIdeal.nD Cert.SsdDtIdeal.τ).loc Cert.SsdDtIdeal.main_v9) = v0 c
          ∧ r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
          ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
          ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2))
      ∧ θ_run (Cert.SsdDtReferenceIdeal.defs (F := Ideal)) (onTc (τ := Cert.SsdDtReferenceIdeal.τ) (Cert.SsdDtReferenceIdeal.main (F := Ideal))) ⟨m', fun _ => 0, g'⟩ (fun r => ∀ c : Dev Cert.SsdDtReferenceIdeal.nD,
          r.2.mem ((c.tc : Thread Cert.SsdDtReferenceIdeal.nD Cert.SsdDtReferenceIdeal.τ).loc Cert.SsdDtReferenceIdeal.main_v19) = v0 c
          ∧ r.2.mem ((c.tc : Thread Cert.SsdDtReferenceIdeal.nD Cert.SsdDtReferenceIdeal.τ).loc Cert.SsdDtReferenceIdeal.main_arg0) = m' ((c.tc : Thread Cert.SsdDtReferenceIdeal.nD Cert.SsdDtReferenceIdeal.τ).loc Cert.SsdDtReferenceIdeal.main_arg0)
          ∧ r.2.mem ((c.tc : Thread Cert.SsdDtReferenceIdeal.nD Cert.SsdDtReferenceIdeal.τ).loc Cert.SsdDtReferenceIdeal.main_arg1) = m' ((c.tc : Thread Cert.SsdDtReferenceIdeal.nD Cert.SsdDtReferenceIdeal.τ).loc Cert.SsdDtReferenceIdeal.main_arg1)
          ∧ r.2.mem ((c.tc : Thread Cert.SsdDtReferenceIdeal.nD Cert.SsdDtReferenceIdeal.τ).loc Cert.SsdDtReferenceIdeal.main_arg2) = m' ((c.tc : Thread Cert.SsdDtReferenceIdeal.nD Cert.SsdDtReferenceIdeal.τ).loc Cert.SsdDtReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hQkv : Cert.Qkv.Facts) (hQkvIdeal : Cert.QkvIdeal.Facts) (hQkvReferenceIdeal : Cert.QkvReferenceIdeal.Facts) (hOut : Cert.Out.Facts) (hOutIdeal : Cert.OutIdeal.Facts) (hOutReferenceIdeal : Cert.OutReferenceIdeal.Facts) (hSsdIn : Cert.SsdIn.Facts) (hSsdInIdeal : Cert.SsdInIdeal.Facts) (hSsdInReferenceIdeal : Cert.SsdInReferenceIdeal.Facts) (hSsdOut : Cert.SsdOut.Facts) (hSsdOutIdeal : Cert.SsdOutIdeal.Facts) (hSsdOutReferenceIdeal : Cert.SsdOutReferenceIdeal.Facts) (hGmIn : Cert.GmIn.Facts) (hGmInIdeal : Cert.GmInIdeal.Facts) (hGmInReferenceIdeal : Cert.GmInReferenceIdeal.Facts) (hGmGate : Cert.GmGate.Facts) (hGmGateIdeal : Cert.GmGateIdeal.Facts) (hGmGateReferenceIdeal : Cert.GmGateReferenceIdeal.Facts) (hSsdDt : Cert.SsdDt.Facts) (hSsdDtIdeal : Cert.SsdDtIdeal.Facts) (hSsdDtReferenceIdeal : Cert.SsdDtReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Out (hOut := hOut)
    ∧ quiescent_OutIdeal (hOutIdeal := hOutIdeal)
    ∧ quiescent_OutReferenceIdeal (hOutReferenceIdeal := hOutReferenceIdeal)
    ∧ quiescent_SsdIn (hSsdIn := hSsdIn)
    ∧ quiescent_SsdInIdeal (hSsdInIdeal := hSsdInIdeal)
    ∧ quiescent_SsdInReferenceIdeal (hSsdInReferenceIdeal := hSsdInReferenceIdeal)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ quiescent_GmIn (hGmIn := hGmIn)
    ∧ quiescent_GmInIdeal (hGmInIdeal := hGmInIdeal)
    ∧ quiescent_GmInReferenceIdeal (hGmInReferenceIdeal := hGmInReferenceIdeal)
    ∧ quiescent_GmGate (hGmGate := hGmGate)
    ∧ quiescent_GmGateIdeal (hGmGateIdeal := hGmGateIdeal)
    ∧ quiescent_GmGateReferenceIdeal (hGmGateReferenceIdeal := hGmGateReferenceIdeal)
    ∧ quiescent_SsdDt (hSsdDt := hSsdDt)
    ∧ quiescent_SsdDtIdeal (hSsdDtIdeal := hSsdDtIdeal)
    ∧ quiescent_SsdDtReferenceIdeal (hSsdDtReferenceIdeal := hSsdDtReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Mlp_MlpIdeal
    ∧ algebraic_MlpIdeal_MlpReferenceIdeal (hMlpIdeal := hMlpIdeal) (hMlpReferenceIdeal := hMlpReferenceIdeal)
    ∧ preserves_Qkv_QkvIdeal
    ∧ algebraic_QkvIdeal_QkvReferenceIdeal (hQkvIdeal := hQkvIdeal) (hQkvReferenceIdeal := hQkvReferenceIdeal)
    ∧ preserves_Out_OutIdeal
    ∧ algebraic_OutIdeal_OutReferenceIdeal (hOutIdeal := hOutIdeal) (hOutReferenceIdeal := hOutReferenceIdeal)
    ∧ preserves_SsdIn_SsdInIdeal
    ∧ algebraic_SsdInIdeal_SsdInReferenceIdeal (hSsdInIdeal := hSsdInIdeal) (hSsdInReferenceIdeal := hSsdInReferenceIdeal)
    ∧ preserves_SsdOut_SsdOutIdeal
    ∧ algebraic_SsdOutIdeal_SsdOutReferenceIdeal (hSsdOutIdeal := hSsdOutIdeal) (hSsdOutReferenceIdeal := hSsdOutReferenceIdeal)
    ∧ preserves_GmIn_GmInIdeal
    ∧ algebraic_GmInIdeal_GmInReferenceIdeal (hGmInIdeal := hGmInIdeal) (hGmInReferenceIdeal := hGmInReferenceIdeal)
    ∧ preserves_GmGate_GmGateIdeal
    ∧ algebraic_GmGateIdeal_GmGateReferenceIdeal (hGmGateIdeal := hGmGateIdeal) (hGmGateReferenceIdeal := hGmGateReferenceIdeal)
    ∧ preserves_SsdDt_SsdDtIdeal
    ∧ algebraic_SsdDtIdeal_SsdDtReferenceIdeal (hSsdDtIdeal := hSsdDtIdeal) (hSsdDtReferenceIdeal := hSsdDtReferenceIdeal)
-- ==== Pre_finite_qk.lean ====
abbrev S2x4096x16x128 : Shape := ⟨4, ![2, 4096, 16, 128]⟩
abbrev S4x2048x8192 : Shape := ⟨3, ![4, 2048, 8192]⟩
abbrev S4x8192x2048 : Shape := ⟨3, ![4, 8192, 2048]⟩
abbrev S_ : Shape := ⟨0, ![]⟩

class Facts : Prop where
  bcast_S_S2x4096x16x128 : S_.BroadcastsInDim S2x4096x16x128 (![] : Fin 0 → Fin S2x4096x16x128.rank)

variable [Facts]

def fn {F : FTy → Type} [FloatOps F] (main_arg0 : FVec F S2x4096x16x128 .f32) (main_arg1 : FVec F S2x4096x16x128 .f32) (main_arg2 : FVec F S2x4096x16x128 .f32) (main_arg3 : FVec F S4x2048x8192 .f32) (main_arg4 : FVec F S4x8192x2048 .f32) : IVec S2x4096x16x128 1 :=
  let main_v0 : FVec F S2x4096x16x128 .f32 := Host.absf main_arg0
  let main_cst : FVec F S_ .f32 := constant S_ .f32 0x7F800000#32
  let main_v1 : FVec F S2x4096x16x128 .f32 := broadcastInDim S2x4096x16x128 ![] bcast_S_S2x4096x16x128 main_cst
  let main_v2 : IVec S2x4096x16x128 1 := cmpf .olt main_v0 main_v1
  let main_v3 : FVec F S2x4096x16x128 .f32 := Host.absf main_arg1
  let main_cst_0 : FVec F S_ .f32 := constant S_ .f32 0x7F800000#32
  let main_v4 : FVec F S2x4096x16x128 .f32 := broadcastInDim S2x4096x16x128 ![] bcast_S_S2x4096x16x128 main_cst_0
  let main_v5 : IVec S2x4096x16x128 1 := cmpf .olt main_v3 main_v4
  let main_v6 : IVec S2x4096x16x128 1 := andi main_v2 main_v5
  main_v6
-- ==== Kernel.lean ====
abbrev S2x4096x16x128 : Shape := ⟨4, ![2, 4096, 16, 128]⟩
abbrev S4x2048x8192 : Shape := ⟨3, ![4, 2048, 8192]⟩
abbrev S4x8192x2048 : Shape := ⟨3, ![4, 8192, 2048]⟩
abbrev S_ : Shape := ⟨0, ![]⟩
abbrev S8192x2048 : Shape := ⟨2, ![8192, 2048]⟩
abbrev S8192x6144 : Shape := ⟨2, ![8192, 6144]⟩
abbrev S256x256 : Shape := ⟨2, ![256, 256]⟩
abbrev S2x2048x8192 : Shape := ⟨3, ![2, 2048, 8192]⟩
abbrev S2x8192x2048 : Shape := ⟨3, ![2, 8192, 2048]⟩
abbrev S1024x512 : Shape := ⟨2, ![1024, 512]⟩
abbrev S4096x512 : Shape := ⟨2, ![4096, 512]⟩
abbrev S1x128x8192 : Shape := ⟨3, ![1, 128, 8192]⟩
abbrev S1x512x2048 : Shape := ⟨3, ![1, 512, 2048]⟩
abbrev S2x4x256x256 : Shape := ⟨4, ![2, 4, 256, 256]⟩
abbrev S128x8192 : Shape := ⟨2, ![128, 8192]⟩
abbrev S512x2048 : Shape := ⟨2, ![512, 2048]⟩
abbrev S256x1 : Shape := ⟨2, ![256, 1]⟩
abbrev S256x128 : Shape := ⟨2, ![256, 128]⟩
abbrev S1x1x256x256 : Shape := ⟨4, ![1, 1, 256, 256]⟩

abbrev nBuf : Space → Nat
  | .hbm => 31
  | .vmem => 19
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x128, .f32⟩
  | .hbm, ⟨2, _⟩ => ⟨S2x4096x16x128, .f32⟩
  | .hbm, ⟨3, _⟩ => ⟨S4x2048x8192, .f32⟩
  | .hbm, ⟨4, _⟩ => ⟨S4x8192x2048, .f32⟩
  | .hbm, ⟨5, _⟩ => ⟨S_, .f32⟩
  | .hbm, ⟨6, _⟩ => ⟨S2x4096x16x128, .f32⟩
  | .hbm, ⟨7, _⟩ => ⟨S2x4096x16x128, .f32⟩
  | .hbm, ⟨8, _⟩ => ⟨S_, .f32⟩
  | .hbm, ⟨9, _⟩ => ⟨S_, .f32⟩
  | .hbm, ⟨10, _⟩ => ⟨S2x4096x16x128, .f32⟩
  | .hbm, ⟨11, _⟩ => ⟨S2x4096x16x128, .f32⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S8192x2048, .bf16⟩
  | .hbm, ⟨16, _⟩ => ⟨S8192x2048, .f32⟩
  | .hbm, ⟨17, _⟩ => ⟨S8192x2048, .bf16⟩
  | .hbm, ⟨18, _⟩ => ⟨S8192x6144, .bf16⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S256x256, .bf16⟩
  | .hbm, ⟨28, _⟩ => ⟨S8192x2048, .bf16⟩
  | .hbm, ⟨29, _⟩ => ⟨S2x2048x8192, .bf16⟩
  | .hbm, ⟨30, _⟩ => ⟨S2x8192x2048, .bf16⟩
  | .local _ .vmem, ⟨0, _⟩ => ⟨S1024x512, .bf16⟩
  | .local _ .vmem, ⟨1, _⟩ => ⟨S1024x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x256, .bf16⟩
  | .local _ .vmem, ⟨7, _⟩ => ⟨S1x128x8192, .f32⟩
  | .local _ .vmem, ⟨8, _⟩ => ⟨S1x128x8192, .f32⟩
  | .local _ .vmem, ⟨9, _⟩ => ⟨S1x512x2048, .f32⟩
  | .local _ .vmem, ⟨10, _⟩ => ⟨S1x512x2048, .f32⟩
  | .local _ .vmem, ⟨11, _⟩ => ⟨S1024x512, .bf16⟩
  | .local _ .vmem, ⟨12, _⟩ => ⟨S1024x512, .bf16⟩
  | .local _ .vmem, ⟨13, _⟩ => ⟨S1x128x8192, .bf16⟩
  | .local _ .vmem, ⟨14, _⟩ => ⟨S1x128x8192, .bf16⟩
  | .local _ .vmem, ⟨15, _⟩ => ⟨S1x512x2048, .bf16⟩
  | .local _ .vmem, ⟨16, _⟩ => ⟨S1x512x2048, .bf16⟩
  | .local _ .vmem, ⟨17, _⟩ => ⟨S2x4x256x256, .f32⟩
  | .local _ .vmem, ⟨18, _⟩ => ⟨S2x4x256x256, .bf16⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 4, 4], ![false, false, false]⟩

def k0_mult1 (i : grid0.Coords) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c256_i32 : BitVec 32 := 256#32
  let v19 : BitVec 32 := Scalar.muli v10 c256_i32
  v19
def k0_off1 (i : grid0.Coords) (c0_i32_3 : BitVec 32) : Fin 2 → Nat :=
  let arg2 : BitVec 32 := BitVec.ofNat 32 (i 2).val
  let c4_i32_2 : BitVec 32 := 4#32
  let v9 : BitVec 32 := Scalar.muli arg2 c4_i32_2
  let v10 : BitVec 32 := Scalar.addi v9 c0_i32_3
  let c256_i32 : BitVec 32 := 256#32
  let v19 : BitVec 32 := Scalar.muli v10 c256_i32
  let v20 : BitVec 32 := v19
  let v26 : Index := Scalar.indexCast v20
  let c0_13 : Index := 0#32
  ![v26.toNat, 0]
def k0_off2 (i : grid0.Coords) (c0_i32_3 : BitVec 32) : Fin 2 → Nat :=
  let arg2 : BitVec 32 := BitVec.ofNat 32 (i 2).val
  let c4_i32_2 : BitVec 32 := 4#32
  let v9 : BitVec 32 := Scalar.muli arg2 c4_i32_2
  let v10 : BitVec 32 := Scalar.addi v9 c0_i32_3
  let c256_i32 : BitVec 32 := 256#32
  let v19 : BitVec 32 := Scalar.muli v10 c256_i32
  let v20 : BitVec 32 := v19
  let v56 : Index := Scalar.indexCast v20
  let c128_30 : Index := 128#32
  ![v56.toNat, 128]
def k0_off3 (i : grid0.Coords) (c0_i32_3 : BitVec 32) : Fin 2 → Nat :=
  let arg2 : BitVec 32 := BitVec.ofNat 32 (i 2).val
  let c4_i32_2 : BitVec 32 := 4#32
  let v9 : BitVec 32 := Scalar.muli arg2 c4_i32_2
  let v10 : BitVec 32 := Scalar.addi v9 c0_i32_3
  let c256_i32 : BitVec 32 := 256#32
  let v19 : BitVec 32 := Scalar.muli v10 c256_i32
  let v20 : BitVec 32 := v19
  let v86 : Index := Scalar.indexCast v20
  let c256_46 : Index := 256#32
  ![v86.toNat, 256]
def k0_off4 (i : grid0.Coords) (c0_i32_3 : BitVec 32) : Fin 2 → Nat :=
  let arg2 : BitVec 32 := BitVec.ofNat 32 (i 2).val
  let c4_i32_2 : BitVec 32 := 4#32
  let v9 : BitVec 32 := Scalar.muli arg2 c4_i32_2
  let v10 : BitVec 32 := Scalar.addi v9 c0_i32_3
  let c256_i32 : BitVec 32 := 256#32
  let v19 : BitVec 32 := Scalar.muli v10 c256_i32
  let v20 : BitVec 32 := v19
  let v116 : Index := Scalar.indexCast v20
  let c384_62 : Index := 384#32
  ![v116.toNat, 384]
def k0_cond2 (i : grid0.Coords) : BitVec 1 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_78 : BitVec 32 := 0#32
  let v146 : BitVec 1 := Scalar.cmpi .sgt v10 c0_i32_78
  let v147 : BitVec 32 := Scalar.extui v146
  let c0_i32_79 : BitVec 32 := 0#32
  let v148 : BitVec 1 := Scalar.cmpi .slt v10 c0_i32_79
  let v149 : BitVec 32 := Scalar.extui v148
  let v150 : BitVec 32 := Scalar.subi v147 v149
  let c2_i32 : BitVec 32 := 2#32
  let c0_i32_80 : BitVec 32 := 0#32
  let v151 : BitVec 1 := Scalar.cmpi .sgt c2_i32 c0_i32_80
  let v152 : BitVec 32 := Scalar.extui v151
  let c0_i32_81 : BitVec 32 := 0#32
  let v153 : BitVec 1 := Scalar.cmpi .slt c2_i32 c0_i32_81
  let v154 : BitVec 32 := Scalar.extui v153
  let v155 : BitVec 32 := Scalar.subi v152 v154
  let v156 : BitVec 1 := Scalar.cmpi .ne v150 v155
  let v157 : BitVec 32 := Scalar.remsi v10 c2_i32
  let c0_i32_82 : BitVec 32 := 0#32
  let v158 : BitVec 1 := Scalar.cmpi .ne v157 c0_i32_82
  let v159 : BitVec 1 := Scalar.andi v156 v158
  let v145 : BitVec 32 := Scalar.divsi v10 c2_i32
  let c1_i32 : BitVec 32 := 1#32
  let v160 : BitVec 32 := Scalar.subi v145 c1_i32
  let v161 : BitVec 32 := Scalar.select v159 v160 v145
  let c2_i32_83 : BitVec 32 := 2#32
  let c0_i32_84 : BitVec 32 := 0#32
  let v162 : BitVec 1 := Scalar.cmpi .eq c2_i32_83 c0_i32_84
  let c1_i32_85 : BitVec 32 := 1#32
  let v163 : BitVec 32 := Scalar.select v162 c1_i32_85 c2_i32_83
  let v164 : BitVec 32 := Scalar.remsi v161 v163
  let c0_i32_87 : BitVec 32 := 0#32
  let v166 : BitVec 1 := Scalar.cmpi .slt v164 c0_i32_87
  let c0_i32_88 : BitVec 32 := 0#32
  let v167 : BitVec 1 := Scalar.cmpi .slt v163 c0_i32_88
  let v168 : BitVec 1 := Scalar.xori v166 v167
  let c0_i32_86 : BitVec 32 := 0#32
  let v165 : BitVec 1 := Scalar.cmpi .ne v164 c0_i32_86
  let v169 : BitVec 1 := Scalar.andi v168 v165
  let v170 : BitVec 32 := Scalar.addi v164 v163
  let v171 : BitVec 32 := Scalar.select v169 v170 v164
  let c1_i32_89 : BitVec 32 := 1#32
  let v172 : BitVec 1 := Scalar.cmpi .eq v171 c1_i32_89
  let v173 : BitVec 32 := Scalar.extui v172
  let c0_i32_90 : BitVec 32 := 0#32
  let v174 : BitVec 1 := Scalar.cmpi .ne v173 c0_i32_90
  v174

def k0_mult2 (i : grid0.Coords) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let c0_i32_891 : BitVec 32 := 0#32
  let v1475 : BitVec 32 := Scalar.subi v144 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  v1477
def k0_off5 (i : grid0.Coords) (c0_i32_891 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let v1475 : BitVec 32 := Scalar.subi v144 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1481 : Index := Scalar.indexCast v1478
  let c0_896 : Index := 0#32
  ![v1481.toNat, 0]
def k0_off6 (i : grid0.Coords) (c0_i32_891 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let v1475 : BitVec 32 := Scalar.subi v144 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1507 : Index := Scalar.indexCast v1478
  let c128_912 : Index := 128#32
  ![v1507.toNat, 128]
def k0_off7 (i : grid0.Coords) (c0_i32_891 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let v1475 : BitVec 32 := Scalar.subi v144 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1533 : Index := Scalar.indexCast v1478
  let c256_928 : Index := 256#32
  ![v1533.toNat, 256]
def k0_off8 (i : grid0.Coords) (c0_i32_891 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let v1475 : BitVec 32 := Scalar.subi v144 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1559 : Index := Scalar.indexCast v1478
  let c384_944 : Index := 384#32
  ![v1559.toNat, 384]
def k0_mult3 (i : grid0.Coords) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let c0_i32_958 : BitVec 32 := 0#32
  let v1583 : BitVec 32 := Scalar.subi v144 c0_i32_958
  let c256_i32_959 : BitVec 32 := 256#32
  let v1584 : BitVec 32 := Scalar.muli v1583 c256_i32_959
  v1584
def k0_off9 (i : grid0.Coords) (c0_i32_958 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let v1583 : BitVec 32 := Scalar.subi v144 c0_i32_958
  let c256_i32_959 : BitVec 32 := 256#32
  let v1584 : BitVec 32 := Scalar.muli v1583 c256_i32_959
  let v1585 : BitVec 32 := v1584
  let v1595 : Index := Scalar.indexCast v1585
  let c0_969 : Index := 0#32
  ![v1595.toNat, 0]
def k0_off10 (i : grid0.Coords) (c0_i32_958 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let v1583 : BitVec 32 := Scalar.subi v144 c0_i32_958
  let c256_i32_959 : BitVec 32 := 256#32
  let v1584 : BitVec 32 := Scalar.muli v1583 c256_i32_959
  let v1585 : BitVec 32 := v1584
  let v1615 : Index := Scalar.indexCast v1585
  let c128_980 : Index := 128#32
  ![v1615.toNat, 128]
def k0_off11 (i : grid0.Coords) (c0_i32_958 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let v1583 : BitVec 32 := Scalar.subi v144 c0_i32_958
  let c256_i32_959 : BitVec 32 := 256#32
  let v1584 : BitVec 32 := Scalar.muli v1583 c256_i32_959
  let v1585 : BitVec 32 := v1584
  let v1635 : Index := Scalar.indexCast v1585
  let c256_991 : Index := 256#32
  ![v1635.toNat, 256]
def k0_off12 (i : grid0.Coords) (c0_i32_958 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let v1583 : BitVec 32 := Scalar.subi v144 c0_i32_958
  let c256_i32_959 : BitVec 32 := 256#32
  let v1584 : BitVec 32 := Scalar.muli v1583 c256_i32_959
  let v1585 : BitVec 32 := v1584
  let v1655 : Index := Scalar.indexCast v1585
  let c384_1002 : Index := 384#32
  ![v1655.toNat, 384]
def k0_mult4 (i : grid0.Coords) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let c1_i32_1004 : BitVec 32 := 1#32
  let v1666 : BitVec 32 := Scalar.subi v144 c1_i32_1004
  let c1_i32_1005 : BitVec 32 := 1#32
  let v1667 : BitVec 32 := Scalar.subi v1666 c1_i32_1005
  let c256_i32_1006 : BitVec 32 := 256#32
  let v1668 : BitVec 32 := Scalar.muli v1667 c256_i32_1006
  v1668
def k0_mult5 (i : grid0.Coords) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c0_i32_77 : BitVec 32 := 0#32
  let v144 : BitVec 32 := Scalar.subi v10 c0_i32_77
  let c1_i32_1071 : BitVec 32 := 1#32
  let v1774 : BitVec 32 := Scalar.subi v144 c1_i32_1071
  let c256_i32_1072 : BitVec 32 := 256#32
  let v1775 : BitVec 32 := Scalar.muli v1774 c256_i32_1072
  v1775
@[reducible] def k0_t1_loop (i : grid0.Coords) : Scf.Loop 32 :=
  let c0_i32_104 : BitVec 32 := 0#32
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_106 : BitVec 32 := 1#32
  ⟨c0_i32_104, v208, c1_i32_106⟩
def k0_mult6 (i : grid0.Coords) (k0_t1 : Fin (k0_t1_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let c0_i32_892 : BitVec 32 := 0#32
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  v1479
def k0_off13 (i : grid0.Coords) (k0_t1 : Fin (k0_t1_loop i).trips) (c0_i32_892 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1483 : Index := Scalar.indexCast v1480
  let c0_897 : Index := 0#32
  ![v1483.toNat, 0]
def k0_off14 (i : grid0.Coords) (k0_t1 : Fin (k0_t1_loop i).trips) (c0_i32_892 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1509 : Index := Scalar.indexCast v1480
  let c128_913 : Index := 128#32
  ![v1509.toNat, 128]
def k0_off15 (i : grid0.Coords) (k0_t1 : Fin (k0_t1_loop i).trips) (c0_i32_892 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1535 : Index := Scalar.indexCast v1480
  let c256_929 : Index := 256#32
  ![v1535.toNat, 256]
def k0_off16 (i : grid0.Coords) (k0_t1 : Fin (k0_t1_loop i).trips) (c0_i32_892 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1561 : Index := Scalar.indexCast v1480
  let c384_945 : Index := 384#32
  ![v1561.toNat, 384]
def k0_mult7 (i : grid0.Coords) (k0_t1 : Fin (k0_t1_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let c0_i32_959 : BitVec 32 := 0#32
  let v1585 : BitVec 32 := Scalar.subi v1476 c0_i32_959
  let c256_i32_960 : BitVec 32 := 256#32
  let v1586 : BitVec 32 := Scalar.muli v1585 c256_i32_960
  v1586
def k0_off17 (i : grid0.Coords) (k0_t1 : Fin (k0_t1_loop i).trips) (c0_i32_959 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let v1585 : BitVec 32 := Scalar.subi v1476 c0_i32_959
  let c256_i32_960 : BitVec 32 := 256#32
  let v1586 : BitVec 32 := Scalar.muli v1585 c256_i32_960
  let v1587 : BitVec 32 := v1586
  let v1597 : Index := Scalar.indexCast v1587
  let c0_970 : Index := 0#32
  ![v1597.toNat, 0]
def k0_off18 (i : grid0.Coords) (k0_t1 : Fin (k0_t1_loop i).trips) (c0_i32_959 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let v1585 : BitVec 32 := Scalar.subi v1476 c0_i32_959
  let c256_i32_960 : BitVec 32 := 256#32
  let v1586 : BitVec 32 := Scalar.muli v1585 c256_i32_960
  let v1587 : BitVec 32 := v1586
  let v1617 : Index := Scalar.indexCast v1587
  let c128_981 : Index := 128#32
  ![v1617.toNat, 128]
def k0_off19 (i : grid0.Coords) (k0_t1 : Fin (k0_t1_loop i).trips) (c0_i32_959 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let v1585 : BitVec 32 := Scalar.subi v1476 c0_i32_959
  let c256_i32_960 : BitVec 32 := 256#32
  let v1586 : BitVec 32 := Scalar.muli v1585 c256_i32_960
  let v1587 : BitVec 32 := v1586
  let v1637 : Index := Scalar.indexCast v1587
  let c256_992 : Index := 256#32
  ![v1637.toNat, 256]
def k0_off20 (i : grid0.Coords) (k0_t1 : Fin (k0_t1_loop i).trips) (c0_i32_959 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let v1585 : BitVec 32 := Scalar.subi v1476 c0_i32_959
  let c256_i32_960 : BitVec 32 := 256#32
  let v1586 : BitVec 32 := Scalar.muli v1585 c256_i32_960
  let v1587 : BitVec 32 := v1586
  let v1657 : Index := Scalar.indexCast v1587
  let c384_1003 : Index := 384#32
  ![v1657.toNat, 384]
def k0_mult8 (i : grid0.Coords) (k0_t1 : Fin (k0_t1_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let c1_i32_1005 : BitVec 32 := 1#32
  let v1668 : BitVec 32 := Scalar.subi v1476 c1_i32_1005
  let c1_i32_1006 : BitVec 32 := 1#32
  let v1669 : BitVec 32 := Scalar.subi v1668 c1_i32_1006
  let c256_i32_1007 : BitVec 32 := 256#32
  let v1670 : BitVec 32 := Scalar.muli v1669 c256_i32_1007
  v1670
def k0_mult9 (i : grid0.Coords) (k0_t1 : Fin (k0_t1_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let c1_i32_1072 : BitVec 32 := 1#32
  let v1776 : BitVec 32 := Scalar.subi v1476 c1_i32_1072
  let c256_i32_1073 : BitVec 32 := 256#32
  let v1777 : BitVec 32 := Scalar.muli v1776 c256_i32_1073
  v1777
def k0_mult10 (i : grid0.Coords) (k0_t1 : Fin (k0_t1_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let c2_i32_1118 : BitVec 32 := 2#32
  let v1859 : BitVec 32 := Scalar.subi v1476 c2_i32_1118
  let c1_i32_1119 : BitVec 32 := 1#32
  let v1860 : BitVec 32 := Scalar.subi v1859 c1_i32_1119
  let c256_i32_1120 : BitVec 32 := 256#32
  let v1861 : BitVec 32 := Scalar.muli v1860 c256_i32_1120
  v1861
def k0_mult11 (i : grid0.Coords) (k0_t1 : Fin (k0_t1_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let c2_i32_1185 : BitVec 32 := 2#32
  let v1967 : BitVec 32 := Scalar.subi v1476 c2_i32_1185
  let c256_i32_1186 : BitVec 32 := 256#32
  let v1968 : BitVec 32 := Scalar.muli v1967 c256_i32_1186
  v1968
def k0_mult12 (i : grid0.Coords) (k0_t1 : Fin (k0_t1_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let c3_i32_1231 : BitVec 32 := 3#32
  let v2050 : BitVec 32 := Scalar.subi v1476 c3_i32_1231
  let c1_i32_1232 : BitVec 32 := 1#32
  let v2051 : BitVec 32 := Scalar.subi v2050 c1_i32_1232
  let c256_i32_1233 : BitVec 32 := 256#32
  let v2052 : BitVec 32 := Scalar.muli v2051 c256_i32_1233
  v2052
def k0_mult13 (i : grid0.Coords) (k0_t1 : Fin (k0_t1_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c1_i32_106 : BitVec 32 := 1#32
  let arg14 : BitVec 32 := Scf.iv c0_i32_104 c1_i32_106 k0_t1
  let v1475 : BitVec 32 := Scalar.muli c4_i32_891 arg14
  let v1476 : BitVec 32 := Scalar.subi v186 v1475
  let c3_i32_1298 : BitVec 32 := 3#32
  let v2158 : BitVec 32 := Scalar.subi v1476 c3_i32_1298
  let c256_i32_1299 : BitVec 32 := 256#32
  let v2159 : BitVec 32 := Scalar.muli v2158 c256_i32_1299
  v2159
@[reducible] def k0_t2_loop (i : grid0.Coords) : Scf.Loop 32 :=
  let c0_i32_104 : BitVec 32 := 0#32
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let v205 : BitVec 32 := Scalar.addi c0_i32_104 v204
  let c1_i32_107 : BitVec 32 := 1#32
  ⟨v208, v205, c1_i32_107⟩
def k0_mult14 (i : grid0.Coords) (k0_t2 : Fin (k0_t2_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let c0_i32_892 : BitVec 32 := 0#32
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  v1479
def k0_off21 (i : grid0.Coords) (k0_t2 : Fin (k0_t2_loop i).trips) (c0_i32_892 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1483 : Index := Scalar.indexCast v1480
  let c0_897 : Index := 0#32
  ![v1483.toNat, 0]
def k0_off22 (i : grid0.Coords) (k0_t2 : Fin (k0_t2_loop i).trips) (c0_i32_892 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1509 : Index := Scalar.indexCast v1480
  let c128_913 : Index := 128#32
  ![v1509.toNat, 128]
def k0_off23 (i : grid0.Coords) (k0_t2 : Fin (k0_t2_loop i).trips) (c0_i32_892 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1535 : Index := Scalar.indexCast v1480
  let c256_929 : Index := 256#32
  ![v1535.toNat, 256]
def k0_off24 (i : grid0.Coords) (k0_t2 : Fin (k0_t2_loop i).trips) (c0_i32_892 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1561 : Index := Scalar.indexCast v1480
  let c384_945 : Index := 384#32
  ![v1561.toNat, 384]
def k0_mult15 (i : grid0.Coords) (k0_t2 : Fin (k0_t2_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let c0_i32_959 : BitVec 32 := 0#32
  let v1585 : BitVec 32 := Scalar.subi v1476 c0_i32_959
  let c256_i32_960 : BitVec 32 := 256#32
  let v1586 : BitVec 32 := Scalar.muli v1585 c256_i32_960
  v1586
def k0_off25 (i : grid0.Coords) (k0_t2 : Fin (k0_t2_loop i).trips) (c0_i32_959 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let v1585 : BitVec 32 := Scalar.subi v1476 c0_i32_959
  let c256_i32_960 : BitVec 32 := 256#32
  let v1586 : BitVec 32 := Scalar.muli v1585 c256_i32_960
  let v1587 : BitVec 32 := v1586
  let v1597 : Index := Scalar.indexCast v1587
  let c0_970 : Index := 0#32
  ![v1597.toNat, 0]
def k0_off26 (i : grid0.Coords) (k0_t2 : Fin (k0_t2_loop i).trips) (c0_i32_959 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let v1585 : BitVec 32 := Scalar.subi v1476 c0_i32_959
  let c256_i32_960 : BitVec 32 := 256#32
  let v1586 : BitVec 32 := Scalar.muli v1585 c256_i32_960
  let v1587 : BitVec 32 := v1586
  let v1617 : Index := Scalar.indexCast v1587
  let c128_981 : Index := 128#32
  ![v1617.toNat, 128]
def k0_off27 (i : grid0.Coords) (k0_t2 : Fin (k0_t2_loop i).trips) (c0_i32_959 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let v1585 : BitVec 32 := Scalar.subi v1476 c0_i32_959
  let c256_i32_960 : BitVec 32 := 256#32
  let v1586 : BitVec 32 := Scalar.muli v1585 c256_i32_960
  let v1587 : BitVec 32 := v1586
  let v1637 : Index := Scalar.indexCast v1587
  let c256_992 : Index := 256#32
  ![v1637.toNat, 256]
def k0_off28 (i : grid0.Coords) (k0_t2 : Fin (k0_t2_loop i).trips) (c0_i32_959 : BitVec 32) : Fin 2 → Nat :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let v1585 : BitVec 32 := Scalar.subi v1476 c0_i32_959
  let c256_i32_960 : BitVec 32 := 256#32
  let v1586 : BitVec 32 := Scalar.muli v1585 c256_i32_960
  let v1587 : BitVec 32 := v1586
  let v1657 : Index := Scalar.indexCast v1587
  let c384_1003 : Index := 384#32
  ![v1657.toNat, 384]
def k0_mult16 (i : grid0.Coords) (k0_t2 : Fin (k0_t2_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let c1_i32_1005 : BitVec 32 := 1#32
  let v1668 : BitVec 32 := Scalar.subi v1476 c1_i32_1005
  let c1_i32_1006 : BitVec 32 := 1#32
  let v1669 : BitVec 32 := Scalar.subi v1668 c1_i32_1006
  let c256_i32_1007 : BitVec 32 := 256#32
  let v1670 : BitVec 32 := Scalar.muli v1669 c256_i32_1007
  v1670
def k0_mult17 (i : grid0.Coords) (k0_t2 : Fin (k0_t2_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let c1_i32_1072 : BitVec 32 := 1#32
  let v1776 : BitVec 32 := Scalar.subi v1476 c1_i32_1072
  let c256_i32_1073 : BitVec 32 := 256#32
  let v1777 : BitVec 32 := Scalar.muli v1776 c256_i32_1073
  v1777
def k0_mult18 (i : grid0.Coords) (k0_t2 : Fin (k0_t2_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let c2_i32_1118 : BitVec 32 := 2#32
  let v1859 : BitVec 32 := Scalar.subi v1476 c2_i32_1118
  let c1_i32_1119 : BitVec 32 := 1#32
  let v1860 : BitVec 32 := Scalar.subi v1859 c1_i32_1119
  let c256_i32_1120 : BitVec 32 := 256#32
  let v1861 : BitVec 32 := Scalar.muli v1860 c256_i32_1120
  v1861
def k0_mult19 (i : grid0.Coords) (k0_t2 : Fin (k0_t2_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let c2_i32_1185 : BitVec 32 := 2#32
  let v1967 : BitVec 32 := Scalar.subi v1476 c2_i32_1185
  let c256_i32_1186 : BitVec 32 := 256#32
  let v1968 : BitVec 32 := Scalar.muli v1967 c256_i32_1186
  v1968
def k0_mult20 (i : grid0.Coords) (k0_t2 : Fin (k0_t2_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let c3_i32_1231 : BitVec 32 := 3#32
  let v2050 : BitVec 32 := Scalar.subi v1476 c3_i32_1231
  let c1_i32_1232 : BitVec 32 := 1#32
  let v2051 : BitVec 32 := Scalar.subi v2050 c1_i32_1232
  let c256_i32_1233 : BitVec 32 := 256#32
  let v2052 : BitVec 32 := Scalar.muli v2051 c256_i32_1233
  v2052
def k0_mult21 (i : grid0.Coords) (k0_t2 : Fin (k0_t2_loop i).trips) : BitVec 32 :=
  let arg2 : BitVec 32 := BitVec.ofNat 32 (i 2).val
  let c4_i32_2 : BitVec 32 := 4#32
  let v9 : BitVec 32 := Scalar.muli arg2 c4_i32_2
  let c0_i32_3 : BitVec 32 := 0#32
  let v10 : BitVec 32 := Scalar.addi v9 c0_i32_3
  let c4_i32_91 : BitVec 32 := 4#32
  let c0_i32_92 : BitVec 32 := 0#32
  let v176 : BitVec 1 := Scalar.cmpi .eq c4_i32_91 c0_i32_92
  let c1_i32_93 : BitVec 32 := 1#32
  let v177 : BitVec 32 := Scalar.select v176 c1_i32_93 c4_i32_91
  let v178 : BitVec 32 := Scalar.remsi v10 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v186 : BitVec 32 := Scalar.subi v10 v185
  let c4_i32_891 : BitVec 32 := 4#32
  let c0_i32_104 : BitVec 32 := 0#32
  let c0_i32_98 : BitVec 32 := 0#32
  let v188 : BitVec 1 := Scalar.cmpi .sgt v186 c0_i32_98
  let v189 : BitVec 32 := Scalar.extui v188
  let c0_i32_99 : BitVec 32 := 0#32
  let v190 : BitVec 1 := Scalar.cmpi .slt v186 c0_i32_99
  let v191 : BitVec 32 := Scalar.extui v190
  let v192 : BitVec 32 := Scalar.subi v189 v191
  let c4_i32_97 : BitVec 32 := 4#32
  let c0_i32_100 : BitVec 32 := 0#32
  let v193 : BitVec 1 := Scalar.cmpi .sgt c4_i32_97 c0_i32_100
  let v194 : BitVec 32 := Scalar.extui v193
  let c0_i32_101 : BitVec 32 := 0#32
  let v195 : BitVec 1 := Scalar.cmpi .slt c4_i32_97 c0_i32_101
  let v196 : BitVec 32 := Scalar.extui v195
  let v197 : BitVec 32 := Scalar.subi v194 v196
  let v198 : BitVec 1 := Scalar.cmpi .ne v192 v197
  let v199 : BitVec 32 := Scalar.remsi v186 c4_i32_97
  let c0_i32_102 : BitVec 32 := 0#32
  let v200 : BitVec 1 := Scalar.cmpi .ne v199 c0_i32_102
  let v201 : BitVec 1 := Scalar.andi v198 v200
  let v187 : BitVec 32 := Scalar.divsi v186 c4_i32_97
  let c1_i32_103 : BitVec 32 := 1#32
  let v202 : BitVec 32 := Scalar.subi v187 c1_i32_103
  let v203 : BitVec 32 := Scalar.select v201 v202 v187
  let v204 : BitVec 32 := Scalar.subi v203 c0_i32_104
  let c1_i32_105 : BitVec 32 := 1#32
  let v206 : BitVec 32 := Scalar.divsi v204 c1_i32_105
  let v207 : BitVec 32 := Scalar.muli v206 c1_i32_105
  let v208 : BitVec 32 := Scalar.addi c0_i32_104 v207
  let c1_i32_107 : BitVec 32 := 1#32
  let arg14 : BitVec 32 := Scf.iv v208 c1_i32_107 k0_t2
  let v1475 : BitVec 32 := Scalar.muli c4_i32_891 arg14
  let v1476 : BitVec 32 := Scalar.subi v186 v1475
  let c3_i32_1298 : BitVec 32 := 3#32
  let v2158 : BitVec 32 := Scalar.subi v1476 c3_i32_1298
  let c256_i32_1299 : BitVec 32 := 256#32
  let v2159 : BitVec 32 := Scalar.muli v2158 c256_i32_1299
  v2159
def k0_mult22 : BitVec 32 :=
  let c0_i32_108 : BitVec 32 := 0#32
  c0_i32_108
def k0_mult23 (i : grid0.Coords) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c256_i32_171 : BitVec 32 := 256#32
  let v290 : BitVec 32 := Scalar.muli v281 c256_i32_171
  v290
def k0_mult24 (i : grid0.Coords) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c0_i32_244 : BitVec 32 := 0#32
  let v415 : BitVec 32 := Scalar.subi v281 c0_i32_244
  let c1_i32_245 : BitVec 32 := 1#32
  let v416 : BitVec 32 := Scalar.subi v415 c1_i32_245
  let c256_i32_246 : BitVec 32 := 256#32
  let v417 : BitVec 32 := Scalar.muli v416 c256_i32_246
  v417
def k0_off29 (i : grid0.Coords) (c1_i32_162 : BitVec 32) : Fin 2 → Nat :=
  let arg2 : BitVec 32 := BitVec.ofNat 32 (i 2).val
  let c4_i32_161 : BitVec 32 := 4#32
  let v280 : BitVec 32 := Scalar.muli arg2 c4_i32_161
  let v281 : BitVec 32 := Scalar.addi v280 c1_i32_162
  let c0_i32_244 : BitVec 32 := 0#32
  let v415 : BitVec 32 := Scalar.subi v281 c0_i32_244
  let c1_i32_245 : BitVec 32 := 1#32
  let v416 : BitVec 32 := Scalar.subi v415 c1_i32_245
  let c256_i32_246 : BitVec 32 := 256#32
  let v417 : BitVec 32 := Scalar.muli v416 c256_i32_246
  let v418 : BitVec 32 := v417
  let v421 : Index := Scalar.indexCast v418
  let c0_249 : Index := 0#32
  ![v421.toNat, 0]
def k0_off30 (i : grid0.Coords) (c1_i32_162 : BitVec 32) : Fin 2 → Nat :=
  let arg2 : BitVec 32 := BitVec.ofNat 32 (i 2).val
  let c4_i32_161 : BitVec 32 := 4#32
  let v280 : BitVec 32 := Scalar.muli arg2 c4_i32_161
  let v281 : BitVec 32 := Scalar.addi v280 c1_i32_162
  let c0_i32_244 : BitVec 32 := 0#32
  let v415 : BitVec 32 := Scalar.subi v281 c0_i32_244
  let c1_i32_245 : BitVec 32 := 1#32
  let v416 : BitVec 32 := Scalar.subi v415 c1_i32_245
  let c256_i32_246 : BitVec 32 := 256#32
  let v417 : BitVec 32 := Scalar.muli v416 c256_i32_246
  let v418 : BitVec 32 := v417
  let v447 : Index := Scalar.indexCast v418
  let c128_265 : Index := 128#32
  ![v447.toNat, 128]
def k0_off31 (i : grid0.Coords) (c1_i32_162 : BitVec 32) : Fin 2 → Nat :=
  let arg2 : BitVec 32 := BitVec.ofNat 32 (i 2).val
  let c4_i32_161 : BitVec 32 := 4#32
  let v280 : BitVec 32 := Scalar.muli arg2 c4_i32_161
  let v281 : BitVec 32 := Scalar.addi v280 c1_i32_162
  let c0_i32_244 : BitVec 32 := 0#32
  let v415 : BitVec 32 := Scalar.subi v281 c0_i32_244
  let c1_i32_245 : BitVec 32 := 1#32
  let v416 : BitVec 32 := Scalar.subi v415 c1_i32_245
  let c256_i32_246 : BitVec 32 := 256#32
  let v417 : BitVec 32 := Scalar.muli v416 c256_i32_246
  let v418 : BitVec 32 := v417
  let v473 : Index := Scalar.indexCast v418
  let c256_281 : Index := 256#32
  ![v473.toNat, 256]
def k0_off32 (i : grid0.Coords) (c1_i32_162 : BitVec 32) : Fin 2 → Nat :=
  let arg2 : BitVec 32 := BitVec.ofNat 32 (i 2).val
  let c4_i32_161 : BitVec 32 := 4#32
  let v280 : BitVec 32 := Scalar.muli arg2 c4_i32_161
  let v281 : BitVec 32 := Scalar.addi v280 c1_i32_162
  let c0_i32_244 : BitVec 32 := 0#32
  let v415 : BitVec 32 := Scalar.subi v281 c0_i32_244
  let c1_i32_245 : BitVec 32 := 1#32
  let v416 : BitVec 32 := Scalar.subi v415 c1_i32_245
  let c256_i32_246 : BitVec 32 := 256#32
  let v417 : BitVec 32 := Scalar.muli v416 c256_i32_246
  let v418 : BitVec 32 := v417
  let v499 : Index := Scalar.indexCast v418
  let c384_297 : Index := 384#32
  ![v499.toNat, 384]
def k0_mult25 (i : grid0.Coords) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c0_i32_311 : BitVec 32 := 0#32
  let v523 : BitVec 32 := Scalar.subi v281 c0_i32_311
  let c256_i32_312 : BitVec 32 := 256#32
  let v524 : BitVec 32 := Scalar.muli v523 c256_i32_312
  v524
def k0_off33 (i : grid0.Coords) (c1_i32_162 : BitVec 32) : Fin 2 → Nat :=
  let arg2 : BitVec 32 := BitVec.ofNat 32 (i 2).val
  let c4_i32_161 : BitVec 32 := 4#32
  let v280 : BitVec 32 := Scalar.muli arg2 c4_i32_161
  let v281 : BitVec 32 := Scalar.addi v280 c1_i32_162
  let c0_i32_311 : BitVec 32 := 0#32
  let v523 : BitVec 32 := Scalar.subi v281 c0_i32_311
  let c256_i32_312 : BitVec 32 := 256#32
  let v524 : BitVec 32 := Scalar.muli v523 c256_i32_312
  let v525 : BitVec 32 := v524
  let v535 : Index := Scalar.indexCast v525
  let c0_322 : Index := 0#32
  ![v535.toNat, 0]
def k0_off34 (i : grid0.Coords) (c1_i32_162 : BitVec 32) : Fin 2 → Nat :=
  let arg2 : BitVec 32 := BitVec.ofNat 32 (i 2).val
  let c4_i32_161 : BitVec 32 := 4#32
  let v280 : BitVec 32 := Scalar.muli arg2 c4_i32_161
  let v281 : BitVec 32 := Scalar.addi v280 c1_i32_162
  let c0_i32_311 : BitVec 32 := 0#32
  let v523 : BitVec 32 := Scalar.subi v281 c0_i32_311
  let c256_i32_312 : BitVec 32 := 256#32
  let v524 : BitVec 32 := Scalar.muli v523 c256_i32_312
  let v525 : BitVec 32 := v524
  let v555 : Index := Scalar.indexCast v525
  let c128_333 : Index := 128#32
  ![v555.toNat, 128]
def k0_off35 (i : grid0.Coords) (c1_i32_162 : BitVec 32) : Fin 2 → Nat :=
  let arg2 : BitVec 32 := BitVec.ofNat 32 (i 2).val
  let c4_i32_161 : BitVec 32 := 4#32
  let v280 : BitVec 32 := Scalar.muli arg2 c4_i32_161
  let v281 : BitVec 32 := Scalar.addi v280 c1_i32_162
  let c0_i32_311 : BitVec 32 := 0#32
  let v523 : BitVec 32 := Scalar.subi v281 c0_i32_311
  let c256_i32_312 : BitVec 32 := 256#32
  let v524 : BitVec 32 := Scalar.muli v523 c256_i32_312
  let v525 : BitVec 32 := v524
  let v575 : Index := Scalar.indexCast v525
  let c256_344 : Index := 256#32
  ![v575.toNat, 256]
def k0_off36 (i : grid0.Coords) (c1_i32_162 : BitVec 32) : Fin 2 → Nat :=
  let arg2 : BitVec 32 := BitVec.ofNat 32 (i 2).val
  let c4_i32_161 : BitVec 32 := 4#32
  let v280 : BitVec 32 := Scalar.muli arg2 c4_i32_161
  let v281 : BitVec 32 := Scalar.addi v280 c1_i32_162
  let c0_i32_311 : BitVec 32 := 0#32
  let v523 : BitVec 32 := Scalar.subi v281 c0_i32_311
  let c256_i32_312 : BitVec 32 := 256#32
  let v524 : BitVec 32 := Scalar.muli v523 c256_i32_312
  let v525 : BitVec 32 := v524
  let v595 : Index := Scalar.indexCast v525
  let c384_355 : Index := 384#32
  ![v595.toNat, 384]
def k0_cond3 (i : grid0.Coords) : BitVec 1 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c0_i32_359 : BitVec 32 := 0#32
  let v608 : BitVec 1 := Scalar.cmpi .sgt v281 c0_i32_359
  let v609 : BitVec 32 := Scalar.extui v608
  let c0_i32_360 : BitVec 32 := 0#32
  let v610 : BitVec 1 := Scalar.cmpi .slt v281 c0_i32_360
  let v611 : BitVec 32 := Scalar.extui v610
  let v612 : BitVec 32 := Scalar.subi v609 v611
  let c2_i32_358 : BitVec 32 := 2#32
  let c0_i32_361 : BitVec 32 := 0#32
  let v613 : BitVec 1 := Scalar.cmpi .sgt c2_i32_358 c0_i32_361
  let v614 : BitVec 32 := Scalar.extui v613
  let c0_i32_362 : BitVec 32 := 0#32
  let v615 : BitVec 1 := Scalar.cmpi .slt c2_i32_358 c0_i32_362
  let v616 : BitVec 32 := Scalar.extui v615
  let v617 : BitVec 32 := Scalar.subi v614 v616
  let v618 : BitVec 1 := Scalar.cmpi .ne v612 v617
  let v619 : BitVec 32 := Scalar.remsi v281 c2_i32_358
  let c0_i32_363 : BitVec 32 := 0#32
  let v620 : BitVec 1 := Scalar.cmpi .ne v619 c0_i32_363
  let v621 : BitVec 1 := Scalar.andi v618 v620
  let v607 : BitVec 32 := Scalar.divsi v281 c2_i32_358
  let c1_i32_364 : BitVec 32 := 1#32
  let v622 : BitVec 32 := Scalar.subi v607 c1_i32_364
  let v623 : BitVec 32 := Scalar.select v621 v622 v607
  let c2_i32_365 : BitVec 32 := 2#32
  let c0_i32_366 : BitVec 32 := 0#32
  let v624 : BitVec 1 := Scalar.cmpi .eq c2_i32_365 c0_i32_366
  let c1_i32_367 : BitVec 32 := 1#32
  let v625 : BitVec 32 := Scalar.select v624 c1_i32_367 c2_i32_365
  let v626 : BitVec 32 := Scalar.remsi v623 v625
  let c0_i32_369 : BitVec 32 := 0#32
  let v628 : BitVec 1 := Scalar.cmpi .slt v626 c0_i32_369
  let c0_i32_370 : BitVec 32 := 0#32
  let v629 : BitVec 1 := Scalar.cmpi .slt v625 c0_i32_370
  let v630 : BitVec 1 := Scalar.xori v628 v629
  let c0_i32_368 : BitVec 32 := 0#32
  let v627 : BitVec 1 := Scalar.cmpi .ne v626 c0_i32_368
  let v631 : BitVec 1 := Scalar.andi v630 v627
  let v632 : BitVec 32 := Scalar.addi v626 v625
  let v633 : BitVec 32 := Scalar.select v631 v632 v626
  let c1_i32_371 : BitVec 32 := 1#32
  let v634 : BitVec 1 := Scalar.cmpi .eq v633 c1_i32_371
  let v635 : BitVec 32 := Scalar.extui v634
  let c0_i32_372 : BitVec 32 := 0#32
  let v636 : BitVec 1 := Scalar.cmpi .ne v635 c0_i32_372
  v636

def k0_mult26 (i : grid0.Coords) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let c0_i32_891 : BitVec 32 := 0#32
  let v1475 : BitVec 32 := Scalar.subi v606 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  v1477
def k0_off37 (i : grid0.Coords) (c0_i32_891 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let v1475 : BitVec 32 := Scalar.subi v606 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1481 : Index := Scalar.indexCast v1478
  let c0_896 : Index := 0#32
  ![v1481.toNat, 0]
def k0_off38 (i : grid0.Coords) (c0_i32_891 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let v1475 : BitVec 32 := Scalar.subi v606 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1507 : Index := Scalar.indexCast v1478
  let c128_912 : Index := 128#32
  ![v1507.toNat, 128]
def k0_off39 (i : grid0.Coords) (c0_i32_891 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let v1475 : BitVec 32 := Scalar.subi v606 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1533 : Index := Scalar.indexCast v1478
  let c256_928 : Index := 256#32
  ![v1533.toNat, 256]
def k0_off40 (i : grid0.Coords) (c0_i32_891 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let v1475 : BitVec 32 := Scalar.subi v606 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1559 : Index := Scalar.indexCast v1478
  let c384_944 : Index := 384#32
  ![v1559.toNat, 384]
def k0_mult27 (i : grid0.Coords) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let c0_i32_958 : BitVec 32 := 0#32
  let v1583 : BitVec 32 := Scalar.subi v606 c0_i32_958
  let c256_i32_959 : BitVec 32 := 256#32
  let v1584 : BitVec 32 := Scalar.muli v1583 c256_i32_959
  v1584
def k0_off41 (i : grid0.Coords) (c0_i32_958 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let v1583 : BitVec 32 := Scalar.subi v606 c0_i32_958
  let c256_i32_959 : BitVec 32 := 256#32
  let v1584 : BitVec 32 := Scalar.muli v1583 c256_i32_959
  let v1585 : BitVec 32 := v1584
  let v1595 : Index := Scalar.indexCast v1585
  let c0_969 : Index := 0#32
  ![v1595.toNat, 0]
def k0_off42 (i : grid0.Coords) (c0_i32_958 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let v1583 : BitVec 32 := Scalar.subi v606 c0_i32_958
  let c256_i32_959 : BitVec 32 := 256#32
  let v1584 : BitVec 32 := Scalar.muli v1583 c256_i32_959
  let v1585 : BitVec 32 := v1584
  let v1615 : Index := Scalar.indexCast v1585
  let c128_980 : Index := 128#32
  ![v1615.toNat, 128]
def k0_off43 (i : grid0.Coords) (c0_i32_958 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let v1583 : BitVec 32 := Scalar.subi v606 c0_i32_958
  let c256_i32_959 : BitVec 32 := 256#32
  let v1584 : BitVec 32 := Scalar.muli v1583 c256_i32_959
  let v1585 : BitVec 32 := v1584
  let v1635 : Index := Scalar.indexCast v1585
  let c256_991 : Index := 256#32
  ![v1635.toNat, 256]
def k0_off44 (i : grid0.Coords) (c0_i32_958 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let v1583 : BitVec 32 := Scalar.subi v606 c0_i32_958
  let c256_i32_959 : BitVec 32 := 256#32
  let v1584 : BitVec 32 := Scalar.muli v1583 c256_i32_959
  let v1585 : BitVec 32 := v1584
  let v1655 : Index := Scalar.indexCast v1585
  let c384_1002 : Index := 384#32
  ![v1655.toNat, 384]
def k0_mult28 (i : grid0.Coords) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let c1_i32_1004 : BitVec 32 := 1#32
  let v1666 : BitVec 32 := Scalar.subi v606 c1_i32_1004
  let c1_i32_1005 : BitVec 32 := 1#32
  let v1667 : BitVec 32 := Scalar.subi v1666 c1_i32_1005
  let c256_i32_1006 : BitVec 32 := 256#32
  let v1668 : BitVec 32 := Scalar.muli v1667 c256_i32_1006
  v1668
def k0_mult29 (i : grid0.Coords) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c1_i32_357 : BitVec 32 := 1#32
  let v606 : BitVec 32 := Scalar.subi v281 c1_i32_357
  let c1_i32_1071 : BitVec 32 := 1#32
  let v1774 : BitVec 32 := Scalar.subi v606 c1_i32_1071
  let c256_i32_1072 : BitVec 32 := 256#32
  let v1775 : BitVec 32 := Scalar.muli v1774 c256_i32_1072
  v1775
@[reducible] def k0_t3_loop (i : grid0.Coords) : Scf.Loop 32 :=
  let c0_i32_386 : BitVec 32 := 0#32
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_388 : BitVec 32 := 1#32
  ⟨c0_i32_386, v670, c1_i32_388⟩
def k0_mult30 (i : grid0.Coords) (k0_t3 : Fin (k0_t3_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let c0_i32_892 : BitVec 32 := 0#32
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  v1479
def k0_off45 (i : grid0.Coords) (k0_t3 : Fin (k0_t3_loop i).trips) (c0_i32_892 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1483 : Index := Scalar.indexCast v1480
  let c0_897 : Index := 0#32
  ![v1483.toNat, 0]
def k0_off46 (i : grid0.Coords) (k0_t3 : Fin (k0_t3_loop i).trips) (c0_i32_892 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1509 : Index := Scalar.indexCast v1480
  let c128_913 : Index := 128#32
  ![v1509.toNat, 128]
def k0_off47 (i : grid0.Coords) (k0_t3 : Fin (k0_t3_loop i).trips) (c0_i32_892 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1535 : Index := Scalar.indexCast v1480
  let c256_929 : Index := 256#32
  ![v1535.toNat, 256]
def k0_off48 (i : grid0.Coords) (k0_t3 : Fin (k0_t3_loop i).trips) (c0_i32_892 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1561 : Index := Scalar.indexCast v1480
  let c384_945 : Index := 384#32
  ![v1561.toNat, 384]
def k0_mult31 (i : grid0.Coords) (k0_t3 : Fin (k0_t3_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let c0_i32_959 : BitVec 32 := 0#32
  let v1585 : BitVec 32 := Scalar.subi v1476 c0_i32_959
  let c256_i32_960 : BitVec 32 := 256#32
  let v1586 : BitVec 32 := Scalar.muli v1585 c256_i32_960
  v1586
def k0_off49 (i : grid0.Coords) (k0_t3 : Fin (k0_t3_loop i).trips) (c0_i32_959 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let v1585 : BitVec 32 := Scalar.subi v1476 c0_i32_959
  let c256_i32_960 : BitVec 32 := 256#32
  let v1586 : BitVec 32 := Scalar.muli v1585 c256_i32_960
  let v1587 : BitVec 32 := v1586
  let v1597 : Index := Scalar.indexCast v1587
  let c0_970 : Index := 0#32
  ![v1597.toNat, 0]
def k0_off50 (i : grid0.Coords) (k0_t3 : Fin (k0_t3_loop i).trips) (c0_i32_959 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let v1585 : BitVec 32 := Scalar.subi v1476 c0_i32_959
  let c256_i32_960 : BitVec 32 := 256#32
  let v1586 : BitVec 32 := Scalar.muli v1585 c256_i32_960
  let v1587 : BitVec 32 := v1586
  let v1617 : Index := Scalar.indexCast v1587
  let c128_981 : Index := 128#32
  ![v1617.toNat, 128]
def k0_off51 (i : grid0.Coords) (k0_t3 : Fin (k0_t3_loop i).trips) (c0_i32_959 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let v1585 : BitVec 32 := Scalar.subi v1476 c0_i32_959
  let c256_i32_960 : BitVec 32 := 256#32
  let v1586 : BitVec 32 := Scalar.muli v1585 c256_i32_960
  let v1587 : BitVec 32 := v1586
  let v1637 : Index := Scalar.indexCast v1587
  let c256_992 : Index := 256#32
  ![v1637.toNat, 256]
def k0_off52 (i : grid0.Coords) (k0_t3 : Fin (k0_t3_loop i).trips) (c0_i32_959 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let v1585 : BitVec 32 := Scalar.subi v1476 c0_i32_959
  let c256_i32_960 : BitVec 32 := 256#32
  let v1586 : BitVec 32 := Scalar.muli v1585 c256_i32_960
  let v1587 : BitVec 32 := v1586
  let v1657 : Index := Scalar.indexCast v1587
  let c384_1003 : Index := 384#32
  ![v1657.toNat, 384]
def k0_mult32 (i : grid0.Coords) (k0_t3 : Fin (k0_t3_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let c1_i32_1005 : BitVec 32 := 1#32
  let v1668 : BitVec 32 := Scalar.subi v1476 c1_i32_1005
  let c1_i32_1006 : BitVec 32 := 1#32
  let v1669 : BitVec 32 := Scalar.subi v1668 c1_i32_1006
  let c256_i32_1007 : BitVec 32 := 256#32
  let v1670 : BitVec 32 := Scalar.muli v1669 c256_i32_1007
  v1670
def k0_mult33 (i : grid0.Coords) (k0_t3 : Fin (k0_t3_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let c1_i32_1072 : BitVec 32 := 1#32
  let v1776 : BitVec 32 := Scalar.subi v1476 c1_i32_1072
  let c256_i32_1073 : BitVec 32 := 256#32
  let v1777 : BitVec 32 := Scalar.muli v1776 c256_i32_1073
  v1777
def k0_mult34 (i : grid0.Coords) (k0_t3 : Fin (k0_t3_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let c2_i32_1118 : BitVec 32 := 2#32
  let v1859 : BitVec 32 := Scalar.subi v1476 c2_i32_1118
  let c1_i32_1119 : BitVec 32 := 1#32
  let v1860 : BitVec 32 := Scalar.subi v1859 c1_i32_1119
  let c256_i32_1120 : BitVec 32 := 256#32
  let v1861 : BitVec 32 := Scalar.muli v1860 c256_i32_1120
  v1861
def k0_mult35 (i : grid0.Coords) (k0_t3 : Fin (k0_t3_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let c2_i32_1185 : BitVec 32 := 2#32
  let v1967 : BitVec 32 := Scalar.subi v1476 c2_i32_1185
  let c256_i32_1186 : BitVec 32 := 256#32
  let v1968 : BitVec 32 := Scalar.muli v1967 c256_i32_1186
  v1968
def k0_mult36 (i : grid0.Coords) (k0_t3 : Fin (k0_t3_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let c3_i32_1231 : BitVec 32 := 3#32
  let v2050 : BitVec 32 := Scalar.subi v1476 c3_i32_1231
  let c1_i32_1232 : BitVec 32 := 1#32
  let v2051 : BitVec 32 := Scalar.subi v2050 c1_i32_1232
  let c256_i32_1233 : BitVec 32 := 256#32
  let v2052 : BitVec 32 := Scalar.muli v2051 c256_i32_1233
  v2052
def k0_mult37 (i : grid0.Coords) (k0_t3 : Fin (k0_t3_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c1_i32_388 : BitVec 32 := 1#32
  let arg14 : BitVec 32 := Scf.iv c0_i32_386 c1_i32_388 k0_t3
  let v1475 : BitVec 32 := Scalar.muli c4_i32_891 arg14
  let v1476 : BitVec 32 := Scalar.subi v648 v1475
  let c3_i32_1298 : BitVec 32 := 3#32
  let v2158 : BitVec 32 := Scalar.subi v1476 c3_i32_1298
  let c256_i32_1299 : BitVec 32 := 256#32
  let v2159 : BitVec 32 := Scalar.muli v2158 c256_i32_1299
  v2159
@[reducible] def k0_t4_loop (i : grid0.Coords) : Scf.Loop 32 :=
  let c0_i32_386 : BitVec 32 := 0#32
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let v667 : BitVec 32 := Scalar.addi c0_i32_386 v666
  let c1_i32_389 : BitVec 32 := 1#32
  ⟨v670, v667, c1_i32_389⟩
def k0_mult38 (i : grid0.Coords) (k0_t4 : Fin (k0_t4_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let c0_i32_892 : BitVec 32 := 0#32
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  v1479
def k0_off53 (i : grid0.Coords) (k0_t4 : Fin (k0_t4_loop i).trips) (c0_i32_892 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1483 : Index := Scalar.indexCast v1480
  let c0_897 : Index := 0#32
  ![v1483.toNat, 0]
def k0_off54 (i : grid0.Coords) (k0_t4 : Fin (k0_t4_loop i).trips) (c0_i32_892 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1509 : Index := Scalar.indexCast v1480
  let c128_913 : Index := 128#32
  ![v1509.toNat, 128]
def k0_off55 (i : grid0.Coords) (k0_t4 : Fin (k0_t4_loop i).trips) (c0_i32_892 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1535 : Index := Scalar.indexCast v1480
  let c256_929 : Index := 256#32
  ![v1535.toNat, 256]
def k0_off56 (i : grid0.Coords) (k0_t4 : Fin (k0_t4_loop i).trips) (c0_i32_892 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1561 : Index := Scalar.indexCast v1480
  let c384_945 : Index := 384#32
  ![v1561.toNat, 384]
def k0_mult39 (i : grid0.Coords) (k0_t4 : Fin (k0_t4_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let c0_i32_959 : BitVec 32 := 0#32
  let v1585 : BitVec 32 := Scalar.subi v1476 c0_i32_959
  let c256_i32_960 : BitVec 32 := 256#32
  let v1586 : BitVec 32 := Scalar.muli v1585 c256_i32_960
  v1586
def k0_off57 (i : grid0.Coords) (k0_t4 : Fin (k0_t4_loop i).trips) (c0_i32_959 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let v1585 : BitVec 32 := Scalar.subi v1476 c0_i32_959
  let c256_i32_960 : BitVec 32 := 256#32
  let v1586 : BitVec 32 := Scalar.muli v1585 c256_i32_960
  let v1587 : BitVec 32 := v1586
  let v1597 : Index := Scalar.indexCast v1587
  let c0_970 : Index := 0#32
  ![v1597.toNat, 0]
def k0_off58 (i : grid0.Coords) (k0_t4 : Fin (k0_t4_loop i).trips) (c0_i32_959 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let v1585 : BitVec 32 := Scalar.subi v1476 c0_i32_959
  let c256_i32_960 : BitVec 32 := 256#32
  let v1586 : BitVec 32 := Scalar.muli v1585 c256_i32_960
  let v1587 : BitVec 32 := v1586
  let v1617 : Index := Scalar.indexCast v1587
  let c128_981 : Index := 128#32
  ![v1617.toNat, 128]
def k0_off59 (i : grid0.Coords) (k0_t4 : Fin (k0_t4_loop i).trips) (c0_i32_959 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let v1585 : BitVec 32 := Scalar.subi v1476 c0_i32_959
  let c256_i32_960 : BitVec 32 := 256#32
  let v1586 : BitVec 32 := Scalar.muli v1585 c256_i32_960
  let v1587 : BitVec 32 := v1586
  let v1637 : Index := Scalar.indexCast v1587
  let c256_992 : Index := 256#32
  ![v1637.toNat, 256]
def k0_off60 (i : grid0.Coords) (k0_t4 : Fin (k0_t4_loop i).trips) (c0_i32_959 : BitVec 32) : Fin 2 → Nat :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let v1585 : BitVec 32 := Scalar.subi v1476 c0_i32_959
  let c256_i32_960 : BitVec 32 := 256#32
  let v1586 : BitVec 32 := Scalar.muli v1585 c256_i32_960
  let v1587 : BitVec 32 := v1586
  let v1657 : Index := Scalar.indexCast v1587
  let c384_1003 : Index := 384#32
  ![v1657.toNat, 384]
def k0_mult40 (i : grid0.Coords) (k0_t4 : Fin (k0_t4_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let c1_i32_1005 : BitVec 32 := 1#32
  let v1668 : BitVec 32 := Scalar.subi v1476 c1_i32_1005
  let c1_i32_1006 : BitVec 32 := 1#32
  let v1669 : BitVec 32 := Scalar.subi v1668 c1_i32_1006
  let c256_i32_1007 : BitVec 32 := 256#32
  let v1670 : BitVec 32 := Scalar.muli v1669 c256_i32_1007
  v1670
def k0_mult41 (i : grid0.Coords) (k0_t4 : Fin (k0_t4_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let c1_i32_1072 : BitVec 32 := 1#32
  let v1776 : BitVec 32 := Scalar.subi v1476 c1_i32_1072
  let c256_i32_1073 : BitVec 32 := 256#32
  let v1777 : BitVec 32 := Scalar.muli v1776 c256_i32_1073
  v1777
def k0_mult42 (i : grid0.Coords) (k0_t4 : Fin (k0_t4_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let c2_i32_1118 : BitVec 32 := 2#32
  let v1859 : BitVec 32 := Scalar.subi v1476 c2_i32_1118
  let c1_i32_1119 : BitVec 32 := 1#32
  let v1860 : BitVec 32 := Scalar.subi v1859 c1_i32_1119
  let c256_i32_1120 : BitVec 32 := 256#32
  let v1861 : BitVec 32 := Scalar.muli v1860 c256_i32_1120
  v1861
def k0_mult43 (i : grid0.Coords) (k0_t4 : Fin (k0_t4_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let c2_i32_1185 : BitVec 32 := 2#32
  let v1967 : BitVec 32 := Scalar.subi v1476 c2_i32_1185
  let c256_i32_1186 : BitVec 32 := 256#32
  let v1968 : BitVec 32 := Scalar.muli v1967 c256_i32_1186
  v1968
def k0_mult44 (i : grid0.Coords) (k0_t4 : Fin (k0_t4_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let c3_i32_1231 : BitVec 32 := 3#32
  let v2050 : BitVec 32 := Scalar.subi v1476 c3_i32_1231
  let c1_i32_1232 : BitVec 32 := 1#32
  let v2051 : BitVec 32 := Scalar.subi v2050 c1_i32_1232
  let c256_i32_1233 : BitVec 32 := 256#32
  let v2052 : BitVec 32 := Scalar.muli v2051 c256_i32_1233
  v2052
def k0_mult45 (i : grid0.Coords) (k0_t4 : Fin (k0_t4_loop i).trips) : BitVec 32 :=
  let arg2 : BitVec 32 := BitVec.ofNat 32 (i 2).val
  let c4_i32_161 : BitVec 32 := 4#32
  let v280 : BitVec 32 := Scalar.muli arg2 c4_i32_161
  let c1_i32_162 : BitVec 32 := 1#32
  let v281 : BitVec 32 := Scalar.addi v280 c1_i32_162
  let c4_i32_373 : BitVec 32 := 4#32
  let c0_i32_374 : BitVec 32 := 0#32
  let v638 : BitVec 1 := Scalar.cmpi .eq c4_i32_373 c0_i32_374
  let c1_i32_375 : BitVec 32 := 1#32
  let v639 : BitVec 32 := Scalar.select v638 c1_i32_375 c4_i32_373
  let v640 : BitVec 32 := Scalar.remsi v281 v639
  let c0_i32_377 : BitVec 32 := 0#32
  let v642 : BitVec 1 := Scalar.cmpi .slt v640 c0_i32_377
  let c0_i32_378 : BitVec 32 := 0#32
  let v643 : BitVec 1 := Scalar.cmpi .slt v639 c0_i32_378
  let v644 : BitVec 1 := Scalar.xori v642 v643
  let c0_i32_376 : BitVec 32 := 0#32
  let v641 : BitVec 1 := Scalar.cmpi .ne v640 c0_i32_376
  let v645 : BitVec 1 := Scalar.andi v644 v641
  let v646 : BitVec 32 := Scalar.addi v640 v639
  let v647 : BitVec 32 := Scalar.select v645 v646 v640
  let v648 : BitVec 32 := Scalar.subi v281 v647
  let c4_i32_891 : BitVec 32 := 4#32
  let c0_i32_386 : BitVec 32 := 0#32
  let c0_i32_380 : BitVec 32 := 0#32
  let v650 : BitVec 1 := Scalar.cmpi .sgt v648 c0_i32_380
  let v651 : BitVec 32 := Scalar.extui v650
  let c0_i32_381 : BitVec 32 := 0#32
  let v652 : BitVec 1 := Scalar.cmpi .slt v648 c0_i32_381
  let v653 : BitVec 32 := Scalar.extui v652
  let v654 : BitVec 32 := Scalar.subi v651 v653
  let c4_i32_379 : BitVec 32 := 4#32
  let c0_i32_382 : BitVec 32 := 0#32
  let v655 : BitVec 1 := Scalar.cmpi .sgt c4_i32_379 c0_i32_382
  let v656 : BitVec 32 := Scalar.extui v655
  let c0_i32_383 : BitVec 32 := 0#32
  let v657 : BitVec 1 := Scalar.cmpi .slt c4_i32_379 c0_i32_383
  let v658 : BitVec 32 := Scalar.extui v657
  let v659 : BitVec 32 := Scalar.subi v656 v658
  let v660 : BitVec 1 := Scalar.cmpi .ne v654 v659
  let v661 : BitVec 32 := Scalar.remsi v648 c4_i32_379
  let c0_i32_384 : BitVec 32 := 0#32
  let v662 : BitVec 1 := Scalar.cmpi .ne v661 c0_i32_384
  let v663 : BitVec 1 := Scalar.andi v660 v662
  let v649 : BitVec 32 := Scalar.divsi v648 c4_i32_379
  let c1_i32_385 : BitVec 32 := 1#32
  let v664 : BitVec 32 := Scalar.subi v649 c1_i32_385
  let v665 : BitVec 32 := Scalar.select v663 v664 v649
  let v666 : BitVec 32 := Scalar.subi v665 c0_i32_386
  let c1_i32_387 : BitVec 32 := 1#32
  let v668 : BitVec 32 := Scalar.divsi v666 c1_i32_387
  let v669 : BitVec 32 := Scalar.muli v668 c1_i32_387
  let v670 : BitVec 32 := Scalar.addi c0_i32_386 v669
  let c1_i32_389 : BitVec 32 := 1#32
  let arg14 : BitVec 32 := Scf.iv v670 c1_i32_389 k0_t4
  let v1475 : BitVec 32 := Scalar.muli c4_i32_891 arg14
  let v1476 : BitVec 32 := Scalar.subi v648 v1475
  let c3_i32_1298 : BitVec 32 := 3#32
  let v2158 : BitVec 32 := Scalar.subi v1476 c3_i32_1298
  let c256_i32_1299 : BitVec 32 := 256#32
  let v2159 : BitVec 32 := Scalar.muli v2158 c256_i32_1299
  v2159
def k0_mult46 : BitVec 32 :=
  let c0_i32_390 : BitVec 32 := 0#32
  c0_i32_390
def k0_mult47 (i : grid0.Coords) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c256_i32_453 : BitVec 32 := 256#32
  let v752 : BitVec 32 := Scalar.muli v743 c256_i32_453
  v752
def k0_cond4 (i : grid0.Coords) : BitVec 1 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_527 : BitVec 32 := 0#32
  let v879 : BitVec 1 := Scalar.cmpi .sgt v743 c0_i32_527
  let v880 : BitVec 32 := Scalar.extui v879
  let c0_i32_528 : BitVec 32 := 0#32
  let v881 : BitVec 1 := Scalar.cmpi .slt v743 c0_i32_528
  let v882 : BitVec 32 := Scalar.extui v881
  let v883 : BitVec 32 := Scalar.subi v880 v882
  let c2_i32_526 : BitVec 32 := 2#32
  let c0_i32_529 : BitVec 32 := 0#32
  let v884 : BitVec 1 := Scalar.cmpi .sgt c2_i32_526 c0_i32_529
  let v885 : BitVec 32 := Scalar.extui v884
  let c0_i32_530 : BitVec 32 := 0#32
  let v886 : BitVec 1 := Scalar.cmpi .slt c2_i32_526 c0_i32_530
  let v887 : BitVec 32 := Scalar.extui v886
  let v888 : BitVec 32 := Scalar.subi v885 v887
  let v889 : BitVec 1 := Scalar.cmpi .ne v883 v888
  let v890 : BitVec 32 := Scalar.remsi v743 c2_i32_526
  let c0_i32_531 : BitVec 32 := 0#32
  let v891 : BitVec 1 := Scalar.cmpi .ne v890 c0_i32_531
  let v892 : BitVec 1 := Scalar.andi v889 v891
  let v878 : BitVec 32 := Scalar.divsi v743 c2_i32_526
  let c1_i32_532 : BitVec 32 := 1#32
  let v893 : BitVec 32 := Scalar.subi v878 c1_i32_532
  let v894 : BitVec 32 := Scalar.select v892 v893 v878
  let c2_i32_533 : BitVec 32 := 2#32
  let c0_i32_534 : BitVec 32 := 0#32
  let v895 : BitVec 1 := Scalar.cmpi .eq c2_i32_533 c0_i32_534
  let c1_i32_535 : BitVec 32 := 1#32
  let v896 : BitVec 32 := Scalar.select v895 c1_i32_535 c2_i32_533
  let v897 : BitVec 32 := Scalar.remsi v894 v896
  let c0_i32_537 : BitVec 32 := 0#32
  let v899 : BitVec 1 := Scalar.cmpi .slt v897 c0_i32_537
  let c0_i32_538 : BitVec 32 := 0#32
  let v900 : BitVec 1 := Scalar.cmpi .slt v896 c0_i32_538
  let v901 : BitVec 1 := Scalar.xori v899 v900
  let c0_i32_536 : BitVec 32 := 0#32
  let v898 : BitVec 1 := Scalar.cmpi .ne v897 c0_i32_536
  let v902 : BitVec 1 := Scalar.andi v901 v898
  let v903 : BitVec 32 := Scalar.addi v897 v896
  let v904 : BitVec 32 := Scalar.select v902 v903 v897
  let c1_i32_539 : BitVec 32 := 1#32
  let v905 : BitVec 1 := Scalar.cmpi .eq v904 c1_i32_539
  let v906 : BitVec 32 := Scalar.extui v905
  let c0_i32_540 : BitVec 32 := 0#32
  let v907 : BitVec 1 := Scalar.cmpi .ne v906 c0_i32_540
  v907

def k0_mult48 (i : grid0.Coords) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let c0_i32_891 : BitVec 32 := 0#32
  let v1475 : BitVec 32 := Scalar.subi v877 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  v1477
def k0_off61 (i : grid0.Coords) (c0_i32_891 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let v1475 : BitVec 32 := Scalar.subi v877 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1481 : Index := Scalar.indexCast v1478
  let c0_896 : Index := 0#32
  ![v1481.toNat, 0]
def k0_off62 (i : grid0.Coords) (c0_i32_891 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let v1475 : BitVec 32 := Scalar.subi v877 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1507 : Index := Scalar.indexCast v1478
  let c128_912 : Index := 128#32
  ![v1507.toNat, 128]
def k0_off63 (i : grid0.Coords) (c0_i32_891 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let v1475 : BitVec 32 := Scalar.subi v877 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1533 : Index := Scalar.indexCast v1478
  let c256_928 : Index := 256#32
  ![v1533.toNat, 256]
def k0_off64 (i : grid0.Coords) (c0_i32_891 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let v1475 : BitVec 32 := Scalar.subi v877 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1559 : Index := Scalar.indexCast v1478
  let c384_944 : Index := 384#32
  ![v1559.toNat, 384]
def k0_mult49 (i : grid0.Coords) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let c0_i32_958 : BitVec 32 := 0#32
  let v1583 : BitVec 32 := Scalar.subi v877 c0_i32_958
  let c256_i32_959 : BitVec 32 := 256#32
  let v1584 : BitVec 32 := Scalar.muli v1583 c256_i32_959
  v1584
def k0_off65 (i : grid0.Coords) (c0_i32_958 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let v1583 : BitVec 32 := Scalar.subi v877 c0_i32_958
  let c256_i32_959 : BitVec 32 := 256#32
  let v1584 : BitVec 32 := Scalar.muli v1583 c256_i32_959
  let v1585 : BitVec 32 := v1584
  let v1595 : Index := Scalar.indexCast v1585
  let c0_969 : Index := 0#32
  ![v1595.toNat, 0]
def k0_off66 (i : grid0.Coords) (c0_i32_958 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let v1583 : BitVec 32 := Scalar.subi v877 c0_i32_958
  let c256_i32_959 : BitVec 32 := 256#32
  let v1584 : BitVec 32 := Scalar.muli v1583 c256_i32_959
  let v1585 : BitVec 32 := v1584
  let v1615 : Index := Scalar.indexCast v1585
  let c128_980 : Index := 128#32
  ![v1615.toNat, 128]
def k0_off67 (i : grid0.Coords) (c0_i32_958 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let v1583 : BitVec 32 := Scalar.subi v877 c0_i32_958
  let c256_i32_959 : BitVec 32 := 256#32
  let v1584 : BitVec 32 := Scalar.muli v1583 c256_i32_959
  let v1585 : BitVec 32 := v1584
  let v1635 : Index := Scalar.indexCast v1585
  let c256_991 : Index := 256#32
  ![v1635.toNat, 256]
def k0_off68 (i : grid0.Coords) (c0_i32_958 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let v1583 : BitVec 32 := Scalar.subi v877 c0_i32_958
  let c256_i32_959 : BitVec 32 := 256#32
  let v1584 : BitVec 32 := Scalar.muli v1583 c256_i32_959
  let v1585 : BitVec 32 := v1584
  let v1655 : Index := Scalar.indexCast v1585
  let c384_1002 : Index := 384#32
  ![v1655.toNat, 384]
def k0_mult50 (i : grid0.Coords) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let c1_i32_1004 : BitVec 32 := 1#32
  let v1666 : BitVec 32 := Scalar.subi v877 c1_i32_1004
  let c1_i32_1005 : BitVec 32 := 1#32
  let v1667 : BitVec 32 := Scalar.subi v1666 c1_i32_1005
  let c256_i32_1006 : BitVec 32 := 256#32
  let v1668 : BitVec 32 := Scalar.muli v1667 c256_i32_1006
  v1668
def k0_mult51 (i : grid0.Coords) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c0_i32_525 : BitVec 32 := 0#32
  let v877 : BitVec 32 := Scalar.subi v743 c0_i32_525
  let c1_i32_1071 : BitVec 32 := 1#32
  let v1774 : BitVec 32 := Scalar.subi v877 c1_i32_1071
  let c256_i32_1072 : BitVec 32 := 256#32
  let v1775 : BitVec 32 := Scalar.muli v1774 c256_i32_1072
  v1775
@[reducible] def k0_t5_loop (i : grid0.Coords) : Scf.Loop 32 :=
  let c0_i32_554 : BitVec 32 := 0#32
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_556 : BitVec 32 := 1#32
  ⟨c0_i32_554, v941, c1_i32_556⟩
def k0_mult52 (i : grid0.Coords) (k0_t5 : Fin (k0_t5_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let c0_i32_892 : BitVec 32 := 0#32
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  v1479
def k0_off69 (i : grid0.Coords) (k0_t5 : Fin (k0_t5_loop i).trips) (c0_i32_892 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1483 : Index := Scalar.indexCast v1480
  let c0_897 : Index := 0#32
  ![v1483.toNat, 0]
def k0_off70 (i : grid0.Coords) (k0_t5 : Fin (k0_t5_loop i).trips) (c0_i32_892 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1509 : Index := Scalar.indexCast v1480
  let c128_913 : Index := 128#32
  ![v1509.toNat, 128]
def k0_off71 (i : grid0.Coords) (k0_t5 : Fin (k0_t5_loop i).trips) (c0_i32_892 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1535 : Index := Scalar.indexCast v1480
  let c256_929 : Index := 256#32
  ![v1535.toNat, 256]
def k0_off72 (i : grid0.Coords) (k0_t5 : Fin (k0_t5_loop i).trips) (c0_i32_892 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1561 : Index := Scalar.indexCast v1480
  let c384_945 : Index := 384#32
  ![v1561.toNat, 384]
def k0_mult53 (i : grid0.Coords) (k0_t5 : Fin (k0_t5_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let c0_i32_959 : BitVec 32 := 0#32
  let v1585 : BitVec 32 := Scalar.subi v1476 c0_i32_959
  let c256_i32_960 : BitVec 32 := 256#32
  let v1586 : BitVec 32 := Scalar.muli v1585 c256_i32_960
  v1586
def k0_off73 (i : grid0.Coords) (k0_t5 : Fin (k0_t5_loop i).trips) (c0_i32_959 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let v1585 : BitVec 32 := Scalar.subi v1476 c0_i32_959
  let c256_i32_960 : BitVec 32 := 256#32
  let v1586 : BitVec 32 := Scalar.muli v1585 c256_i32_960
  let v1587 : BitVec 32 := v1586
  let v1597 : Index := Scalar.indexCast v1587
  let c0_970 : Index := 0#32
  ![v1597.toNat, 0]
def k0_off74 (i : grid0.Coords) (k0_t5 : Fin (k0_t5_loop i).trips) (c0_i32_959 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let v1585 : BitVec 32 := Scalar.subi v1476 c0_i32_959
  let c256_i32_960 : BitVec 32 := 256#32
  let v1586 : BitVec 32 := Scalar.muli v1585 c256_i32_960
  let v1587 : BitVec 32 := v1586
  let v1617 : Index := Scalar.indexCast v1587
  let c128_981 : Index := 128#32
  ![v1617.toNat, 128]
def k0_off75 (i : grid0.Coords) (k0_t5 : Fin (k0_t5_loop i).trips) (c0_i32_959 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let v1585 : BitVec 32 := Scalar.subi v1476 c0_i32_959
  let c256_i32_960 : BitVec 32 := 256#32
  let v1586 : BitVec 32 := Scalar.muli v1585 c256_i32_960
  let v1587 : BitVec 32 := v1586
  let v1637 : Index := Scalar.indexCast v1587
  let c256_992 : Index := 256#32
  ![v1637.toNat, 256]
def k0_off76 (i : grid0.Coords) (k0_t5 : Fin (k0_t5_loop i).trips) (c0_i32_959 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let v1585 : BitVec 32 := Scalar.subi v1476 c0_i32_959
  let c256_i32_960 : BitVec 32 := 256#32
  let v1586 : BitVec 32 := Scalar.muli v1585 c256_i32_960
  let v1587 : BitVec 32 := v1586
  let v1657 : Index := Scalar.indexCast v1587
  let c384_1003 : Index := 384#32
  ![v1657.toNat, 384]
def k0_mult54 (i : grid0.Coords) (k0_t5 : Fin (k0_t5_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let c1_i32_1005 : BitVec 32 := 1#32
  let v1668 : BitVec 32 := Scalar.subi v1476 c1_i32_1005
  let c1_i32_1006 : BitVec 32 := 1#32
  let v1669 : BitVec 32 := Scalar.subi v1668 c1_i32_1006
  let c256_i32_1007 : BitVec 32 := 256#32
  let v1670 : BitVec 32 := Scalar.muli v1669 c256_i32_1007
  v1670
def k0_mult55 (i : grid0.Coords) (k0_t5 : Fin (k0_t5_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let c1_i32_1072 : BitVec 32 := 1#32
  let v1776 : BitVec 32 := Scalar.subi v1476 c1_i32_1072
  let c256_i32_1073 : BitVec 32 := 256#32
  let v1777 : BitVec 32 := Scalar.muli v1776 c256_i32_1073
  v1777
def k0_mult56 (i : grid0.Coords) (k0_t5 : Fin (k0_t5_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let c2_i32_1118 : BitVec 32 := 2#32
  let v1859 : BitVec 32 := Scalar.subi v1476 c2_i32_1118
  let c1_i32_1119 : BitVec 32 := 1#32
  let v1860 : BitVec 32 := Scalar.subi v1859 c1_i32_1119
  let c256_i32_1120 : BitVec 32 := 256#32
  let v1861 : BitVec 32 := Scalar.muli v1860 c256_i32_1120
  v1861
def k0_mult57 (i : grid0.Coords) (k0_t5 : Fin (k0_t5_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let c2_i32_1185 : BitVec 32 := 2#32
  let v1967 : BitVec 32 := Scalar.subi v1476 c2_i32_1185
  let c256_i32_1186 : BitVec 32 := 256#32
  let v1968 : BitVec 32 := Scalar.muli v1967 c256_i32_1186
  v1968
def k0_mult58 (i : grid0.Coords) (k0_t5 : Fin (k0_t5_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let c3_i32_1231 : BitVec 32 := 3#32
  let v2050 : BitVec 32 := Scalar.subi v1476 c3_i32_1231
  let c1_i32_1232 : BitVec 32 := 1#32
  let v2051 : BitVec 32 := Scalar.subi v2050 c1_i32_1232
  let c256_i32_1233 : BitVec 32 := 256#32
  let v2052 : BitVec 32 := Scalar.muli v2051 c256_i32_1233
  v2052
def k0_mult59 (i : grid0.Coords) (k0_t5 : Fin (k0_t5_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c1_i32_556 : BitVec 32 := 1#32
  let arg14 : BitVec 32 := Scf.iv c0_i32_554 c1_i32_556 k0_t5
  let v1475 : BitVec 32 := Scalar.muli c4_i32_891 arg14
  let v1476 : BitVec 32 := Scalar.subi v919 v1475
  let c3_i32_1298 : BitVec 32 := 3#32
  let v2158 : BitVec 32 := Scalar.subi v1476 c3_i32_1298
  let c256_i32_1299 : BitVec 32 := 256#32
  let v2159 : BitVec 32 := Scalar.muli v2158 c256_i32_1299
  v2159
@[reducible] def k0_t6_loop (i : grid0.Coords) : Scf.Loop 32 :=
  let c0_i32_554 : BitVec 32 := 0#32
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let v938 : BitVec 32 := Scalar.addi c0_i32_554 v937
  let c1_i32_557 : BitVec 32 := 1#32
  ⟨v941, v938, c1_i32_557⟩
def k0_mult60 (i : grid0.Coords) (k0_t6 : Fin (k0_t6_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let c0_i32_892 : BitVec 32 := 0#32
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  v1479
def k0_off77 (i : grid0.Coords) (k0_t6 : Fin (k0_t6_loop i).trips) (c0_i32_892 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1483 : Index := Scalar.indexCast v1480
  let c0_897 : Index := 0#32
  ![v1483.toNat, 0]
def k0_off78 (i : grid0.Coords) (k0_t6 : Fin (k0_t6_loop i).trips) (c0_i32_892 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1509 : Index := Scalar.indexCast v1480
  let c128_913 : Index := 128#32
  ![v1509.toNat, 128]
def k0_off79 (i : grid0.Coords) (k0_t6 : Fin (k0_t6_loop i).trips) (c0_i32_892 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1535 : Index := Scalar.indexCast v1480
  let c256_929 : Index := 256#32
  ![v1535.toNat, 256]
def k0_off80 (i : grid0.Coords) (k0_t6 : Fin (k0_t6_loop i).trips) (c0_i32_892 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1561 : Index := Scalar.indexCast v1480
  let c384_945 : Index := 384#32
  ![v1561.toNat, 384]
def k0_mult61 (i : grid0.Coords) (k0_t6 : Fin (k0_t6_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let c0_i32_959 : BitVec 32 := 0#32
  let v1585 : BitVec 32 := Scalar.subi v1476 c0_i32_959
  let c256_i32_960 : BitVec 32 := 256#32
  let v1586 : BitVec 32 := Scalar.muli v1585 c256_i32_960
  v1586
def k0_off81 (i : grid0.Coords) (k0_t6 : Fin (k0_t6_loop i).trips) (c0_i32_959 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let v1585 : BitVec 32 := Scalar.subi v1476 c0_i32_959
  let c256_i32_960 : BitVec 32 := 256#32
  let v1586 : BitVec 32 := Scalar.muli v1585 c256_i32_960
  let v1587 : BitVec 32 := v1586
  let v1597 : Index := Scalar.indexCast v1587
  let c0_970 : Index := 0#32
  ![v1597.toNat, 0]
def k0_off82 (i : grid0.Coords) (k0_t6 : Fin (k0_t6_loop i).trips) (c0_i32_959 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let v1585 : BitVec 32 := Scalar.subi v1476 c0_i32_959
  let c256_i32_960 : BitVec 32 := 256#32
  let v1586 : BitVec 32 := Scalar.muli v1585 c256_i32_960
  let v1587 : BitVec 32 := v1586
  let v1617 : Index := Scalar.indexCast v1587
  let c128_981 : Index := 128#32
  ![v1617.toNat, 128]
def k0_off83 (i : grid0.Coords) (k0_t6 : Fin (k0_t6_loop i).trips) (c0_i32_959 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let v1585 : BitVec 32 := Scalar.subi v1476 c0_i32_959
  let c256_i32_960 : BitVec 32 := 256#32
  let v1586 : BitVec 32 := Scalar.muli v1585 c256_i32_960
  let v1587 : BitVec 32 := v1586
  let v1637 : Index := Scalar.indexCast v1587
  let c256_992 : Index := 256#32
  ![v1637.toNat, 256]
def k0_off84 (i : grid0.Coords) (k0_t6 : Fin (k0_t6_loop i).trips) (c0_i32_959 : BitVec 32) : Fin 2 → Nat :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let v1585 : BitVec 32 := Scalar.subi v1476 c0_i32_959
  let c256_i32_960 : BitVec 32 := 256#32
  let v1586 : BitVec 32 := Scalar.muli v1585 c256_i32_960
  let v1587 : BitVec 32 := v1586
  let v1657 : Index := Scalar.indexCast v1587
  let c384_1003 : Index := 384#32
  ![v1657.toNat, 384]
def k0_mult62 (i : grid0.Coords) (k0_t6 : Fin (k0_t6_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let c1_i32_1005 : BitVec 32 := 1#32
  let v1668 : BitVec 32 := Scalar.subi v1476 c1_i32_1005
  let c1_i32_1006 : BitVec 32 := 1#32
  let v1669 : BitVec 32 := Scalar.subi v1668 c1_i32_1006
  let c256_i32_1007 : BitVec 32 := 256#32
  let v1670 : BitVec 32 := Scalar.muli v1669 c256_i32_1007
  v1670
def k0_mult63 (i : grid0.Coords) (k0_t6 : Fin (k0_t6_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let c1_i32_1072 : BitVec 32 := 1#32
  let v1776 : BitVec 32 := Scalar.subi v1476 c1_i32_1072
  let c256_i32_1073 : BitVec 32 := 256#32
  let v1777 : BitVec 32 := Scalar.muli v1776 c256_i32_1073
  v1777
def k0_mult64 (i : grid0.Coords) (k0_t6 : Fin (k0_t6_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let c2_i32_1118 : BitVec 32 := 2#32
  let v1859 : BitVec 32 := Scalar.subi v1476 c2_i32_1118
  let c1_i32_1119 : BitVec 32 := 1#32
  let v1860 : BitVec 32 := Scalar.subi v1859 c1_i32_1119
  let c256_i32_1120 : BitVec 32 := 256#32
  let v1861 : BitVec 32 := Scalar.muli v1860 c256_i32_1120
  v1861
def k0_mult65 (i : grid0.Coords) (k0_t6 : Fin (k0_t6_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let c2_i32_1185 : BitVec 32 := 2#32
  let v1967 : BitVec 32 := Scalar.subi v1476 c2_i32_1185
  let c256_i32_1186 : BitVec 32 := 256#32
  let v1968 : BitVec 32 := Scalar.muli v1967 c256_i32_1186
  v1968
def k0_mult66 (i : grid0.Coords) (k0_t6 : Fin (k0_t6_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let c3_i32_1231 : BitVec 32 := 3#32
  let v2050 : BitVec 32 := Scalar.subi v1476 c3_i32_1231
  let c1_i32_1232 : BitVec 32 := 1#32
  let v2051 : BitVec 32 := Scalar.subi v2050 c1_i32_1232
  let c256_i32_1233 : BitVec 32 := 256#32
  let v2052 : BitVec 32 := Scalar.muli v2051 c256_i32_1233
  v2052
def k0_mult67 (i : grid0.Coords) (k0_t6 : Fin (k0_t6_loop i).trips) : BitVec 32 :=
  let arg2 : BitVec 32 := BitVec.ofNat 32 (i 2).val
  let c4_i32_443 : BitVec 32 := 4#32
  let v742 : BitVec 32 := Scalar.muli arg2 c4_i32_443
  let c2_i32_444 : BitVec 32 := 2#32
  let v743 : BitVec 32 := Scalar.addi v742 c2_i32_444
  let c4_i32_541 : BitVec 32 := 4#32
  let c0_i32_542 : BitVec 32 := 0#32
  let v909 : BitVec 1 := Scalar.cmpi .eq c4_i32_541 c0_i32_542
  let c1_i32_543 : BitVec 32 := 1#32
  let v910 : BitVec 32 := Scalar.select v909 c1_i32_543 c4_i32_541
  let v911 : BitVec 32 := Scalar.remsi v743 v910
  let c0_i32_545 : BitVec 32 := 0#32
  let v913 : BitVec 1 := Scalar.cmpi .slt v911 c0_i32_545
  let c0_i32_546 : BitVec 32 := 0#32
  let v914 : BitVec 1 := Scalar.cmpi .slt v910 c0_i32_546
  let v915 : BitVec 1 := Scalar.xori v913 v914
  let c0_i32_544 : BitVec 32 := 0#32
  let v912 : BitVec 1 := Scalar.cmpi .ne v911 c0_i32_544
  let v916 : BitVec 1 := Scalar.andi v915 v912
  let v917 : BitVec 32 := Scalar.addi v911 v910
  let v918 : BitVec 32 := Scalar.select v916 v917 v911
  let v919 : BitVec 32 := Scalar.subi v743 v918
  let c4_i32_891 : BitVec 32 := 4#32
  let c0_i32_554 : BitVec 32 := 0#32
  let c0_i32_548 : BitVec 32 := 0#32
  let v921 : BitVec 1 := Scalar.cmpi .sgt v919 c0_i32_548
  let v922 : BitVec 32 := Scalar.extui v921
  let c0_i32_549 : BitVec 32 := 0#32
  let v923 : BitVec 1 := Scalar.cmpi .slt v919 c0_i32_549
  let v924 : BitVec 32 := Scalar.extui v923
  let v925 : BitVec 32 := Scalar.subi v922 v924
  let c4_i32_547 : BitVec 32 := 4#32
  let c0_i32_550 : BitVec 32 := 0#32
  let v926 : BitVec 1 := Scalar.cmpi .sgt c4_i32_547 c0_i32_550
  let v927 : BitVec 32 := Scalar.extui v926
  let c0_i32_551 : BitVec 32 := 0#32
  let v928 : BitVec 1 := Scalar.cmpi .slt c4_i32_547 c0_i32_551
  let v929 : BitVec 32 := Scalar.extui v928
  let v930 : BitVec 32 := Scalar.subi v927 v929
  let v931 : BitVec 1 := Scalar.cmpi .ne v925 v930
  let v932 : BitVec 32 := Scalar.remsi v919 c4_i32_547
  let c0_i32_552 : BitVec 32 := 0#32
  let v933 : BitVec 1 := Scalar.cmpi .ne v932 c0_i32_552
  let v934 : BitVec 1 := Scalar.andi v931 v933
  let v920 : BitVec 32 := Scalar.divsi v919 c4_i32_547
  let c1_i32_553 : BitVec 32 := 1#32
  let v935 : BitVec 32 := Scalar.subi v920 c1_i32_553
  let v936 : BitVec 32 := Scalar.select v934 v935 v920
  let v937 : BitVec 32 := Scalar.subi v936 c0_i32_554
  let c1_i32_555 : BitVec 32 := 1#32
  let v939 : BitVec 32 := Scalar.divsi v937 c1_i32_555
  let v940 : BitVec 32 := Scalar.muli v939 c1_i32_555
  let v941 : BitVec 32 := Scalar.addi c0_i32_554 v940
  let c1_i32_557 : BitVec 32 := 1#32
  let arg14 : BitVec 32 := Scf.iv v941 c1_i32_557 k0_t6
  let v1475 : BitVec 32 := Scalar.muli c4_i32_891 arg14
  let v1476 : BitVec 32 := Scalar.subi v919 v1475
  let c3_i32_1298 : BitVec 32 := 3#32
  let v2158 : BitVec 32 := Scalar.subi v1476 c3_i32_1298
  let c256_i32_1299 : BitVec 32 := 256#32
  let v2159 : BitVec 32 := Scalar.muli v2158 c256_i32_1299
  v2159
def k0_mult68 : BitVec 32 :=
  let c0_i32_558 : BitVec 32 := 0#32
  c0_i32_558
def k0_mult69 (i : grid0.Coords) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c256_i32_620 : BitVec 32 := 256#32
  let v1023 : BitVec 32 := Scalar.muli v1014 c256_i32_620
  v1023
def k0_mult70 (i : grid0.Coords) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c0_i32_692 : BitVec 32 := 0#32
  let v1148 : BitVec 32 := Scalar.subi v1014 c0_i32_692
  let c1_i32_693 : BitVec 32 := 1#32
  let v1149 : BitVec 32 := Scalar.subi v1148 c1_i32_693
  let c256_i32_694 : BitVec 32 := 256#32
  let v1150 : BitVec 32 := Scalar.muli v1149 c256_i32_694
  v1150
def k0_mult71 (i : grid0.Coords) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c0_i32_759 : BitVec 32 := 0#32
  let v1256 : BitVec 32 := Scalar.subi v1014 c0_i32_759
  let c256_i32_760 : BitVec 32 := 256#32
  let v1257 : BitVec 32 := Scalar.muli v1256 c256_i32_760
  v1257
def k0_cond5 (i : grid0.Coords) : BitVec 1 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c0_i32_807 : BitVec 32 := 0#32
  let v1341 : BitVec 1 := Scalar.cmpi .sgt v1014 c0_i32_807
  let v1342 : BitVec 32 := Scalar.extui v1341
  let c0_i32_808 : BitVec 32 := 0#32
  let v1343 : BitVec 1 := Scalar.cmpi .slt v1014 c0_i32_808
  let v1344 : BitVec 32 := Scalar.extui v1343
  let v1345 : BitVec 32 := Scalar.subi v1342 v1344
  let c2_i32_806 : BitVec 32 := 2#32
  let c0_i32_809 : BitVec 32 := 0#32
  let v1346 : BitVec 1 := Scalar.cmpi .sgt c2_i32_806 c0_i32_809
  let v1347 : BitVec 32 := Scalar.extui v1346
  let c0_i32_810 : BitVec 32 := 0#32
  let v1348 : BitVec 1 := Scalar.cmpi .slt c2_i32_806 c0_i32_810
  let v1349 : BitVec 32 := Scalar.extui v1348
  let v1350 : BitVec 32 := Scalar.subi v1347 v1349
  let v1351 : BitVec 1 := Scalar.cmpi .ne v1345 v1350
  let v1352 : BitVec 32 := Scalar.remsi v1014 c2_i32_806
  let c0_i32_811 : BitVec 32 := 0#32
  let v1353 : BitVec 1 := Scalar.cmpi .ne v1352 c0_i32_811
  let v1354 : BitVec 1 := Scalar.andi v1351 v1353
  let v1340 : BitVec 32 := Scalar.divsi v1014 c2_i32_806
  let c1_i32_812 : BitVec 32 := 1#32
  let v1355 : BitVec 32 := Scalar.subi v1340 c1_i32_812
  let v1356 : BitVec 32 := Scalar.select v1354 v1355 v1340
  let c2_i32_813 : BitVec 32 := 2#32
  let c0_i32_814 : BitVec 32 := 0#32
  let v1357 : BitVec 1 := Scalar.cmpi .eq c2_i32_813 c0_i32_814
  let c1_i32_815 : BitVec 32 := 1#32
  let v1358 : BitVec 32 := Scalar.select v1357 c1_i32_815 c2_i32_813
  let v1359 : BitVec 32 := Scalar.remsi v1356 v1358
  let c0_i32_817 : BitVec 32 := 0#32
  let v1361 : BitVec 1 := Scalar.cmpi .slt v1359 c0_i32_817
  let c0_i32_818 : BitVec 32 := 0#32
  let v1362 : BitVec 1 := Scalar.cmpi .slt v1358 c0_i32_818
  let v1363 : BitVec 1 := Scalar.xori v1361 v1362
  let c0_i32_816 : BitVec 32 := 0#32
  let v1360 : BitVec 1 := Scalar.cmpi .ne v1359 c0_i32_816
  let v1364 : BitVec 1 := Scalar.andi v1363 v1360
  let v1365 : BitVec 32 := Scalar.addi v1359 v1358
  let v1366 : BitVec 32 := Scalar.select v1364 v1365 v1359
  let c1_i32_819 : BitVec 32 := 1#32
  let v1367 : BitVec 1 := Scalar.cmpi .eq v1366 c1_i32_819
  let v1368 : BitVec 32 := Scalar.extui v1367
  let c0_i32_820 : BitVec 32 := 0#32
  let v1369 : BitVec 1 := Scalar.cmpi .ne v1368 c0_i32_820
  v1369

def k0_mult72 (i : grid0.Coords) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let c0_i32_891 : BitVec 32 := 0#32
  let v1475 : BitVec 32 := Scalar.subi v1339 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  v1477
def k0_off85 (i : grid0.Coords) (c0_i32_891 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let v1475 : BitVec 32 := Scalar.subi v1339 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1481 : Index := Scalar.indexCast v1478
  let c0_896 : Index := 0#32
  ![v1481.toNat, 0]
def k0_off86 (i : grid0.Coords) (c0_i32_891 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let v1475 : BitVec 32 := Scalar.subi v1339 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1507 : Index := Scalar.indexCast v1478
  let c128_912 : Index := 128#32
  ![v1507.toNat, 128]
def k0_off87 (i : grid0.Coords) (c0_i32_891 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let v1475 : BitVec 32 := Scalar.subi v1339 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1533 : Index := Scalar.indexCast v1478
  let c256_928 : Index := 256#32
  ![v1533.toNat, 256]
def k0_off88 (i : grid0.Coords) (c0_i32_891 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let v1475 : BitVec 32 := Scalar.subi v1339 c0_i32_891
  let c1_i32_892 : BitVec 32 := 1#32
  let v1476 : BitVec 32 := Scalar.subi v1475 c1_i32_892
  let c256_i32_893 : BitVec 32 := 256#32
  let v1477 : BitVec 32 := Scalar.muli v1476 c256_i32_893
  let v1478 : BitVec 32 := v1477
  let v1559 : Index := Scalar.indexCast v1478
  let c384_944 : Index := 384#32
  ![v1559.toNat, 384]
def k0_mult73 (i : grid0.Coords) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let c0_i32_958 : BitVec 32 := 0#32
  let v1583 : BitVec 32 := Scalar.subi v1339 c0_i32_958
  let c256_i32_959 : BitVec 32 := 256#32
  let v1584 : BitVec 32 := Scalar.muli v1583 c256_i32_959
  v1584
def k0_off89 (i : grid0.Coords) (c0_i32_958 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let v1583 : BitVec 32 := Scalar.subi v1339 c0_i32_958
  let c256_i32_959 : BitVec 32 := 256#32
  let v1584 : BitVec 32 := Scalar.muli v1583 c256_i32_959
  let v1585 : BitVec 32 := v1584
  let v1595 : Index := Scalar.indexCast v1585
  let c0_969 : Index := 0#32
  ![v1595.toNat, 0]
def k0_off90 (i : grid0.Coords) (c0_i32_958 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let v1583 : BitVec 32 := Scalar.subi v1339 c0_i32_958
  let c256_i32_959 : BitVec 32 := 256#32
  let v1584 : BitVec 32 := Scalar.muli v1583 c256_i32_959
  let v1585 : BitVec 32 := v1584
  let v1615 : Index := Scalar.indexCast v1585
  let c128_980 : Index := 128#32
  ![v1615.toNat, 128]
def k0_off91 (i : grid0.Coords) (c0_i32_958 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let v1583 : BitVec 32 := Scalar.subi v1339 c0_i32_958
  let c256_i32_959 : BitVec 32 := 256#32
  let v1584 : BitVec 32 := Scalar.muli v1583 c256_i32_959
  let v1585 : BitVec 32 := v1584
  let v1635 : Index := Scalar.indexCast v1585
  let c256_991 : Index := 256#32
  ![v1635.toNat, 256]
def k0_off92 (i : grid0.Coords) (c0_i32_958 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let v1583 : BitVec 32 := Scalar.subi v1339 c0_i32_958
  let c256_i32_959 : BitVec 32 := 256#32
  let v1584 : BitVec 32 := Scalar.muli v1583 c256_i32_959
  let v1585 : BitVec 32 := v1584
  let v1655 : Index := Scalar.indexCast v1585
  let c384_1002 : Index := 384#32
  ![v1655.toNat, 384]
def k0_mult74 (i : grid0.Coords) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let c1_i32_1004 : BitVec 32 := 1#32
  let v1666 : BitVec 32 := Scalar.subi v1339 c1_i32_1004
  let c1_i32_1005 : BitVec 32 := 1#32
  let v1667 : BitVec 32 := Scalar.subi v1666 c1_i32_1005
  let c256_i32_1006 : BitVec 32 := 256#32
  let v1668 : BitVec 32 := Scalar.muli v1667 c256_i32_1006
  v1668
def k0_mult75 (i : grid0.Coords) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c1_i32_805 : BitVec 32 := 1#32
  let v1339 : BitVec 32 := Scalar.subi v1014 c1_i32_805
  let c1_i32_1071 : BitVec 32 := 1#32
  let v1774 : BitVec 32 := Scalar.subi v1339 c1_i32_1071
  let c256_i32_1072 : BitVec 32 := 256#32
  let v1775 : BitVec 32 := Scalar.muli v1774 c256_i32_1072
  v1775
@[reducible] def k0_t7_loop (i : grid0.Coords) : Scf.Loop 32 :=
  let c0_i32_834 : BitVec 32 := 0#32
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_836 : BitVec 32 := 1#32
  ⟨c0_i32_834, v1403, c1_i32_836⟩
def k0_mult76 (i : grid0.Coords) (k0_t7 : Fin (k0_t7_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let c0_i32_892 : BitVec 32 := 0#32
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  v1479
def k0_off93 (i : grid0.Coords) (k0_t7 : Fin (k0_t7_loop i).trips) (c0_i32_892 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1483 : Index := Scalar.indexCast v1480
  let c0_897 : Index := 0#32
  ![v1483.toNat, 0]
def k0_off94 (i : grid0.Coords) (k0_t7 : Fin (k0_t7_loop i).trips) (c0_i32_892 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1509 : Index := Scalar.indexCast v1480
  let c128_913 : Index := 128#32
  ![v1509.toNat, 128]
def k0_off95 (i : grid0.Coords) (k0_t7 : Fin (k0_t7_loop i).trips) (c0_i32_892 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1535 : Index := Scalar.indexCast v1480
  let c256_929 : Index := 256#32
  ![v1535.toNat, 256]
def k0_off96 (i : grid0.Coords) (k0_t7 : Fin (k0_t7_loop i).trips) (c0_i32_892 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1561 : Index := Scalar.indexCast v1480
  let c384_945 : Index := 384#32
  ![v1561.toNat, 384]
def k0_mult77 (i : grid0.Coords) (k0_t7 : Fin (k0_t7_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let c0_i32_959 : BitVec 32 := 0#32
  let v1585 : BitVec 32 := Scalar.subi v1476 c0_i32_959
  let c256_i32_960 : BitVec 32 := 256#32
  let v1586 : BitVec 32 := Scalar.muli v1585 c256_i32_960
  v1586
def k0_off97 (i : grid0.Coords) (k0_t7 : Fin (k0_t7_loop i).trips) (c0_i32_959 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let v1585 : BitVec 32 := Scalar.subi v1476 c0_i32_959
  let c256_i32_960 : BitVec 32 := 256#32
  let v1586 : BitVec 32 := Scalar.muli v1585 c256_i32_960
  let v1587 : BitVec 32 := v1586
  let v1597 : Index := Scalar.indexCast v1587
  let c0_970 : Index := 0#32
  ![v1597.toNat, 0]
def k0_off98 (i : grid0.Coords) (k0_t7 : Fin (k0_t7_loop i).trips) (c0_i32_959 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let v1585 : BitVec 32 := Scalar.subi v1476 c0_i32_959
  let c256_i32_960 : BitVec 32 := 256#32
  let v1586 : BitVec 32 := Scalar.muli v1585 c256_i32_960
  let v1587 : BitVec 32 := v1586
  let v1617 : Index := Scalar.indexCast v1587
  let c128_981 : Index := 128#32
  ![v1617.toNat, 128]
def k0_off99 (i : grid0.Coords) (k0_t7 : Fin (k0_t7_loop i).trips) (c0_i32_959 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let v1585 : BitVec 32 := Scalar.subi v1476 c0_i32_959
  let c256_i32_960 : BitVec 32 := 256#32
  let v1586 : BitVec 32 := Scalar.muli v1585 c256_i32_960
  let v1587 : BitVec 32 := v1586
  let v1637 : Index := Scalar.indexCast v1587
  let c256_992 : Index := 256#32
  ![v1637.toNat, 256]
def k0_off100 (i : grid0.Coords) (k0_t7 : Fin (k0_t7_loop i).trips) (c0_i32_959 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let v1585 : BitVec 32 := Scalar.subi v1476 c0_i32_959
  let c256_i32_960 : BitVec 32 := 256#32
  let v1586 : BitVec 32 := Scalar.muli v1585 c256_i32_960
  let v1587 : BitVec 32 := v1586
  let v1657 : Index := Scalar.indexCast v1587
  let c384_1003 : Index := 384#32
  ![v1657.toNat, 384]
def k0_mult78 (i : grid0.Coords) (k0_t7 : Fin (k0_t7_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let c1_i32_1005 : BitVec 32 := 1#32
  let v1668 : BitVec 32 := Scalar.subi v1476 c1_i32_1005
  let c1_i32_1006 : BitVec 32 := 1#32
  let v1669 : BitVec 32 := Scalar.subi v1668 c1_i32_1006
  let c256_i32_1007 : BitVec 32 := 256#32
  let v1670 : BitVec 32 := Scalar.muli v1669 c256_i32_1007
  v1670
def k0_mult79 (i : grid0.Coords) (k0_t7 : Fin (k0_t7_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let c1_i32_1072 : BitVec 32 := 1#32
  let v1776 : BitVec 32 := Scalar.subi v1476 c1_i32_1072
  let c256_i32_1073 : BitVec 32 := 256#32
  let v1777 : BitVec 32 := Scalar.muli v1776 c256_i32_1073
  v1777
def k0_mult80 (i : grid0.Coords) (k0_t7 : Fin (k0_t7_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let c2_i32_1118 : BitVec 32 := 2#32
  let v1859 : BitVec 32 := Scalar.subi v1476 c2_i32_1118
  let c1_i32_1119 : BitVec 32 := 1#32
  let v1860 : BitVec 32 := Scalar.subi v1859 c1_i32_1119
  let c256_i32_1120 : BitVec 32 := 256#32
  let v1861 : BitVec 32 := Scalar.muli v1860 c256_i32_1120
  v1861
def k0_mult81 (i : grid0.Coords) (k0_t7 : Fin (k0_t7_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let c2_i32_1185 : BitVec 32 := 2#32
  let v1967 : BitVec 32 := Scalar.subi v1476 c2_i32_1185
  let c256_i32_1186 : BitVec 32 := 256#32
  let v1968 : BitVec 32 := Scalar.muli v1967 c256_i32_1186
  v1968
def k0_mult82 (i : grid0.Coords) (k0_t7 : Fin (k0_t7_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let c3_i32_1231 : BitVec 32 := 3#32
  let v2050 : BitVec 32 := Scalar.subi v1476 c3_i32_1231
  let c1_i32_1232 : BitVec 32 := 1#32
  let v2051 : BitVec 32 := Scalar.subi v2050 c1_i32_1232
  let c256_i32_1233 : BitVec 32 := 256#32
  let v2052 : BitVec 32 := Scalar.muli v2051 c256_i32_1233
  v2052
def k0_mult83 (i : grid0.Coords) (k0_t7 : Fin (k0_t7_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c1_i32_836 : BitVec 32 := 1#32
  let arg14 : BitVec 32 := Scf.iv c0_i32_834 c1_i32_836 k0_t7
  let v1475 : BitVec 32 := Scalar.muli c4_i32_891 arg14
  let v1476 : BitVec 32 := Scalar.subi v1381 v1475
  let c3_i32_1298 : BitVec 32 := 3#32
  let v2158 : BitVec 32 := Scalar.subi v1476 c3_i32_1298
  let c256_i32_1299 : BitVec 32 := 256#32
  let v2159 : BitVec 32 := Scalar.muli v2158 c256_i32_1299
  v2159
@[reducible] def k0_t8_loop (i : grid0.Coords) : Scf.Loop 32 :=
  let c0_i32_834 : BitVec 32 := 0#32
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let v1400 : BitVec 32 := Scalar.addi c0_i32_834 v1399
  let c1_i32_837 : BitVec 32 := 1#32
  ⟨v1403, v1400, c1_i32_837⟩
def k0_mult84 (i : grid0.Coords) (k0_t8 : Fin (k0_t8_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let c0_i32_892 : BitVec 32 := 0#32
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  v1479
def k0_off101 (i : grid0.Coords) (k0_t8 : Fin (k0_t8_loop i).trips) (c0_i32_892 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1483 : Index := Scalar.indexCast v1480
  let c0_897 : Index := 0#32
  ![v1483.toNat, 0]
def k0_off102 (i : grid0.Coords) (k0_t8 : Fin (k0_t8_loop i).trips) (c0_i32_892 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1509 : Index := Scalar.indexCast v1480
  let c128_913 : Index := 128#32
  ![v1509.toNat, 128]
def k0_off103 (i : grid0.Coords) (k0_t8 : Fin (k0_t8_loop i).trips) (c0_i32_892 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1535 : Index := Scalar.indexCast v1480
  let c256_929 : Index := 256#32
  ![v1535.toNat, 256]
def k0_off104 (i : grid0.Coords) (k0_t8 : Fin (k0_t8_loop i).trips) (c0_i32_892 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let v1477 : BitVec 32 := Scalar.subi v1476 c0_i32_892
  let c1_i32_893 : BitVec 32 := 1#32
  let v1478 : BitVec 32 := Scalar.subi v1477 c1_i32_893
  let c256_i32_894 : BitVec 32 := 256#32
  let v1479 : BitVec 32 := Scalar.muli v1478 c256_i32_894
  let v1480 : BitVec 32 := v1479
  let v1561 : Index := Scalar.indexCast v1480
  let c384_945 : Index := 384#32
  ![v1561.toNat, 384]
def k0_mult85 (i : grid0.Coords) (k0_t8 : Fin (k0_t8_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let c0_i32_959 : BitVec 32 := 0#32
  let v1585 : BitVec 32 := Scalar.subi v1476 c0_i32_959
  let c256_i32_960 : BitVec 32 := 256#32
  let v1586 : BitVec 32 := Scalar.muli v1585 c256_i32_960
  v1586
def k0_off105 (i : grid0.Coords) (k0_t8 : Fin (k0_t8_loop i).trips) (c0_i32_959 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let v1585 : BitVec 32 := Scalar.subi v1476 c0_i32_959
  let c256_i32_960 : BitVec 32 := 256#32
  let v1586 : BitVec 32 := Scalar.muli v1585 c256_i32_960
  let v1587 : BitVec 32 := v1586
  let v1597 : Index := Scalar.indexCast v1587
  let c0_970 : Index := 0#32
  ![v1597.toNat, 0]
def k0_off106 (i : grid0.Coords) (k0_t8 : Fin (k0_t8_loop i).trips) (c0_i32_959 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let v1585 : BitVec 32 := Scalar.subi v1476 c0_i32_959
  let c256_i32_960 : BitVec 32 := 256#32
  let v1586 : BitVec 32 := Scalar.muli v1585 c256_i32_960
  let v1587 : BitVec 32 := v1586
  let v1617 : Index := Scalar.indexCast v1587
  let c128_981 : Index := 128#32
  ![v1617.toNat, 128]
def k0_off107 (i : grid0.Coords) (k0_t8 : Fin (k0_t8_loop i).trips) (c0_i32_959 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let v1585 : BitVec 32 := Scalar.subi v1476 c0_i32_959
  let c256_i32_960 : BitVec 32 := 256#32
  let v1586 : BitVec 32 := Scalar.muli v1585 c256_i32_960
  let v1587 : BitVec 32 := v1586
  let v1637 : Index := Scalar.indexCast v1587
  let c256_992 : Index := 256#32
  ![v1637.toNat, 256]
def k0_off108 (i : grid0.Coords) (k0_t8 : Fin (k0_t8_loop i).trips) (c0_i32_959 : BitVec 32) : Fin 2 → Nat :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let v1585 : BitVec 32 := Scalar.subi v1476 c0_i32_959
  let c256_i32_960 : BitVec 32 := 256#32
  let v1586 : BitVec 32 := Scalar.muli v1585 c256_i32_960
  let v1587 : BitVec 32 := v1586
  let v1657 : Index := Scalar.indexCast v1587
  let c384_1003 : Index := 384#32
  ![v1657.toNat, 384]
def k0_mult86 (i : grid0.Coords) (k0_t8 : Fin (k0_t8_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let c1_i32_1005 : BitVec 32 := 1#32
  let v1668 : BitVec 32 := Scalar.subi v1476 c1_i32_1005
  let c1_i32_1006 : BitVec 32 := 1#32
  let v1669 : BitVec 32 := Scalar.subi v1668 c1_i32_1006
  let c256_i32_1007 : BitVec 32 := 256#32
  let v1670 : BitVec 32 := Scalar.muli v1669 c256_i32_1007
  v1670
def k0_mult87 (i : grid0.Coords) (k0_t8 : Fin (k0_t8_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let c1_i32_1072 : BitVec 32 := 1#32
  let v1776 : BitVec 32 := Scalar.subi v1476 c1_i32_1072
  let c256_i32_1073 : BitVec 32 := 256#32
  let v1777 : BitVec 32 := Scalar.muli v1776 c256_i32_1073
  v1777
def k0_mult88 (i : grid0.Coords) (k0_t8 : Fin (k0_t8_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let c2_i32_1118 : BitVec 32 := 2#32
  let v1859 : BitVec 32 := Scalar.subi v1476 c2_i32_1118
  let c1_i32_1119 : BitVec 32 := 1#32
  let v1860 : BitVec 32 := Scalar.subi v1859 c1_i32_1119
  let c256_i32_1120 : BitVec 32 := 256#32
  let v1861 : BitVec 32 := Scalar.muli v1860 c256_i32_1120
  v1861
def k0_mult89 (i : grid0.Coords) (k0_t8 : Fin (k0_t8_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let c2_i32_1185 : BitVec 32 := 2#32
  let v1967 : BitVec 32 := Scalar.subi v1476 c2_i32_1185
  let c256_i32_1186 : BitVec 32 := 256#32
  let v1968 : BitVec 32 := Scalar.muli v1967 c256_i32_1186
  v1968
def k0_mult90 (i : grid0.Coords) (k0_t8 : Fin (k0_t8_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let c3_i32_1231 : BitVec 32 := 3#32
  let v2050 : BitVec 32 := Scalar.subi v1476 c3_i32_1231
  let c1_i32_1232 : BitVec 32 := 1#32
  let v2051 : BitVec 32 := Scalar.subi v2050 c1_i32_1232
  let c256_i32_1233 : BitVec 32 := 256#32
  let v2052 : BitVec 32 := Scalar.muli v2051 c256_i32_1233
  v2052
def k0_mult91 (i : grid0.Coords) (k0_t8 : Fin (k0_t8_loop i).trips) : BitVec 32 :=
  let arg2 : BitVec 32 := BitVec.ofNat 32 (i 2).val
  let c4_i32_611 : BitVec 32 := 4#32
  let v1013 : BitVec 32 := Scalar.muli arg2 c4_i32_611
  let c3_i32 : BitVec 32 := 3#32
  let v1014 : BitVec 32 := Scalar.addi v1013 c3_i32
  let c4_i32_821 : BitVec 32 := 4#32
  let c0_i32_822 : BitVec 32 := 0#32
  let v1371 : BitVec 1 := Scalar.cmpi .eq c4_i32_821 c0_i32_822
  let c1_i32_823 : BitVec 32 := 1#32
  let v1372 : BitVec 32 := Scalar.select v1371 c1_i32_823 c4_i32_821
  let v1373 : BitVec 32 := Scalar.remsi v1014 v1372
  let c0_i32_825 : BitVec 32 := 0#32
  let v1375 : BitVec 1 := Scalar.cmpi .slt v1373 c0_i32_825
  let c0_i32_826 : BitVec 32 := 0#32
  let v1376 : BitVec 1 := Scalar.cmpi .slt v1372 c0_i32_826
  let v1377 : BitVec 1 := Scalar.xori v1375 v1376
  let c0_i32_824 : BitVec 32 := 0#32
  let v1374 : BitVec 1 := Scalar.cmpi .ne v1373 c0_i32_824
  let v1378 : BitVec 1 := Scalar.andi v1377 v1374
  let v1379 : BitVec 32 := Scalar.addi v1373 v1372
  let v1380 : BitVec 32 := Scalar.select v1378 v1379 v1373
  let v1381 : BitVec 32 := Scalar.subi v1014 v1380
  let c4_i32_891 : BitVec 32 := 4#32
  let c0_i32_834 : BitVec 32 := 0#32
  let c0_i32_828 : BitVec 32 := 0#32
  let v1383 : BitVec 1 := Scalar.cmpi .sgt v1381 c0_i32_828
  let v1384 : BitVec 32 := Scalar.extui v1383
  let c0_i32_829 : BitVec 32 := 0#32
  let v1385 : BitVec 1 := Scalar.cmpi .slt v1381 c0_i32_829
  let v1386 : BitVec 32 := Scalar.extui v1385
  let v1387 : BitVec 32 := Scalar.subi v1384 v1386
  let c4_i32_827 : BitVec 32 := 4#32
  let c0_i32_830 : BitVec 32 := 0#32
  let v1388 : BitVec 1 := Scalar.cmpi .sgt c4_i32_827 c0_i32_830
  let v1389 : BitVec 32 := Scalar.extui v1388
  let c0_i32_831 : BitVec 32 := 0#32
  let v1390 : BitVec 1 := Scalar.cmpi .slt c4_i32_827 c0_i32_831
  let v1391 : BitVec 32 := Scalar.extui v1390
  let v1392 : BitVec 32 := Scalar.subi v1389 v1391
  let v1393 : BitVec 1 := Scalar.cmpi .ne v1387 v1392
  let v1394 : BitVec 32 := Scalar.remsi v1381 c4_i32_827
  let c0_i32_832 : BitVec 32 := 0#32
  let v1395 : BitVec 1 := Scalar.cmpi .ne v1394 c0_i32_832
  let v1396 : BitVec 1 := Scalar.andi v1393 v1395
  let v1382 : BitVec 32 := Scalar.divsi v1381 c4_i32_827
  let c1_i32_833 : BitVec 32 := 1#32
  let v1397 : BitVec 32 := Scalar.subi v1382 c1_i32_833
  let v1398 : BitVec 32 := Scalar.select v1396 v1397 v1382
  let v1399 : BitVec 32 := Scalar.subi v1398 c0_i32_834
  let c1_i32_835 : BitVec 32 := 1#32
  let v1401 : BitVec 32 := Scalar.divsi v1399 c1_i32_835
  let v1402 : BitVec 32 := Scalar.muli v1401 c1_i32_835
  let v1403 : BitVec 32 := Scalar.addi c0_i32_834 v1402
  let c1_i32_837 : BitVec 32 := 1#32
  let arg14 : BitVec 32 := Scf.iv v1403 c1_i32_837 k0_t8
  let v1475 : BitVec 32 := Scalar.muli c4_i32_891 arg14
  let v1476 : BitVec 32 := Scalar.subi v1381 v1475
  let c3_i32_1298 : BitVec 32 := 3#32
  let v2158 : BitVec 32 := Scalar.subi v1476 c3_i32_1298
  let c256_i32_1299 : BitVec 32 := 256#32
  let v2159 : BitVec 32 := Scalar.muli v2158 c256_i32_1299
  v2159
def k0_mult92 : BitVec 32 :=
  let c0_i32_838 : BitVec 32 := 0#32
  c0_i32_838
def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_0 : BitVec 32 := 4#32
  let v2 : BitVec 32 := Scalar.muli v1 c4_i32_0
  let arg2 : BitVec 32 := BitVec.ofNat 32 (i 2).val
  let v3 : BitVec 32 := Scalar.addi v2 arg2
  let c32_i32 : BitVec 32 := 32#32
  let v4 : BitVec 1 := Scalar.cmpi .slt v3 c32_i32
  let v5 : BitVec 32 := Scalar.extui v4
  let c0_i32 : BitVec 32 := 0#32
  let v6 : BitVec 1 := Scalar.cmpi .ne v5 c0_i32
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c16_i32 : BitVec 32 := 16#32
  let v5 : BitVec 32 := Scalar.divsi v4 c16_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c16_i32 c0_i32_2
  let v12 : BitVec 32 := Scalar.extui v11
  let c0_i32_3 : BitVec 32 := 0#32
  let v13 : BitVec 1 := Scalar.cmpi .slt c16_i32 c0_i32_3
  let v14 : BitVec 32 := Scalar.extui v13
  let v15 : BitVec 32 := Scalar.subi v12 v14
  let v16 : BitVec 1 := Scalar.cmpi .ne v10 v15
  let v17 : BitVec 32 := Scalar.remsi v4 c16_i32
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let v22 : BitVec 32 := Scalar.addi c0_i32_5 v21
  let c4_i32_6 : BitVec 32 := 4#32
  let v23 : BitVec 32 := Scalar.muli arg0 c4_i32_6
  let v24 : BitVec 32 := Scalar.addi v23 arg1
  let c4_i32_7 : BitVec 32 := 4#32
  let v25 : BitVec 32 := Scalar.muli v24 c4_i32_7
  let v26 : BitVec 32 := Scalar.addi v25 arg2
  let c31_i32_8 : BitVec 32 := 31#32
  let v27 : BitVec 32 := Scalar.minsi v26 c31_i32_8
  let c16_i32_9 : BitVec 32 := 16#32
  let c0_i32_10 : BitVec 32 := 0#32
  let v28 : BitVec 1 := Scalar.cmpi .eq c16_i32_9 c0_i32_10
  let c1_i32_11 : BitVec 32 := 1#32
  let v29 : BitVec 32 := Scalar.select v28 c1_i32_11 c16_i32_9
  let v30 : BitVec 32 := Scalar.remsi v27 v29
  let c0_i32_12 : BitVec 32 := 0#32
  let v31 : BitVec 1 := Scalar.cmpi .ne v30 c0_i32_12
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let v35 : BitVec 1 := Scalar.andi v34 v31
  let v36 : BitVec 32 := Scalar.addi v30 v29
  let v37 : BitVec 32 := Scalar.select v35 v36 v30
  let c0_i32_15 : BitVec 32 := 0#32
  let c0_i32_16 : BitVec 32 := 0#32
  ![v22.toNat, v37.toNat, c0_i32_15.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c16_i32 : BitVec 32 := 16#32
  let v5 : BitVec 32 := Scalar.divsi v4 c16_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c16_i32 c0_i32_2
  let v12 : BitVec 32 := Scalar.extui v11
  let c0_i32_3 : BitVec 32 := 0#32
  let v13 : BitVec 1 := Scalar.cmpi .slt c16_i32 c0_i32_3
  let v14 : BitVec 32 := Scalar.extui v13
  let v15 : BitVec 32 := Scalar.subi v12 v14
  let v16 : BitVec 1 := Scalar.cmpi .ne v10 v15
  let v17 : BitVec 32 := Scalar.remsi v4 c16_i32
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c0_i32_5 : BitVec 32 := 0#32
  let v22 : BitVec 32 := Scalar.addi c0_i32_5 v21
  let c4_i32_6 : BitVec 32 := 4#32
  let v23 : BitVec 32 := Scalar.muli arg0 c4_i32_6
  let v24 : BitVec 32 := Scalar.addi v23 arg1
  let c4_i32_7 : BitVec 32 := 4#32
  let v25 : BitVec 32 := Scalar.muli v24 c4_i32_7
  let v26 : BitVec 32 := Scalar.addi v25 arg2
  let c31_i32_8 : BitVec 32 := 31#32
  let v27 : BitVec 32 := Scalar.minsi v26 c31_i32_8
  let c16_i32_9 : BitVec 32 := 16#32
  let c0_i32_10 : BitVec 32 := 0#32
  let v28 : BitVec 1 := Scalar.cmpi .eq c16_i32_9 c0_i32_10
  let c1_i32_11 : BitVec 32 := 1#32
  let v29 : BitVec 32 := Scalar.select v28 c1_i32_11 c16_i32_9
  let v30 : BitVec 32 := Scalar.remsi v27 v29
  let c0_i32_12 : BitVec 32 := 0#32
  let v31 : BitVec 1 := Scalar.cmpi .ne v30 c0_i32_12
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let v35 : BitVec 1 := Scalar.andi v34 v31
  let v36 : BitVec 32 := Scalar.addi v30 v29
  let v37 : BitVec 32 := Scalar.select v35 v36 v30
  let c0_i32_15 : BitVec 32 := 0#32
  let c0_i32_16 : BitVec 32 := 0#32
  ![v22.toNat, v37.toNat, c0_i32_15.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c16_i32 : BitVec 32 := 16#32
  let v5 : BitVec 32 := Scalar.divsi v4 c16_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c16_i32 c0_i32_2
  let v12 : BitVec 32 := Scalar.extui v11
  let c0_i32_3 : BitVec 32 := 0#32
  let v13 : BitVec 1 := Scalar.cmpi .slt c16_i32 c0_i32_3
  let v14 : BitVec 32 := Scalar.extui v13
  let v15 : BitVec 32 := Scalar.subi v12 v14
  let v16 : BitVec 1 := Scalar.cmpi .ne v10 v15
  let v17 : BitVec 32 := Scalar.remsi v4 c16_i32
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c4_i32_5 : BitVec 32 := 4#32
  let v22 : BitVec 32 := Scalar.muli arg0 c4_i32_5
  let v23 : BitVec 32 := Scalar.addi v22 arg1
  let c4_i32_6 : BitVec 32 := 4#32
  let v24 : BitVec 32 := Scalar.muli v23 c4_i32_6
  let v25 : BitVec 32 := Scalar.addi v24 arg2
  let c31_i32_7 : BitVec 32 := 31#32
  let v26 : BitVec 32 := Scalar.minsi v25 c31_i32_7
  let c16_i32_8 : BitVec 32 := 16#32
  let c0_i32_9 : BitVec 32 := 0#32
  let v27 : BitVec 1 := Scalar.cmpi .eq c16_i32_8 c0_i32_9
  let c1_i32_10 : BitVec 32 := 1#32
  let v28 : BitVec 32 := Scalar.select v27 c1_i32_10 c16_i32_8
  let v29 : BitVec 32 := Scalar.remsi v26 v28
  let c0_i32_11 : BitVec 32 := 0#32
  let v30 : BitVec 1 := Scalar.cmpi .ne v29 c0_i32_11
  let c0_i32_12 : BitVec 32 := 0#32
  let v31 : BitVec 1 := Scalar.cmpi .slt v29 c0_i32_12
  let c0_i32_13 : BitVec 32 := 0#32
  let v32 : BitVec 1 := Scalar.cmpi .slt v28 c0_i32_13
  let v33 : BitVec 1 := Scalar.xori v31 v32
  let v34 : BitVec 1 := Scalar.andi v33 v30
  let v35 : BitVec 32 := Scalar.addi v29 v28
  let v36 : BitVec 32 := Scalar.select v34 v35 v29
  let c0_i32_14 : BitVec 32 := 0#32
  let c0_i32_15 : BitVec 32 := 0#32
  ![v21.toNat, v36.toNat, c0_i32_14.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c16_i32 : BitVec 32 := 16#32
  let v5 : BitVec 32 := Scalar.divsi v4 c16_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c16_i32 c0_i32_2
  let v12 : BitVec 32 := Scalar.extui v11
  let c0_i32_3 : BitVec 32 := 0#32
  let v13 : BitVec 1 := Scalar.cmpi .slt c16_i32 c0_i32_3
  let v14 : BitVec 32 := Scalar.extui v13
  let v15 : BitVec 32 := Scalar.subi v12 v14
  let v16 : BitVec 1 := Scalar.cmpi .ne v10 v15
  let v17 : BitVec 32 := Scalar.remsi v4 c16_i32
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c4_i32_5 : BitVec 32 := 4#32
  let v22 : BitVec 32 := Scalar.muli arg0 c4_i32_5
  let v23 : BitVec 32 := Scalar.addi v22 arg1
  let c4_i32_6 : BitVec 32 := 4#32
  let v24 : BitVec 32 := Scalar.muli v23 c4_i32_6
  let v25 : BitVec 32 := Scalar.addi v24 arg2
  let c31_i32_7 : BitVec 32 := 31#32
  let v26 : BitVec 32 := Scalar.minsi v25 c31_i32_7
  let c16_i32_8 : BitVec 32 := 16#32
  let c0_i32_9 : BitVec 32 := 0#32
  let v27 : BitVec 1 := Scalar.cmpi .eq c16_i32_8 c0_i32_9
  let c1_i32_10 : BitVec 32 := 1#32
  let v28 : BitVec 32 := Scalar.select v27 c1_i32_10 c16_i32_8
  let v29 : BitVec 32 := Scalar.remsi v26 v28
  let c0_i32_11 : BitVec 32 := 0#32
  let v30 : BitVec 1 := Scalar.cmpi .ne v29 c0_i32_11
  let c0_i32_12 : BitVec 32 := 0#32
  let v31 : BitVec 1 := Scalar.cmpi .slt v29 c0_i32_12
  let c0_i32_13 : BitVec 32 := 0#32
  let v32 : BitVec 1 := Scalar.cmpi .slt v28 c0_i32_13
  let v33 : BitVec 1 := Scalar.xori v31 v32
  let v34 : BitVec 1 := Scalar.andi v33 v30
  let v35 : BitVec 32 := Scalar.addi v29 v28
  let v36 : BitVec 32 := Scalar.select v34 v35 v29
  let c0_i32_14 : BitVec 32 := 0#32
  let c0_i32_15 : BitVec 32 := 0#32
  ![v21.toNat, v36.toNat, c0_i32_14.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x4096x16x128 : Shape := ⟨4, ![2, 4096, 16, 128]⟩
abbrev S4x2048x8192 : Shape := ⟨3, ![4, 2048, 8192]⟩
abbrev S4x8192x2048 : Shape := ⟨3, ![4, 8192, 2048]⟩
abbrev S2x16x4096x128 : Shape := ⟨4, ![2, 16, 4096, 128]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8192x2048 : Shape := ⟨2, ![8192, 2048]⟩
abbrev S2x2048x8192 : Shape := ⟨3, ![2, 2048, 8192]⟩
abbrev S2x8192x2048 : Shape := ⟨3, ![2, 8192, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x128, .f32⟩
  | .hbm, ⟨2, _⟩ => ⟨S2x4096x16x128, .f32⟩
  | .hbm, ⟨3, _⟩ => ⟨S4x2048x8192, .f32⟩
  | .hbm, ⟨4, _⟩ => ⟨S4x8192x2048, .f32⟩
  | .hbm, ⟨5, _⟩ => ⟨S2x16x4096x128, .f32⟩
  | .hbm, ⟨6, _⟩ => ⟨S2x16x4096x128, .f32⟩
  | .hbm, ⟨7, _⟩ => ⟨S2x16x4096x128, .f32⟩
  | .hbm, ⟨8, _⟩ => ⟨S2x16x4096x4096, .f32⟩
  | .hbm, ⟨9, _⟩ => ⟨S_, .f32⟩
  | .hbm, ⟨10, _⟩ => ⟨S2x16x4096x4096, .f32⟩
  | .hbm, ⟨11, _⟩ => ⟨S2x16x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S2x16x4096x4096, .f32⟩
  | .hbm, ⟨19, _⟩ => ⟨S_, .f32⟩
  | .hbm, ⟨20, _⟩ => ⟨S2x16x4096x4096, .f32⟩
  | .hbm, ⟨21, _⟩ => ⟨S2x16x4096x4096, .f32⟩
  | .hbm, ⟨22, _⟩ => ⟨S2x16x4096x4096, .f32⟩
  | .hbm, ⟨23, _⟩ => ⟨S2x16x4096x4096, .f32⟩
  | .hbm, ⟨24, _⟩ => ⟨S2x16x4096x4096, .i1⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S_, .f32⟩
  | .hbm, ⟨37, _⟩ => ⟨S2x16x4096x4096, .f32⟩
  | .hbm, ⟨38, _⟩ => ⟨S2x16x4096x4096, .f32⟩
  | .hbm, ⟨39, _⟩ => ⟨S2x16x4096x4096, .f32⟩
  | .hbm, ⟨40, _⟩ => ⟨S2x16x4096x4096, .f32⟩
  | .hbm, ⟨41, _⟩ => ⟨S2x16x4096x4096, .i1⟩
  | .hbm, ⟨42, _⟩ => ⟨S2x16x4096x4096, .f32⟩
  | .hbm, ⟨43, _⟩ => ⟨S2x16x4096x4096, .f32⟩
  | .hbm, ⟨44, _⟩ => ⟨S2x16x4096x4096, .f32⟩
  | .hbm, ⟨45, _⟩ => ⟨S2x16x4096x4096, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .f32⟩
  | .hbm, ⟨49, _⟩ => ⟨S2x16x4096x4096, .f32⟩
  | .hbm, ⟨50, _⟩ => ⟨S2x16x4096x4096, .f32⟩
  | .hbm, ⟨51, _⟩ => ⟨S_, .f32⟩
  | .hbm, ⟨52, _⟩ => ⟨S_, .f32⟩
  | .hbm, ⟨53, _⟩ => ⟨S2x16x4096x4096, .i1⟩
  | .hbm, ⟨54, _⟩ => ⟨S2x16x4096x4096, .f32⟩
  | .hbm, ⟨55, _⟩ => ⟨S2x16x4096x4096, .f32⟩
  | .hbm, ⟨56, _⟩ => ⟨S_, .f32⟩
  | .hbm, ⟨57, _⟩ => ⟨S_, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S_, .f32⟩
  | .hbm, ⟨63, _⟩ => ⟨S_, .f32⟩
  | .hbm, ⟨64, _⟩ => ⟨S2x16x4096x4096, .i1⟩
  | .hbm, ⟨65, _⟩ => ⟨S2x16x4096x4096, .f32⟩
  | .hbm, ⟨66, _⟩ => ⟨S2x16x4096x4096, .f32⟩
  | .hbm, ⟨67, _⟩ => ⟨S2x16x4096x128, .f32⟩
  | .hbm, ⟨68, _⟩ => ⟨S2x4096x16x128, .f32⟩
  | .hbm, ⟨69, _⟩ => ⟨S8192x2048, .f32⟩
  | .hbm, ⟨70, _⟩ => ⟨S8192x2048, .bf16⟩
  | .hbm, ⟨71, _⟩ => ⟨S2x2048x8192, .f32⟩
  | .hbm, ⟨72, _⟩ => ⟨S2x2048x8192, .bf16⟩
  | .hbm, ⟨73, _⟩ => ⟨S2x8192x2048, .f32⟩
  | .hbm, ⟨74, _⟩ => ⟨S2x8192x2048, .bf16⟩
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v14 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v15 : Ref sig .tc := ⟨.hbm, 55, rfl⟩
abbrev main_call3_cst : Ref sig .tc := ⟨.hbm, 56, rfl⟩
abbrev main_call3_v0 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩

abbrev nD : Nat := 1
abbrev τ : Topo := Topo.v7x

variable {F : FTy → Type} [FloatOps F]
-- ==== Mlp.lean ====
abbrev S2x4096x2048 : Shape := ⟨3, ![2, 4096, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S1x2048 : Shape := ⟨2, ![1, 2048]⟩
abbrev S2048 : Shape := ⟨1, ![2048]⟩
abbrev S1x2048x8192 : Shape := ⟨3, ![1, 2048, 8192]⟩
abbrev S1x8192x2048 : Shape := ⟨3, ![1, 8192, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 13
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S8192x2048, .f32⟩
  | .hbm, ⟨5, _⟩ => ⟨S1x2048, .f32⟩
  | .hbm, ⟨6, _⟩ => ⟨S2048, .f32⟩
  | .hbm, ⟨7, _⟩ => ⟨S1x2048x8192, .f32⟩
  | .hbm, ⟨8, _⟩ => ⟨S1x2048x8192, .bf16⟩
  | .hbm, ⟨9, _⟩ => ⟨S1x8192x2048, .f32⟩
  | .hbm, ⟨10, _⟩ => ⟨S1x8192x2048, .bf16⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S2x4096x2048 : Shape := ⟨3, ![2, 4096, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S2x4096x8192 : Shape := ⟨3, ![2, 4096, 8192]⟩
abbrev S1x8192x2048 : Shape := ⟨3, ![1, 8192, 2048]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S1x2048x8192, .f32⟩
  | .hbm, ⟨23, _⟩ => ⟨S2048x8192, .f32⟩
  | .hbm, ⟨24, _⟩ => ⟨S2x4096x8192, .f32⟩
  | .hbm, ⟨25, _⟩ => ⟨S_, .f32⟩
  | .hbm, ⟨26, _⟩ => ⟨S2x4096x8192, .f32⟩
  | .hbm, ⟨27, _⟩ => ⟨S2x4096x8192, .f32⟩
  | .hbm, ⟨28, _⟩ => ⟨S2x4096x8192, .f32⟩
  | .hbm, ⟨29, _⟩ => ⟨S1x8192x2048, .f32⟩
  | .hbm, ⟨30, _⟩ => ⟨S8192x2048, .f32⟩
  | .hbm, ⟨31, _⟩ => ⟨S2x4096x2048, .f32⟩
  | .hbm, ⟨32, _⟩ => ⟨S2x4096x2048, .f32⟩
  | .hbm, ⟨33, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Qkv.lean ====
abbrev S2x4096x2048 : Shape := ⟨3, ![2, 4096, 2048]⟩
abbrev S4x2048 : Shape := ⟨2, ![4, 2048]⟩
abbrev S2x2048x6144 : Shape := ⟨3, ![2, 2048, 6144]⟩
abbrev S2x128 : Shape := ⟨2, ![2, 128]⟩
abbrev S8192x2048 : Shape := ⟨2, ![8192, 2048]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S_ : Shape := ⟨0, ![]⟩
abbrev S3x128 : Shape := ⟨2, ![3, 128]⟩
abbrev S3x1x128 : Shape := ⟨3, ![3, 1, 128]⟩
abbrev S8192x6144 : Shape := ⟨2, ![8192, 6144]⟩
abbrev S1024x2048 : Shape := ⟨2, ![1024, 2048]⟩
abbrev S1x2048x1024 : Shape := ⟨3, ![1, 2048, 1024]⟩
abbrev S1x1x128 : Shape := ⟨3, ![1, 1, 128]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 21
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x6144, .f32⟩
  | .hbm, ⟨3, _⟩ => ⟨S2x128, .f32⟩
  | .hbm, ⟨4, _⟩ => ⟨S2x128, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S3x128, .f32⟩
  | .hbm, ⟨18, _⟩ => ⟨S3x1x128, .f32⟩
  | .hbm, ⟨19, _⟩ => ⟨S1x2048, .f32⟩
  | .hbm, ⟨20, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1x1x128, .f32⟩
  | .local _ .vmem, ⟨6, _⟩ => ⟨S1x1x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvReferenceIdeal.lean ====
abbrev S2x4096x2048 : Shape := ⟨3, ![2, 4096, 2048]⟩
abbrev S4x2048 : Shape := ⟨2, ![4, 2048]⟩
abbrev S2x2048x6144 : Shape := ⟨3, ![2, 2048, 6144]⟩
abbrev S2x128 : Shape := ⟨2, ![2, 128]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x6144 : Shape := ⟨3, ![1, 2048, 6144]⟩
abbrev S2048x6144 : Shape := ⟨2, ![2048, 6144]⟩
abbrev S2x4096x6144 : Shape := ⟨3, ![2, 4096, 6144]⟩
abbrev S2x4096x16x128 : Shape := ⟨4, ![2, 4096, 16, 128]⟩
abbrev S1x128 : Shape := ⟨2, ![1, 128]⟩
abbrev S128 : Shape := ⟨1, ![128]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S8192x6144 : Shape := ⟨2, ![8192, 6144]⟩

abbrev nBuf : Space → Nat
  | .hbm => 72
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x6144, .f32⟩
  | .hbm, ⟨3, _⟩ => ⟨S2x128, .f32⟩
  | .hbm, ⟨4, _⟩ => ⟨S2x128, .f32⟩
  | .hbm, ⟨5, _⟩ => ⟨S1x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S1x2048x6144, .f32⟩
  | .hbm, ⟨24, _⟩ => ⟨S2048x6144, .f32⟩
  | .hbm, ⟨25, _⟩ => ⟨S2x4096x6144, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2x4096x16x128, .f32⟩
  | .hbm, ⟨30, _⟩ => ⟨S1x128, .f32⟩
  | .hbm, ⟨31, _⟩ => ⟨S128, .f32⟩
  | .hbm, ⟨32, _⟩ => ⟨S2x4096x16x128, .f32⟩
  | .hbm, ⟨33, _⟩ => ⟨S_, .f32⟩
  | .hbm, ⟨34, _⟩ => ⟨S2x4096x16, .f32⟩
  | .hbm, ⟨35, _⟩ => ⟨S2x4096x16x1, .f32⟩
  | .hbm, ⟨36, _⟩ => ⟨S_, .f32⟩
  | .hbm, ⟨37, _⟩ => ⟨S2x4096x16x1, .f32⟩
  | .hbm, ⟨38, _⟩ => ⟨S2x4096x16x1, .f32⟩
  | .hbm, ⟨39, _⟩ => ⟨S_, .f32⟩
  | .hbm, ⟨40, _⟩ => ⟨S2x4096x16x1, .f32⟩
  | .hbm, ⟨41, _⟩ => ⟨S2x4096x16x1, .f32⟩
  | .hbm, ⟨42, _⟩ => ⟨S2x4096x16x1, .f32⟩
  | .hbm, ⟨43, _⟩ => ⟨S2x4096x16x128, .f32⟩
  | .hbm, ⟨44, _⟩ => ⟨S2x4096x16x128, .f32⟩
  | .hbm, ⟨45, _⟩ => ⟨S1x1x1x128, .f32⟩
  | .hbm, ⟨46, _⟩ => ⟨S2x4096x16x128, .f32⟩
  | .hbm, ⟨47, _⟩ => ⟨S2x4096x16x128, .f32⟩
  | .hbm, ⟨48, _⟩ => ⟨S2x4096x2048, .f32⟩
  | .hbm, ⟨49, _⟩ => ⟨S2x4096x16x128, .f32⟩
  | .hbm, ⟨50, _⟩ => ⟨S1x128, .f32⟩
  | .hbm, ⟨51, _⟩ => ⟨S128, .f32⟩
  | .hbm, ⟨52, _⟩ => ⟨S2x4096x16x128, .f32⟩
  | .hbm, ⟨53, _⟩ => ⟨S_, .f32⟩
  | .hbm, ⟨54, _⟩ => ⟨S2x4096x16, .f32⟩
  | .hbm, ⟨55, _⟩ => ⟨S2x4096x16x1, .f32⟩
  | .hbm, ⟨56, _⟩ => ⟨S_, .f32⟩
  | .hbm, ⟨57, _⟩ => ⟨S2x4096x16x1, .f32⟩
  | .hbm, ⟨58, _⟩ => ⟨S2x4096x16x1, .f32⟩
  | .hbm, ⟨59, _⟩ => ⟨S_, .f32⟩
  | .hbm, ⟨60, _⟩ => ⟨S2x4096x16x1, .f32⟩
  | .hbm, ⟨61, _⟩ => ⟨S2x4096x16x1, .f32⟩
  | .hbm, ⟨62, _⟩ => ⟨S2x4096x16x1, .f32⟩
  | .hbm, ⟨63, _⟩ => ⟨S2x4096x16x128, .f32⟩
  | .hbm, ⟨64, _⟩ => ⟨S2x4096x16x128, .f32⟩
  | .hbm, ⟨65, _⟩ => ⟨S1x1x1x128, .f32⟩
  | .hbm, ⟨66, _⟩ => ⟨S2x4096x16x128, .f32⟩
  | .hbm, ⟨67, _⟩ => ⟨S2x4096x16x128, .f32⟩
  | .hbm, ⟨68, _⟩ => ⟨S2x4096x2048, .f32⟩
  | .hbm, ⟨69, _⟩ => ⟨S2x4096x6144, .f32⟩
  | .hbm, ⟨70, _⟩ => ⟨S8192x6144, .f32⟩
  | .hbm, ⟨71, _⟩ => ⟨S8192x6144, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Out.lean ====
abbrev S2x4096x2048 : Shape := ⟨3, ![2, 4096, 2048]⟩
abbrev S2x2048x2048 : Shape := ⟨3, ![2, 2048, 2048]⟩
abbrev S8192x2048 : Shape := ⟨2, ![8192, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2x2048x2048, .f32⟩
  | .hbm, ⟨2, _⟩ => ⟨S2x4096x2048, .f32⟩
  | .hbm, ⟨3, _⟩ => ⟨S8192x2048, .f32⟩
  | .hbm, ⟨4, _⟩ => ⟨S8192x2048, .bf16⟩
  | .hbm, ⟨5, _⟩ => ⟨S2x2048x2048, .bf16⟩
  | .hbm, ⟨6, _⟩ => ⟨S8192x2048, .f32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S2x4096x2048 : Shape := ⟨3, ![2, 4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048x2048, .f32⟩
  | .hbm, ⟨2, _⟩ => ⟨S2x4096x2048, .f32⟩
  | .hbm, ⟨3, _⟩ => ⟨S1x2048x2048, .f32⟩
  | .hbm, ⟨4, _⟩ => ⟨S2048x2048, .f32⟩
  | .hbm, ⟨5, _⟩ => ⟨S2x4096x2048, .f32⟩
  | .hbm, ⟨6, _⟩ => ⟨S2x4096x2048, .f32⟩
  | .hbm, ⟨7, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdIn.lean ====
abbrev S2x4096x2048 : Shape := ⟨3, ![2, 4096, 2048]⟩
abbrev S4x2048 : Shape := ⟨2, ![4, 2048]⟩
abbrev S1x2048x10304 : Shape := ⟨3, ![1, 2048, 10304]⟩
abbrev S8192x2048 : Shape := ⟨2, ![8192, 2048]⟩
abbrev S1x2048 : Shape := ⟨2, ![1, 2048]⟩
abbrev S2048 : Shape := ⟨1, ![2048]⟩
abbrev S8192x10240 : Shape := ⟨2, ![8192, 10240]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S1x2048x10304, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S1x2048x10304, .bf16⟩
  | .hbm, ⟨7, _⟩ => ⟨S1x2048, .f32⟩
  | .hbm, ⟨8, _⟩ => ⟨S8192x10240, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdInReferenceIdeal.lean ====
abbrev S2x4096x2048 : Shape := ⟨3, ![2, 4096, 2048]⟩
abbrev S4x2048 : Shape := ⟨2, ![4, 2048]⟩
abbrev S1x2048x10304 : Shape := ⟨3, ![1, 2048, 10304]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x10304 : Shape := ⟨2, ![2048, 10304]⟩
abbrev S2x4096x10304 : Shape := ⟨3, ![2, 4096, 10304]⟩
abbrev S2x4096x10240 : Shape := ⟨3, ![2, 4096, 10240]⟩
abbrev S8192x10240 : Shape := ⟨2, ![8192, 10240]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S1x2048x10304, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x10304, .f32⟩
  | .hbm, ⟨22, _⟩ => ⟨S2x4096x10304, .f32⟩
  | .hbm, ⟨23, _⟩ => ⟨S2x4096x10240, .f32⟩
  | .hbm, ⟨24, _⟩ => ⟨S8192x10240, .f32⟩
  | .hbm, ⟨25, _⟩ => ⟨S8192x10240, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== SsdOut.lean ====
abbrev S2x4096x4096 : Shape := ⟨3, ![2, 4096, 4096]⟩
abbrev S1x4096x2048 : Shape := ⟨3, ![1, 4096, 2048]⟩
abbrev S2x4096x2048 : Shape := ⟨3, ![2, 4096, 2048]⟩
abbrev S8192x4096 : Shape := ⟨2, ![8192, 4096]⟩
abbrev S8192x2048 : Shape := ⟨2, ![8192, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S1x4096x2048, .f32⟩
  | .hbm, ⟨2, _⟩ => ⟨S2x4096x2048, .f32⟩
  | .hbm, ⟨3, _⟩ => ⟨S8192x4096, .f32⟩
  | .hbm, ⟨4, _⟩ => ⟨S8192x4096, .bf16⟩
  | .hbm, ⟨5, _⟩ => ⟨S1x4096x2048, .bf16⟩
  | .hbm, ⟨6, _⟩ => ⟨S8192x2048, .f32⟩
  | .hbm, ⟨7, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdOutReferenceIdeal.lean ====
abbrev S2x4096x4096 : Shape := ⟨3, ![2, 4096, 4096]⟩
abbrev S1x4096x2048 : Shape := ⟨3, ![1, 4096, 2048]⟩
abbrev S2x4096x2048 : Shape := ⟨3, ![2, 4096, 2048]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x2048, .f32⟩
  | .hbm, ⟨2, _⟩ => ⟨S2x4096x2048, .f32⟩
  | .hbm, ⟨3, _⟩ => ⟨S4096x2048, .f32⟩
  | .hbm, ⟨4, _⟩ => ⟨S2x4096x2048, .f32⟩
  | .hbm, ⟨5, _⟩ => ⟨S2x4096x2048, .f32⟩
  | .hbm, ⟨6, _⟩ => ⟨S8192x2048, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GmIn.lean ====
abbrev S2x4096x2048 : Shape := ⟨3, ![2, 4096, 2048]⟩
abbrev S4x2048 : Shape := ⟨2, ![4, 2048]⟩
abbrev S1x2048x4096 : Shape := ⟨3, ![1, 2048, 4096]⟩
abbrev S8192x2048 : Shape := ⟨2, ![8192, 2048]⟩
abbrev S1x2048 : Shape := ⟨2, ![1, 2048]⟩
abbrev S2048 : Shape := ⟨1, ![2048]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S1x2048x4096, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S1x2048x4096, .bf16⟩
  | .hbm, ⟨7, _⟩ => ⟨S1x2048, .f32⟩
  | .hbm, ⟨8, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GmInReferenceIdeal.lean ====
abbrev S2x4096x2048 : Shape := ⟨3, ![2, 4096, 2048]⟩
abbrev S4x2048 : Shape := ⟨2, ![4, 2048]⟩
abbrev S1x2048x4096 : Shape := ⟨3, ![1, 2048, 4096]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x4096 : Shape := ⟨2, ![2048, 4096]⟩
abbrev S2x4096x4096 : Shape := ⟨3, ![2, 4096, 4096]⟩
abbrev S8192x4096 : Shape := ⟨2, ![8192, 4096]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S1x2048x4096, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x4096, .f32⟩
  | .hbm, ⟨22, _⟩ => ⟨S2x4096x4096, .f32⟩
  | .hbm, ⟨23, _⟩ => ⟨S_, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S_, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S8192x4096, .f32⟩
  | .hbm, ⟨33, _⟩ => ⟨S8192x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== GmGate.lean ====
abbrev S2x4096x4096 : Shape := ⟨3, ![2, 4096, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2x4096x2048 : Shape := ⟨3, ![2, 4096, 2048]⟩
abbrev S1x2048x2048 : Shape := ⟨3, ![1, 2048, 2048]⟩
abbrev S8192x4096 : Shape := ⟨2, ![8192, 4096]⟩
abbrev S2048 : Shape := ⟨1, ![2048]⟩
abbrev S16x128x128 : Shape := ⟨3, ![16, 128, 128]⟩
abbrev S16x128 : Shape := ⟨2, ![16, 128]⟩
abbrev S8192x2048 : Shape := ⟨2, ![8192, 2048]⟩
abbrev S128x16 : Shape := ⟨2, ![128, 16]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S2048x2048 : Shape := ⟨2, ![2048, 2048]⟩

abbrev nBuf : Space → Nat
  | .hbm => 16
  | .vmem => 14
  | .smem => 0
  | _ => 0

abbrev bufTy : (tb : Table) → Fin (tcTables nBuf tb) → BufTy
  | .hbm, ⟨0, _⟩ => ⟨S2x4096x4096, .f32⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S2x4096x2048, .f32⟩
  | .hbm, ⟨5, _⟩ => ⟨S1x2048x2048, .f32⟩
  | .hbm, ⟨6, _⟩ => ⟨S8192x4096, .f32⟩
  | .hbm, ⟨7, _⟩ => ⟨S8192x4096, .bf16⟩
  | .hbm, ⟨8, _⟩ => ⟨S2048, .f32⟩
  | .hbm, ⟨9, _⟩ => ⟨S16x128x128, .f32⟩
  | .hbm, ⟨10, _⟩ => ⟨S16x128, .f32⟩
  | .hbm, ⟨11, _⟩ => ⟨S8192x2048, .f32⟩
  | .hbm, ⟨12, _⟩ => ⟨S1x2048x2048, .bf16⟩
  | .hbm, ⟨13, _⟩ => ⟨S1x2048, .f32⟩
  | .hbm, ⟨14, _⟩ => ⟨S128x16, .f32⟩
  | .hbm, ⟨15, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S16x128x128, .f32⟩
  | .local _ .vmem, ⟨6, _⟩ => ⟨S128x16, .f32⟩
  | .local _ .vmem, ⟨7, _⟩ => ⟨S256x2048, .f32⟩
  | .local _ .vmem, ⟨8, _⟩ => ⟨S256x2048, .f32⟩
  | .local _ .vmem, ⟨9, _⟩ => ⟨S1x2048x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmGateReferenceIdeal.lean ====
abbrev S2x4096x4096 : Shape := ⟨3, ![2, 4096, 4096]⟩
abbrev S1x2048 : Shape := ⟨2, ![1, 2048]⟩
abbrev S1x16x128x128 : Shape := ⟨4, ![1, 16, 128, 128]⟩
abbrev S1x16x128 : Shape := ⟨3, ![1, 16, 128]⟩
abbrev S2x4096x2048 : Shape := ⟨3, ![2, 4096, 2048]⟩
abbrev S1x2048x2048 : Shape := ⟨3, ![1, 2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x32x128x16x128 : Shape := ⟨5, ![2, 32, 128, 16, 128]⟩
abbrev S128x128 : Shape := ⟨2, ![128, 128]⟩
abbrev S1x128x128 : Shape := ⟨3, ![1, 128, 128]⟩
abbrev S16x128x128 : Shape := ⟨3, ![16, 128, 128]⟩
abbrev S16x2x32x128x128 : Shape := ⟨5, ![16, 2, 32, 128, 128]⟩
abbrev S16x128 : Shape := ⟨2, ![16, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S2048x2048 : Shape := ⟨2, ![2048, 2048]⟩
abbrev S8192x2048 : Shape := ⟨2, ![8192, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S2x4096x2048, .f32⟩
  | .hbm, ⟨5, _⟩ => ⟨S1x2048x2048, .f32⟩
  | .hbm, ⟨6, _⟩ => ⟨S2x4096x2048, .f32⟩
  | .hbm, ⟨7, _⟩ => ⟨S2x4096x2048, .f32⟩
  | .hbm, ⟨8, _⟩ => ⟨S2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x2048, .f32⟩
  | .hbm, ⟨21, _⟩ => ⟨S2x4096x2048, .f32⟩
  | .hbm, ⟨22, _⟩ => ⟨S1x1x2048, .f32⟩
  | .hbm, ⟨23, _⟩ => ⟨S2x4096x2048, .f32⟩
  | .hbm, ⟨24, _⟩ => ⟨S2x4096x2048, .f32⟩
  | .hbm, ⟨25, _⟩ => ⟨S2x32x128x16x128, .f32⟩
  | .hbm, ⟨26, _⟩ => ⟨S2x32x128x16x128, .f32⟩
  | .hbm, ⟨27, _⟩ => ⟨S_, .i1⟩
  | .hbm, ⟨28, _⟩ => ⟨S128x128, .i1⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S_, .i1⟩
  | .hbm, ⟨36, _⟩ => ⟨S128x128, .i1⟩
  | .hbm, ⟨37, _⟩ => ⟨S128x128, .i1⟩
  | .hbm, ⟨38, _⟩ => ⟨S1x128x128, .i1⟩
  | .hbm, ⟨39, _⟩ => ⟨S16x128x128, .f32⟩
  | .hbm, ⟨40, _⟩ => ⟨S_, .f32⟩
  | .hbm, ⟨41, _⟩ => ⟨S_, .f32⟩
  | .hbm, ⟨42, _⟩ => ⟨S16x128x128, .i1⟩
  | .hbm, ⟨43, _⟩ => ⟨S16x128x128, .f32⟩
  | .hbm, ⟨44, _⟩ => ⟨S16x128x128, .f32⟩
  | .hbm, ⟨45, _⟩ => ⟨S16x2x32x128x128, .f32⟩
  | .hbm, ⟨46, _⟩ => ⟨S2x32x128x16x128, .f32⟩
  | .hbm, ⟨47, _⟩ => ⟨S16x128, .f32⟩
  | .hbm, ⟨48, _⟩ => ⟨S128x16, .f32⟩
  | .hbm, ⟨49, _⟩ => ⟨S128x16x1, .f32⟩
  | .hbm, ⟨50, _⟩ => ⟨S1x1x128x16x1, .f32⟩
  | .hbm, ⟨51, _⟩ => ⟨S2x32x128x16x128, .f32⟩
  | .hbm, ⟨52, _⟩ => ⟨S2x32x128x16x128, .f32⟩
  | .hbm, ⟨53, _⟩ => ⟨S2x32x128x16x128, .f32⟩
  | .hbm, ⟨54, _⟩ => ⟨S2x4096x2048, .f32⟩
  | .hbm, ⟨55, _⟩ => ⟨S2048x2048, .f32⟩
  | .hbm, ⟨56, _⟩ => ⟨S2x4096x2048, .f32⟩
  | .hbm, ⟨57, _⟩ => ⟨S2x4096x2048, .f32⟩
  | .hbm, ⟨58, _⟩ => ⟨S8192x2048, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== SsdDt.lean ====
abbrev S2x4096x2048 : Shape := ⟨3, ![2, 4096, 2048]⟩
abbrev S4x2048 : Shape := ⟨2, ![4, 2048]⟩
abbrev S1x2048x10304 : Shape := ⟨3, ![1, 2048, 10304]⟩
abbrev S1x2048x64 : Shape := ⟨3, ![1, 2048, 64]⟩
abbrev S2048x64 : Shape := ⟨2, ![2048, 64]⟩
abbrev S_ : Shape := ⟨0, ![]⟩
abbrev S2048x128 : Shape := ⟨2, ![2048, 128]⟩
abbrev S1x2048x128 : Shape := ⟨3, ![1, 2048, 128]⟩
abbrev S8192x2048 : Shape := ⟨2, ![8192, 2048]⟩
abbrev S1x2048 : Shape := ⟨2, ![1, 2048]⟩
abbrev S2048 : Shape := ⟨1, ![2048]⟩
abbrev S8192x128 : Shape := ⟨2, ![8192, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩
abbrev S256x2048 : Shape := ⟨2, ![256, 2048]⟩
abbrev S256x128 : Shape := ⟨2, ![256, 128]⟩

abbrev nBuf : Space → Nat
  | .hbm => 15
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S1x2048x10304, .f32⟩
  | .hbm, ⟨3, _⟩ => ⟨S1x2048x64, .f32⟩
  | .hbm, ⟨4, _⟩ => ⟨S2048x64, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S1x2048x128, .bf16⟩
  | .hbm, ⟨10, _⟩ => ⟨S8192x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x128, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdDtReferenceIdeal.lean ====
abbrev S2x4096x2048 : Shape := ⟨3, ![2, 4096, 2048]⟩
abbrev S4x2048 : Shape := ⟨2, ![4, 2048]⟩
abbrev S1x2048x10304 : Shape := ⟨3, ![1, 2048, 10304]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x10304 : Shape := ⟨2, ![2048, 10304]⟩
abbrev S2x4096x10304 : Shape := ⟨3, ![2, 4096, 10304]⟩
abbrev S2x4096x64 : Shape := ⟨3, ![2, 4096, 64]⟩
abbrev S8192x64 : Shape := ⟨2, ![8192, 64]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S1x2048x10304, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x10304, .f32⟩
  | .hbm, ⟨22, _⟩ => ⟨S2x4096x10304, .f32⟩
  | .hbm, ⟨23, _⟩ => ⟨S2x4096x64, .f32⟩
  | .hbm, ⟨24, _⟩ => ⟨S8192x64, .f32⟩
  | .hbm, ⟨25, _⟩ => ⟨S_, .i32⟩
  | .hbm, ⟨26, _⟩ => ⟨S_, .f32⟩
  | .hbm, ⟨27, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Stage.lean ====
/-
  The attention kernel's stages as rules: what one tile of logits, one tile of weights and one tile of output
  stores do to the staged blocks and to the two scratch arrays, whatever is run after them.
-/
module

public import proofs.«01_k».proof.Proof.Gen.KernelIdeal
public import Idealize.ShloMosaic.Lib.Tactic
public import Idealize.ShloMosaic.Lib.VecWindow
public import Idealize.ShloMosaic.Lib.Pipeline.Kit

@[expose] public section

noncomputable section

namespace Cert.Att

open Cert.KernelIdeal
open Idealize.ShloMosaic Idealize.ShloMosaic.TcCoe Idealize.ShloMosaic.Tactic
open Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Facts₀ Facts

local notation "𝕄" => MT nD τ sig Unit (Elt F) ℕ (UR sig nD τ) ℕ

/-- The kernel's weakest precondition on core `c`. -/
abbrev WP (c : Dev nD) (defs : Defs nD τ sig (Elt F) Λ₀) {α : Type} (p : Prog (TpuEff nD τ sig (Elt F) Λ₀ .tc) α) (Q : α → sProp 𝕄) : sProp 𝕄 :=
  wp frame (wpE defs Variants.none (c : Thread nD τ) none) Set.univ p Q

variable {c : Dev nD} {defs : Defs nD τ sig (Elt F) Λ₀}

/-- A load of a unit-stride rectangle of a memref held at `X` answers the rectangle of `X`. -/
theorem owns_load {α : Type} {sp : CoreSpace} {s : Shape} {e : EltTy} {m : Memref sig .tc sp s e} {off size : Fin s.rank → ℕ} {inb : ∀ a, off a + size a ≤ s.size a}
    {hl : m.view.LoadsAt (Rect.unit off size inb).toLoadRect} {k : ((Rect.unit off size inb).shape.Idx → Elt F e) → Prog (TpuEff nD τ sig (Elt F) Λ₀ .tc) α}
    {X : s.Idx → Elt F e} {R : sProp 𝕄} {Q : α → sProp 𝕄}
    (h : iprop(owns (c : Thread nD τ) m fullShare X ∗ R) ⊢ WP c defs (k (window X off size inb)) Q) :
    iprop(owns (c : Thread nD τ) m fullShare X ∗ R) ⊢ WP c defs (.op (.load m (Rect.unit off size inb).toLoadRect hl) k) Q := by
  unfold owns
  iintro ⟨⟨%f, %hf, H⟩, HR⟩
  subst hf
  iapply (wp_load_rect Variants.none (c : Thread nD τ) none Set.univ (m := m) (r := Rect.unit off size inb) (S := m.view.set) (f := f) (hl := hl) (View.set_slice_subset _ _)) $$ H
  iintro H
  iapply h
  isplitl [H]
  · unfold owns; iexists f; isplitr; · ipureintro; rfl
    iexact H
  · iexact HR

/-- A store to a unit-stride rectangle of a memref held at `X` leaves `X` with the payload put there. -/
theorem owns_store {α : Type} {sp : CoreSpace} {s : Shape} {e : EltTy} {m : Memref sig .tc sp s e} {off size : Fin s.rank → ℕ} {inb : ∀ a, off a + size a ≤ s.size a}
    {w : (Rect.unit off size inb).shape.Idx → Elt F e} {hx : (m.access (Rect.unit off size inb)).Stores Finset.univ} {hm : Finset.univ = Finset.univ ∨ ∀ a, (Rect.unit off size inb).stride a = 1}
    {k : PUnit → Prog (TpuEff nD τ sig (Elt F) Λ₀ .tc) α}
    {X : s.Idx → Elt F e} {R : sProp 𝕄} {Q : α → sProp 𝕄}
    (h : iprop(owns (c : Thread nD τ) m fullShare (put X off size w) ∗ R) ⊢ WP c defs (k ⟨⟩) Q) :
    iprop(owns (c : Thread nD τ) m fullShare X ∗ R) ⊢ WP c defs (.op (.store m (Rect.unit off size inb) w Finset.univ hx hm) k) Q := by
  unfold owns
  iintro ⟨⟨%f, %hf, H⟩, HR⟩
  subst hf
  iapply (wp_store_writes₀ Variants.none (c : Thread nD τ) none Set.univ (m := m) (r := Rect.unit off size inb) (w := w) (hx := hx) (hm := hm) (S := m.view.set) (f := f) (View.set_slice_subset _ _)) $$ H
  iintro H
  iapply h
  isplitl [H]
  · unfold owns; iexists _; isplitr
    · ipureintro; exact View.read_writes_cons_put m.view f inb w [] rfl
    iexact H
  · iexact HR

/-- A load of a memref reached by rearranging what is held. -/
theorem load_of {α : Type} {sp : CoreSpace} {s : Shape} {e : EltTy} {m : Memref sig .tc sp s e} {off size : Fin s.rank → ℕ} {inb : ∀ a, off a + size a ≤ s.size a}
    {hl : m.view.LoadsAt (Rect.unit off size inb).toLoadRect} {k : ((Rect.unit off size inb).shape.Idx → Elt F e) → Prog (TpuEff nD τ sig (Elt F) Λ₀ .tc) α}
    {X : s.Idx → Elt F e} {P R : sProp 𝕄} {Q : α → sProp 𝕄} (hP : P ⊢ iprop(owns (c : Thread nD τ) m fullShare X ∗ R)) (hP' : iprop(owns (c : Thread nD τ) m fullShare X ∗ R) ⊢ P)
    (h : P ⊢ WP c defs (k (window X off size inb)) Q) :
    P ⊢ WP c defs (.op (.load m (Rect.unit off size inb).toLoadRect hl) k) Q :=
  hP.trans (owns_load (hP'.trans h))

/-- A store to a memref reached by rearranging what is held. -/
theorem store_of {α : Type} {sp : CoreSpace} {s : Shape} {e : EltTy} {m : Memref sig .tc sp s e} {off size : Fin s.rank → ℕ} {inb : ∀ a, off a + size a ≤ s.size a}
    {w : (Rect.unit off size inb).shape.Idx → Elt F e} {hx : (m.access (Rect.unit off size inb)).Stores Finset.univ} {hm : Finset.univ = Finset.univ ∨ ∀ a, (Rect.unit off size inb).stride a = 1}
    {k : PUnit → Prog (TpuEff nD τ sig (Elt F) Λ₀ .tc) α}
    {X : s.Idx → Elt F e} {P P' R : sProp 𝕄} {Q : α → sProp 𝕄} (hP : P ⊢ iprop(owns (c : Thread nD τ) m fullShare X ∗ R))
    (hP' : iprop(owns (c : Thread nD τ) m fullShare (put X off size w) ∗ R) ⊢ P') (h : P' ⊢ WP c defs (k ⟨⟩) Q) :
    P ⊢ WP c defs (.op (.store m (Rect.unit off size inb) w Finset.univ hx hm) k) Q :=
  hP.trans (owns_store (hP'.trans h))

/-! ## The tiles' values -/

/-- The product of a query tile and a key tile: a tile of logits. -/
def zT (x y : FVec F S256x128 .bf16) : FVec F S256x256 .f32 :=
  matmul dot_S256x128_S256x128_S256x256_1_1_0_0_n_n none (shapeCast S256x128 x shapeCasts_S256x128_S256x128) (shapeCast S256x128 y shapeCasts_S256x128_S256x128) (constant S256x256 .f32 0x00000000#32)

/-- The kernel's log of the sigmoid of a tile of logits, in base two. -/
def lbT (z : FVec F S256x256 .f32) : FVec F S256x256 .f32 :=
  subf (minimumf z (broadcast S256x256 (Scalar.ofBits .f32 0x00000000#32)))
    (mulf (log (addf (broadcast S256x256 (Scalar.ofBits .f32 0x3F800000#32)) (exp2 (subf (broadcast S256x256 (Scalar.ofBits .f32 0x00000000#32)) (absf z)))))
      (broadcast S256x256 (Named.named κ "log2e" 0x3FB8AA3B#32)))

/-- Which entries of a tile on the diagonal lie strictly under it. -/
def maskT : IVec S256x256 1 := cmpi .slt (iota .tc S256x256 32 [1] iota_S256x256_d1_w32) (iota .tc S256x256 32 [0] iota_S256x256_d0_w32)

/-- A tile's log sigmoid, as stored in the first scratch array. -/
def aP (z : FVec F S256x256 .f32) : FVec F S1x1x256x256 .f32 := shapeCast S1x1x256x256 (lbT z) shapeCasts_S256x256_S1x1x256x256

/-- A tile's log of one minus the sigmoid, as stored in the second scratch array. -/
def bP (z : FVec F S256x256 .f32) : FVec F S1x1x256x256 .bf16 := shapeCast S1x1x256x256 (truncf .bf16 (subf (lbT z) z) bitsLt_bf16_f32) shapeCasts_S256x256_S1x1x256x256

/-- The same on the diagonal, where what is not strictly under it is masked. -/
def aD (z : FVec F S256x256 .f32) : FVec F S1x1x256x256 .f32 :=
  shapeCast S1x1x256x256 (select maskT (lbT z) (broadcast S256x256 (Scalar.ofBits .f32 0xFF800000#32))) shapeCasts_S256x256_S1x1x256x256

/-- The same on the diagonal, where what is not strictly under it is masked. -/
def bD (z : FVec F S256x256 .f32) : FVec F S1x1x256x256 .bf16 :=
  shapeCast S1x1x256x256 (truncf .bf16 (select maskT (subf (lbT z) z) (broadcast S256x256 (Scalar.ofBits .f32 0x00000000#32))) bitsLt_bf16_f32) shapeCasts_S256x256_S1x1x256x256

theorem bnd_q (j h : ℕ) : ∀ a, (![256 * (j % 4), 128 * (h % 4)] : Fin 2 → ℕ) a + S256x128.size a ≤ S1024x512.size a := by
  intro a; fin_cases a <;> simp <;> omega

theorem bnd_k (n h : ℕ) : ∀ a, (![256 * (n % 16), 128 * (h % 4)] : Fin 2 → ℕ) a + S256x128.size a ≤ S4096x512.size a := by
  intro a; fin_cases a <;> simp <;> omega

/-- Query rows of sub-tile `j`, head `h`. -/
def qW (X : Vec F S1024x512 .bf16) (j h : ℕ) : FVec F S256x128 .bf16 := window (s := S1024x512) X ![256 * (j % 4), 128 * (h % 4)] S256x128.size (bnd_q j h)

/-- Rows of tile `n` of the keys or the values, head `h`. -/
def kW (X : Vec F S4096x512 .bf16) (n h : ℕ) : FVec F S256x128 .bf16 := window (s := S4096x512) X ![256 * (n % 16), 128 * (h % 4)] S256x128.size (bnd_k n h)

theorem bnd_s (s h : ℕ) : ∀ a, (![s % 2, h % 4, 0, 0] : Fin 4 → ℕ) a + S1x1x256x256.size a ≤ S2x4x256x256.size a := by
  intro a; fin_cases a <;> simp <;> omega

/-- Slot `s` of the scratch arrays holds the tiles `A` and `B`, by head. -/
def Has (X12 : Vec F S2x4x256x256 .f32) (X13 : Vec F S2x4x256x256 .bf16) (s : ℕ) (A : ℕ → FVec F S1x1x256x256 .f32) (B : ℕ → FVec F S1x1x256x256 .bf16) : Prop :=
  ∀ h < 4, window (s := S2x4x256x256) X12 ![s % 2, h % 4, 0, 0] S1x1x256x256.size (bnd_s s h) = A h ∧ window (s := S2x4x256x256) X13 ![s % 2, h % 4, 0, 0] S1x1x256x256.size (bnd_s s h) = B h

section Rules

variable {arg3 : Memref sig .tc .vmem S1024x512 .bf16} {arg4 arg5 : Memref sig .tc .vmem S4096x512 .bf16}
  {arg12 : Memref sig .tc .vmem S2x4x256x256 .f32} {arg13 : Memref sig .tc .vmem S2x4x256x256 .bf16}

/-- What the stages hold: the staged queries, keys and values, the two scratch arrays, and a frame. -/
def St (c : Dev nD) (arg3 : Memref sig .tc .vmem S1024x512 .bf16) (arg4 arg5 : Memref sig .tc .vmem S4096x512 .bf16)
    (arg12 : Memref sig .tc .vmem S2x4x256x256 .f32) (arg13 : Memref sig .tc .vmem S2x4x256x256 .bf16)
    (X3 : Vec F S1024x512 .bf16) (X4 X5 : Vec F S4096x512 .bf16) (X12 : Vec F S2x4x256x256 .f32) (X13 : Vec F S2x4x256x256 .bf16) (R : sProp 𝕄) : sProp 𝕄 :=
  iprop(owns (c : Thread nD τ) arg3 fullShare X3 ∗ owns (c : Thread nD τ) arg4 fullShare X4 ∗ owns (c : Thread nD τ) arg5 fullShare X5
    ∗ owns (c : Thread nD τ) arg12 fullShare X12 ∗ owns (c : Thread nD τ) arg13 fullShare X13 ∗ R)

variable {X3 : Vec F S1024x512 .bf16} {X4 X5 : Vec F S4096x512 .bf16} {X12 : Vec F S2x4x256x256 .f32} {X13 : Vec F S2x4x256x256 .bf16}
  {α : Type}

/-- Four heads stored in slot `s`: the slot holds them. -/
theorem has_put4 (s : ℕ) (os : ℕ → Fin 4 → ℕ) (hos : ∀ h < 4, os h = ![s % 2, h % 4, 0, 0]) (A : ℕ → FVec F S1x1x256x256 .f32) (B : ℕ → FVec F S1x1x256x256 .bf16) :
    Has (put (s := S2x4x256x256) (put (s := S2x4x256x256) (put (s := S2x4x256x256) (put (s := S2x4x256x256) X12 (os 0) S1x1x256x256.size (A 0)) (os 1) S1x1x256x256.size (A 1)) (os 2) S1x1x256x256.size (A 2)) (os 3) S1x1x256x256.size (A 3))
      (put (s := S2x4x256x256) (put (s := S2x4x256x256) (put (s := S2x4x256x256) (put (s := S2x4x256x256) X13 (os 0) S1x1x256x256.size (B 0)) (os 1) S1x1x256x256.size (B 1)) (os 2) S1x1x256x256.size (B 2)) (os 3) S1x1x256x256.size (B 3)) s A B := by
  simp only [hos 0 (by decide), hos 1 (by decide), hos 2 (by decide), hos 3 (by decide)]
  intro h hh
  have d : ∀ a b : ℕ, a < 4 → b < 4 → a ≠ b → (![s % 2, b % 4, 0, 0] : Fin 4 → ℕ) 1 + S1x1x256x256.size 1 ≤ (![s % 2, a % 4, 0, 0] : Fin 4 → ℕ) 1 ∨ (![s % 2, a % 4, 0, 0] : Fin 4 → ℕ) 1 + S1x1x256x256.size 1 ≤ (![s % 2, b % 4, 0, 0] : Fin 4 → ℕ) 1 := by
    intro a b ha hb hab
    rw [show S1x1x256x256.size 1 = 1 from rfl]
    simp only [Matrix.cons_val_one, Matrix.cons_val_zero]
    omega
  interval_cases h
  · constructor <;>
    · rw [window_put_of_disjoint (s := S2x4x256x256) _ _ _ _ _ _ _ 1 (d 3 0 (by decide) (by decide) (by decide)), window_put_of_disjoint (s := S2x4x256x256) _ _ _ _ _ _ _ 1 (d 2 0 (by decide) (by decide) (by decide)),
        window_put_of_disjoint (s := S2x4x256x256) _ _ _ _ _ _ _ 1 (d 1 0 (by decide) (by decide) (by decide)), window_put_same (s := S2x4x256x256)]
  · constructor <;>
    · rw [window_put_of_disjoint (s := S2x4x256x256) _ _ _ _ _ _ _ 1 (d 3 1 (by decide) (by decide) (by decide)), window_put_of_disjoint (s := S2x4x256x256) _ _ _ _ _ _ _ 1 (d 2 1 (by decide) (by decide) (by decide)),
        window_put_same (s := S2x4x256x256)]
  · constructor <;>
    · rw [window_put_of_disjoint (s := S2x4x256x256) _ _ _ _ _ _ _ 1 (d 3 2 (by decide) (by decide) (by decide)), window_put_same (s := S2x4x256x256)]
  · constructor <;> rw [window_put_same (s := S2x4x256x256)]

/-- Four heads stored in slot `s`: the other slot keeps what it holds. -/
theorem has_keep4 (s s' : ℕ) (hs : s % 2 ≠ s' % 2) (os : ℕ → Fin 4 → ℕ) (hos : ∀ h < 4, os h = ![s % 2, h % 4, 0, 0]) (A A' : ℕ → FVec F S1x1x256x256 .f32) (B B' : ℕ → FVec F S1x1x256x256 .bf16)
    (H : Has X12 X13 s' A' B') :
    Has (put (s := S2x4x256x256) (put (s := S2x4x256x256) (put (s := S2x4x256x256) (put (s := S2x4x256x256) X12 (os 0) S1x1x256x256.size (A 0)) (os 1) S1x1x256x256.size (A 1)) (os 2) S1x1x256x256.size (A 2)) (os 3) S1x1x256x256.size (A 3))
      (put (s := S2x4x256x256) (put (s := S2x4x256x256) (put (s := S2x4x256x256) (put (s := S2x4x256x256) X13 (os 0) S1x1x256x256.size (B 0)) (os 1) S1x1x256x256.size (B 1)) (os 2) S1x1x256x256.size (B 2)) (os 3) S1x1x256x256.size (B 3)) s' A' B' := by
  simp only [hos 0 (by decide), hos 1 (by decide), hos 2 (by decide), hos 3 (by decide)]
  intro h hh
  have d : ∀ a b : ℕ, (![s' % 2, b % 4, 0, 0] : Fin 4 → ℕ) 0 + S1x1x256x256.size 0 ≤ (![s % 2, a % 4, 0, 0] : Fin 4 → ℕ) 0 ∨ (![s % 2, a % 4, 0, 0] : Fin 4 → ℕ) 0 + S1x1x256x256.size 0 ≤ (![s' % 2, b % 4, 0, 0] : Fin 4 → ℕ) 0 := by
    intro a b
    rw [show S1x1x256x256.size 0 = 1 from rfl]
    simp only [Matrix.cons_val_zero]
    omega
  rw [← (H h hh).1, ← (H h hh).2]
  constructor <;>
  · rw [window_put_of_disjoint (s := S2x4x256x256) _ _ _ _ _ _ _ 0 (d 3 h), window_put_of_disjoint (s := S2x4x256x256) _ _ _ _ _ _ _ 0 (d 2 h),
      window_put_of_disjoint (s := S2x4x256x256) _ _ _ _ _ _ _ 0 (d 1 h), window_put_of_disjoint (s := S2x4x256x256) _ _ _ _ _ _ _ 0 (d 0 h)]

/-- A load of a head of a sub-tile's queries. -/
theorem ld3 (j h : ℕ) {o : Fin 2 → ℕ} {ib : ∀ a, o a + S256x128.size a ≤ S1024x512.size a} {hl} (ho : o = ![256 * (j % 4), 128 * (h % 4)])
    {k : FVec F S256x128 .bf16 → Prog (TpuEff nD τ sig (Elt F) Λ₀ .tc) α} {R : sProp 𝕄} {Q : α → sProp 𝕄}
    (hyp : St c arg3 arg4 arg5 arg12 arg13 X3 X4 X5 X12 X13 R ⊢ WP c defs (k (qW X3 j h)) Q) :
    St c arg3 arg4 arg5 arg12 arg13 X3 X4 X5 X12 X13 R ⊢ WP c defs (.op (.load arg3 (Rect.unit (s := S1024x512) o S256x128.size ib).toLoadRect hl) k) Q := by
  subst ho
  refine load_of (X := X3) (R := iprop(owns (c : Thread nD τ) arg4 fullShare X4 ∗ owns (c : Thread nD τ) arg5 fullShare X5 ∗ owns (c : Thread nD τ) arg12 fullShare X12 ∗ owns (c : Thread nD τ) arg13 fullShare X13 ∗ R)) (by unfold St; iintro ⟨A, B, C, D, E, G⟩; iframe) (by unfold St; iintro ⟨A, B, C, D, E, G⟩; iframe) ?_
  exact hyp

/-- A load of a head of a tile of keys. -/
theorem ld4 (n h : ℕ) {o : Fin 2 → ℕ} {ib : ∀ a, o a + S256x128.size a ≤ S4096x512.size a} {hl} (ho : o = ![256 * (n % 16), 128 * (h % 4)])
    {k : FVec F S256x128 .bf16 → Prog (TpuEff nD τ sig (Elt F) Λ₀ .tc) α} {R : sProp 𝕄} {Q : α → sProp 𝕄}
    (hyp : St c arg3 arg4 arg5 arg12 arg13 X3 X4 X5 X12 X13 R ⊢ WP c defs (k (kW X4 n h)) Q) :
    St c arg3 arg4 arg5 arg12 arg13 X3 X4 X5 X12 X13 R ⊢ WP c defs (.op (.load arg4 (Rect.unit (s := S4096x512) o S256x128.size ib).toLoadRect hl) k) Q := by
  subst ho
  refine load_of (X := X4) (R := iprop(owns (c : Thread nD τ) arg3 fullShare X3 ∗ owns (c : Thread nD τ) arg5 fullShare X5 ∗ owns (c : Thread nD τ) arg12 fullShare X12 ∗ owns (c : Thread nD τ) arg13 fullShare X13 ∗ R)) (by unfold St; iintro ⟨A, B, C, D, E, G⟩; iframe) (by unfold St; iintro ⟨A, B, C, D, E, G⟩; iframe) ?_
  exact hyp

/-- A load of a head of a tile of values. -/
theorem ld5 (n h : ℕ) {o : Fin 2 → ℕ} {ib : ∀ a, o a + S256x128.size a ≤ S4096x512.size a} {hl} (ho : o = ![256 * (n % 16), 128 * (h % 4)])
    {k : FVec F S256x128 .bf16 → Prog (TpuEff nD τ sig (Elt F) Λ₀ .tc) α} {R : sProp 𝕄} {Q : α → sProp 𝕄}
    (hyp : St c arg3 arg4 arg5 arg12 arg13 X3 X4 X5 X12 X13 R ⊢ WP c defs (k (kW X5 n h)) Q) :
    St c arg3 arg4 arg5 arg12 arg13 X3 X4 X5 X12 X13 R ⊢ WP c defs (.op (.load arg5 (Rect.unit (s := S4096x512) o S256x128.size ib).toLoadRect hl) k) Q := by
  subst ho
  refine load_of (X := X5) (R := iprop(owns (c : Thread nD τ) arg3 fullShare X3 ∗ owns (c : Thread nD τ) arg4 fullShare X4 ∗ owns (c : Thread nD τ) arg12 fullShare X12 ∗ owns (c : Thread nD τ) arg13 fullShare X13 ∗ R)) (by unfold St; iintro ⟨A, B, C, D, E, G⟩; iframe) (by unfold St; iintro ⟨A, B, C, D, E, G⟩; iframe) ?_
  exact hyp

/-- A load of a head of a slot of the first scratch array. -/
theorem ld12 (h : ℕ) (hh : h < 4) {s : ℕ} {A : ℕ → FVec F S1x1x256x256 .f32} {B : ℕ → FVec F S1x1x256x256 .bf16} (H : Has X12 X13 s A B) {o : Fin 4 → ℕ} {ib : ∀ a, o a + S1x1x256x256.size a ≤ S2x4x256x256.size a} {hl} (ho : o = ![s % 2, h % 4, 0, 0])
    {k : FVec F S1x1x256x256 .f32 → Prog (TpuEff nD τ sig (Elt F) Λ₀ .tc) α} {R : sProp 𝕄} {Q : α → sProp 𝕄}
    (hyp : St c arg3 arg4 arg5 arg12 arg13 X3 X4 X5 X12 X13 R ⊢ WP c defs (k (A h)) Q) :
    St c arg3 arg4 arg5 arg12 arg13 X3 X4 X5 X12 X13 R ⊢ WP c defs (.op (.load arg12 (Rect.unit (s := S2x4x256x256) o S1x1x256x256.size ib).toLoadRect hl) k) Q := by
  subst ho; rw [← (H h hh).1] at hyp
  refine load_of (X := X12) (R := iprop(owns (c : Thread nD τ) arg3 fullShare X3 ∗ owns (c : Thread nD τ) arg4 fullShare X4 ∗ owns (c : Thread nD τ) arg5 fullShare X5 ∗ owns (c : Thread nD τ) arg13 fullShare X13 ∗ R)) (by unfold St; iintro ⟨A, B, C, D, E, G⟩; iframe) (by unfold St; iintro ⟨A, B, C, D, E, G⟩; iframe) ?_
  exact hyp

/-- A load of a head of a slot of the second scratch array. -/
theorem ld13 (h : ℕ) (hh : h < 4) {s : ℕ} {A : ℕ → FVec F S1x1x256x256 .f32} {B : ℕ → FVec F S1x1x256x256 .bf16} (H : Has X12 X13 s A B) {o : Fin 4 → ℕ} {ib : ∀ a, o a + S1x1x256x256.size a ≤ S2x4x256x256.size a} {hl} (ho : o = ![s % 2, h % 4, 0, 0])
    {k : FVec F S1x1x256x256 .bf16 → Prog (TpuEff nD τ sig (Elt F) Λ₀ .tc) α} {R : sProp 𝕄} {Q : α → sProp 𝕄}
    (hyp : St c arg3 arg4 arg5 arg12 arg13 X3 X4 X5 X12 X13 R ⊢ WP c defs (k (B h)) Q) :
    St c arg3 arg4 arg5 arg12 arg13 X3 X4 X5 X12 X13 R ⊢ WP c defs (.op (.load arg13 (Rect.unit (s := S2x4x256x256) o S1x1x256x256.size ib).toLoadRect hl) k) Q := by
  subst ho; rw [← (H h hh).2] at hyp
  refine load_of (X := X13) (R := iprop(owns (c : Thread nD τ) arg3 fullShare X3 ∗ owns (c : Thread nD τ) arg4 fullShare X4 ∗ owns (c : Thread nD τ) arg5 fullShare X5 ∗ owns (c : Thread nD τ) arg12 fullShare X12 ∗ R)) (by unfold St; iintro ⟨A, B, C, D, E, G⟩; iframe) (by unfold St; iintro ⟨A, B, C, D, E, G⟩; iframe) ?_
  exact hyp

/-- A load of the first scratch array. -/
theorem dd12  {o : Fin 4 → ℕ} {ib : ∀ a, o a + S1x1x256x256.size a ≤ S2x4x256x256.size a} {hl}
    {k : FVec F S1x1x256x256 .f32 → Prog (TpuEff nD τ sig (Elt F) Λ₀ .tc) α} {R : sProp 𝕄} {Q : α → sProp 𝕄}
    (h : St c arg3 arg4 arg5 arg12 arg13 X3 X4 X5 X12 X13 R ⊢ WP c defs (k (window (s := S2x4x256x256) X12 o S1x1x256x256.size ib)) Q) :
    St c arg3 arg4 arg5 arg12 arg13 X3 X4 X5 X12 X13 R ⊢ WP c defs (.op (.load arg12 (Rect.unit (s := S2x4x256x256) o S1x1x256x256.size ib).toLoadRect hl) k) Q := by
  refine load_of (X := X12) (R := iprop(owns (c : Thread nD τ) arg3 fullShare X3 ∗ owns (c : Thread nD τ) arg4 fullShare X4 ∗ owns (c : Thread nD τ) arg5 fullShare X5 ∗ owns (c : Thread nD τ) arg13 fullShare X13 ∗ R)) (by unfold St; iintro ⟨A, B, C, D, E, G⟩; iframe) (by unfold St; iintro ⟨A, B, C, D, E, G⟩; iframe) ?_
  exact h

/-- A load of the second scratch array. -/
theorem dd13  {o : Fin 4 → ℕ} {ib : ∀ a, o a + S1x1x256x256.size a ≤ S2x4x256x256.size a} {hl}
    {k : FVec F S1x1x256x256 .bf16 → Prog (TpuEff nD τ sig (Elt F) Λ₀ .tc) α} {R : sProp 𝕄} {Q : α → sProp 𝕄}
    (h : St c arg3 arg4 arg5 arg12 arg13 X3 X4 X5 X12 X13 R ⊢ WP c defs (k (window (s := S2x4x256x256) X13 o S1x1x256x256.size ib)) Q) :
    St c arg3 arg4 arg5 arg12 arg13 X3 X4 X5 X12 X13 R ⊢ WP c defs (.op (.load arg13 (Rect.unit (s := S2x4x256x256) o S1x1x256x256.size ib).toLoadRect hl) k) Q := by
  refine load_of (X := X13) (R := iprop(owns (c : Thread nD τ) arg3 fullShare X3 ∗ owns (c : Thread nD τ) arg4 fullShare X4 ∗ owns (c : Thread nD τ) arg5 fullShare X5 ∗ owns (c : Thread nD τ) arg12 fullShare X12 ∗ R)) (by unfold St; iintro ⟨A, B, C, D, E, G⟩; iframe) (by unfold St; iintro ⟨A, B, C, D, E, G⟩; iframe) ?_
  exact h

/-- A store to the first scratch array. -/
theorem st12 {o : Fin 4 → ℕ} {ib : ∀ a, o a + S1x1x256x256.size a ≤ S2x4x256x256.size a} {w : FVec F S1x1x256x256 .f32} {hx hm}
    {k : PUnit → Prog (TpuEff nD τ sig (Elt F) Λ₀ .tc) α} {R : sProp 𝕄} {Q : α → sProp 𝕄}
    (h : St c arg3 arg4 arg5 arg12 arg13 X3 X4 X5 (put (s := S2x4x256x256) X12 o S1x1x256x256.size w) X13 R ⊢ WP c defs (k ⟨⟩) Q) :
    St c arg3 arg4 arg5 arg12 arg13 X3 X4 X5 X12 X13 R ⊢ WP c defs (.op (.store arg12 (Rect.unit (s := S2x4x256x256) o S1x1x256x256.size ib) w Finset.univ hx hm) k) Q := by
  refine store_of (X := X12) (P' := St c arg3 arg4 arg5 arg12 arg13 X3 X4 X5 (put (s := S2x4x256x256) X12 o S1x1x256x256.size w) X13 R) (R := iprop(owns (c : Thread nD τ) arg3 fullShare X3 ∗ owns (c : Thread nD τ) arg4 fullShare X4 ∗ owns (c : Thread nD τ) arg5 fullShare X5 ∗ owns (c : Thread nD τ) arg13 fullShare X13 ∗ R)) (by unfold St; iintro ⟨A, B, C, D, E, G⟩; iframe) (by unfold St; iintro ⟨A, B, C, D, E, G⟩; iframe) ?_
  exact h

/-- A store to the second scratch array. -/
theorem st13 {o : Fin 4 → ℕ} {ib : ∀ a, o a + S1x1x256x256.size a ≤ S2x4x256x256.size a} {w : FVec F S1x1x256x256 .bf16} {hx hm}
    {k : PUnit → Prog (TpuEff nD τ sig (Elt F) Λ₀ .tc) α} {R : sProp 𝕄} {Q : α → sProp 𝕄}
    (h : St c arg3 arg4 arg5 arg12 arg13 X3 X4 X5 X12 (put (s := S2x4x256x256) X13 o S1x1x256x256.size w) R ⊢ WP c defs (k ⟨⟩) Q) :
    St c arg3 arg4 arg5 arg12 arg13 X3 X4 X5 X12 X13 R ⊢ WP c defs (.op (.store arg13 (Rect.unit (s := S2x4x256x256) o S1x1x256x256.size ib) w Finset.univ hx hm) k) Q := by
  refine store_of (X := X13) (P' := St c arg3 arg4 arg5 arg12 arg13 X3 X4 X5 X12 (put (s := S2x4x256x256) X13 o S1x1x256x256.size w) R) (R := iprop(owns (c : Thread nD τ) arg3 fullShare X3 ∗ owns (c : Thread nD τ) arg4 fullShare X4 ∗ owns (c : Thread nD τ) arg5 fullShare X5 ∗ owns (c : Thread nD τ) arg12 fullShare X12 ∗ R)) (by unfold St; iintro ⟨A, B, C, D, E, G⟩; iframe) (by unfold St; iintro ⟨A, B, C, D, E, G⟩; iframe) ?_
  exact h

/-- After a stage of logits on one tile: slot `s` holds it and the other slot keeps what it held. -/
theorem lgFold (j n s s' : ℕ) (hs : s % 2 ≠ s' % 2) (fa : FVec F S256x256 .f32 → FVec F S1x1x256x256 .f32) (fb : FVec F S256x256 .f32 → FVec F S1x1x256x256 .bf16)
    {A' : ℕ → FVec F S1x1x256x256 .f32} {B' : ℕ → FVec F S1x1x256x256 .bf16} (H : Has X12 X13 s' A' B')
    {o0 o1 o2 o3 : Fin 4 → ℕ} {a0 a1 a2 a3 : FVec F S1x1x256x256 .f32} {b0 b1 b2 b3 : FVec F S1x1x256x256 .bf16}
    {p : Prog (TpuEff nD τ sig (Elt F) Λ₀ .tc) α} {R : sProp 𝕄} {Q : α → sProp 𝕄}
    (h : ∀ X12' X13', Has X12' X13' s (fun h => fa (zT (qW X3 j h) (kW X4 n h))) (fun h => fb (zT (qW X3 j h) (kW X4 n h))) → Has X12' X13' s' A' B' →
      St c arg3 arg4 arg5 arg12 arg13 X3 X4 X5 X12' X13' R ⊢ WP c defs p Q)
    (h0 : o0 = ![s % 2, 0 % 4, 0, 0]) (h1 : o1 = ![s % 2, 1 % 4, 0, 0]) (h2 : o2 = ![s % 2, 2 % 4, 0, 0]) (h3 : o3 = ![s % 2, 3 % 4, 0, 0])
    (ha0 : a0 = fa (zT (qW X3 j 0) (kW X4 n 0))) (hb0 : b0 = fb (zT (qW X3 j 0) (kW X4 n 0)))
    (ha1 : a1 = fa (zT (qW X3 j 1) (kW X4 n 1))) (hb1 : b1 = fb (zT (qW X3 j 1) (kW X4 n 1)))
    (ha2 : a2 = fa (zT (qW X3 j 2) (kW X4 n 2))) (hb2 : b2 = fb (zT (qW X3 j 2) (kW X4 n 2)))
    (ha3 : a3 = fa (zT (qW X3 j 3) (kW X4 n 3))) (hb3 : b3 = fb (zT (qW X3 j 3) (kW X4 n 3)))
    : St c arg3 arg4 arg5 arg12 arg13 X3 X4 X5 (put (s := S2x4x256x256) (put (s := S2x4x256x256) (put (s := S2x4x256x256) (put (s := S2x4x256x256) X12 o0 S1x1x256x256.size a0) o1 S1x1x256x256.size a1) o2 S1x1x256x256.size a2) o3 S1x1x256x256.size a3)
      (put (s := S2x4x256x256) (put (s := S2x4x256x256) (put (s := S2x4x256x256) (put (s := S2x4x256x256) X13 o0 S1x1x256x256.size b0) o1 S1x1x256x256.size b1) o2 S1x1x256x256.size b2) o3 S1x1x256x256.size b3) R ⊢ WP c defs p Q := by
  subst h0 h1 h2 h3 ha0 ha1 ha2 ha3 hb0 hb1 hb2 hb3
  refine h _ _ ?_ ?_
  · exact has_put4 s (fun h => ![s % 2, h % 4, 0, 0]) (fun _ _ => rfl) (fun h => fa (zT (qW X3 j h) (kW X4 n h))) (fun h => fb (zT (qW X3 j h) (kW X4 n h)))
  · exact has_keep4 s s' hs (fun h => ![s % 2, h % 4, 0, 0]) (fun _ _ => rfl) (fun h => fa (zT (qW X3 j h) (kW X4 n h))) A' (fun h => fb (zT (qW X3 j h) (kW X4 n h))) B' H

end Rules

section Frame

variable {arg3 : Memref sig .tc .vmem S1024x512 .bf16} {arg4 arg5 : Memref sig .tc .vmem S4096x512 .bf16}
  {arg6 : Memref sig .tc .vmem S256x256 .bf16} {arg7 : Memref sig .tc .vmem S1x128x8192 .f32} {arg8 : Memref sig .tc .vmem S1x512x2048 .f32}
  {arg9 : Memref sig .tc .vmem S1024x512 .bf16} {arg10 : Memref sig .tc .vmem S1x128x8192 .bf16} {arg11 : Memref sig .tc .vmem S1x512x2048 .bf16}
  {arg12 : Memref sig .tc .vmem S2x4x256x256 .f32} {arg13 : Memref sig .tc .vmem S2x4x256x256 .bf16}

/-- The rest of what the kernel holds: the triangle, the two weights' slabs and their casts, and the output rows. -/
def Fr (c : Dev nD) (arg6 : Memref sig .tc .vmem S256x256 .bf16) (arg7 : Memref sig .tc .vmem S1x128x8192 .f32) (arg8 : Memref sig .tc .vmem S1x512x2048 .f32)
    (arg9 : Memref sig .tc .vmem S1024x512 .bf16) (arg10 : Memref sig .tc .vmem S1x128x8192 .bf16) (arg11 : Memref sig .tc .vmem S1x512x2048 .bf16)
    (X6 : Vec F S256x256 .bf16) (X7 : Vec F S1x128x8192 .f32) (X8 : Vec F S1x512x2048 .f32) (X9 : Vec F S1024x512 .bf16) (X10 : Vec F S1x128x8192 .bf16) (X11 : Vec F S1x512x2048 .bf16) : sProp 𝕄 :=
  iprop(owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11)

variable {X3 : Vec F S1024x512 .bf16} {X4 X5 : Vec F S4096x512 .bf16} {X12 : Vec F S2x4x256x256 .f32} {X13 : Vec F S2x4x256x256 .bf16}
  {X6 : Vec F S256x256 .bf16} {X7 : Vec F S1x128x8192 .f32} {X8 : Vec F S1x512x2048 .f32} {X9 : Vec F S1024x512 .bf16} {X10 : Vec F S1x128x8192 .bf16} {X11 : Vec F S1x512x2048 .bf16}
  {α : Type}

/-- A load of the triangle. -/
theorem ld6 {o : Fin 2 → ℕ} {ib : ∀ a, o a + S256x256.size a ≤ S256x256.size a} {hl}
    {k : FVec F S256x256 .bf16 → Prog (TpuEff nD τ sig (Elt F) Λ₀ .tc) α} {Q : α → sProp 𝕄}
    (h : St c arg3 arg4 arg5 arg12 arg13 X3 X4 X5 X12 X13 (Fr c arg6 arg7 arg8 arg9 arg10 arg11 X6 X7 X8 X9 X10 X11) ⊢ WP c defs (k (window (s := S256x256) X6 o S256x256.size ib)) Q) :
    St c arg3 arg4 arg5 arg12 arg13 X3 X4 X5 X12 X13 (Fr c arg6 arg7 arg8 arg9 arg10 arg11 X6 X7 X8 X9 X10 X11) ⊢ WP c defs (.op (.load arg6 (Rect.unit (s := S256x256) o S256x256.size ib).toLoadRect hl) k) Q := by
  refine load_of (X := X6) (R := iprop(owns (c : Thread nD τ) arg3 fullShare X3 ∗ owns (c : Thread nD τ) arg4 fullShare X4 ∗ owns (c : Thread nD τ) arg5 fullShare X5 ∗ owns (c : Thread nD τ) arg12 fullShare X12 ∗ owns (c : Thread nD τ) arg13 fullShare X13 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11)) (by unfold St Fr; iintro ⟨A1, A2, A3, A4, A5, A6, A7, A8, A9, A10, A11⟩; iframe) (by unfold St Fr; iintro ⟨A1, A2, A3, A4, A5, A6, A7, A8, A9, A10, A11⟩; iframe) ?_
  exact h

/-- A load of the first weight's slab. -/
theorem ld7 {o : Fin 3 → ℕ} {ib : ∀ a, o a + S1x128x8192.size a ≤ S1x128x8192.size a} {hl}
    {k : FVec F S1x128x8192 .f32 → Prog (TpuEff nD τ sig (Elt F) Λ₀ .tc) α} {Q : α → sProp 𝕄}
    (h : St c arg3 arg4 arg5 arg12 arg13 X3 X4 X5 X12 X13 (Fr c arg6 arg7 arg8 arg9 arg10 arg11 X6 X7 X8 X9 X10 X11) ⊢ WP c defs (k (window (s := S1x128x8192) X7 o S1x128x8192.size ib)) Q) :
    St c arg3 arg4 arg5 arg12 arg13 X3 X4 X5 X12 X13 (Fr c arg6 arg7 arg8 arg9 arg10 arg11 X6 X7 X8 X9 X10 X11) ⊢ WP c defs (.op (.load arg7 (Rect.unit (s := S1x128x8192) o S1x128x8192.size ib).toLoadRect hl) k) Q := by
  refine load_of (X := X7) (R := iprop(owns (c : Thread nD τ) arg3 fullShare X3 ∗ owns (c : Thread nD τ) arg4 fullShare X4 ∗ owns (c : Thread nD τ) arg5 fullShare X5 ∗ owns (c : Thread nD τ) arg12 fullShare X12 ∗ owns (c : Thread nD τ) arg13 fullShare X13 ∗ owns (c : Thread nD τ) arg6 fullShare X6 ∗ owns (c : Thread nD τ) arg8 fullShare X8 ∗ owns (c : Thread nD τ) arg9 fullShare X9 ∗ owns (c : Thread nD τ) arg10 fullShare X10 ∗ owns (c : Thread nD τ) arg11 fullShare X11)) (by unfold St Fr; iintro ⟨A1, A2, A3, A4, A5, A6, A7, A8, A9, A10, A11⟩; iframe) (by unfold St Fr; iintro ⟨A1, A2, A3, A4, A5, A6, A7, A8, A9, A10, A11⟩; iframe) ?_
  exact h

/-- A load of the second weight's slab. -/
theorem ld8 {o : Fin 3 → ℕ} {ib : ∀ a, o a + S1x512x2048.size a ≤ S1x512x2048.size a} {hl}
    {k : FVec F S1x512x2048 .f32 → Prog (TpuEff nD τ sig (Elt F) Λ₀ .tc) α} {Q : α → sProp 𝕄}
    (h : St c arg3 arg4 arg5 arg12 arg13 X3 X4 X5 X12 X13 (Fr c arg6 arg7 arg8 arg9 arg10 arg11 X6 X7 X8 X9 X10 X11) ⊢ WP c defs (k (window (s := S1x512x2048) X8 o S1x512x2048.size ib)) Q) :
    St c arg3 arg4 arg5 arg12 arg13 X3 X4 X5 X12 X13 (Fr c arg6 arg7 arg8 arg9 arg10 arg11 X6 X7 X8 X9 X10 X11) ⊢ WP c defs (.op (.load arg8 (Rect.unit (s := S1x512x2048) o S1x512x2048.size ib).toLoadRect hl) k) Q := by
  refine load_of (X := X8) (R := iprop(owns (c : Thread nD τ) arg3 fullShare X3 ∗ owns (c : Thread nD τ) arg4 fullShare X4 ∗ owns (c : Thread nD τ) arg5 fullShare X5 ∗ owns (c : Thread nD τ) arg12 fullShare X12 ∗ owns (c : Thread nD τ) arg13 fullShare X13 ∗ owns (c : Thread nD τ) arg6 fullShare X6 ∗ owns (c : Thread nD τ) arg7 fullShare X7 ∗ owns (c : Thread nD τ) arg9 fullShare X9 ∗ owns (c : Thread nD τ) arg10 fullShare X10 ∗ owns (c : Thread nD τ) arg11 fullShare X11)) (by unfold St Fr; iintro ⟨A1, A2, A3, A4, A5, A6, A7, A8, A9, A10, A11⟩; iframe) (by unfold St Fr; iintro ⟨A1, A2, A3, A4, A5, A6, A7, A8, A9, A10, A11⟩; iframe) ?_
  exact h

/-- A load of the output rows. -/
theorem ld9 {o : Fin 2 → ℕ} {ib : ∀ a, o a + S256x128.size a ≤ S1024x512.size a} {hl}
    {k : FVec F S256x128 .bf16 → Prog (TpuEff nD τ sig (Elt F) Λ₀ .tc) α} {Q : α → sProp 𝕄}
    (h : St c arg3 arg4 arg5 arg12 arg13 X3 X4 X5 X12 X13 (Fr c arg6 arg7 arg8 arg9 arg10 arg11 X6 X7 X8 X9 X10 X11) ⊢ WP c defs (k (window (s := S1024x512) X9 o S256x128.size ib)) Q) :
    St c arg3 arg4 arg5 arg12 arg13 X3 X4 X5 X12 X13 (Fr c arg6 arg7 arg8 arg9 arg10 arg11 X6 X7 X8 X9 X10 X11) ⊢ WP c defs (.op (.load arg9 (Rect.unit (s := S1024x512) o S256x128.size ib).toLoadRect hl) k) Q := by
  refine load_of (X := X9) (R := iprop(owns (c : Thread nD τ) arg3 fullShare X3 ∗ owns (c : Thread nD τ) arg4 fullShare X4 ∗ owns (c : Thread nD τ) arg5 fullShare X5 ∗ owns (c : Thread nD τ) arg12 fullShare X12 ∗ owns (c : Thread nD τ) arg13 fullShare X13 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11)) (by unfold St Fr; iintro ⟨A1, A2, A3, A4, A5, A6, A7, A8, A9, A10, A11⟩; iframe) (by unfold St Fr; iintro ⟨A1, A2, A3, A4, A5, A6, A7, A8, A9, A10, A11⟩; iframe) ?_
  exact h

/-- A load of the first cast. -/
theorem ld10 {o : Fin 3 → ℕ} {ib : ∀ a, o a + S1x128x8192.size a ≤ S1x128x8192.size a} {hl}
    {k : FVec F S1x128x8192 .bf16 → Prog (TpuEff nD τ sig (Elt F) Λ₀ .tc) α} {Q : α → sProp 𝕄}
    (h : St c arg3 arg4 arg5 arg12 arg13 X3 X4 X5 X12 X13 (Fr c arg6 arg7 arg8 arg9 arg10 arg11 X6 X7 X8 X9 X10 X11) ⊢ WP c defs (k (window (s := S1x128x8192) X10 o S1x128x8192.size ib)) Q) :
    St c arg3 arg4 arg5 arg12 arg13 X3 X4 X5 X12 X13 (Fr c arg6 arg7 arg8 arg9 arg10 arg11 X6 X7 X8 X9 X10 X11) ⊢ WP c defs (.op (.load arg10 (Rect.unit (s := S1x128x8192) o S1x128x8192.size ib).toLoadRect hl) k) Q := by
  refine load_of (X := X10) (R := iprop(owns (c : Thread nD τ) arg3 fullShare X3 ∗ owns (c : Thread nD τ) arg4 fullShare X4 ∗ owns (c : Thread nD τ) arg5 fullShare X5 ∗ owns (c : Thread nD τ) arg12 fullShare X12 ∗ owns (c : Thread nD τ) arg13 fullShare X13 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg11 fullShare X11)) (by unfold St Fr; iintro ⟨A1, A2, A3, A4, A5, A6, A7, A8, A9, A10, A11⟩; iframe) (by unfold St Fr; iintro ⟨A1, A2, A3, A4, A5, A6, A7, A8, A9, A10, A11⟩; iframe) ?_
  exact h

/-- A load of the second cast. -/
theorem ld11 {o : Fin 3 → ℕ} {ib : ∀ a, o a + S1x512x2048.size a ≤ S1x512x2048.size a} {hl}
    {k : FVec F S1x512x2048 .bf16 → Prog (TpuEff nD τ sig (Elt F) Λ₀ .tc) α} {Q : α → sProp 𝕄}
    (h : St c arg3 arg4 arg5 arg12 arg13 X3 X4 X5 X12 X13 (Fr c arg6 arg7 arg8 arg9 arg10 arg11 X6 X7 X8 X9 X10 X11) ⊢ WP c defs (k (window (s := S1x512x2048) X11 o S1x512x2048.size ib)) Q) :
    St c arg3 arg4 arg5 arg12 arg13 X3 X4 X5 X12 X13 (Fr c arg6 arg7 arg8 arg9 arg10 arg11 X6 X7 X8 X9 X10 X11) ⊢ WP c defs (.op (.load arg11 (Rect.unit (s := S1x512x2048) o S1x512x2048.size ib).toLoadRect hl) k) Q := by
  refine load_of (X := X11) (R := iprop(owns (c : Thread nD τ) arg3 fullShare X3 ∗ owns (c : Thread nD τ) arg4 fullShare X4 ∗ owns (c : Thread nD τ) arg5 fullShare X5 ∗ owns (c : Thread nD τ) arg12 fullShare X12 ∗ owns (c : Thread nD τ) arg13 fullShare X13 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10)) (by unfold St Fr; iintro ⟨A1, A2, A3, A4, A5, A6, A7, A8, A9, A10, A11⟩; iframe) (by unfold St Fr; iintro ⟨A1, A2, A3, A4, A5, A6, A7, A8, A9, A10, A11⟩; iframe) ?_
  exact h

/-- A store to the output rows. -/
theorem st9 {o : Fin 2 → ℕ} {ib : ∀ a, o a + S256x128.size a ≤ S1024x512.size a} {w : FVec F S256x128 .bf16} {hx hm}
    {k : PUnit → Prog (TpuEff nD τ sig (Elt F) Λ₀ .tc) α} {Q : α → sProp 𝕄}
    (h : St c arg3 arg4 arg5 arg12 arg13 X3 X4 X5 X12 X13 (Fr c arg6 arg7 arg8 arg9 arg10 arg11 X6 X7 X8 (put (s := S1024x512) X9 o S256x128.size w) X10 X11) ⊢ WP c defs (k ⟨⟩) Q) :
    St c arg3 arg4 arg5 arg12 arg13 X3 X4 X5 X12 X13 (Fr c arg6 arg7 arg8 arg9 arg10 arg11 X6 X7 X8 X9 X10 X11) ⊢ WP c defs (.op (.store arg9 (Rect.unit (s := S1024x512) o S256x128.size ib) w Finset.univ hx hm) k) Q := by
  refine store_of (X := X9) (P' := St c arg3 arg4 arg5 arg12 arg13 X3 X4 X5 X12 X13 (Fr c arg6 arg7 arg8 arg9 arg10 arg11 X6 X7 X8 (put (s := S1024x512) X9 o S256x128.size w) X10 X11)) (R := iprop(owns (c : Thread nD τ) arg3 fullShare X3 ∗ owns (c : Thread nD τ) arg4 fullShare X4 ∗ owns (c : Thread nD τ) arg5 fullShare X5 ∗ owns (c : Thread nD τ) arg12 fullShare X12 ∗ owns (c : Thread nD τ) arg13 fullShare X13 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11)) (by unfold St Fr; iintro ⟨A1, A2, A3, A4, A5, A6, A7, A8, A9, A10, A11⟩; iframe) (by unfold St Fr; iintro ⟨A1, A2, A3, A4, A5, A6, A7, A8, A9, A10, A11⟩; iframe) ?_
  exact h

/-- A store of the first cast. -/
theorem st10 {o : Fin 3 → ℕ} {ib : ∀ a, o a + S1x128x8192.size a ≤ S1x128x8192.size a} {w : FVec F S1x128x8192 .bf16} {hx hm}
    {k : PUnit → Prog (TpuEff nD τ sig (Elt F) Λ₀ .tc) α} {Q : α → sProp 𝕄}
    (h : St c arg3 arg4 arg5 arg12 arg13 X3 X4 X5 X12 X13 (Fr c arg6 arg7 arg8 arg9 arg10 arg11 X6 X7 X8 X9 (put (s := S1x128x8192) X10 o S1x128x8192.size w) X11) ⊢ WP c defs (k ⟨⟩) Q) :
    St c arg3 arg4 arg5 arg12 arg13 X3 X4 X5 X12 X13 (Fr c arg6 arg7 arg8 arg9 arg10 arg11 X6 X7 X8 X9 X10 X11) ⊢ WP c defs (.op (.store arg10 (Rect.unit (s := S1x128x8192) o S1x128x8192.size ib) w Finset.univ hx hm) k) Q := by
  refine store_of (X := X10) (P' := St c arg3 arg4 arg5 arg12 arg13 X3 X4 X5 X12 X13 (Fr c arg6 arg7 arg8 arg9 arg10 arg11 X6 X7 X8 X9 (put (s := S1x128x8192) X10 o S1x128x8192.size w) X11)) (R := iprop(owns (c : Thread nD τ) arg3 fullShare X3 ∗ owns (c : Thread nD τ) arg4 fullShare X4 ∗ owns (c : Thread nD τ) arg5 fullShare X5 ∗ owns (c : Thread nD τ) arg12 fullShare X12 ∗ owns (c : Thread nD τ) arg13 fullShare X13 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg11 fullShare X11)) (by unfold St Fr; iintro ⟨A1, A2, A3, A4, A5, A6, A7, A8, A9, A10, A11⟩; iframe) (by unfold St Fr; iintro ⟨A1, A2, A3, A4, A5, A6, A7, A8, A9, A10, A11⟩; iframe) ?_
  exact h

/-- A store of the second cast. -/
theorem st11 {o : Fin 3 → ℕ} {ib : ∀ a, o a + S1x512x2048.size a ≤ S1x512x2048.size a} {w : FVec F S1x512x2048 .bf16} {hx hm}
    {k : PUnit → Prog (TpuEff nD τ sig (Elt F) Λ₀ .tc) α} {Q : α → sProp 𝕄}
    (h : St c arg3 arg4 arg5 arg12 arg13 X3 X4 X5 X12 X13 (Fr c arg6 arg7 arg8 arg9 arg10 arg11 X6 X7 X8 X9 X10 (put (s := S1x512x2048) X11 o S1x512x2048.size w)) ⊢ WP c defs (k ⟨⟩) Q) :
    St c arg3 arg4 arg5 arg12 arg13 X3 X4 X5 X12 X13 (Fr c arg6 arg7 arg8 arg9 arg10 arg11 X6 X7 X8 X9 X10 X11) ⊢ WP c defs (.op (.store arg11 (Rect.unit (s := S1x512x2048) o S1x512x2048.size ib) w Finset.univ hx hm) k) Q := by
  refine store_of (X := X11) (P' := St c arg3 arg4 arg5 arg12 arg13 X3 X4 X5 X12 X13 (Fr c arg6 arg7 arg8 arg9 arg10 arg11 X6 X7 X8 X9 X10 (put (s := S1x512x2048) X11 o S1x512x2048.size w))) (R := iprop(owns (c : Thread nD τ) arg3 fullShare X3 ∗ owns (c : Thread nD τ) arg4 fullShare X4 ∗ owns (c : Thread nD τ) arg5 fullShare X5 ∗ owns (c : Thread nD τ) arg12 fullShare X12 ∗ owns (c : Thread nD τ) arg13 fullShare X13 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10)) (by unfold St Fr; iintro ⟨A1, A2, A3, A4, A5, A6, A7, A8, A9, A10, A11⟩; iframe) (by unfold St Fr; iintro ⟨A1, A2, A3, A4, A5, A6, A7, A8, A9, A10, A11⟩; iframe) ?_
  exact h

end Frame

/-! ## The state after each tile -/

/-- Tile `t` of sub-tile `j`, head `h`, as the first scratch array holds it; tile 0 lies on the diagonal, at key tile `qi`. -/
def tA (X3 : Vec F S1024x512 .bf16) (X4 : Vec F S4096x512 .bf16) (j qi : ℕ) : ℕ → ℕ → FVec F S1x1x256x256 .f32
  | 0 => fun h => aD (zT (qW X3 j h) (kW X4 qi h))
  | t + 1 => fun h => aP (zT (qW X3 j h) (kW X4 (qi - (t + 1)) h))

/-- Tile `t` of sub-tile `j`, head `h`, as the second scratch array holds it. -/
def tB (X3 : Vec F S1024x512 .bf16) (X4 : Vec F S4096x512 .bf16) (j qi : ℕ) : ℕ → ℕ → FVec F S1x1x256x256 .bf16
  | 0 => fun h => bD (zT (qW X3 j h) (kW X4 qi h))
  | t + 1 => fun h => bP (zT (qW X3 j h) (kW X4 (qi - (t + 1)) h))

/-- The triangle as the products use it. -/
def uW (X6 : Vec F S256x256 .bf16) : FVec F S256x256 .bf16 :=
  shapeCast S256x256 (window (s := S256x256) X6 ![0, 0] S256x256.size inb_S256x256_S256x256_0_0) shapeCasts_S256x256_S256x256

/-- The sums of the second array's tile over the later columns. -/
def sufT (b : FVec F S1x1x256x256 .bf16) (u : FVec F S256x256 .bf16) : FVec F S256x256 .f32 :=
  matmul dot_S256x256_S256x256_S256x256_1_0_0_1_n_n none (shapeCast S256x256 b shapeCasts_S1x1x256x256_S256x256) u (constant S256x256 .f32 0x00000000#32)

/-- The carry after a tile: with the tile's row sums added. -/
def cyT (b : FVec F S1x1x256x256 .bf16) (u : FVec F S256x256 .bf16) (cy : FVec F S256x1 .f32) : FVec F S256x1 .f32 :=
  addf (addf cy (extractStridedSlice S256x1 ![0, 0] (sufT b u) slices_S256x256_o0_0_S256x1))
    (extf .f32 (extractStridedSlice S256x1 ![0, 0] (shapeCast S256x256 b shapeCasts_S1x1x256x256_S256x256) slices_S256x256_o0_0_S256x1) bitsLt_bf16_f32)

/-- The accumulator after a tile: with the tile's weighted values added. -/
def acT (a : FVec F S1x1x256x256 .f32) (b : FVec F S1x1x256x256 .bf16) (v : FVec F S256x128 .bf16) (u : FVec F S256x256 .bf16) (cy : FVec F S256x1 .f32) (ac : FVec F S256x128 .f32) : FVec F S256x128 .f32 :=
  addf ac (matmul dot_S256x256_S256x128_S256x128_1_0_0_1_n_n none
    (truncf .bf16 (exp2 (addf (addf (shapeCast S256x256 a shapeCasts_S1x1x256x256_S256x256) (sufT b u)) (broadcastTo S256x256 cy broadcasts_S256x1_S256x256))) bitsLt_bf16_f32)
    (shapeCast S256x128 v shapeCasts_S256x128_S256x128) (constant S256x128 .f32 0x00000000#32))

/-- The carry and the accumulator of head `h` of sub-tile `j` after its first `t` tiles. -/
def hd (X3 : Vec F S1024x512 .bf16) (X4 X5 : Vec F S4096x512 .bf16) (X6 : Vec F S256x256 .bf16) (j qi h : ℕ) : ℕ → FVec F S256x1 .f32 × FVec F S256x128 .f32
  | 0 => (broadcast S256x1 (Scalar.ofBits .f32 0x00000000#32), broadcast S256x128 (Scalar.ofBits .f32 0x00000000#32))
  | t + 1 =>
    (cyT (tB X3 X4 j qi t h) (uW X6) (hd X3 X4 X5 X6 j qi h t).1,
      acT (tA X3 X4 j qi t h) (tB X3 X4 j qi t h) (kW X5 (qi - t) h) (uW X6) (hd X3 X4 X5 X6 j qi h t).1 (hd X3 X4 X5 X6 j qi h t).2)

/-- What the loops carry: four carries and four accumulators. -/
abbrev T8 (F : FTy → Type) := FVec F S256x1 .f32 × FVec F S256x1 .f32 × FVec F S256x1 .f32 × FVec F S256x1 .f32 × FVec F S256x128 .f32 × FVec F S256x128 .f32 × FVec F S256x128 .f32 × FVec F S256x128 .f32

/-- The carried values after `t` tiles. -/
def stt (X3 : Vec F S1024x512 .bf16) (X4 X5 : Vec F S4096x512 .bf16) (X6 : Vec F S256x256 .bf16) (j qi t : ℕ) : T8 F :=
  ((hd X3 X4 X5 X6 j qi 0 t).1, (hd X3 X4 X5 X6 j qi 1 t).1, (hd X3 X4 X5 X6 j qi 2 t).1, (hd X3 X4 X5 X6 j qi 3 t).1,
    (hd X3 X4 X5 X6 j qi 0 t).2, (hd X3 X4 X5 X6 j qi 1 t).2, (hd X3 X4 X5 X6 j qi 2 t).2, (hd X3 X4 X5 X6 j qi 3 t).2)

/-! ## The output rows -/

theorem has_any (X12 : Vec F S2x4x256x256 .f32) (X13 : Vec F S2x4x256x256 .bf16) (s : ℕ) : ∃ A B, Has X12 X13 s A B :=
  ⟨fun h => window (s := S2x4x256x256) X12 ![s % 2, h % 4, 0, 0] S1x1x256x256.size (bnd_s s h), fun h => window (s := S2x4x256x256) X13 ![s % 2, h % 4, 0, 0] S1x1x256x256.size (bnd_s s h), fun _ _ => ⟨rfl, rfl⟩⟩

/-- The first `n` sub-tiles of the output rows are those of `P`, by sub-tile and head. -/
def HasO (X9 : Vec F S1024x512 .bf16) (n : ℕ) (P : ℕ → ℕ → FVec F S256x128 .bf16) : Prop := ∀ j < n, ∀ h < 4, qW X9 j h = P j h

/-- The output rows of sub-tile `j`, head `h`, at grid column `a`. -/
def outT (X3 : Vec F S1024x512 .bf16) (X4 X5 : Vec F S4096x512 .bf16) (X6 : Vec F S256x256 .bf16) (a j h : ℕ) : FVec F S256x128 .bf16 :=
  truncf .bf16 (hd X3 X4 X5 X6 j (4 * a + j) h (j + 4 * a + 1)).2 bitsLt_bf16_f32

/-- Four heads of sub-tile `j` put in the output rows. -/
theorem hasO_put4 {X9 : Vec F S1024x512 .bf16} {P : ℕ → ℕ → FVec F S256x128 .bf16} (j : ℕ) (hj : j < 4) (H : HasO X9 j P)
    {o0 o1 o2 o3 : Fin 2 → ℕ} {w0 w1 w2 w3 : FVec F S256x128 .bf16}
    (h0 : o0 = ![256 * (j % 4), 128 * (0 % 4)]) (h1 : o1 = ![256 * (j % 4), 128 * (1 % 4)]) (h2 : o2 = ![256 * (j % 4), 128 * (2 % 4)]) (h3 : o3 = ![256 * (j % 4), 128 * (3 % 4)])
    (e0 : w0 = P j 0) (e1 : w1 = P j 1) (e2 : w2 = P j 2) (e3 : w3 = P j 3) :
    HasO (put (s := S1024x512) (put (s := S1024x512) (put (s := S1024x512) (put (s := S1024x512) X9 o0 S256x128.size w0) o1 S256x128.size w1) o2 S256x128.size w2) o3 S256x128.size w3) (j + 1) P := by
  subst h0 h1 h2 h3 e0 e1 e2 e3
  intro j' hj' h hh
  have d : ∀ a b : ℕ, a < 4 → b < 4 → a ≠ b → (![256 * (j % 4), 128 * (b % 4)] : Fin 2 → ℕ) 1 + S256x128.size 1 ≤ (![256 * (j % 4), 128 * (a % 4)] : Fin 2 → ℕ) 1 ∨ (![256 * (j % 4), 128 * (a % 4)] : Fin 2 → ℕ) 1 + S256x128.size 1 ≤ (![256 * (j % 4), 128 * (b % 4)] : Fin 2 → ℕ) 1 := by
    intro a b ha hb hab
    rw [show S256x128.size 1 = 128 from rfl]
    simp only [Matrix.cons_val_one, Matrix.cons_val_zero]
    omega
  rcases Nat.lt_succ_iff_lt_or_eq.mp hj' with hlt | rfl
  · have dd : ∀ a : ℕ, (![256 * (j' % 4), 128 * (h % 4)] : Fin 2 → ℕ) 0 + S256x128.size 0 ≤ (![256 * (j % 4), 128 * (a % 4)] : Fin 2 → ℕ) 0 ∨ (![256 * (j % 4), 128 * (a % 4)] : Fin 2 → ℕ) 0 + S256x128.size 0 ≤ (![256 * (j' % 4), 128 * (h % 4)] : Fin 2 → ℕ) 0 := by
      intro a
      rw [show S256x128.size 0 = 256 from rfl]
      simp only [Matrix.cons_val_one, Matrix.cons_val_zero]
      omega
    unfold qW
    rw [window_put_of_disjoint (s := S1024x512) _ _ _ _ _ _ _ 0 (dd 3), window_put_of_disjoint (s := S1024x512) _ _ _ _ _ _ _ 0 (dd 2),
      window_put_of_disjoint (s := S1024x512) _ _ _ _ _ _ _ 0 (dd 1), window_put_of_disjoint (s := S1024x512) _ _ _ _ _ _ _ 0 (dd 0)]
    exact H j' hlt h hh
  · unfold qW
    interval_cases h
    · rw [window_put_of_disjoint (s := S1024x512) _ _ _ _ _ _ _ 1 (d 3 0 (by decide) (by decide) (by decide)), window_put_of_disjoint (s := S1024x512) _ _ _ _ _ _ _ 1 (d 2 0 (by decide) (by decide) (by decide)),
        window_put_of_disjoint (s := S1024x512) _ _ _ _ _ _ _ 1 (d 1 0 (by decide) (by decide) (by decide)), window_put_same (s := S1024x512)]
    · rw [window_put_of_disjoint (s := S1024x512) _ _ _ _ _ _ _ 1 (d 3 1 (by decide) (by decide) (by decide)), window_put_of_disjoint (s := S1024x512) _ _ _ _ _ _ _ 1 (d 2 1 (by decide) (by decide) (by decide)),
        window_put_same (s := S1024x512)]
    · rw [window_put_of_disjoint (s := S1024x512) _ _ _ _ _ _ _ 1 (d 3 2 (by decide) (by decide) (by decide)), window_put_same (s := S1024x512)]
    · rw [window_put_same (s := S1024x512)]

/-- The window of a whole array is the array. -/
theorem window_all {s : Shape} {α : Type} (x : s.Idx → α) (o : Fin s.rank → ℕ) (ho : ∀ a, o a = 0) (ib : ∀ a, o a + s.size a ≤ s.size a) : window (s := s) x o s.size ib = x := by
  funext y
  unfold window
  congr 1
  funext a
  apply Fin.ext
  simp [ho]

/-- A whole array put is the payload. -/
theorem put_all {s : Shape} {α : Type} (x : s.Idx → α) (o : Fin s.rank → ℕ) (ho : ∀ a, o a = 0) (w : s.Idx → α) : put (s := s) x o s.size w = w := by
  have h := window_put_same (s := s) x o s.size (fun a => by rw [ho]; omega) w
  rw [window_all (s := s) _ o ho] at h
  exact h

/-! ## Control flow -/

section Control

variable {arg3 : Memref sig .tc .vmem S1024x512 .bf16} {arg4 arg5 : Memref sig .tc .vmem S4096x512 .bf16}
  {arg12 : Memref sig .tc .vmem S2x4x256x256 .f32} {arg13 : Memref sig .tc .vmem S2x4x256x256 .bf16}

/-- What a trip leaves: after `t` tiles the carried values are those, the first slot holds tile `t`, and the second slot holds anything. -/
def Post (c : Dev nD) (arg3 : Memref sig .tc .vmem S1024x512 .bf16) (arg4 arg5 : Memref sig .tc .vmem S4096x512 .bf16)
    (arg12 : Memref sig .tc .vmem S2x4x256x256 .f32) (arg13 : Memref sig .tc .vmem S2x4x256x256 .bf16)
    (X3 : Vec F S1024x512 .bf16) (X4 X5 : Vec F S4096x512 .bf16) (X6 : Vec F S256x256 .bf16) (R : sProp 𝕄) (j qi t : ℕ) (acc : T8 F) : sProp 𝕄 :=
  iprop(∃ X12 : Vec F S2x4x256x256 .f32, ∃ X13 : Vec F S2x4x256x256 .bf16,
    ⌜Has X12 X13 0 (tA X3 X4 j qi t) (tB X3 X4 j qi t) ∧ (∃ A B, Has X12 X13 1 A B) ∧ acc = stt X3 X4 X5 X6 j qi t⌝ ∗ St c arg3 arg4 arg5 arg12 arg13 X3 X4 X5 X12 X13 R)

variable {X3 : Vec F S1024x512 .bf16} {X4 X5 : Vec F S4096x512 .bf16} {X6 : Vec F S256x256 .bf16} {X12 : Vec F S2x4x256x256 .f32} {X13 : Vec F S2x4x256x256 .bf16}

/-- The end of a trip. -/
theorem ret_post {R : sProp 𝕄} {j qi t : ℕ} {acc : T8 F} {A : ℕ → FVec F S1x1x256x256 .f32} {B : ℕ → FVec F S1x1x256x256 .bf16}
    (H0 : Has X12 X13 0 (tA X3 X4 j qi t) (tB X3 X4 j qi t)) (H1 : Has X12 X13 1 A B) (ha : acc = stt X3 X4 X5 X6 j qi t) :
    St c arg3 arg4 arg5 arg12 arg13 X3 X4 X5 X12 X13 R ⊢ WP c defs (.ret acc) (Post c arg3 arg4 arg5 arg12 arg13 X3 X4 X5 X6 R j qi t) := by
  unfold WP
  rw [wp_ret]
  iintro H
  imodintro
  unfold Post
  iexists X12, X13
  isplitr
  · ipureintro; exact ⟨H0, ⟨A, B, H1⟩, ha⟩
  · iexact H

/-- A sub-tile's main loop, four tiles a trip, at the head of three nested sequences. -/
theorem loopSt {β γ δ : Type} {l : Scf.Loop 32} {ok : l.OK} {init : T8 F} {body : Fin l.trips → T8 F → Prog (TpuEff nD τ sig (Elt F) Λ₀ .tc) (T8 F)}
    {k1 : T8 F → Prog (TpuEff nD τ sig (Elt F) Λ₀ .tc) β} {k2 : β → Prog (TpuEff nD τ sig (Elt F) Λ₀ .tc) γ} {k3 : γ → Prog (TpuEff nD τ sig (Elt F) Λ₀ .tc) δ}
    {R : sProp 𝕄} {Q : δ → sProp 𝕄} (j qi n : ℕ) (hn : l.trips = n)
    {A : ℕ → FVec F S1x1x256x256 .f32} {B : ℕ → FVec F S1x1x256x256 .bf16}
    (H0 : Has X12 X13 0 (tA X3 X4 j qi j) (tB X3 X4 j qi j)) (H1 : Has X12 X13 1 A B) (hi : init = stt X3 X4 X5 X6 j qi j)
    (hb : ∀ (k : Fin l.trips) (X12 : Vec F S2x4x256x256 .f32) (X13 : Vec F S2x4x256x256 .bf16) (A : ℕ → FVec F S1x1x256x256 .f32) (B : ℕ → FVec F S1x1x256x256 .bf16),
      Has X12 X13 0 (tA X3 X4 j qi (j + 4 * k.val)) (tB X3 X4 j qi (j + 4 * k.val)) → Has X12 X13 1 A B →
      St c arg3 arg4 arg5 arg12 arg13 X3 X4 X5 X12 X13 R ⊢ WP c defs (body k (stt X3 X4 X5 X6 j qi (j + 4 * k.val))) (Post c arg3 arg4 arg5 arg12 arg13 X3 X4 X5 X6 R j qi (j + 4 * k.val + 4)))
    (h : ∀ (X12 : Vec F S2x4x256x256 .f32) (X13 : Vec F S2x4x256x256 .bf16) (A : ℕ → FVec F S1x1x256x256 .f32) (B : ℕ → FVec F S1x1x256x256 .bf16),
      Has X12 X13 0 (tA X3 X4 j qi (j + 4 * n)) (tB X3 X4 j qi (j + 4 * n)) → Has X12 X13 1 A B →
      St c arg3 arg4 arg5 arg12 arg13 X3 X4 X5 X12 X13 R ⊢ WP c defs ((k1 (stt X3 X4 X5 X6 j qi (j + 4 * n)) >>= k2) >>= k3) Q) :
    St c arg3 arg4 arg5 arg12 arg13 X3 X4 X5 X12 X13 R ⊢ WP c defs (((Scf.Loop.for l ok init body >>= k1) >>= k2) >>= k3) Q := by
  subst hn hi
  have e : (((Scf.Loop.for l ok (stt X3 X4 X5 X6 j qi j) body >>= k1) >>= k2) >>= k3) = (Scf.Loop.for l ok (stt X3 X4 X5 X6 j qi j) body >>= fun a => (k1 a >>= k2) >>= k3) := by
    simp only [bind_assoc]
  rw [e]
  unfold WP
  rw [wp_bind]
  refine BIBase.Entails.trans ?_ (Scf.wp_for frame (wpE defs Variants.none (c : Thread nD τ) none) Set.univ l.lb l.ub l.st ok (stt X3 X4 X5 X6 j qi j) body
    (fun k acc => Post c arg3 arg4 arg5 arg12 arg13 X3 X4 X5 X6 R j qi (j + 4 * k) acc) ?_)
  · iintro HS
    isplitl [HS]
    · unfold Post
      iexists X12, X13
      isplitr
      · ipureintro; exact ⟨H0, ⟨A, B, H1⟩, rfl⟩
      · iexact HS
    · iintro %acc HP
      unfold Post
      icases HP with ⟨%Y12, %Y13, %hp, HS⟩
      obtain ⟨h0, ⟨A', B', h1⟩, rfl⟩ := hp
      iapply (h Y12 Y13 A' B' h0 h1)
      iexact HS
  · intro k acc
    unfold Post
    iintro ⟨%Y12, %Y13, %hp, HS⟩
    obtain ⟨h0, ⟨A', B', h1⟩, rfl⟩ := hp
    iapply (hb k Y12 Y13 A' B' h0 h1)
    iexact HS

/-- A finished region at the head of three nested sequences. -/
theorem pure3 {α β γ δ : Type} {a : α} {k1 : α → Prog (TpuEff nD τ sig (Elt F) Λ₀ .tc) β} {k2 : β → Prog (TpuEff nD τ sig (Elt F) Λ₀ .tc) γ} {k3 : γ → Prog (TpuEff nD τ sig (Elt F) Λ₀ .tc) δ}
    {P : sProp 𝕄} {Q : δ → sProp 𝕄} (h : P ⊢ WP c defs ((k1 a >>= k2) >>= k3) Q) :
    P ⊢ WP c defs ((((pure a : Prog (TpuEff nD τ sig (Elt F) Λ₀ .tc) α) >>= k1) >>= k2) >>= k3) Q := h

/-- A finished part at the head of two nested sequences. -/
theorem pure2 {α β γ : Type} {a : α} {k1 : α → Prog (TpuEff nD τ sig (Elt F) Λ₀ .tc) β} {k2 : β → Prog (TpuEff nD τ sig (Elt F) Λ₀ .tc) γ}
    {P : sProp 𝕄} {Q : γ → sProp 𝕄} (h : P ⊢ WP c defs (k1 a >>= k2) Q) :
    P ⊢ WP c defs (((pure a : Prog (TpuEff nD τ sig (Elt F) Λ₀ .tc) α) >>= k1) >>= k2) Q := h

/-- A loop of no trips gives its initial values. -/
theorem loop_zero {l : Scf.Loop 32} {ok : l.OK} {σ : Type} {init : σ} {body : Fin l.trips → σ → Prog (TpuEff nD τ sig (Elt F) Λ₀ .tc) σ} (h : l.trips = 0) :
    Scf.Loop.for l ok init body = pure init := by
  have e : ∀ (n : ℕ) (b : Fin n → σ → Prog (TpuEff nD τ sig (Elt F) Λ₀ .tc) σ), n = 0 → Scf.forFrom b (List.finRange n) init = pure init := by
    intro n b hn; subst hn; rfl
  exact (Scf.for_eq ..).trans (e _ body h)

end Control

end Cert.Att

end
-- ==== Proof.Offs.lean ====
module

public import proofs.«01_k».proof.Proof.Gen.KernelIdeal

@[expose] public section

noncomputable section

/-! The tile offsets and trip counts of the kernel as plain numbers. With `a` the third grid coordinate, sub-tile `j` is query tile
`4a + j`; its main loop makes `a` trips of four tiles, and its tile `t` is key tile `4a + j - t`. -/

namespace Cert.Att

open Cert.KernelIdeal
open Idealize.ShloMosaic

theorem trips1 (i : grid0.Coords) : (k0_t1_loop i).trips = (i 2).val := by revert i; decide +kernel

theorem trips3 (i : grid0.Coords) : (k0_t3_loop i).trips = (i 2).val := by revert i; decide +kernel

theorem trips5 (i : grid0.Coords) : (k0_t5_loop i).trips = (i 2).val := by revert i; decide +kernel

theorem trips7 (i : grid0.Coords) : (k0_t7_loop i).trips = (i 2).val := by revert i; decide +kernel

theorem trips2 (i : grid0.Coords) : (k0_t2_loop i).trips = 0 := by revert i; decide +kernel

theorem trips4 (i : grid0.Coords) : (k0_t4_loop i).trips = 0 := by revert i; decide +kernel

theorem trips6 (i : grid0.Coords) : (k0_t6_loop i).trips = 0 := by revert i; decide +kernel

theorem trips8 (i : grid0.Coords) : (k0_t8_loop i).trips = 0 := by revert i; decide +kernel

theorem cond1 (i : grid0.Coords) : k0_cond1 i = 1#1 := by revert i; decide +kernel

theorem cond2 (i : grid0.Coords) : ¬ k0_cond2 i = 1#1 := by revert i; decide +kernel

theorem cond3 (i : grid0.Coords) : ¬ k0_cond3 i = 1#1 := by revert i; decide +kernel

theorem cond4 (i : grid0.Coords) : k0_cond4 i = 1#1 := by revert i; decide +kernel

theorem cond5 (i : grid0.Coords) : k0_cond5 i = 1#1 := by revert i; decide +kernel

theorem off1_0 (i : grid0.Coords) : k0_off1 i 0#32 = ![256 * ((4 * (i 2).val + 0) % 16), 128 * (0 % 4)] := by revert i; decide +kernel

theorem off2_0 (i : grid0.Coords) : k0_off2 i 0#32 = ![256 * ((4 * (i 2).val + 0) % 16), 128 * (1 % 4)] := by revert i; decide +kernel

theorem off3_0 (i : grid0.Coords) : k0_off3 i 0#32 = ![256 * ((4 * (i 2).val + 0) % 16), 128 * (2 % 4)] := by revert i; decide +kernel

theorem off4_0 (i : grid0.Coords) : k0_off4 i 0#32 = ![256 * ((4 * (i 2).val + 0) % 16), 128 * (3 % 4)] := by revert i; decide +kernel

theorem off1_1 (i : grid0.Coords) : k0_off1 i 1#32 = ![256 * ((4 * (i 2).val + 1) % 16), 128 * (0 % 4)] := by revert i; decide +kernel

theorem off2_1 (i : grid0.Coords) : k0_off2 i 1#32 = ![256 * ((4 * (i 2).val + 1) % 16), 128 * (1 % 4)] := by revert i; decide +kernel

theorem off3_1 (i : grid0.Coords) : k0_off3 i 1#32 = ![256 * ((4 * (i 2).val + 1) % 16), 128 * (2 % 4)] := by revert i; decide +kernel

theorem off4_1 (i : grid0.Coords) : k0_off4 i 1#32 = ![256 * ((4 * (i 2).val + 1) % 16), 128 * (3 % 4)] := by revert i; decide +kernel

theorem off1_2 (i : grid0.Coords) : k0_off1 i 2#32 = ![256 * ((4 * (i 2).val + 2) % 16), 128 * (0 % 4)] := by revert i; decide +kernel

theorem off2_2 (i : grid0.Coords) : k0_off2 i 2#32 = ![256 * ((4 * (i 2).val + 2) % 16), 128 * (1 % 4)] := by revert i; decide +kernel

theorem off3_2 (i : grid0.Coords) : k0_off3 i 2#32 = ![256 * ((4 * (i 2).val + 2) % 16), 128 * (2 % 4)] := by revert i; decide +kernel

theorem off4_2 (i : grid0.Coords) : k0_off4 i 2#32 = ![256 * ((4 * (i 2).val + 2) % 16), 128 * (3 % 4)] := by revert i; decide +kernel

theorem off1_3 (i : grid0.Coords) : k0_off1 i 3#32 = ![256 * ((4 * (i 2).val + 3) % 16), 128 * (0 % 4)] := by revert i; decide +kernel

theorem off2_3 (i : grid0.Coords) : k0_off2 i 3#32 = ![256 * ((4 * (i 2).val + 3) % 16), 128 * (1 % 4)] := by revert i; decide +kernel

theorem off3_3 (i : grid0.Coords) : k0_off3 i 3#32 = ![256 * ((4 * (i 2).val + 3) % 16), 128 * (2 % 4)] := by revert i; decide +kernel

theorem off4_3 (i : grid0.Coords) : k0_off4 i 3#32 = ![256 * ((4 * (i 2).val + 3) % 16), 128 * (3 % 4)] := by revert i; decide +kernel

theorem off29_1 (i : grid0.Coords) : k0_off29 i 1#32 = ![256 * ((4 * (i 2).val + 1 - (0 + 1)) % 16), 128 * (0 % 4)] := by revert i; decide +kernel

theorem off30_1 (i : grid0.Coords) : k0_off30 i 1#32 = ![256 * ((4 * (i 2).val + 1 - (0 + 1)) % 16), 128 * (1 % 4)] := by revert i; decide +kernel

theorem off31_1 (i : grid0.Coords) : k0_off31 i 1#32 = ![256 * ((4 * (i 2).val + 1 - (0 + 1)) % 16), 128 * (2 % 4)] := by revert i; decide +kernel

theorem off32_1 (i : grid0.Coords) : k0_off32 i 1#32 = ![256 * ((4 * (i 2).val + 1 - (0 + 1)) % 16), 128 * (3 % 4)] := by revert i; decide +kernel

theorem off33_1 (i : grid0.Coords) : k0_off33 i 1#32 = ![256 * ((4 * (i 2).val + 1 - 0) % 16), 128 * (0 % 4)] := by revert i; decide +kernel

theorem off34_1 (i : grid0.Coords) : k0_off34 i 1#32 = ![256 * ((4 * (i 2).val + 1 - 0) % 16), 128 * (1 % 4)] := by revert i; decide +kernel

theorem off35_1 (i : grid0.Coords) : k0_off35 i 1#32 = ![256 * ((4 * (i 2).val + 1 - 0) % 16), 128 * (2 % 4)] := by revert i; decide +kernel

theorem off36_1 (i : grid0.Coords) : k0_off36 i 1#32 = ![256 * ((4 * (i 2).val + 1 - 0) % 16), 128 * (3 % 4)] := by revert i; decide +kernel

theorem off29_3 (i : grid0.Coords) : k0_off29 i 3#32 = ![256 * ((4 * (i 2).val + 3 - (0 + 1)) % 16), 128 * (0 % 4)] := by revert i; decide +kernel

theorem off30_3 (i : grid0.Coords) : k0_off30 i 3#32 = ![256 * ((4 * (i 2).val + 3 - (0 + 1)) % 16), 128 * (1 % 4)] := by revert i; decide +kernel

theorem off31_3 (i : grid0.Coords) : k0_off31 i 3#32 = ![256 * ((4 * (i 2).val + 3 - (0 + 1)) % 16), 128 * (2 % 4)] := by revert i; decide +kernel

theorem off32_3 (i : grid0.Coords) : k0_off32 i 3#32 = ![256 * ((4 * (i 2).val + 3 - (0 + 1)) % 16), 128 * (3 % 4)] := by revert i; decide +kernel

theorem off33_3 (i : grid0.Coords) : k0_off33 i 3#32 = ![256 * ((4 * (i 2).val + 3 - 0) % 16), 128 * (0 % 4)] := by revert i; decide +kernel

theorem off34_3 (i : grid0.Coords) : k0_off34 i 3#32 = ![256 * ((4 * (i 2).val + 3 - 0) % 16), 128 * (1 % 4)] := by revert i; decide +kernel

theorem off35_3 (i : grid0.Coords) : k0_off35 i 3#32 = ![256 * ((4 * (i 2).val + 3 - 0) % 16), 128 * (2 % 4)] := by revert i; decide +kernel

theorem off36_3 (i : grid0.Coords) : k0_off36 i 3#32 = ![256 * ((4 * (i 2).val + 3 - 0) % 16), 128 * (3 % 4)] := by revert i; decide +kernel

theorem off61 : ∀ (i : grid0.Coords) (u : Fin 2), k0_off61 i (BitVec.ofNat 32 u.val) = ![256 * ((4 * (i 2).val + 2 - (u.val + 1)) % 16), 128 * (0 % 4)] := by decide +kernel

theorem off62 : ∀ (i : grid0.Coords) (u : Fin 2), k0_off62 i (BitVec.ofNat 32 u.val) = ![256 * ((4 * (i 2).val + 2 - (u.val + 1)) % 16), 128 * (1 % 4)] := by decide +kernel

theorem off63 : ∀ (i : grid0.Coords) (u : Fin 2), k0_off63 i (BitVec.ofNat 32 u.val) = ![256 * ((4 * (i 2).val + 2 - (u.val + 1)) % 16), 128 * (2 % 4)] := by decide +kernel

theorem off64 : ∀ (i : grid0.Coords) (u : Fin 2), k0_off64 i (BitVec.ofNat 32 u.val) = ![256 * ((4 * (i 2).val + 2 - (u.val + 1)) % 16), 128 * (3 % 4)] := by decide +kernel

theorem off65 : ∀ (i : grid0.Coords) (u : Fin 2), k0_off65 i (BitVec.ofNat 32 u.val) = ![256 * ((4 * (i 2).val + 2 - u.val) % 16), 128 * (0 % 4)] := by decide +kernel

theorem off66 : ∀ (i : grid0.Coords) (u : Fin 2), k0_off66 i (BitVec.ofNat 32 u.val) = ![256 * ((4 * (i 2).val + 2 - u.val) % 16), 128 * (1 % 4)] := by decide +kernel

theorem off67 : ∀ (i : grid0.Coords) (u : Fin 2), k0_off67 i (BitVec.ofNat 32 u.val) = ![256 * ((4 * (i 2).val + 2 - u.val) % 16), 128 * (2 % 4)] := by decide +kernel

theorem off68 : ∀ (i : grid0.Coords) (u : Fin 2), k0_off68 i (BitVec.ofNat 32 u.val) = ![256 * ((4 * (i 2).val + 2 - u.val) % 16), 128 * (3 % 4)] := by decide +kernel

theorem off85 : ∀ (i : grid0.Coords) (u : Fin 2), k0_off85 i (BitVec.ofNat 32 u.val) = ![256 * ((4 * (i 2).val + 3 - (1 + u.val + 1)) % 16), 128 * (0 % 4)] := by decide +kernel

theorem off86 : ∀ (i : grid0.Coords) (u : Fin 2), k0_off86 i (BitVec.ofNat 32 u.val) = ![256 * ((4 * (i 2).val + 3 - (1 + u.val + 1)) % 16), 128 * (1 % 4)] := by decide +kernel

theorem off87 : ∀ (i : grid0.Coords) (u : Fin 2), k0_off87 i (BitVec.ofNat 32 u.val) = ![256 * ((4 * (i 2).val + 3 - (1 + u.val + 1)) % 16), 128 * (2 % 4)] := by decide +kernel

theorem off88 : ∀ (i : grid0.Coords) (u : Fin 2), k0_off88 i (BitVec.ofNat 32 u.val) = ![256 * ((4 * (i 2).val + 3 - (1 + u.val + 1)) % 16), 128 * (3 % 4)] := by decide +kernel

theorem off89 : ∀ (i : grid0.Coords) (u : Fin 2), k0_off89 i (BitVec.ofNat 32 u.val) = ![256 * ((4 * (i 2).val + 3 - (1 + u.val)) % 16), 128 * (0 % 4)] := by decide +kernel

theorem off90 : ∀ (i : grid0.Coords) (u : Fin 2), k0_off90 i (BitVec.ofNat 32 u.val) = ![256 * ((4 * (i 2).val + 3 - (1 + u.val)) % 16), 128 * (1 % 4)] := by decide +kernel

theorem off91 : ∀ (i : grid0.Coords) (u : Fin 2), k0_off91 i (BitVec.ofNat 32 u.val) = ![256 * ((4 * (i 2).val + 3 - (1 + u.val)) % 16), 128 * (2 % 4)] := by decide +kernel

theorem off92 : ∀ (i : grid0.Coords) (u : Fin 2), k0_off92 i (BitVec.ofNat 32 u.val) = ![256 * ((4 * (i 2).val + 3 - (1 + u.val)) % 16), 128 * (3 % 4)] := by decide +kernel

theorem off13 : ∀ (i : grid0.Coords) (k : Fin (k0_t1_loop i).trips) (u : Fin 4), k0_off13 i k (BitVec.ofNat 32 u.val) = ![256 * ((4 * (i 2).val + 0 - (0 + 4 * k.val + u.val + 1)) % 16), 128 * (0 % 4)] := by decide +kernel

theorem off14 : ∀ (i : grid0.Coords) (k : Fin (k0_t1_loop i).trips) (u : Fin 4), k0_off14 i k (BitVec.ofNat 32 u.val) = ![256 * ((4 * (i 2).val + 0 - (0 + 4 * k.val + u.val + 1)) % 16), 128 * (1 % 4)] := by decide +kernel

theorem off15 : ∀ (i : grid0.Coords) (k : Fin (k0_t1_loop i).trips) (u : Fin 4), k0_off15 i k (BitVec.ofNat 32 u.val) = ![256 * ((4 * (i 2).val + 0 - (0 + 4 * k.val + u.val + 1)) % 16), 128 * (2 % 4)] := by decide +kernel

theorem off16 : ∀ (i : grid0.Coords) (k : Fin (k0_t1_loop i).trips) (u : Fin 4), k0_off16 i k (BitVec.ofNat 32 u.val) = ![256 * ((4 * (i 2).val + 0 - (0 + 4 * k.val + u.val + 1)) % 16), 128 * (3 % 4)] := by decide +kernel

theorem off17 : ∀ (i : grid0.Coords) (k : Fin (k0_t1_loop i).trips) (u : Fin 4), k0_off17 i k (BitVec.ofNat 32 u.val) = ![256 * ((4 * (i 2).val + 0 - (0 + 4 * k.val + u.val)) % 16), 128 * (0 % 4)] := by decide +kernel

theorem off18 : ∀ (i : grid0.Coords) (k : Fin (k0_t1_loop i).trips) (u : Fin 4), k0_off18 i k (BitVec.ofNat 32 u.val) = ![256 * ((4 * (i 2).val + 0 - (0 + 4 * k.val + u.val)) % 16), 128 * (1 % 4)] := by decide +kernel

theorem off19 : ∀ (i : grid0.Coords) (k : Fin (k0_t1_loop i).trips) (u : Fin 4), k0_off19 i k (BitVec.ofNat 32 u.val) = ![256 * ((4 * (i 2).val + 0 - (0 + 4 * k.val + u.val)) % 16), 128 * (2 % 4)] := by decide +kernel

theorem off20 : ∀ (i : grid0.Coords) (k : Fin (k0_t1_loop i).trips) (u : Fin 4), k0_off20 i k (BitVec.ofNat 32 u.val) = ![256 * ((4 * (i 2).val + 0 - (0 + 4 * k.val + u.val)) % 16), 128 * (3 % 4)] := by decide +kernel

theorem off45 : ∀ (i : grid0.Coords) (k : Fin (k0_t3_loop i).trips) (u : Fin 4), k0_off45 i k (BitVec.ofNat 32 u.val) = ![256 * ((4 * (i 2).val + 1 - (1 + 4 * k.val + u.val + 1)) % 16), 128 * (0 % 4)] := by decide +kernel

theorem off46 : ∀ (i : grid0.Coords) (k : Fin (k0_t3_loop i).trips) (u : Fin 4), k0_off46 i k (BitVec.ofNat 32 u.val) = ![256 * ((4 * (i 2).val + 1 - (1 + 4 * k.val + u.val + 1)) % 16), 128 * (1 % 4)] := by decide +kernel

theorem off47 : ∀ (i : grid0.Coords) (k : Fin (k0_t3_loop i).trips) (u : Fin 4), k0_off47 i k (BitVec.ofNat 32 u.val) = ![256 * ((4 * (i 2).val + 1 - (1 + 4 * k.val + u.val + 1)) % 16), 128 * (2 % 4)] := by decide +kernel

theorem off48 : ∀ (i : grid0.Coords) (k : Fin (k0_t3_loop i).trips) (u : Fin 4), k0_off48 i k (BitVec.ofNat 32 u.val) = ![256 * ((4 * (i 2).val + 1 - (1 + 4 * k.val + u.val + 1)) % 16), 128 * (3 % 4)] := by decide +kernel

theorem off49 : ∀ (i : grid0.Coords) (k : Fin (k0_t3_loop i).trips) (u : Fin 4), k0_off49 i k (BitVec.ofNat 32 u.val) = ![256 * ((4 * (i 2).val + 1 - (1 + 4 * k.val + u.val)) % 16), 128 * (0 % 4)] := by decide +kernel

theorem off50 : ∀ (i : grid0.Coords) (k : Fin (k0_t3_loop i).trips) (u : Fin 4), k0_off50 i k (BitVec.ofNat 32 u.val) = ![256 * ((4 * (i 2).val + 1 - (1 + 4 * k.val + u.val)) % 16), 128 * (1 % 4)] := by decide +kernel

theorem off51 : ∀ (i : grid0.Coords) (k : Fin (k0_t3_loop i).trips) (u : Fin 4), k0_off51 i k (BitVec.ofNat 32 u.val) = ![256 * ((4 * (i 2).val + 1 - (1 + 4 * k.val + u.val)) % 16), 128 * (2 % 4)] := by decide +kernel

theorem off52 : ∀ (i : grid0.Coords) (k : Fin (k0_t3_loop i).trips) (u : Fin 4), k0_off52 i k (BitVec.ofNat 32 u.val) = ![256 * ((4 * (i 2).val + 1 - (1 + 4 * k.val + u.val)) % 16), 128 * (3 % 4)] := by decide +kernel

theorem off69 : ∀ (i : grid0.Coords) (k : Fin (k0_t5_loop i).trips) (u : Fin 4), k0_off69 i k (BitVec.ofNat 32 u.val) = ![256 * ((4 * (i 2).val + 2 - (2 + 4 * k.val + u.val + 1)) % 16), 128 * (0 % 4)] := by decide +kernel

theorem off70 : ∀ (i : grid0.Coords) (k : Fin (k0_t5_loop i).trips) (u : Fin 4), k0_off70 i k (BitVec.ofNat 32 u.val) = ![256 * ((4 * (i 2).val + 2 - (2 + 4 * k.val + u.val + 1)) % 16), 128 * (1 % 4)] := by decide +kernel

theorem off71 : ∀ (i : grid0.Coords) (k : Fin (k0_t5_loop i).trips) (u : Fin 4), k0_off71 i k (BitVec.ofNat 32 u.val) = ![256 * ((4 * (i 2).val + 2 - (2 + 4 * k.val + u.val + 1)) % 16), 128 * (2 % 4)] := by decide +kernel

theorem off72 : ∀ (i : grid0.Coords) (k : Fin (k0_t5_loop i).trips) (u : Fin 4), k0_off72 i k (BitVec.ofNat 32 u.val) = ![256 * ((4 * (i 2).val + 2 - (2 + 4 * k.val + u.val + 1)) % 16), 128 * (3 % 4)] := by decide +kernel

theorem off73 : ∀ (i : grid0.Coords) (k : Fin (k0_t5_loop i).trips) (u : Fin 4), k0_off73 i k (BitVec.ofNat 32 u.val) = ![256 * ((4 * (i 2).val + 2 - (2 + 4 * k.val + u.val)) % 16), 128 * (0 % 4)] := by decide +kernel

theorem off74 : ∀ (i : grid0.Coords) (k : Fin (k0_t5_loop i).trips) (u : Fin 4), k0_off74 i k (BitVec.ofNat 32 u.val) = ![256 * ((4 * (i 2).val + 2 - (2 + 4 * k.val + u.val)) % 16), 128 * (1 % 4)] := by decide +kernel

theorem off75 : ∀ (i : grid0.Coords) (k : Fin (k0_t5_loop i).trips) (u : Fin 4), k0_off75 i k (BitVec.ofNat 32 u.val) = ![256 * ((4 * (i 2).val + 2 - (2 + 4 * k.val + u.val)) % 16), 128 * (2 % 4)] := by decide +kernel

theorem off76 : ∀ (i : grid0.Coords) (k : Fin (k0_t5_loop i).trips) (u : Fin 4), k0_off76 i k (BitVec.ofNat 32 u.val) = ![256 * ((4 * (i 2).val + 2 - (2 + 4 * k.val + u.val)) % 16), 128 * (3 % 4)] := by decide +kernel

theorem off93 : ∀ (i : grid0.Coords) (k : Fin (k0_t7_loop i).trips) (u : Fin 4), k0_off93 i k (BitVec.ofNat 32 u.val) = ![256 * ((4 * (i 2).val + 3 - (3 + 4 * k.val + u.val + 1)) % 16), 128 * (0 % 4)] := by decide +kernel

theorem off94 : ∀ (i : grid0.Coords) (k : Fin (k0_t7_loop i).trips) (u : Fin 4), k0_off94 i k (BitVec.ofNat 32 u.val) = ![256 * ((4 * (i 2).val + 3 - (3 + 4 * k.val + u.val + 1)) % 16), 128 * (1 % 4)] := by decide +kernel

theorem off95 : ∀ (i : grid0.Coords) (k : Fin (k0_t7_loop i).trips) (u : Fin 4), k0_off95 i k (BitVec.ofNat 32 u.val) = ![256 * ((4 * (i 2).val + 3 - (3 + 4 * k.val + u.val + 1)) % 16), 128 * (2 % 4)] := by decide +kernel

theorem off96 : ∀ (i : grid0.Coords) (k : Fin (k0_t7_loop i).trips) (u : Fin 4), k0_off96 i k (BitVec.ofNat 32 u.val) = ![256 * ((4 * (i 2).val + 3 - (3 + 4 * k.val + u.val + 1)) % 16), 128 * (3 % 4)] := by decide +kernel

theorem off97 : ∀ (i : grid0.Coords) (k : Fin (k0_t7_loop i).trips) (u : Fin 4), k0_off97 i k (BitVec.ofNat 32 u.val) = ![256 * ((4 * (i 2).val + 3 - (3 + 4 * k.val + u.val)) % 16), 128 * (0 % 4)] := by decide +kernel

theorem off98 : ∀ (i : grid0.Coords) (k : Fin (k0_t7_loop i).trips) (u : Fin 4), k0_off98 i k (BitVec.ofNat 32 u.val) = ![256 * ((4 * (i 2).val + 3 - (3 + 4 * k.val + u.val)) % 16), 128 * (1 % 4)] := by decide +kernel

theorem off99 : ∀ (i : grid0.Coords) (k : Fin (k0_t7_loop i).trips) (u : Fin 4), k0_off99 i k (BitVec.ofNat 32 u.val) = ![256 * ((4 * (i 2).val + 3 - (3 + 4 * k.val + u.val)) % 16), 128 * (2 % 4)] := by decide +kernel

theorem off100 : ∀ (i : grid0.Coords) (k : Fin (k0_t7_loop i).trips) (u : Fin 4), k0_off100 i k (BitVec.ofNat 32 u.val) = ![256 * ((4 * (i 2).val + 3 - (3 + 4 * k.val + u.val)) % 16), 128 * (3 % 4)] := by decide +kernel

theorem offz (a j h : ℕ) (e : ℕ) (he : e = 128 * (h % 4)) : (![0, e] : Fin 2 → ℕ) = ![256 * ((4 * a + j - (j + 4 * a)) % 16), 128 * (h % 4)] := by
  rw [he, show 4 * a + j - (j + 4 * a) = 0 by omega]

end Cert.Att

end
-- ==== Proof.Run.lean ====
module

public import proofs.«01_k».proof.Proof.Stage
public import proofs.«01_k».proof.Proof.Offs

@[expose] public section

set_option pp.maxSteps 600

noncomputable section

namespace Cert.Att

open Cert.KernelIdeal
open Idealize.ShloMosaic Idealize.ShloMosaic.TcCoe Idealize.ShloMosaic.Tactic
open Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Facts₀ Facts

local notation "𝕄" => MT nD τ sig Unit (Elt F) ℕ (UR sig nD τ) ℕ

variable {c : Dev nD} {defs : Defs nD τ sig (Elt F) Λ₀}

/-- The first weight's slab as bf16. -/
def cast1 (X7 : Vec F S1x128x8192 .f32) : Vec F S1x128x8192 .bf16 :=
  shapeCast S1x128x8192 (truncf .bf16 (shapeCast S128x8192 (window (s := S1x128x8192) X7 ![0, 0, 0] S1x128x8192.size inb_S1x128x8192_S1x128x8192_0_0_0) shapeCasts_S1x128x8192_S128x8192) bitsLt_bf16_f32) shapeCasts_S128x8192_S1x128x8192

/-- The second weight's slab as bf16. -/
def cast2 (X8 : Vec F S1x512x2048 .f32) : Vec F S1x512x2048 .bf16 :=
  shapeCast S1x512x2048 (truncf .bf16 (shapeCast S512x2048 (window (s := S1x512x2048) X8 ![0, 0, 0] S1x512x2048.size inb_S1x512x2048_S1x512x2048_0_0_0) shapeCasts_S1x512x2048_S512x2048) bitsLt_bf16_f32) shapeCasts_S512x2048_S1x512x2048

/-- After four stores of output rows: the sub-tile is done. -/
theorem oFold {arg3 : Memref sig .tc .vmem S1024x512 .bf16} {arg4 arg5 : Memref sig .tc .vmem S4096x512 .bf16}
    {arg6 : Memref sig .tc .vmem S256x256 .bf16} {arg7 : Memref sig .tc .vmem S1x128x8192 .f32} {arg8 : Memref sig .tc .vmem S1x512x2048 .f32}
    {arg9 : Memref sig .tc .vmem S1024x512 .bf16} {arg10 : Memref sig .tc .vmem S1x128x8192 .bf16} {arg11 : Memref sig .tc .vmem S1x512x2048 .bf16}
    {arg12 : Memref sig .tc .vmem S2x4x256x256 .f32} {arg13 : Memref sig .tc .vmem S2x4x256x256 .bf16}
    {X3 : Vec F S1024x512 .bf16} {X4 X5 : Vec F S4096x512 .bf16} {X12 : Vec F S2x4x256x256 .f32} {X13 : Vec F S2x4x256x256 .bf16}
    {X6 : Vec F S256x256 .bf16} {X7 : Vec F S1x128x8192 .f32} {X8 : Vec F S1x512x2048 .f32} {X9 : Vec F S1024x512 .bf16} {X10 : Vec F S1x128x8192 .bf16} {X11 : Vec F S1x512x2048 .bf16}
    {α : Type} {p : Prog (TpuEff nD τ sig (Elt F) Λ₀ .tc) α} {Q : α → sProp 𝕄} {P : ℕ → ℕ → FVec F S256x128 .bf16} (j : ℕ) (hj : j < 4) (H : HasO X9 j P)
    {o0 o1 o2 o3 : Fin 2 → ℕ} {w0 w1 w2 w3 : FVec F S256x128 .bf16}
    (h : ∀ X9 : Vec F S1024x512 .bf16, HasO X9 (j + 1) P → St c arg3 arg4 arg5 arg12 arg13 X3 X4 X5 X12 X13 (Fr c arg6 arg7 arg8 arg9 arg10 arg11 X6 X7 X8 X9 X10 X11) ⊢ WP c defs p Q)
    (h0 : o0 = ![256 * (j % 4), 128 * (0 % 4)]) (h1 : o1 = ![256 * (j % 4), 128 * (1 % 4)]) (h2 : o2 = ![256 * (j % 4), 128 * (2 % 4)]) (h3 : o3 = ![256 * (j % 4), 128 * (3 % 4)])
    (e0 : w0 = P j 0) (e1 : w1 = P j 1) (e2 : w2 = P j 2) (e3 : w3 = P j 3) :
    St c arg3 arg4 arg5 arg12 arg13 X3 X4 X5 X12 X13 (Fr c arg6 arg7 arg8 arg9 arg10 arg11 X6 X7 X8
      (put (s := S1024x512) (put (s := S1024x512) (put (s := S1024x512) (put (s := S1024x512) X9 o0 S256x128.size w0) o1 S256x128.size w1) o2 S256x128.size w2) o3 S256x128.size w3) X10 X11) ⊢ WP c defs p Q :=
  h _ (hasO_put4 j hj H h0 h1 h2 h3 e0 e1 e2 e3)

theorem ret_sound {P : sProp 𝕄} {Q : PUnit → sProp 𝕄} (h : P ⊢ Q ⟨⟩) : P ⊢ WP c defs (.ret ⟨⟩) Q := by
  unfold WP
  rw [wp_ret]
  iintro H
  imodintro
  iapply h
  iexact H

set_option maxHeartbeats 4000000 in
/-- One grid point of the kernel: the output rows end as `outT` says, the two casts as the weights' slabs truncated. -/
theorem sound (i : grid0.Coords) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x256 .bf16) (harg6 : arg6.IsWhole) (arg7 : Memref sig .tc .vmem S1x128x8192 .f32) (harg7 : arg7.IsWhole) (arg8 : Memref sig .tc .vmem S1x512x2048 .f32) (harg8 : arg8.IsWhole) (arg9 : Memref sig .tc .vmem S1024x512 .bf16) (harg9 : arg9.IsWhole) (arg10 : Memref sig .tc .vmem S1x128x8192 .bf16) (harg10 : arg10.IsWhole) (arg11 : Memref sig .tc .vmem S1x512x2048 .bf16) (harg11 : arg11.IsWhole) (arg12 : Memref sig .tc .vmem S2x4x256x256 .f32) (harg12 : arg12.IsWhole) (arg13 : Memref sig .tc .vmem S2x4x256x256 .bf16) (harg13 : arg13.IsWhole)
    (X3 : Vec F S1024x512 .bf16) (X4 X5 : Vec F S4096x512 .bf16) (X6 : Vec F S256x256 .bf16) (X7 : Vec F S1x128x8192 .f32) (X8 : Vec F S1x512x2048 .f32)
    (X9 : Vec F S1024x512 .bf16) (X10 : Vec F S1x128x8192 .bf16) (X11 : Vec F S1x512x2048 .bf16) (X12 : Vec F S2x4x256x256 .f32) (X13 : Vec F S2x4x256x256 .bf16) (Q : PUnit → sProp 𝕄)
    (hQ : ∀ (X9 : Vec F S1024x512 .bf16) (X12 : Vec F S2x4x256x256 .f32) (X13 : Vec F S2x4x256x256 .bf16), HasO X9 4 (outT X3 X4 X5 X6 (i 2).val) →
      St c arg3 arg4 arg5 arg12 arg13 X3 X4 X5 X12 X13 (Fr c arg6 arg7 arg8 arg9 arg10 arg11 X6 X7 X8 X9 (cast1 X7) (cast2 X8)) ⊢ Q ⟨⟩) :
    St c arg3 arg4 arg5 arg12 arg13 X3 X4 X5 X12 X13 (Fr c arg6 arg7 arg8 arg9 arg10 arg11 X6 X7 X8 X9 X10 X11) ⊢
      WP c defs (cc0_sb_attention i arg3 harg3 arg4 harg4 arg5 harg5 arg6 harg6 arg7 harg7 arg8 harg8 arg9 harg9 arg10 harg10 arg11 harg11 arg12 harg12 arg13 harg13) Q := by
  delta cc0_sb_attention k0_part249 k0_part209
  dsimp only
  rw [dif_pos (cond1 i)]
  refine ld7 ?_
  refine ld10 ?_
  refine st10 ?_
  refine ld8 ?_
  refine ld11 ?_
  refine st11 ?_
  refine ld6 ?_
  rw [put_all (s := S1x128x8192) X10 _ (by decide), put_all (s := S1x512x2048) X11 _ (by decide)]
  obtain ⟨A1, B1, H1⟩ := has_any X12 X13 1
  have HO : HasO X9 0 (outT X3 X4 X5 X6 (i 2).val) := fun j hj => absurd hj (Nat.not_lt_zero j)
  refine ld3 0 0 rfl ?_
  refine ld4 (4 * (i 2).val + 0) 0 (off1_0 i) ?_
  refine dd12 ?_
  refine st12 ?_
  refine dd13 ?_
  refine st13 ?_
  refine ld3 0 1 rfl ?_
  refine ld4 (4 * (i 2).val + 0) 1 (off2_0 i) ?_
  refine dd12 ?_
  refine st12 ?_
  refine dd13 ?_
  refine st13 ?_
  refine ld3 0 2 rfl ?_
  refine ld4 (4 * (i 2).val + 0) 2 (off3_0 i) ?_
  refine dd12 ?_
  refine st12 ?_
  refine dd13 ?_
  refine st13 ?_
  refine ld3 0 3 rfl ?_
  refine ld4 (4 * (i 2).val + 0) 3 (off4_0 i) ?_
  refine dd12 ?_
  refine st12 ?_
  refine dd13 ?_
  refine st13 ?_
  refine lgFold 0 (4 * (i 2).val + 0) 0 1 (by decide) aD bD H1 ?_ rfl rfl rfl rfl rfl rfl rfl rfl rfl rfl rfl rfl
  intro X12 X13 (H0 : Has X12 X13 0 (tA X3 X4 0 (4 * (i 2).val + 0) (0)) (tB X3 X4 0 (4 * (i 2).val + 0) (0))) H1
  dsimp only
  rw [dif_neg (cond2 i)]
  refine pure3 ?_
  refine pure2 ?_
  dsimp only
  delta k0_part214
  dsimp only
  refine loopSt (X6 := X6) 0 (4 * (i 2).val + 0) (i 2).val (trips1 i) H0 H1 rfl ?_ ?_
  · intro k X12 X13 A1 B1 H0 H1
    dsimp only [stt]
    refine ld3 0 0 rfl ?_
    refine ld4 (4 * (i 2).val + 0 - (0 + 4 * k.val + 1)) 0 (off13 i k 0) ?_
    refine dd12 ?_
    refine st12 ?_
    refine dd13 ?_
    refine st13 ?_
    refine ld3 0 1 rfl ?_
    refine ld4 (4 * (i 2).val + 0 - (0 + 4 * k.val + 1)) 1 (off14 i k 0) ?_
    refine dd12 ?_
    refine st12 ?_
    refine dd13 ?_
    refine st13 ?_
    refine ld3 0 2 rfl ?_
    refine ld4 (4 * (i 2).val + 0 - (0 + 4 * k.val + 1)) 2 (off15 i k 0) ?_
    refine dd12 ?_
    refine st12 ?_
    refine dd13 ?_
    refine st13 ?_
    refine ld3 0 3 rfl ?_
    refine ld4 (4 * (i 2).val + 0 - (0 + 4 * k.val + 1)) 3 (off16 i k 0) ?_
    refine dd12 ?_
    refine st12 ?_
    refine dd13 ?_
    refine st13 ?_
    refine lgFold 0 (4 * (i 2).val + 0 - (0 + 4 * k.val + 1)) 1 0 (by decide) aP bP H0 ?_ rfl rfl rfl rfl rfl rfl rfl rfl rfl rfl rfl rfl
    intro X12 X13 (H1 : Has X12 X13 1 (tA X3 X4 0 (4 * (i 2).val + 0) (0 + 4 * k.val + 1)) (tB X3 X4 0 (4 * (i 2).val + 0) (0 + 4 * k.val + 1))) H0
    refine ld13 0 (by decide) H0 rfl ?_
    refine ld12 0 (by decide) H0 rfl ?_
    refine ld5 ((4 * (i 2).val + 0) - (0 + 4 * k.val)) 0 (off17 i k 0) ?_
    refine ld13 1 (by decide) H0 rfl ?_
    refine ld12 1 (by decide) H0 rfl ?_
    refine ld5 ((4 * (i 2).val + 0) - (0 + 4 * k.val)) 1 (off18 i k 0) ?_
    refine ld13 2 (by decide) H0 rfl ?_
    refine ld12 2 (by decide) H0 rfl ?_
    refine ld5 ((4 * (i 2).val + 0) - (0 + 4 * k.val)) 2 (off19 i k 0) ?_
    refine ld13 3 (by decide) H0 rfl ?_
    refine ld12 3 (by decide) H0 rfl ?_
    refine ld5 ((4 * (i 2).val + 0) - (0 + 4 * k.val)) 3 (off20 i k 0) ?_
    refine ld3 0 0 rfl ?_
    refine ld4 (4 * (i 2).val + 0 - (0 + 4 * k.val + 1 + 1)) 0 (off13 i k 1) ?_
    refine dd12 ?_
    refine st12 ?_
    refine dd13 ?_
    refine st13 ?_
    refine ld3 0 1 rfl ?_
    refine ld4 (4 * (i 2).val + 0 - (0 + 4 * k.val + 1 + 1)) 1 (off14 i k 1) ?_
    refine dd12 ?_
    refine st12 ?_
    refine dd13 ?_
    refine st13 ?_
    refine ld3 0 2 rfl ?_
    refine ld4 (4 * (i 2).val + 0 - (0 + 4 * k.val + 1 + 1)) 2 (off15 i k 1) ?_
    refine dd12 ?_
    refine st12 ?_
    refine dd13 ?_
    refine st13 ?_
    refine ld3 0 3 rfl ?_
    refine ld4 (4 * (i 2).val + 0 - (0 + 4 * k.val + 1 + 1)) 3 (off16 i k 1) ?_
    refine dd12 ?_
    refine st12 ?_
    refine dd13 ?_
    refine st13 ?_
    refine lgFold 0 (4 * (i 2).val + 0 - (0 + 4 * k.val + 1 + 1)) 0 1 (by decide) aP bP H1 ?_ rfl rfl rfl rfl rfl rfl rfl rfl rfl rfl rfl rfl
    intro X12 X13 (H0 : Has X12 X13 0 (tA X3 X4 0 (4 * (i 2).val + 0) (0 + 4 * k.val + 2)) (tB X3 X4 0 (4 * (i 2).val + 0) (0 + 4 * k.val + 2))) H1
    refine ld13 0 (by decide) H1 rfl ?_
    refine ld12 0 (by decide) H1 rfl ?_
    refine ld5 ((4 * (i 2).val + 0) - (0 + 4 * k.val + 1)) 0 (off17 i k 1) ?_
    refine ld13 1 (by decide) H1 rfl ?_
    refine ld12 1 (by decide) H1 rfl ?_
    refine ld5 ((4 * (i 2).val + 0) - (0 + 4 * k.val + 1)) 1 (off18 i k 1) ?_
    refine ld13 2 (by decide) H1 rfl ?_
    refine ld12 2 (by decide) H1 rfl ?_
    refine ld5 ((4 * (i 2).val + 0) - (0 + 4 * k.val + 1)) 2 (off19 i k 1) ?_
    refine ld13 3 (by decide) H1 rfl ?_
    refine ld12 3 (by decide) H1 rfl ?_
    refine ld5 ((4 * (i 2).val + 0) - (0 + 4 * k.val + 1)) 3 (off20 i k 1) ?_
    refine ld3 0 0 rfl ?_
    refine ld4 (4 * (i 2).val + 0 - (0 + 4 * k.val + 2 + 1)) 0 (off13 i k 2) ?_
    refine dd12 ?_
    refine st12 ?_
    refine dd13 ?_
    refine st13 ?_
    refine ld3 0 1 rfl ?_
    refine ld4 (4 * (i 2).val + 0 - (0 + 4 * k.val + 2 + 1)) 1 (off14 i k 2) ?_
    refine dd12 ?_
    refine st12 ?_
    refine dd13 ?_
    refine st13 ?_
    refine ld3 0 2 rfl ?_
    refine ld4 (4 * (i 2).val + 0 - (0 + 4 * k.val + 2 + 1)) 2 (off15 i k 2) ?_
    refine dd12 ?_
    refine st12 ?_
    refine dd13 ?_
    refine st13 ?_
    refine ld3 0 3 rfl ?_
    refine ld4 (4 * (i 2).val + 0 - (0 + 4 * k.val + 2 + 1)) 3 (off16 i k 2) ?_
    refine dd12 ?_
    refine st12 ?_
    refine dd13 ?_
    refine st13 ?_
    refine lgFold 0 (4 * (i 2).val + 0 - (0 + 4 * k.val + 2 + 1)) 1 0 (by decide) aP bP H0 ?_ rfl rfl rfl rfl rfl rfl rfl rfl rfl rfl rfl rfl
    intro X12 X13 (H1 : Has X12 X13 1 (tA X3 X4 0 (4 * (i 2).val + 0) (0 + 4 * k.val + 3)) (tB X3 X4 0 (4 * (i 2).val + 0) (0 + 4 * k.val + 3))) H0
    refine ld13 0 (by decide) H0 rfl ?_
    refine ld12 0 (by decide) H0 rfl ?_
    refine ld5 ((4 * (i 2).val + 0) - (0 + 4 * k.val + 2)) 0 (off17 i k 2) ?_
    refine ld13 1 (by decide) H0 rfl ?_
    refine ld12 1 (by decide) H0 rfl ?_
    refine ld5 ((4 * (i 2).val + 0) - (0 + 4 * k.val + 2)) 1 (off18 i k 2) ?_
    refine ld13 2 (by decide) H0 rfl ?_
    refine ld12 2 (by decide) H0 rfl ?_
    refine ld5 ((4 * (i 2).val + 0) - (0 + 4 * k.val + 2)) 2 (off19 i k 2) ?_
    refine ld13 3 (by decide) H0 rfl ?_
    refine ld12 3 (by decide) H0 rfl ?_
    refine ld5 ((4 * (i 2).val + 0) - (0 + 4 * k.val + 2)) 3 (off20 i k 2) ?_
    refine ld3 0 0 rfl ?_
    refine ld4 (4 * (i 2).val + 0 - (0 + 4 * k.val + 3 + 1)) 0 (off13 i k 3) ?_
    refine dd12 ?_
    refine st12 ?_
    refine dd13 ?_
    refine st13 ?_
    refine ld3 0 1 rfl ?_
    refine ld4 (4 * (i 2).val + 0 - (0 + 4 * k.val + 3 + 1)) 1 (off14 i k 3) ?_
    refine dd12 ?_
    refine st12 ?_
    refine dd13 ?_
    refine st13 ?_
    refine ld3 0 2 rfl ?_
    refine ld4 (4 * (i 2).val + 0 - (0 + 4 * k.val + 3 + 1)) 2 (off15 i k 3) ?_
    refine dd12 ?_
    refine st12 ?_
    refine dd13 ?_
    refine st13 ?_
    refine ld3 0 3 rfl ?_
    refine ld4 (4 * (i 2).val + 0 - (0 + 4 * k.val + 3 + 1)) 3 (off16 i k 3) ?_
    refine dd12 ?_
    refine st12 ?_
    refine dd13 ?_
    refine st13 ?_
    refine lgFold 0 (4 * (i 2).val + 0 - (0 + 4 * k.val + 3 + 1)) 0 1 (by decide) aP bP H1 ?_ rfl rfl rfl rfl rfl rfl rfl rfl rfl rfl rfl rfl
    intro X12 X13 (H0 : Has X12 X13 0 (tA X3 X4 0 (4 * (i 2).val + 0) (0 + 4 * k.val + 4)) (tB X3 X4 0 (4 * (i 2).val + 0) (0 + 4 * k.val + 4))) H1
    refine ld13 0 (by decide) H1 rfl ?_
    refine ld12 0 (by decide) H1 rfl ?_
    refine ld5 ((4 * (i 2).val + 0) - (0 + 4 * k.val + 3)) 0 (off17 i k 3) ?_
    refine ld13 1 (by decide) H1 rfl ?_
    refine ld12 1 (by decide) H1 rfl ?_
    refine ld5 ((4 * (i 2).val + 0) - (0 + 4 * k.val + 3)) 1 (off18 i k 3) ?_
    refine ld13 2 (by decide) H1 rfl ?_
    refine ld12 2 (by decide) H1 rfl ?_
    refine ld5 ((4 * (i 2).val + 0) - (0 + 4 * k.val + 3)) 2 (off19 i k 3) ?_
    refine ld13 3 (by decide) H1 rfl ?_
    refine ld12 3 (by decide) H1 rfl ?_
    refine ld5 ((4 * (i 2).val + 0) - (0 + 4 * k.val + 3)) 3 (off20 i k 3) ?_
    exact ret_post H0 H1 rfl
  intro X12 X13 A1 B1 H0 H1
  dsimp only [stt]
  rw [loop_zero (trips2 i)]
  refine ld13 0 (by decide) H0 rfl ?_
  refine ld12 0 (by decide) H0 rfl ?_
  refine ld5 ((4 * (i 2).val + 0) - (0 + 4 * (i 2).val)) 0 (offz (i 2).val 0 0 _ rfl) ?_
  refine ld13 1 (by decide) H0 rfl ?_
  refine ld12 1 (by decide) H0 rfl ?_
  refine ld5 ((4 * (i 2).val + 0) - (0 + 4 * (i 2).val)) 1 (offz (i 2).val 0 1 _ rfl) ?_
  refine ld13 2 (by decide) H0 rfl ?_
  refine ld12 2 (by decide) H0 rfl ?_
  refine ld5 ((4 * (i 2).val + 0) - (0 + 4 * (i 2).val)) 2 (offz (i 2).val 0 2 _ rfl) ?_
  refine ld13 3 (by decide) H0 rfl ?_
  refine ld12 3 (by decide) H0 rfl ?_
  refine ld5 ((4 * (i 2).val + 0) - (0 + 4 * (i 2).val)) 3 (offz (i 2).val 0 3 _ rfl) ?_
  refine ld9 ?_
  refine st9 ?_
  refine ld9 ?_
  refine st9 ?_
  refine ld9 ?_
  refine st9 ?_
  refine ld9 ?_
  refine st9 ?_
  refine oFold 0 (by decide) HO ?_ rfl rfl rfl rfl rfl rfl rfl rfl
  clear HO X9
  intro X9 HO
  refine ld3 1 0 rfl ?_
  refine ld4 (4 * (i 2).val + 1) 0 (off1_1 i) ?_
  refine dd12 ?_
  refine st12 ?_
  refine dd13 ?_
  refine st13 ?_
  refine ld3 1 1 rfl ?_
  refine ld4 (4 * (i 2).val + 1) 1 (off2_1 i) ?_
  refine dd12 ?_
  refine st12 ?_
  refine dd13 ?_
  refine st13 ?_
  refine ld3 1 2 rfl ?_
  refine ld4 (4 * (i 2).val + 1) 2 (off3_1 i) ?_
  refine dd12 ?_
  refine st12 ?_
  refine dd13 ?_
  refine st13 ?_
  refine ld3 1 3 rfl ?_
  refine ld4 (4 * (i 2).val + 1) 3 (off4_1 i) ?_
  refine dd12 ?_
  refine st12 ?_
  refine dd13 ?_
  refine st13 ?_
  refine lgFold 1 (4 * (i 2).val + 1) 1 0 (by decide) aD bD H0 ?_ rfl rfl rfl rfl rfl rfl rfl rfl rfl rfl rfl rfl
  intro X12 X13 (H1 : Has X12 X13 1 (tA X3 X4 1 (4 * (i 2).val + 1) (0)) (tB X3 X4 1 (4 * (i 2).val + 1) (0))) H0
  refine ld3 1 0 rfl ?_
  refine ld4 (4 * (i 2).val + 1 - (0 + 1)) 0 (off29_1 i) ?_
  refine dd12 ?_
  refine st12 ?_
  refine dd13 ?_
  refine st13 ?_
  refine ld3 1 1 rfl ?_
  refine ld4 (4 * (i 2).val + 1 - (0 + 1)) 1 (off30_1 i) ?_
  refine dd12 ?_
  refine st12 ?_
  refine dd13 ?_
  refine st13 ?_
  refine ld3 1 2 rfl ?_
  refine ld4 (4 * (i 2).val + 1 - (0 + 1)) 2 (off31_1 i) ?_
  refine dd12 ?_
  refine st12 ?_
  refine dd13 ?_
  refine st13 ?_
  refine ld3 1 3 rfl ?_
  refine ld4 (4 * (i 2).val + 1 - (0 + 1)) 3 (off32_1 i) ?_
  refine dd12 ?_
  refine st12 ?_
  refine dd13 ?_
  refine st13 ?_
  refine lgFold 1 (4 * (i 2).val + 1 - (0 + 1)) 0 1 (by decide) aP bP H1 ?_ rfl rfl rfl rfl rfl rfl rfl rfl rfl rfl rfl rfl
  intro X12 X13 (H0 : Has X12 X13 0 (tA X3 X4 1 (4 * (i 2).val + 1) (1)) (tB X3 X4 1 (4 * (i 2).val + 1) (1))) H1
  refine ld13 0 (by decide) H1 rfl ?_
  refine ld12 0 (by decide) H1 rfl ?_
  refine ld5 ((4 * (i 2).val + 1) - (0)) 0 (off33_1 i) ?_
  refine ld13 1 (by decide) H1 rfl ?_
  refine ld12 1 (by decide) H1 rfl ?_
  refine ld5 ((4 * (i 2).val + 1) - (0)) 1 (off34_1 i) ?_
  refine ld13 2 (by decide) H1 rfl ?_
  refine ld12 2 (by decide) H1 rfl ?_
  refine ld5 ((4 * (i 2).val + 1) - (0)) 2 (off35_1 i) ?_
  refine ld13 3 (by decide) H1 rfl ?_
  refine ld12 3 (by decide) H1 rfl ?_
  refine ld5 ((4 * (i 2).val + 1) - (0)) 3 (off36_1 i) ?_
  dsimp only [Prog.bind, Bind.bind, Pure.pure]
  delta k0_part226
  dsimp only
  rw [dif_neg (cond3 i)]
  refine pure3 ?_
  dsimp only
  delta k0_part227
  dsimp only
  refine loopSt (X6 := X6) 1 (4 * (i 2).val + 1) (i 2).val (trips3 i) H0 H1 rfl ?_ ?_
  · intro k X12 X13 A1 B1 H0 H1
    dsimp only [stt]
    refine ld3 1 0 rfl ?_
    refine ld4 (4 * (i 2).val + 1 - (1 + 4 * k.val + 1)) 0 (off45 i k 0) ?_
    refine dd12 ?_
    refine st12 ?_
    refine dd13 ?_
    refine st13 ?_
    refine ld3 1 1 rfl ?_
    refine ld4 (4 * (i 2).val + 1 - (1 + 4 * k.val + 1)) 1 (off46 i k 0) ?_
    refine dd12 ?_
    refine st12 ?_
    refine dd13 ?_
    refine st13 ?_
    refine ld3 1 2 rfl ?_
    refine ld4 (4 * (i 2).val + 1 - (1 + 4 * k.val + 1)) 2 (off47 i k 0) ?_
    refine dd12 ?_
    refine st12 ?_
    refine dd13 ?_
    refine st13 ?_
    refine ld3 1 3 rfl ?_
    refine ld4 (4 * (i 2).val + 1 - (1 + 4 * k.val + 1)) 3 (off48 i k 0) ?_
    refine dd12 ?_
    refine st12 ?_
    refine dd13 ?_
    refine st13 ?_
    refine lgFold 1 (4 * (i 2).val + 1 - (1 + 4 * k.val + 1)) 1 0 (by decide) aP bP H0 ?_ rfl rfl rfl rfl rfl rfl rfl rfl rfl rfl rfl rfl
    intro X12 X13 (H1 : Has X12 X13 1 (tA X3 X4 1 (4 * (i 2).val + 1) (1 + 4 * k.val + 1)) (tB X3 X4 1 (4 * (i 2).val + 1) (1 + 4 * k.val + 1))) H0
    refine ld13 0 (by decide) H0 rfl ?_
    refine ld12 0 (by decide) H0 rfl ?_
    refine ld5 ((4 * (i 2).val + 1) - (1 + 4 * k.val)) 0 (off49 i k 0) ?_
    refine ld13 1 (by decide) H0 rfl ?_
    refine ld12 1 (by decide) H0 rfl ?_
    refine ld5 ((4 * (i 2).val + 1) - (1 + 4 * k.val)) 1 (off50 i k 0) ?_
    refine ld13 2 (by decide) H0 rfl ?_
    refine ld12 2 (by decide) H0 rfl ?_
    refine ld5 ((4 * (i 2).val + 1) - (1 + 4 * k.val)) 2 (off51 i k 0) ?_
    refine ld13 3 (by decide) H0 rfl ?_
    refine ld12 3 (by decide) H0 rfl ?_
    refine ld5 ((4 * (i 2).val + 1) - (1 + 4 * k.val)) 3 (off52 i k 0) ?_
    refine ld3 1 0 rfl ?_
    refine ld4 (4 * (i 2).val + 1 - (1 + 4 * k.val + 1 + 1)) 0 (off45 i k 1) ?_
    refine dd12 ?_
    refine st12 ?_
    refine dd13 ?_
    refine st13 ?_
    refine ld3 1 1 rfl ?_
    refine ld4 (4 * (i 2).val + 1 - (1 + 4 * k.val + 1 + 1)) 1 (off46 i k 1) ?_
    refine dd12 ?_
    refine st12 ?_
    refine dd13 ?_
    refine st13 ?_
    refine ld3 1 2 rfl ?_
    refine ld4 (4 * (i 2).val + 1 - (1 + 4 * k.val + 1 + 1)) 2 (off47 i k 1) ?_
    refine dd12 ?_
    refine st12 ?_
    refine dd13 ?_
    refine st13 ?_
    refine ld3 1 3 rfl ?_
    refine ld4 (4 * (i 2).val + 1 - (1 + 4 * k.val + 1 + 1)) 3 (off48 i k 1) ?_
    refine dd12 ?_
    refine st12 ?_
    refine dd13 ?_
    refine st13 ?_
    refine lgFold 1 (4 * (i 2).val + 1 - (1 + 4 * k.val + 1 + 1)) 0 1 (by decide) aP bP H1 ?_ rfl rfl rfl rfl rfl rfl rfl rfl rfl rfl rfl rfl
    intro X12 X13 (H0 : Has X12 X13 0 (tA X3 X4 1 (4 * (i 2).val + 1) (1 + 4 * k.val + 2)) (tB X3 X4 1 (4 * (i 2).val + 1) (1 + 4 * k.val + 2))) H1
    refine ld13 0 (by decide) H1 rfl ?_
    refine ld12 0 (by decide) H1 rfl ?_
    refine ld5 ((4 * (i 2).val + 1) - (1 + 4 * k.val + 1)) 0 (off49 i k 1) ?_
    refine ld13 1 (by decide) H1 rfl ?_
    refine ld12 1 (by decide) H1 rfl ?_
    refine ld5 ((4 * (i 2).val + 1) - (1 + 4 * k.val + 1)) 1 (off50 i k 1) ?_
    refine ld13 2 (by decide) H1 rfl ?_
    refine ld12 2 (by decide) H1 rfl ?_
    refine ld5 ((4 * (i 2).val + 1) - (1 + 4 * k.val + 1)) 2 (off51 i k 1) ?_
    refine ld13 3 (by decide) H1 rfl ?_
    refine ld12 3 (by decide) H1 rfl ?_
    refine ld5 ((4 * (i 2).val + 1) - (1 + 4 * k.val + 1)) 3 (off52 i k 1) ?_
    refine ld3 1 0 rfl ?_
    refine ld4 (4 * (i 2).val + 1 - (1 + 4 * k.val + 2 + 1)) 0 (off45 i k 2) ?_
    refine dd12 ?_
    refine st12 ?_
    refine dd13 ?_
    refine st13 ?_
    refine ld3 1 1 rfl ?_
    refine ld4 (4 * (i 2).val + 1 - (1 + 4 * k.val + 2 + 1)) 1 (off46 i k 2) ?_
    refine dd12 ?_
    refine st12 ?_
    refine dd13 ?_
    refine st13 ?_
    refine ld3 1 2 rfl ?_
    refine ld4 (4 * (i 2).val + 1 - (1 + 4 * k.val + 2 + 1)) 2 (off47 i k 2) ?_
    refine dd12 ?_
    refine st12 ?_
    refine dd13 ?_
    refine st13 ?_
    refine ld3 1 3 rfl ?_
    refine ld4 (4 * (i 2).val + 1 - (1 + 4 * k.val + 2 + 1)) 3 (off48 i k 2) ?_
    refine dd12 ?_
    refine st12 ?_
    refine dd13 ?_
    refine st13 ?_
    refine lgFold 1 (4 * (i 2).val + 1 - (1 + 4 * k.val + 2 + 1)) 1 0 (by decide) aP bP H0 ?_ rfl rfl rfl rfl rfl rfl rfl rfl rfl rfl rfl rfl
    intro X12 X13 (H1 : Has X12 X13 1 (tA X3 X4 1 (4 * (i 2).val + 1) (1 + 4 * k.val + 3)) (tB X3 X4 1 (4 * (i 2).val + 1) (1 + 4 * k.val + 3))) H0
    refine ld13 0 (by decide) H0 rfl ?_
    refine ld12 0 (by decide) H0 rfl ?_
    refine ld5 ((4 * (i 2).val + 1) - (1 + 4 * k.val + 2)) 0 (off49 i k 2) ?_
    refine ld13 1 (by decide) H0 rfl ?_
    refine ld12 1 (by decide) H0 rfl ?_
    refine ld5 ((4 * (i 2).val + 1) - (1 + 4 * k.val + 2)) 1 (off50 i k 2) ?_
    refine ld13 2 (by decide) H0 rfl ?_
    refine ld12 2 (by decide) H0 rfl ?_
    refine ld5 ((4 * (i 2).val + 1) - (1 + 4 * k.val + 2)) 2 (off51 i k 2) ?_
    refine ld13 3 (by decide) H0 rfl ?_
    refine ld12 3 (by decide) H0 rfl ?_
    refine ld5 ((4 * (i 2).val + 1) - (1 + 4 * k.val + 2)) 3 (off52 i k 2) ?_
    refine ld3 1 0 rfl ?_
    refine ld4 (4 * (i 2).val + 1 - (1 + 4 * k.val + 3 + 1)) 0 (off45 i k 3) ?_
    refine dd12 ?_
    refine st12 ?_
    refine dd13 ?_
    refine st13 ?_
    refine ld3 1 1 rfl ?_
    refine ld4 (4 * (i 2).val + 1 - (1 + 4 * k.val + 3 + 1)) 1 (off46 i k 3) ?_
    refine dd12 ?_
    refine st12 ?_
    refine dd13 ?_
    refine st13 ?_
    refine ld3 1 2 rfl ?_
    refine ld4 (4 * (i 2).val + 1 - (1 + 4 * k.val + 3 + 1)) 2 (off47 i k 3) ?_
    refine dd12 ?_
    refine st12 ?_
    refine dd13 ?_
    refine st13 ?_
    refine ld3 1 3 rfl ?_
    refine ld4 (4 * (i 2).val + 1 - (1 + 4 * k.val + 3 + 1)) 3 (off48 i k 3) ?_
    refine dd12 ?_
    refine st12 ?_
    refine dd13 ?_
    refine st13 ?_
    refine lgFold 1 (4 * (i 2).val + 1 - (1 + 4 * k.val + 3 + 1)) 0 1 (by decide) aP bP H1 ?_ rfl rfl rfl rfl rfl rfl rfl rfl rfl rfl rfl rfl
    intro X12 X13 (H0 : Has X12 X13 0 (tA X3 X4 1 (4 * (i 2).val + 1) (1 + 4 * k.val + 4)) (tB X3 X4 1 (4 * (i 2).val + 1) (1 + 4 * k.val + 4))) H1
    refine ld13 0 (by decide) H1 rfl ?_
    refine ld12 0 (by decide) H1 rfl ?_
    refine ld5 ((4 * (i 2).val + 1) - (1 + 4 * k.val + 3)) 0 (off49 i k 3) ?_
    refine ld13 1 (by decide) H1 rfl ?_
    refine ld12 1 (by decide) H1 rfl ?_
    refine ld5 ((4 * (i 2).val + 1) - (1 + 4 * k.val + 3)) 1 (off50 i k 3) ?_
    refine ld13 2 (by decide) H1 rfl ?_
    refine ld12 2 (by decide) H1 rfl ?_
    refine ld5 ((4 * (i 2).val + 1) - (1 + 4 * k.val + 3)) 2 (off51 i k 3) ?_
    refine ld13 3 (by decide) H1 rfl ?_
    refine ld12 3 (by decide) H1 rfl ?_
    refine ld5 ((4 * (i 2).val + 1) - (1 + 4 * k.val + 3)) 3 (off52 i k 3) ?_
    exact ret_post H0 H1 rfl
  intro X12 X13 A1 B1 H0 H1
  dsimp only [stt]
  rw [loop_zero (trips4 i)]
  refine ld13 0 (by decide) H0 rfl ?_
  refine ld12 0 (by decide) H0 rfl ?_
  refine ld5 ((4 * (i 2).val + 1) - (1 + 4 * (i 2).val)) 0 (offz (i 2).val 1 0 _ rfl) ?_
  refine ld13 1 (by decide) H0 rfl ?_
  refine ld12 1 (by decide) H0 rfl ?_
  refine ld5 ((4 * (i 2).val + 1) - (1 + 4 * (i 2).val)) 1 (offz (i 2).val 1 1 _ rfl) ?_
  refine ld13 2 (by decide) H0 rfl ?_
  refine ld12 2 (by decide) H0 rfl ?_
  refine ld5 ((4 * (i 2).val + 1) - (1 + 4 * (i 2).val)) 2 (offz (i 2).val 1 2 _ rfl) ?_
  refine ld13 3 (by decide) H0 rfl ?_
  refine ld12 3 (by decide) H0 rfl ?_
  refine ld5 ((4 * (i 2).val + 1) - (1 + 4 * (i 2).val)) 3 (offz (i 2).val 1 3 _ rfl) ?_
  refine ld9 ?_
  refine st9 ?_
  refine ld9 ?_
  refine st9 ?_
  refine ld9 ?_
  refine st9 ?_
  refine ld9 ?_
  refine st9 ?_
  refine oFold 1 (by decide) HO ?_ rfl rfl rfl rfl rfl rfl rfl rfl
  clear HO X9
  intro X9 HO
  refine ld3 2 0 rfl ?_
  refine ld4 (4 * (i 2).val + 2) 0 (off1_2 i) ?_
  refine dd12 ?_
  refine st12 ?_
  refine dd13 ?_
  refine st13 ?_
  refine ld3 2 1 rfl ?_
  refine ld4 (4 * (i 2).val + 2) 1 (off2_2 i) ?_
  refine dd12 ?_
  refine st12 ?_
  refine dd13 ?_
  refine st13 ?_
  refine ld3 2 2 rfl ?_
  refine ld4 (4 * (i 2).val + 2) 2 (off3_2 i) ?_
  refine dd12 ?_
  refine st12 ?_
  refine dd13 ?_
  refine st13 ?_
  refine ld3 2 3 rfl ?_
  refine ld4 (4 * (i 2).val + 2) 3 (off4_2 i) ?_
  refine dd12 ?_
  refine st12 ?_
  refine dd13 ?_
  refine st13 ?_
  refine lgFold 2 (4 * (i 2).val + 2) 0 1 (by decide) aD bD H1 ?_ rfl rfl rfl rfl rfl rfl rfl rfl rfl rfl rfl rfl
  intro X12 X13 (H0 : Has X12 X13 0 (tA X3 X4 2 (4 * (i 2).val + 2) (0)) (tB X3 X4 2 (4 * (i 2).val + 2) (0))) H1
  dsimp only [Prog.bind, Bind.bind, Pure.pure]
  delta k0_part234
  dsimp only
  rw [dif_pos (cond4 i)]
  refine ld3 2 0 rfl ?_
  refine ld4 (4 * (i 2).val + 2 - (0 + 1)) 0 (off61 i 0) ?_
  refine dd12 ?_
  refine st12 ?_
  refine dd13 ?_
  refine st13 ?_
  refine ld3 2 1 rfl ?_
  refine ld4 (4 * (i 2).val + 2 - (0 + 1)) 1 (off62 i 0) ?_
  refine dd12 ?_
  refine st12 ?_
  refine dd13 ?_
  refine st13 ?_
  refine ld3 2 2 rfl ?_
  refine ld4 (4 * (i 2).val + 2 - (0 + 1)) 2 (off63 i 0) ?_
  refine dd12 ?_
  refine st12 ?_
  refine dd13 ?_
  refine st13 ?_
  refine ld3 2 3 rfl ?_
  refine ld4 (4 * (i 2).val + 2 - (0 + 1)) 3 (off64 i 0) ?_
  refine dd12 ?_
  refine st12 ?_
  refine dd13 ?_
  refine st13 ?_
  refine lgFold 2 (4 * (i 2).val + 2 - (0 + 1)) 1 0 (by decide) aP bP H0 ?_ rfl rfl rfl rfl rfl rfl rfl rfl rfl rfl rfl rfl
  intro X12 X13 (H1 : Has X12 X13 1 (tA X3 X4 2 (4 * (i 2).val + 2) (1)) (tB X3 X4 2 (4 * (i 2).val + 2) (1))) H0
  refine ld13 0 (by decide) H0 rfl ?_
  refine ld12 0 (by decide) H0 rfl ?_
  refine ld5 ((4 * (i 2).val + 2) - (0)) 0 (off65 i 0) ?_
  refine ld13 1 (by decide) H0 rfl ?_
  refine ld12 1 (by decide) H0 rfl ?_
  refine ld5 ((4 * (i 2).val + 2) - (0)) 1 (off66 i 0) ?_
  refine ld13 2 (by decide) H0 rfl ?_
  refine ld12 2 (by decide) H0 rfl ?_
  refine ld5 ((4 * (i 2).val + 2) - (0)) 2 (off67 i 0) ?_
  refine ld13 3 (by decide) H0 rfl ?_
  refine ld12 3 (by decide) H0 rfl ?_
  refine ld5 ((4 * (i 2).val + 2) - (0)) 3 (off68 i 0) ?_
  refine ld3 2 0 rfl ?_
  refine ld4 (4 * (i 2).val + 2 - (1 + 1)) 0 (off61 i 1) ?_
  refine dd12 ?_
  refine st12 ?_
  refine dd13 ?_
  refine st13 ?_
  refine ld3 2 1 rfl ?_
  refine ld4 (4 * (i 2).val + 2 - (1 + 1)) 1 (off62 i 1) ?_
  refine dd12 ?_
  refine st12 ?_
  refine dd13 ?_
  refine st13 ?_
  refine ld3 2 2 rfl ?_
  refine ld4 (4 * (i 2).val + 2 - (1 + 1)) 2 (off63 i 1) ?_
  refine dd12 ?_
  refine st12 ?_
  refine dd13 ?_
  refine st13 ?_
  refine ld3 2 3 rfl ?_
  refine ld4 (4 * (i 2).val + 2 - (1 + 1)) 3 (off64 i 1) ?_
  refine dd12 ?_
  refine st12 ?_
  refine dd13 ?_
  refine st13 ?_
  refine lgFold 2 (4 * (i 2).val + 2 - (1 + 1)) 0 1 (by decide) aP bP H1 ?_ rfl rfl rfl rfl rfl rfl rfl rfl rfl rfl rfl rfl
  intro X12 X13 (H0 : Has X12 X13 0 (tA X3 X4 2 (4 * (i 2).val + 2) (2)) (tB X3 X4 2 (4 * (i 2).val + 2) (2))) H1
  refine ld13 0 (by decide) H1 rfl ?_
  refine ld12 0 (by decide) H1 rfl ?_
  refine ld5 ((4 * (i 2).val + 2) - (1)) 0 (off65 i 1) ?_
  refine ld13 1 (by decide) H1 rfl ?_
  refine ld12 1 (by decide) H1 rfl ?_
  refine ld5 ((4 * (i 2).val + 2) - (1)) 1 (off66 i 1) ?_
  refine ld13 2 (by decide) H1 rfl ?_
  refine ld12 2 (by decide) H1 rfl ?_
  refine ld5 ((4 * (i 2).val + 2) - (1)) 2 (off67 i 1) ?_
  refine ld13 3 (by decide) H1 rfl ?_
  refine ld12 3 (by decide) H1 rfl ?_
  refine ld5 ((4 * (i 2).val + 2) - (1)) 3 (off68 i 1) ?_
  dsimp only
  refine loopSt (X6 := X6) 2 (4 * (i 2).val + 2) (i 2).val (trips5 i) H0 H1 rfl ?_ ?_
  · intro k X12 X13 A1 B1 H0 H1
    dsimp only [stt]
    refine ld3 2 0 rfl ?_
    refine ld4 (4 * (i 2).val + 2 - (2 + 4 * k.val + 1)) 0 (off69 i k 0) ?_
    refine dd12 ?_
    refine st12 ?_
    refine dd13 ?_
    refine st13 ?_
    refine ld3 2 1 rfl ?_
    refine ld4 (4 * (i 2).val + 2 - (2 + 4 * k.val + 1)) 1 (off70 i k 0) ?_
    refine dd12 ?_
    refine st12 ?_
    refine dd13 ?_
    refine st13 ?_
    refine ld3 2 2 rfl ?_
    refine ld4 (4 * (i 2).val + 2 - (2 + 4 * k.val + 1)) 2 (off71 i k 0) ?_
    refine dd12 ?_
    refine st12 ?_
    refine dd13 ?_
    refine st13 ?_
    refine ld3 2 3 rfl ?_
    refine ld4 (4 * (i 2).val + 2 - (2 + 4 * k.val + 1)) 3 (off72 i k 0) ?_
    refine dd12 ?_
    refine st12 ?_
    refine dd13 ?_
    refine st13 ?_
    refine lgFold 2 (4 * (i 2).val + 2 - (2 + 4 * k.val + 1)) 1 0 (by decide) aP bP H0 ?_ rfl rfl rfl rfl rfl rfl rfl rfl rfl rfl rfl rfl
    intro X12 X13 (H1 : Has X12 X13 1 (tA X3 X4 2 (4 * (i 2).val + 2) (2 + 4 * k.val + 1)) (tB X3 X4 2 (4 * (i 2).val + 2) (2 + 4 * k.val + 1))) H0
    refine ld13 0 (by decide) H0 rfl ?_
    refine ld12 0 (by decide) H0 rfl ?_
    refine ld5 ((4 * (i 2).val + 2) - (2 + 4 * k.val)) 0 (off73 i k 0) ?_
    refine ld13 1 (by decide) H0 rfl ?_
    refine ld12 1 (by decide) H0 rfl ?_
    refine ld5 ((4 * (i 2).val + 2) - (2 + 4 * k.val)) 1 (off74 i k 0) ?_
    refine ld13 2 (by decide) H0 rfl ?_
    refine ld12 2 (by decide) H0 rfl ?_
    refine ld5 ((4 * (i 2).val + 2) - (2 + 4 * k.val)) 2 (off75 i k 0) ?_
    refine ld13 3 (by decide) H0 rfl ?_
    refine ld12 3 (by decide) H0 rfl ?_
    refine ld5 ((4 * (i 2).val + 2) - (2 + 4 * k.val)) 3 (off76 i k 0) ?_
    refine ld3 2 0 rfl ?_
    refine ld4 (4 * (i 2).val + 2 - (2 + 4 * k.val + 1 + 1)) 0 (off69 i k 1) ?_
    refine dd12 ?_
    refine st12 ?_
    refine dd13 ?_
    refine st13 ?_
    refine ld3 2 1 rfl ?_
    refine ld4 (4 * (i 2).val + 2 - (2 + 4 * k.val + 1 + 1)) 1 (off70 i k 1) ?_
    refine dd12 ?_
    refine st12 ?_
    refine dd13 ?_
    refine st13 ?_
    refine ld3 2 2 rfl ?_
    refine ld4 (4 * (i 2).val + 2 - (2 + 4 * k.val + 1 + 1)) 2 (off71 i k 1) ?_
    refine dd12 ?_
    refine st12 ?_
    refine dd13 ?_
    refine st13 ?_
    refine ld3 2 3 rfl ?_
    refine ld4 (4 * (i 2).val + 2 - (2 + 4 * k.val + 1 + 1)) 3 (off72 i k 1) ?_
    refine dd12 ?_
    refine st12 ?_
    refine dd13 ?_
    refine st13 ?_
    refine lgFold 2 (4 * (i 2).val + 2 - (2 + 4 * k.val + 1 + 1)) 0 1 (by decide) aP bP H1 ?_ rfl rfl rfl rfl rfl rfl rfl rfl rfl rfl rfl rfl
    intro X12 X13 (H0 : Has X12 X13 0 (tA X3 X4 2 (4 * (i 2).val + 2) (2 + 4 * k.val + 2)) (tB X3 X4 2 (4 * (i 2).val + 2) (2 + 4 * k.val + 2))) H1
    refine ld13 0 (by decide) H1 rfl ?_
    refine ld12 0 (by decide) H1 rfl ?_
    refine ld5 ((4 * (i 2).val + 2) - (2 + 4 * k.val + 1)) 0 (off73 i k 1) ?_
    refine ld13 1 (by decide) H1 rfl ?_
    refine ld12 1 (by decide) H1 rfl ?_
    refine ld5 ((4 * (i 2).val + 2) - (2 + 4 * k.val + 1)) 1 (off74 i k 1) ?_
    refine ld13 2 (by decide) H1 rfl ?_
    refine ld12 2 (by decide) H1 rfl ?_
    refine ld5 ((4 * (i 2).val + 2) - (2 + 4 * k.val + 1)) 2 (off75 i k 1) ?_
    refine ld13 3 (by decide) H1 rfl ?_
    refine ld12 3 (by decide) H1 rfl ?_
    refine ld5 ((4 * (i 2).val + 2) - (2 + 4 * k.val + 1)) 3 (off76 i k 1) ?_
    refine ld3 2 0 rfl ?_
    refine ld4 (4 * (i 2).val + 2 - (2 + 4 * k.val + 2 + 1)) 0 (off69 i k 2) ?_
    refine dd12 ?_
    refine st12 ?_
    refine dd13 ?_
    refine st13 ?_
    refine ld3 2 1 rfl ?_
    refine ld4 (4 * (i 2).val + 2 - (2 + 4 * k.val + 2 + 1)) 1 (off70 i k 2) ?_
    refine dd12 ?_
    refine st12 ?_
    refine dd13 ?_
    refine st13 ?_
    refine ld3 2 2 rfl ?_
    refine ld4 (4 * (i 2).val + 2 - (2 + 4 * k.val + 2 + 1)) 2 (off71 i k 2) ?_
    refine dd12 ?_
    refine st12 ?_
    refine dd13 ?_
    refine st13 ?_
    refine ld3 2 3 rfl ?_
    refine ld4 (4 * (i 2).val + 2 - (2 + 4 * k.val + 2 + 1)) 3 (off72 i k 2) ?_
    refine dd12 ?_
    refine st12 ?_
    refine dd13 ?_
    refine st13 ?_
    refine lgFold 2 (4 * (i 2).val + 2 - (2 + 4 * k.val + 2 + 1)) 1 0 (by decide) aP bP H0 ?_ rfl rfl rfl rfl rfl rfl rfl rfl rfl rfl rfl rfl
    intro X12 X13 (H1 : Has X12 X13 1 (tA X3 X4 2 (4 * (i 2).val + 2) (2 + 4 * k.val + 3)) (tB X3 X4 2 (4 * (i 2).val + 2) (2 + 4 * k.val + 3))) H0
    refine ld13 0 (by decide) H0 rfl ?_
    refine ld12 0 (by decide) H0 rfl ?_
    refine ld5 ((4 * (i 2).val + 2) - (2 + 4 * k.val + 2)) 0 (off73 i k 2) ?_
    refine ld13 1 (by decide) H0 rfl ?_
    refine ld12 1 (by decide) H0 rfl ?_
    refine ld5 ((4 * (i 2).val + 2) - (2 + 4 * k.val + 2)) 1 (off74 i k 2) ?_
    refine ld13 2 (by decide) H0 rfl ?_
    refine ld12 2 (by decide) H0 rfl ?_
    refine ld5 ((4 * (i 2).val + 2) - (2 + 4 * k.val + 2)) 2 (off75 i k 2) ?_
    refine ld13 3 (by decide) H0 rfl ?_
    refine ld12 3 (by decide) H0 rfl ?_
    refine ld5 ((4 * (i 2).val + 2) - (2 + 4 * k.val + 2)) 3 (off76 i k 2) ?_
    refine ld3 2 0 rfl ?_
    refine ld4 (4 * (i 2).val + 2 - (2 + 4 * k.val + 3 + 1)) 0 (off69 i k 3) ?_
    refine dd12 ?_
    refine st12 ?_
    refine dd13 ?_
    refine st13 ?_
    refine ld3 2 1 rfl ?_
    refine ld4 (4 * (i 2).val + 2 - (2 + 4 * k.val + 3 + 1)) 1 (off70 i k 3) ?_
    refine dd12 ?_
    refine st12 ?_
    refine dd13 ?_
    refine st13 ?_
    refine ld3 2 2 rfl ?_
    refine ld4 (4 * (i 2).val + 2 - (2 + 4 * k.val + 3 + 1)) 2 (off71 i k 3) ?_
    refine dd12 ?_
    refine st12 ?_
    refine dd13 ?_
    refine st13 ?_
    refine ld3 2 3 rfl ?_
    refine ld4 (4 * (i 2).val + 2 - (2 + 4 * k.val + 3 + 1)) 3 (off72 i k 3) ?_
    refine dd12 ?_
    refine st12 ?_
    refine dd13 ?_
    refine st13 ?_
    refine lgFold 2 (4 * (i 2).val + 2 - (2 + 4 * k.val + 3 + 1)) 0 1 (by decide) aP bP H1 ?_ rfl rfl rfl rfl rfl rfl rfl rfl rfl rfl rfl rfl
    intro X12 X13 (H0 : Has X12 X13 0 (tA X3 X4 2 (4 * (i 2).val + 2) (2 + 4 * k.val + 4)) (tB X3 X4 2 (4 * (i 2).val + 2) (2 + 4 * k.val + 4))) H1
    refine ld13 0 (by decide) H1 rfl ?_
    refine ld12 0 (by decide) H1 rfl ?_
    refine ld5 ((4 * (i 2).val + 2) - (2 + 4 * k.val + 3)) 0 (off73 i k 3) ?_
    refine ld13 1 (by decide) H1 rfl ?_
    refine ld12 1 (by decide) H1 rfl ?_
    refine ld5 ((4 * (i 2).val + 2) - (2 + 4 * k.val + 3)) 1 (off74 i k 3) ?_
    refine ld13 2 (by decide) H1 rfl ?_
    refine ld12 2 (by decide) H1 rfl ?_
    refine ld5 ((4 * (i 2).val + 2) - (2 + 4 * k.val + 3)) 2 (off75 i k 3) ?_
    refine ld13 3 (by decide) H1 rfl ?_
    refine ld12 3 (by decide) H1 rfl ?_
    refine ld5 ((4 * (i 2).val + 2) - (2 + 4 * k.val + 3)) 3 (off76 i k 3) ?_
    exact ret_post H0 H1 rfl
  intro X12 X13 A1 B1 H0 H1
  dsimp only [stt]
  dsimp only [Prog.bind, Bind.bind, Pure.pure]
  delta k0_part235
  dsimp only
  rw [loop_zero (trips6 i)]
  refine ld13 0 (by decide) H0 rfl ?_
  refine ld12 0 (by decide) H0 rfl ?_
  refine ld5 ((4 * (i 2).val + 2) - (2 + 4 * (i 2).val)) 0 (offz (i 2).val 2 0 _ rfl) ?_
  refine ld13 1 (by decide) H0 rfl ?_
  refine ld12 1 (by decide) H0 rfl ?_
  refine ld5 ((4 * (i 2).val + 2) - (2 + 4 * (i 2).val)) 1 (offz (i 2).val 2 1 _ rfl) ?_
  refine ld13 2 (by decide) H0 rfl ?_
  refine ld12 2 (by decide) H0 rfl ?_
  refine ld5 ((4 * (i 2).val + 2) - (2 + 4 * (i 2).val)) 2 (offz (i 2).val 2 2 _ rfl) ?_
  refine ld13 3 (by decide) H0 rfl ?_
  refine ld12 3 (by decide) H0 rfl ?_
  refine ld5 ((4 * (i 2).val + 2) - (2 + 4 * (i 2).val)) 3 (offz (i 2).val 2 3 _ rfl) ?_
  refine ld9 ?_
  refine st9 ?_
  refine ld9 ?_
  refine st9 ?_
  refine ld9 ?_
  refine st9 ?_
  refine ld9 ?_
  refine st9 ?_
  refine oFold 2 (by decide) HO ?_ rfl rfl rfl rfl rfl rfl rfl rfl
  clear HO X9
  intro X9 HO
  refine ld3 3 0 rfl ?_
  refine ld4 (4 * (i 2).val + 3) 0 (off1_3 i) ?_
  refine dd12 ?_
  refine st12 ?_
  refine dd13 ?_
  refine st13 ?_
  refine ld3 3 1 rfl ?_
  refine ld4 (4 * (i 2).val + 3) 1 (off2_3 i) ?_
  refine dd12 ?_
  refine st12 ?_
  refine dd13 ?_
  refine st13 ?_
  refine ld3 3 2 rfl ?_
  refine ld4 (4 * (i 2).val + 3) 2 (off3_3 i) ?_
  refine dd12 ?_
  refine st12 ?_
  refine dd13 ?_
  refine st13 ?_
  refine ld3 3 3 rfl ?_
  refine ld4 (4 * (i 2).val + 3) 3 (off4_3 i) ?_
  refine dd12 ?_
  refine st12 ?_
  refine dd13 ?_
  refine st13 ?_
  refine lgFold 3 (4 * (i 2).val + 3) 1 0 (by decide) aD bD H0 ?_ rfl rfl rfl rfl rfl rfl rfl rfl rfl rfl rfl rfl
  intro X12 X13 (H1 : Has X12 X13 1 (tA X3 X4 3 (4 * (i 2).val + 3) (0)) (tB X3 X4 3 (4 * (i 2).val + 3) (0))) H0
  refine ld3 3 0 rfl ?_
  refine ld4 (4 * (i 2).val + 3 - (0 + 1)) 0 (off29_3 i) ?_
  refine dd12 ?_
  refine st12 ?_
  refine dd13 ?_
  refine st13 ?_
  refine ld3 3 1 rfl ?_
  refine ld4 (4 * (i 2).val + 3 - (0 + 1)) 1 (off30_3 i) ?_
  refine dd12 ?_
  refine st12 ?_
  refine dd13 ?_
  refine st13 ?_
  refine ld3 3 2 rfl ?_
  refine ld4 (4 * (i 2).val + 3 - (0 + 1)) 2 (off31_3 i) ?_
  refine dd12 ?_
  refine st12 ?_
  refine dd13 ?_
  refine st13 ?_
  refine ld3 3 3 rfl ?_
  refine ld4 (4 * (i 2).val + 3 - (0 + 1)) 3 (off32_3 i) ?_
  refine dd12 ?_
  refine st12 ?_
  refine dd13 ?_
  refine st13 ?_
  refine lgFold 3 (4 * (i 2).val + 3 - (0 + 1)) 0 1 (by decide) aP bP H1 ?_ rfl rfl rfl rfl rfl rfl rfl rfl rfl rfl rfl rfl
  intro X12 X13 (H0 : Has X12 X13 0 (tA X3 X4 3 (4 * (i 2).val + 3) (1)) (tB X3 X4 3 (4 * (i 2).val + 3) (1))) H1
  refine ld13 0 (by decide) H1 rfl ?_
  refine ld12 0 (by decide) H1 rfl ?_
  refine ld5 ((4 * (i 2).val + 3) - (0)) 0 (off33_3 i) ?_
  refine ld13 1 (by decide) H1 rfl ?_
  refine ld12 1 (by decide) H1 rfl ?_
  refine ld5 ((4 * (i 2).val + 3) - (0)) 1 (off34_3 i) ?_
  refine ld13 2 (by decide) H1 rfl ?_
  refine ld12 2 (by decide) H1 rfl ?_
  refine ld5 ((4 * (i 2).val + 3) - (0)) 2 (off35_3 i) ?_
  refine ld13 3 (by decide) H1 rfl ?_
  refine ld12 3 (by decide) H1 rfl ?_
  refine ld5 ((4 * (i 2).val + 3) - (0)) 3 (off36_3 i) ?_
  dsimp only [Prog.bind, Bind.bind, Pure.pure]
  delta k0_part246
  dsimp only
  rw [dif_pos (cond5 i)]
  refine ld3 3 0 rfl ?_
  refine ld4 (4 * (i 2).val + 3 - (1 + 0 + 1)) 0 (off85 i 0) ?_
  refine dd12 ?_
  refine st12 ?_
  refine dd13 ?_
  refine st13 ?_
  refine ld3 3 1 rfl ?_
  refine ld4 (4 * (i 2).val + 3 - (1 + 0 + 1)) 1 (off86 i 0) ?_
  refine dd12 ?_
  refine st12 ?_
  refine dd13 ?_
  refine st13 ?_
  refine ld3 3 2 rfl ?_
  refine ld4 (4 * (i 2).val + 3 - (1 + 0 + 1)) 2 (off87 i 0) ?_
  refine dd12 ?_
  refine st12 ?_
  refine dd13 ?_
  refine st13 ?_
  refine ld3 3 3 rfl ?_
  refine ld4 (4 * (i 2).val + 3 - (1 + 0 + 1)) 3 (off88 i 0) ?_
  refine dd12 ?_
  refine st12 ?_
  refine dd13 ?_
  refine st13 ?_
  refine lgFold 3 (4 * (i 2).val + 3 - (1 + 0 + 1)) 1 0 (by decide) aP bP H0 ?_ rfl rfl rfl rfl rfl rfl rfl rfl rfl rfl rfl rfl
  intro X12 X13 (H1 : Has X12 X13 1 (tA X3 X4 3 (4 * (i 2).val + 3) (2)) (tB X3 X4 3 (4 * (i 2).val + 3) (2))) H0
  refine ld13 0 (by decide) H0 rfl ?_
  refine ld12 0 (by decide) H0 rfl ?_
  refine ld5 ((4 * (i 2).val + 3) - (1 + 0)) 0 (off89 i 0) ?_
  refine ld13 1 (by decide) H0 rfl ?_
  refine ld12 1 (by decide) H0 rfl ?_
  refine ld5 ((4 * (i 2).val + 3) - (1 + 0)) 1 (off90 i 0) ?_
  refine ld13 2 (by decide) H0 rfl ?_
  refine ld12 2 (by decide) H0 rfl ?_
  refine ld5 ((4 * (i 2).val + 3) - (1 + 0)) 2 (off91 i 0) ?_
  refine ld13 3 (by decide) H0 rfl ?_
  refine ld12 3 (by decide) H0 rfl ?_
  refine ld5 ((4 * (i 2).val + 3) - (1 + 0)) 3 (off92 i 0) ?_
  refine ld3 3 0 rfl ?_
  refine ld4 (4 * (i 2).val + 3 - (1 + 1 + 1)) 0 (off85 i 1) ?_
  refine dd12 ?_
  refine st12 ?_
  refine dd13 ?_
  refine st13 ?_
  refine ld3 3 1 rfl ?_
  refine ld4 (4 * (i 2).val + 3 - (1 + 1 + 1)) 1 (off86 i 1) ?_
  refine dd12 ?_
  refine st12 ?_
  refine dd13 ?_
  refine st13 ?_
  refine ld3 3 2 rfl ?_
  refine ld4 (4 * (i 2).val + 3 - (1 + 1 + 1)) 2 (off87 i 1) ?_
  refine dd12 ?_
  refine st12 ?_
  refine dd13 ?_
  refine st13 ?_
  refine ld3 3 3 rfl ?_
  refine ld4 (4 * (i 2).val + 3 - (1 + 1 + 1)) 3 (off88 i 1) ?_
  refine dd12 ?_
  refine st12 ?_
  refine dd13 ?_
  refine st13 ?_
  refine lgFold 3 (4 * (i 2).val + 3 - (1 + 1 + 1)) 0 1 (by decide) aP bP H1 ?_ rfl rfl rfl rfl rfl rfl rfl rfl rfl rfl rfl rfl
  intro X12 X13 (H0 : Has X12 X13 0 (tA X3 X4 3 (4 * (i 2).val + 3) (3)) (tB X3 X4 3 (4 * (i 2).val + 3) (3))) H1
  refine ld13 0 (by decide) H1 rfl ?_
  refine ld12 0 (by decide) H1 rfl ?_
  refine ld5 ((4 * (i 2).val + 3) - (1 + 1)) 0 (off89 i 1) ?_
  refine ld13 1 (by decide) H1 rfl ?_
  refine ld12 1 (by decide) H1 rfl ?_
  refine ld5 ((4 * (i 2).val + 3) - (1 + 1)) 1 (off90 i 1) ?_
  refine ld13 2 (by decide) H1 rfl ?_
  refine ld12 2 (by decide) H1 rfl ?_
  refine ld5 ((4 * (i 2).val + 3) - (1 + 1)) 2 (off91 i 1) ?_
  refine ld13 3 (by decide) H1 rfl ?_
  refine ld12 3 (by decide) H1 rfl ?_
  refine ld5 ((4 * (i 2).val + 3) - (1 + 1)) 3 (off92 i 1) ?_
  dsimp only [Prog.bind, Bind.bind, Pure.pure]
  delta k0_part247
  dsimp only
  refine loopSt (X6 := X6) 3 (4 * (i 2).val + 3) (i 2).val (trips7 i) H0 H1 rfl ?_ ?_
  · intro k X12 X13 A1 B1 H0 H1
    dsimp only [stt]
    refine ld3 3 0 rfl ?_
    refine ld4 (4 * (i 2).val + 3 - (3 + 4 * k.val + 1)) 0 (off93 i k 0) ?_
    refine dd12 ?_
    refine st12 ?_
    refine dd13 ?_
    refine st13 ?_
    refine ld3 3 1 rfl ?_
    refine ld4 (4 * (i 2).val + 3 - (3 + 4 * k.val + 1)) 1 (off94 i k 0) ?_
    refine dd12 ?_
    refine st12 ?_
    refine dd13 ?_
    refine st13 ?_
    refine ld3 3 2 rfl ?_
    refine ld4 (4 * (i 2).val + 3 - (3 + 4 * k.val + 1)) 2 (off95 i k 0) ?_
    refine dd12 ?_
    refine st12 ?_
    refine dd13 ?_
    refine st13 ?_
    refine ld3 3 3 rfl ?_
    refine ld4 (4 * (i 2).val + 3 - (3 + 4 * k.val + 1)) 3 (off96 i k 0) ?_
    refine dd12 ?_
    refine st12 ?_
    refine dd13 ?_
    refine st13 ?_
    refine lgFold 3 (4 * (i 2).val + 3 - (3 + 4 * k.val + 1)) 1 0 (by decide) aP bP H0 ?_ rfl rfl rfl rfl rfl rfl rfl rfl rfl rfl rfl rfl
    intro X12 X13 (H1 : Has X12 X13 1 (tA X3 X4 3 (4 * (i 2).val + 3) (3 + 4 * k.val + 1)) (tB X3 X4 3 (4 * (i 2).val + 3) (3 + 4 * k.val + 1))) H0
    refine ld13 0 (by decide) H0 rfl ?_
    refine ld12 0 (by decide) H0 rfl ?_
    refine ld5 ((4 * (i 2).val + 3) - (3 + 4 * k.val)) 0 (off97 i k 0) ?_
    refine ld13 1 (by decide) H0 rfl ?_
    refine ld12 1 (by decide) H0 rfl ?_
    refine ld5 ((4 * (i 2).val + 3) - (3 + 4 * k.val)) 1 (off98 i k 0) ?_
    refine ld13 2 (by decide) H0 rfl ?_
    refine ld12 2 (by decide) H0 rfl ?_
    refine ld5 ((4 * (i 2).val + 3) - (3 + 4 * k.val)) 2 (off99 i k 0) ?_
    refine ld13 3 (by decide) H0 rfl ?_
    refine ld12 3 (by decide) H0 rfl ?_
    refine ld5 ((4 * (i 2).val + 3) - (3 + 4 * k.val)) 3 (off100 i k 0) ?_
    refine ld3 3 0 rfl ?_
    refine ld4 (4 * (i 2).val + 3 - (3 + 4 * k.val + 1 + 1)) 0 (off93 i k 1) ?_
    refine dd12 ?_
    refine st12 ?_
    refine dd13 ?_
    refine st13 ?_
    refine ld3 3 1 rfl ?_
    refine ld4 (4 * (i 2).val + 3 - (3 + 4 * k.val + 1 + 1)) 1 (off94 i k 1) ?_
    refine dd12 ?_
    refine st12 ?_
    refine dd13 ?_
    refine st13 ?_
    refine ld3 3 2 rfl ?_
    refine ld4 (4 * (i 2).val + 3 - (3 + 4 * k.val + 1 + 1)) 2 (off95 i k 1) ?_
    refine dd12 ?_
    refine st12 ?_
    refine dd13 ?_
    refine st13 ?_
    refine ld3 3 3 rfl ?_
    refine ld4 (4 * (i 2).val + 3 - (3 + 4 * k.val + 1 + 1)) 3 (off96 i k 1) ?_
    refine dd12 ?_
    refine st12 ?_
    refine dd13 ?_
    refine st13 ?_
    refine lgFold 3 (4 * (i 2).val + 3 - (3 + 4 * k.val + 1 + 1)) 0 1 (by decide) aP bP H1 ?_ rfl rfl rfl rfl rfl rfl rfl rfl rfl rfl rfl rfl
    intro X12 X13 (H0 : Has X12 X13 0 (tA X3 X4 3 (4 * (i 2).val + 3) (3 + 4 * k.val + 2)) (tB X3 X4 3 (4 * (i 2).val + 3) (3 + 4 * k.val + 2))) H1
    refine ld13 0 (by decide) H1 rfl ?_
    refine ld12 0 (by decide) H1 rfl ?_
    refine ld5 ((4 * (i 2).val + 3) - (3 + 4 * k.val + 1)) 0 (off97 i k 1) ?_
    refine ld13 1 (by decide) H1 rfl ?_
    refine ld12 1 (by decide) H1 rfl ?_
    refine ld5 ((4 * (i 2).val + 3) - (3 + 4 * k.val + 1)) 1 (off98 i k 1) ?_
    refine ld13 2 (by decide) H1 rfl ?_
    refine ld12 2 (by decide) H1 rfl ?_
    refine ld5 ((4 * (i 2).val + 3) - (3 + 4 * k.val + 1)) 2 (off99 i k 1) ?_
    refine ld13 3 (by decide) H1 rfl ?_
    refine ld12 3 (by decide) H1 rfl ?_
    refine ld5 ((4 * (i 2).val + 3) - (3 + 4 * k.val + 1)) 3 (off100 i k 1) ?_
    refine ld3 3 0 rfl ?_
    refine ld4 (4 * (i 2).val + 3 - (3 + 4 * k.val + 2 + 1)) 0 (off93 i k 2) ?_
    refine dd12 ?_
    refine st12 ?_
    refine dd13 ?_
    refine st13 ?_
    refine ld3 3 1 rfl ?_
    refine ld4 (4 * (i 2).val + 3 - (3 + 4 * k.val + 2 + 1)) 1 (off94 i k 2) ?_
    refine dd12 ?_
    refine st12 ?_
    refine dd13 ?_
    refine st13 ?_
    refine ld3 3 2 rfl ?_
    refine ld4 (4 * (i 2).val + 3 - (3 + 4 * k.val + 2 + 1)) 2 (off95 i k 2) ?_
    refine dd12 ?_
    refine st12 ?_
    refine dd13 ?_
    refine st13 ?_
    refine ld3 3 3 rfl ?_
    refine ld4 (4 * (i 2).val + 3 - (3 + 4 * k.val + 2 + 1)) 3 (off96 i k 2) ?_
    refine dd12 ?_
    refine st12 ?_
    refine dd13 ?_
    refine st13 ?_
    refine lgFold 3 (4 * (i 2).val + 3 - (3 + 4 * k.val + 2 + 1)) 1 0 (by decide) aP bP H0 ?_ rfl rfl rfl rfl rfl rfl rfl rfl rfl rfl rfl rfl
    intro X12 X13 (H1 : Has X12 X13 1 (tA X3 X4 3 (4 * (i 2).val + 3) (3 + 4 * k.val + 3)) (tB X3 X4 3 (4 * (i 2).val + 3) (3 + 4 * k.val + 3))) H0
    refine ld13 0 (by decide) H0 rfl ?_
    refine ld12 0 (by decide) H0 rfl ?_
    refine ld5 ((4 * (i 2).val + 3) - (3 + 4 * k.val + 2)) 0 (off97 i k 2) ?_
    refine ld13 1 (by decide) H0 rfl ?_
    refine ld12 1 (by decide) H0 rfl ?_
    refine ld5 ((4 * (i 2).val + 3) - (3 + 4 * k.val + 2)) 1 (off98 i k 2) ?_
    refine ld13 2 (by decide) H0 rfl ?_
    refine ld12 2 (by decide) H0 rfl ?_
    refine ld5 ((4 * (i 2).val + 3) - (3 + 4 * k.val + 2)) 2 (off99 i k 2) ?_
    refine ld13 3 (by decide) H0 rfl ?_
    refine ld12 3 (by decide) H0 rfl ?_
    refine ld5 ((4 * (i 2).val + 3) - (3 + 4 * k.val + 2)) 3 (off100 i k 2) ?_
    refine ld3 3 0 rfl ?_
    refine ld4 (4 * (i 2).val + 3 - (3 + 4 * k.val + 3 + 1)) 0 (off93 i k 3) ?_
    refine dd12 ?_
    refine st12 ?_
    refine dd13 ?_
    refine st13 ?_
    refine ld3 3 1 rfl ?_
    refine ld4 (4 * (i 2).val + 3 - (3 + 4 * k.val + 3 + 1)) 1 (off94 i k 3) ?_
    refine dd12 ?_
    refine st12 ?_
    refine dd13 ?_
    refine st13 ?_
    refine ld3 3 2 rfl ?_
    refine ld4 (4 * (i 2).val + 3 - (3 + 4 * k.val + 3 + 1)) 2 (off95 i k 3) ?_
    refine dd12 ?_
    refine st12 ?_
    refine dd13 ?_
    refine st13 ?_
    refine ld3 3 3 rfl ?_
    refine ld4 (4 * (i 2).val + 3 - (3 + 4 * k.val + 3 + 1)) 3 (off96 i k 3) ?_
    refine dd12 ?_
    refine st12 ?_
    refine dd13 ?_
    refine st13 ?_
    refine lgFold 3 (4 * (i 2).val + 3 - (3 + 4 * k.val + 3 + 1)) 0 1 (by decide) aP bP H1 ?_ rfl rfl rfl rfl rfl rfl rfl rfl rfl rfl rfl rfl
    intro X12 X13 (H0 : Has X12 X13 0 (tA X3 X4 3 (4 * (i 2).val + 3) (3 + 4 * k.val + 4)) (tB X3 X4 3 (4 * (i 2).val + 3) (3 + 4 * k.val + 4))) H1
    refine ld13 0 (by decide) H1 rfl ?_
    refine ld12 0 (by decide) H1 rfl ?_
    refine ld5 ((4 * (i 2).val + 3) - (3 + 4 * k.val + 3)) 0 (off97 i k 3) ?_
    refine ld13 1 (by decide) H1 rfl ?_
    refine ld12 1 (by decide) H1 rfl ?_
    refine ld5 ((4 * (i 2).val + 3) - (3 + 4 * k.val + 3)) 1 (off98 i k 3) ?_
    refine ld13 2 (by decide) H1 rfl ?_
    refine ld12 2 (by decide) H1 rfl ?_
    refine ld5 ((4 * (i 2).val + 3) - (3 + 4 * k.val + 3)) 2 (off99 i k 3) ?_
    refine ld13 3 (by decide) H1 rfl ?_
    refine ld12 3 (by decide) H1 rfl ?_
    refine ld5 ((4 * (i 2).val + 3) - (3 + 4 * k.val + 3)) 3 (off100 i k 3) ?_
    exact ret_post H0 H1 rfl
  intro X12 X13 A1 B1 H0 H1
  dsimp only [stt]
  rw [loop_zero (trips8 i)]
  refine ld13 0 (by decide) H0 rfl ?_
  refine ld12 0 (by decide) H0 rfl ?_
  refine ld5 ((4 * (i 2).val + 3) - (3 + 4 * (i 2).val)) 0 (offz (i 2).val 3 0 _ rfl) ?_
  refine ld13 1 (by decide) H0 rfl ?_
  refine ld12 1 (by decide) H0 rfl ?_
  refine ld5 ((4 * (i 2).val + 3) - (3 + 4 * (i 2).val)) 1 (offz (i 2).val 3 1 _ rfl) ?_
  refine ld13 2 (by decide) H0 rfl ?_
  refine ld12 2 (by decide) H0 rfl ?_
  refine ld5 ((4 * (i 2).val + 3) - (3 + 4 * (i 2).val)) 2 (offz (i 2).val 3 2 _ rfl) ?_
  refine ld13 3 (by decide) H0 rfl ?_
  refine ld12 3 (by decide) H0 rfl ?_
  refine ld5 ((4 * (i 2).val + 3) - (3 + 4 * (i 2).val)) 3 (offz (i 2).val 3 3 _ rfl) ?_
  refine ld9 ?_
  refine st9 ?_
  refine ld9 ?_
  refine st9 ?_
  refine ld9 ?_
  refine st9 ?_
  refine ld9 ?_
  refine st9 ?_
  refine oFold 3 (by decide) HO ?_ rfl rfl rfl rfl rfl rfl rfl rfl
  clear HO X9
  intro X9 HO
  exact ret_sound (hQ X9 X12 X13 HO)

end Cert.Att

end
-- ==== Proof.Launch.lean ====
module

public import proofs.«01_k».proof.Proof.Run
public import proofs.«01_k».proof.Proof.Gen.KernelIdeal.Frame
public import Idealize.ShloMosaic.Lib.Claim

@[expose] public section

noncomputable section

/-! The whole program: what each window's buffer holds after each grid point, and the run of the grid. -/

namespace Cert.Att

open Cert.KernelIdeal
open Idealize.ShloMosaic Idealize.ShloMosaic.TcCoe Idealize.ShloMosaic.Tactic
open Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Facts₀ Facts

local notation "𝕄" => MT nD τ sig Unit (Elt F) ℕ (UR sig nD τ) ℕ

/-- A position of a 256×128 box. -/
def box (r c : ℕ) : S256x128.Idx := fun a => ⟨![r % 256, c % 128] a, by fin_cases a <;> simp <;> omega⟩

/-- The output rows of a grid point: row `r` lies in sub-tile `r / 256`, column `c` in head `c / 128`. -/
def oBlk (X3 : Vec F S1024x512 .bf16) (X4 X5 : Vec F S4096x512 .bf16) (X6 : Vec F S256x256 .bf16) (a : ℕ) : Vec F S1024x512 .bf16 :=
  fun y => outT X3 X4 X5 X6 a ((y 0).val / 256) ((y 1).val / 128) (box (y 0).val (y 1).val)

/-- Rows done sub-tile by sub-tile and head by head are the whole block. -/
theorem hasO_eq {X9 : Vec F S1024x512 .bf16} {X3 : Vec F S1024x512 .bf16} {X4 X5 : Vec F S4096x512 .bf16} {X6 : Vec F S256x256 .bf16} {a : ℕ}
    (H : HasO X9 4 (outT X3 X4 X5 X6 a)) : X9 = oBlk X3 X4 X5 X6 a := by
  funext y
  have h0 : (y 0).val < 1024 := (y 0).isLt
  have h1 : (y 1).val < 512 := (y 1).isLt
  have h := congrFun (H ((y 0).val / 256) (by omega) ((y 1).val / 128) (by omega)) (box (y 0).val (y 1).val)
  unfold oBlk
  rw [← h]
  unfold qW window
  congr 1
  funext b
  apply Fin.ext
  fin_cases b
  · show (y 0).val = 256 * ((y 0).val / 256 % 4) + 1 * ((y 0).val % 256)
    omega
  · show (y 1).val = 128 * ((y 1).val / 128 % 4) + 1 * ((y 1).val % 128)
    omega

/-- The body's triple with the block stated whole and anything beside it kept. -/
theorem sound_frame (c : Dev nD) (defs : Defs nD τ sig (Elt F) Λ₀) (i : grid0.Coords) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x256 .bf16) (harg6 : arg6.IsWhole) (arg7 : Memref sig .tc .vmem S1x128x8192 .f32) (harg7 : arg7.IsWhole) (arg8 : Memref sig .tc .vmem S1x512x2048 .f32) (harg8 : arg8.IsWhole) (arg9 : Memref sig .tc .vmem S1024x512 .bf16) (harg9 : arg9.IsWhole) (arg10 : Memref sig .tc .vmem S1x128x8192 .bf16) (harg10 : arg10.IsWhole) (arg11 : Memref sig .tc .vmem S1x512x2048 .bf16) (harg11 : arg11.IsWhole) (arg12 : Memref sig .tc .vmem S2x4x256x256 .f32) (harg12 : arg12.IsWhole) (arg13 : Memref sig .tc .vmem S2x4x256x256 .bf16) (harg13 : arg13.IsWhole)
    (X3 : Vec F S1024x512 .bf16) (X4 X5 : Vec F S4096x512 .bf16) (X6 : Vec F S256x256 .bf16) (X7 : Vec F S1x128x8192 .f32) (X8 : Vec F S1x512x2048 .f32)
    (X9 : Vec F S1024x512 .bf16) (X10 : Vec F S1x128x8192 .bf16) (X11 : Vec F S1x512x2048 .bf16) (X12 : Vec F S2x4x256x256 .f32) (X13 : Vec F S2x4x256x256 .bf16) (R : sProp 𝕄) :
    iprop(St c arg3 arg4 arg5 arg12 arg13 X3 X4 X5 X12 X13 (Fr c arg6 arg7 arg8 arg9 arg10 arg11 X6 X7 X8 X9 X10 X11) ∗ R) ⊢
      WP c defs (cc0_sb_attention i arg3 harg3 arg4 harg4 arg5 harg5 arg6 harg6 arg7 harg7 arg8 harg8 arg9 harg9 arg10 harg10 arg11 harg11 arg12 harg12 arg13 harg13)
        (fun _ => iprop((∃ X12 : Vec F S2x4x256x256 .f32, ∃ X13 : Vec F S2x4x256x256 .bf16, St c arg3 arg4 arg5 arg12 arg13 X3 X4 X5 X12 X13
          (Fr c arg6 arg7 arg8 arg9 arg10 arg11 X6 X7 X8 (oBlk X3 X4 X5 X6 (i 2).val) (cast1 X7) (cast2 X8))) ∗ R)) := by
  have h := sound (c := c) (defs := defs) i arg3 harg3 arg4 harg4 arg5 harg5 arg6 harg6 arg7 harg7 arg8 harg8 arg9 harg9 arg10 harg10 arg11 harg11 arg12 harg12 arg13 harg13 X3 X4 X5 X6 X7 X8 X9 X10 X11 X12 X13
    (fun _ => iprop(∃ X12 : Vec F S2x4x256x256 .f32, ∃ X13 : Vec F S2x4x256x256 .bf16, St c arg3 arg4 arg5 arg12 arg13 X3 X4 X5 X12 X13
          (Fr c arg6 arg7 arg8 arg9 arg10 arg11 X6 X7 X8 (oBlk X3 X4 X5 X6 (i 2).val) (cast1 X7) (cast2 X8))))
    (fun X9 X12 X13 H => by rw [hasO_eq H]; iintro HS; iexists X12, X13; iexact HS)
  refine BIBase.Entails.trans ?_ (wp_frame_r _ _ _)
  iintro ⟨HS, HR⟩
  isplitl [HS]
  · iapply h; iexact HS
  · iexact HR

variable (m : (ℓ : Loc nD τ sig) → Buf (Elt F) ℓ) (ρ : Dev nD → PrngReg)

/-- The pipeline's data: the inputs' buffers keep their blocks; the output rows end as `oBlk`, the casts as `cast1` and `cast2`. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => oBlk (F := F) (Gen.iblk m c 0 t) (Gen.iblk m c 1 t) (Gen.iblk m c 2 t) (Gen.iblk m c 3 t) (grid0.coords t 2).val
    | ⟨7, _⟩ => cast1 (F := F) (Gen.iblk m c 4 t)
    | ⟨8, _⟩ => cast2 (F := F) (Gen.iblk m c 5 t)
  Φ _ := Pipeline.ΦA spec0 c
  q w := Pipeline.shareOf spec0 w
  owed _ := 0

theorem A_eq (c : Dev nD) (w : Fin cfg0.W) : (dats m 0 c).A w = Gen.V m c (Pipeline.arrRef spec0 w) := by dsimp only [dats]
theorem after0_0 (c : Dev nD) (t : Fin cfg0.N) : (dats m 0 c).after 0 t = Gen.iblk m c 0 t := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = Gen.iblk m c 3 t := by dsimp only [dats]
theorem after0_4 (c : Dev nD) (t : Fin cfg0.N) : (dats m 0 c).after 4 t = Gen.iblk m c 4 t := by dsimp only [dats]
theorem after0_5 (c : Dev nD) (t : Fin cfg0.N) : (dats m 0 c).after 5 t = Gen.iblk m c 5 t := by dsimp only [dats]
theorem after0_6 (c : Dev nD) (t : Fin cfg0.N) : (dats m 0 c).after 6 t = oBlk (F := F) (Gen.iblk m c 0 t) (Gen.iblk m c 1 t) (Gen.iblk m c 2 t) (Gen.iblk m c 3 t) (grid0.coords t 2).val := by dsimp only [dats]
theorem after0_7 (c : Dev nD) (t : Fin cfg0.N) : (dats m 0 c).after 7 t = cast1 (F := F) (Gen.iblk m c 4 t) := by dsimp only [dats]
theorem after0_8 (c : Dev nD) (t : Fin cfg0.N) : (dats m 0 c).after 8 t = cast2 (F := F) (Gen.iblk m c 5 t) := by dsimp only [dats]

theorem before0_0 (c : Dev nD) (t : Fin cfg0.N) (d) : (dats m 0 c).before 0 t d = Gen.iblk m c 0 t := Gen.before0_0_of m (dats m 0 c) (A_eq m c 0) (after0_0 m c) t d
theorem before0_1 (c : Dev nD) (t : Fin cfg0.N) (d) : (dats m 0 c).before 1 t d = Gen.iblk m c 1 t := Gen.before0_1_of m (dats m 0 c) (A_eq m c 1) (after0_1 m c) t d
theorem before0_2 (c : Dev nD) (t : Fin cfg0.N) (d) : (dats m 0 c).before 2 t d = Gen.iblk m c 2 t := Gen.before0_2_of m (dats m 0 c) (A_eq m c 2) (after0_2 m c) t d
theorem before0_3 (c : Dev nD) (t : Fin cfg0.N) (d) : (dats m 0 c).before 3 t d = Gen.iblk m c 3 t := Gen.before0_3_of m (dats m 0 c) (A_eq m c 3) (after0_3 m c) t d
theorem before0_4 (c : Dev nD) (t : Fin cfg0.N) (d) : (dats m 0 c).before 4 t d = Gen.iblk m c 4 t := Gen.before0_4_of m (dats m 0 c) (A_eq m c 4) (after0_4 m c) t d
theorem before0_5 (c : Dev nD) (t : Fin cfg0.N) (d) : (dats m 0 c).before 5 t d = Gen.iblk m c 5 t := Gen.before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ d, owns (c : Thread nD τ) (Gen.st0_5 t) fullShare ((dats m 0 c).before 5 t d))
    ∗ (∃ d, owns (c : Thread nD τ) (Gen.st0_6 t) fullShare ((dats m 0 c).before 6 t d))
    ∗ (∃ d, owns (c : Thread nD τ) (Gen.st0_7 t) fullShare ((dats m 0 c).before 7 t d))
    ∗ (∃ d, owns (c : Thread nD τ) (Gen.st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t)
    ∗ owns (c : Thread nD τ) (Gen.st0_4 t) fullShare ((dats m 0 c).after 4 t)
    ∗ owns (c : Thread nD τ) (Gen.st0_5 t) fullShare ((dats m 0 c).after 5 t)
    ∗ owns (c : Thread nD τ) (Gen.st0_6 t) fullShare ((dats m 0 c).after 6 t)
    ∗ owns (c : Thread nD τ) (Gen.st0_7 t) fullShare ((dats m 0 c).after 7 t)
    ∗ owns (c : Thread nD τ) (Gen.st0_8 t) fullShare ((dats m 0 c).after 8 t))

/-- The body at a grid point, from the call's state to the return's. -/
theorem sound_body (c : Dev nD) (t : Fin cfg0.N) :
    bodyPre m c t ⊢ wp frame (wpE (defs₀ (F := F)) Variants.none (c : Thread nD τ) none) Set.univ (Gen.bodyAt0 t) (fun _ => bodyPost m c t) := by
  unfold bodyPre Gen.bodyAt0
  simp only [before0_0, before0_1, before0_2, before0_3, before0_4, before0_5]
  rw [show (dats m 0 c).Φ t.castSucc = Pipeline.ΦA spec0 c from rfl]
  unfold Pipeline.ΦA
  rw [Gen.scopedRest0_eq]
  iintro ⟨⟨⟨⟨%f12, S12⟩, ⟨%f13, S13⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have key := (sound_frame (F := F) c defs₀ (grid0.coords t) (Gen.st0_0 t) (hstage0_0 ((cfg0.slots t 0).cast nbuf0_0)) (Gen.st0_1 t) (hstage0_1 ((cfg0.slots t 1).cast nbuf0_1)) (Gen.st0_2 t) (hstage0_2 ((cfg0.slots t 2).cast nbuf0_2)) (Gen.st0_3 t) (hstage0_3 ((cfg0.slots t 3).cast nbuf0_3)) (Gen.st0_4 t) (hstage0_4 ((cfg0.slots t 4).cast nbuf0_4)) (Gen.st0_5 t) (hstage0_5 ((cfg0.slots t 5).cast nbuf0_5)) (Gen.st0_6 t) (hstage0_6 ((cfg0.slots t 6).cast nbuf0_6)) (Gen.st0_7 t) (hstage0_7 ((cfg0.slots t 7).cast nbuf0_7)) (Gen.st0_8 t) (hstage0_8 ((cfg0.slots t 8).cast nbuf0_8)) (Memref.whole cc0_scratch0) (Memref.isWhole_whole _) (Memref.whole cc0_scratch1) (Memref.isWhole_whole _)
    (Gen.iblk m c 0 t) (Gen.iblk m c 1 t) (Gen.iblk m c 2 t) (Gen.iblk m c 3 t) (Gen.iblk m c 4 t) (Gen.iblk m c 5 t)
    ((dats m 0 c).before 6 t d6) ((dats m 0 c).before 7 t d7) ((dats m 0 c).before 8 t d8) f12 f13
    iprop((∃ r, prngReg c r) ∗ (dats m 0 c).owesAt () t.castSucc)).trans (wp_mono _ _ _ (Q' := fun _ => bodyPost m c t) (fun _ => by
      unfold bodyPost St Fr
      rw [show (dats m 0 c).Φ t.succ = Pipeline.ΦA spec0 c from rfl, show (dats m 0 c).owesAt () t.succ = (dats m 0 c).owesAt () t.castSucc from rfl,
        after0_0, after0_1, after0_2, after0_3, after0_4, after0_5, after0_6, after0_7, after0_8]
      unfold Pipeline.ΦA
      rw [Gen.scopedRest0_eq]
      simp only [owns_whole]
      iintro ⟨⟨%g12, %g13, A3, A4, A5, A12, A13, A6, A7, A8, A9, A10, A11⟩, Hg, Ho⟩
      isplitl [A12 A13 Hg]
      · isplitr [Hg]
        · isplitl [A12]
          · iexists g12; iexact A12
          · iexists g13; iexact A13
        · iexact Hg
      isplitl [Ho]; · iexact Ho
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      iexact A11))
  iapply key
  isplitr [Ho Hg]
  swap
  · isplitl [Hg]; · iexact Hg
    iexact Ho
  unfold St Fr
  rw [owns_whole, owns_whole]
  isplitl [H0]; · iexact H0
  isplitl [H1]; · iexact H1
  isplitl [H2]; · iexact H2
  isplitl [S12]; · iexact S12
  isplitl [S13]; · iexact S13
  isplitl [H3]; · iexact H3
  isplitl [H4]; · iexact H4
  isplitl [H5]; · iexact H5
  isplitl [H6]; · iexact H6
  isplitl [H7]; · iexact H7
  iexact H8

/-- The body table's row at a point's slots is the body there. -/
theorem defs₀_row (t : Fin cfg0.N) : defs₀ (F := F) .tc cfg0.body (cfg0.bodyArgs t (cfg0.slots t)) = Gen.bodyAt0 t := by
  unfold defs₀; rw [Defs.onTc_tc]

/-- Every window's buffer is used at every point: the stores under the kernel's first condition run at every point. -/
theorem idle_no (t : Fin cfg0.N) (w : Fin cfg0.W) : cfg0.idle w (cfg0.grid.coords t) = false := by
  revert w t
  decide +kernel

/-- The body's obligation at every point. -/
theorem body_obligation (c : Dev nD) : BodyObligation (dats (F := F) m 0 c) (defs₀ (F := F)) Variants.none () Set.univ := fun t => by
  rw [Gen.bigSep_W0, Gen.bigSep_W0, defs₀_row]
  refine triple_restated (sound_body m c t) rfl .rfl fun _ => ?_
  unfold bodyPost
  simp only [idle_no]
  rw [show idle0 7 (grid0.coords t) = false from idle_no t 7]

set_option backward.isDefEq.respectTransparency.types false in
/-- The run of the whole program: every array ends as the data say, and every counter at zero. -/
theorem run_all : θ_run defs (onTc (τ := τ) (main (F := F))) (s₀ m ρ) (fun r => (Pipeline.FramePost cfgs (dats m) 0 (Gen.V m)) r ∧ r.2.sem = fun _ => 0) :=
  Pipeline.θ_run_frame_shared (Q' := _) cfgs (dats m) (0 : Fin 1) Gen.launch₀0 defs₀ Variants.none m ρ main
    (hbody := fun c => (body_obligation m c).loose) (hq := fun _ _ _ => rfl)
    (howed := fun _ _ => rfl) (V := Gen.V m) (hmain := Gen.hmain m Variants.none) (hA := A_eq m) (hΦ := fun _ _ => rfl)

/-- The arguments end as launched, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (Gen.frame_of m ρ (dats m) (A_eq m) ((θ_run defs _ _).mono (fun _ h => h.1) (run_all m ρ))) ((θ_run defs _ _).mono (fun _ h => h.2) (run_all m ρ))

end Cert.Att

end
-- ==== Proof.Row.lean ====
module

public import Idealize.ShloMosaic.PureOps.Ideal
public import Idealize.ShloMosaic.Lib.Pointwise

@[expose] public section

noncomputable section

/-! One row of the attention: real and extended-real arithmetic, with key positions as naturals. -/

namespace Cert.Att

open Idealize.ShloMosaic
open scoped BigOperators

/-- The pattern of zero. -/
theorem bits_zero : Ideal.ofBits .f32 0x00000000#32 = 0 := by
  simp [Ideal.ofBits, Ideal.ieee, -EReal.coe_mul]

/-- The pattern of one. -/
theorem bits_one : Ideal.ofBits .f32 0x3F800000#32 = 1 := by
  simp [Ideal.ofBits, Ideal.ieee, -EReal.coe_mul]; norm_num

/-- The pattern of two. -/
theorem bits_two : Ideal.ofBits .f32 0x40000000#32 = ((2 : ℝ) : EReal) := by
  simp [Ideal.ofBits, Ideal.ieee, -EReal.coe_mul]; norm_num

/-- The pattern of minus infinity. -/
theorem bits_bot : Ideal.ofBits .f32 0xFF800000#32 = ⊥ := by
  simp [Ideal.ofBits, Ideal.ieee, -EReal.coe_mul]

/-- The pattern of plus infinity. -/
theorem bits_top : Ideal.ofBits .f32 0x7F800000#32 = ⊤ := by
  simp [Ideal.ofBits, Ideal.ieee, -EReal.coe_mul]

/-- The value of the scale's pattern. -/
def scl : ℝ := (2 ^ 23 + 3474675 : ℕ) * (2 : ℝ) ^ (-27 : ℤ)

/-- The pattern of the scale. -/
theorem bits_scl : Ideal.ofBits .f32 0x3DB504F3#32 = ((scl : ℝ) : EReal) := by
  simp [Ideal.ofBits, Ideal.ieee, -EReal.coe_mul, scl]

/-- The log of the sigmoid. -/
def lsg (r : ℝ) : ℝ := min r 0 - Real.log (1 + Real.exp (-|r|))

/-- The log of one minus the sigmoid is the log of the sigmoid less its argument. -/
theorem lsg_neg (r : ℝ) : lsg (-r) = lsg r - r := by
  unfold lsg
  rw [abs_neg]
  rcases le_total r 0 with h | h
  · rw [min_eq_left h, min_eq_right (by linarith)]; ring
  · rw [min_eq_right h, min_eq_left (by linarith)]; ring

/-- What a key at position `s` adds to the sums of row `i`. -/
def lrem (r : ℕ → ℝ) (i s : ℕ) : ℝ := if s < i then lsg (-r s) else 0

/-- The weight of key `s` in row `i`, the later keys up to `e` counted. -/
def wgt (r : ℕ → ℝ) (i e s : ℕ) : ℝ := if s < i then Real.exp (lsg (r s) + ∑ s' ∈ Finset.Ico (s + 1) e, lrem r i s') else 0

/-- One entry of the attention: the weighted sum of the values. -/
def att (r : ℕ → ℝ) (v : ℕ → EReal) (i : ℕ) : EReal := ∑ s ∈ Finset.range 4096, ((wgt r i 4096 s : ℝ) : EReal) * v s

/-- Keys at or past the row's own position add nothing. -/
theorem wgt_ext (r : ℕ → ℝ) (i e s : ℕ) (he : i ≤ e) (h : e ≤ 4096) : wgt r i e s = wgt r i 4096 s := by
  unfold wgt
  split
  · rename_i hs
    congr 2
    rw [← Finset.sum_Ico_consecutive _ (by omega : s + 1 ≤ e) h]
    rw [Finset.sum_eq_zero (s := Finset.Ico e 4096), add_zero]
    intro x hx
    rw [Finset.mem_Ico] at hx
    unfold lrem
    rw [if_neg (by omega)]
  · rfl

/-- The sum up to any position past the row's own is the whole sum. -/
theorem att_of (r : ℕ → ℝ) (v : ℕ → EReal) (i e : ℕ) (he : i ≤ e) (h : e ≤ 4096) :
    ∑ s ∈ Finset.Ico 0 e, ((wgt r i e s : ℝ) : EReal) * v s = att r v i := by
  unfold att
  rw [Finset.range_eq_Ico, ← Finset.sum_Ico_consecutive _ (Nat.zero_le e) h,
    Finset.sum_eq_zero (s := Finset.Ico e 4096), add_zero]
  · exact Finset.sum_congr rfl fun s _ => by rw [wgt_ext r i e s he h]
  · intro x hx
    rw [Finset.mem_Ico] at hx
    unfold wgt
    rw [if_neg (by omega), EReal.coe_zero, zero_mul]

/-- A sum over a tile's columns is a sum over the positions it covers. -/
theorem sum_tile {M : Type*} [AddCommMonoid M] (f : ℕ → M) (n : ℕ) :
    ∑ k : Fin 256, f (256 * n + k.val) = ∑ s ∈ Finset.Ico (256 * n) (256 * (n + 1)), f s := by
  rw [Finset.sum_Ico_eq_sum_range, show 256 * (n + 1) - 256 * n = 256 by omega, Fin.sum_univ_eq_sum_range (fun k => f (256 * n + k))]

/-- A sum over the later columns of a tile. -/
theorem sum_later (f : ℕ → ℝ) (n y : ℕ) (hy : y < 256) :
    ∑ k : Fin 256, (f (256 * n + k.val) * if k.val > y then 1 else 0) = ∑ s ∈ Finset.Ico (256 * n + y + 1) (256 * (n + 1)), f s := by
  have h := sum_tile (fun s => f s * if s > 256 * n + y then 1 else 0) n
  simp only [gt_iff_lt, Nat.add_lt_add_iff_left] at h ⊢
  rw [h, ← Finset.sum_Ico_consecutive _ (by omega : 256 * n ≤ 256 * n + y + 1) (by omega : 256 * n + y + 1 ≤ 256 * (n + 1)),
    Finset.sum_eq_zero (s := Finset.Ico (256 * n) _), zero_add]
  · refine Finset.sum_congr rfl fun s hs => ?_
    rw [Finset.mem_Ico] at hs
    rw [if_pos (by omega), mul_one]
  · intro s hs
    rw [Finset.mem_Ico] at hs
    rw [if_neg (by omega), mul_zero]

/-- A finite sum of reals among the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem log2_pos : 0 < Real.log 2 := Real.log_pos (by norm_num)

/-- Two to a power in base-two units is the exponential. -/
theorem exp2_div (x : ℝ) : Ideal.exp2 ((x / Real.log 2 : ℝ) : EReal) = ((Real.exp x : ℝ) : EReal) := by
  rw [Ideal.exp2_coe]
  congr 1
  show (2 : ℝ) ^ (x / Real.log 2) = _
  rw [Real.rpow_def_of_pos (by norm_num), mul_div_cancel₀ _ log2_pos.ne']

/-- The absolute value of a real among the extended reals. -/
theorem max_neg (x : ℝ) : max (x : EReal) (-(x : EReal)) = ((|x| : ℝ) : EReal) := by
  rw [← EReal.coe_neg, ← EReal.coe_strictMono.monotone.map_max]; rfl

/-- The kernel's log of the sigmoid in base two. -/
theorem lb_coe (r : ℝ) : min ((r / Real.log 2 : ℝ) : EReal) 0
      - Ideal.log (1 + Ideal.exp2 (0 - max ((r / Real.log 2 : ℝ) : EReal) (-((r / Real.log 2 : ℝ) : EReal)))) * (((Real.log 2)⁻¹ : ℝ) : EReal)
    = ((lsg r / Real.log 2 : ℝ) : EReal) := by
  have hp := log2_pos
  rw [max_neg, abs_div, abs_of_pos hp, zero_sub, ← EReal.coe_neg, show -(|r| / Real.log 2) = (-|r|) / Real.log 2 by ring, exp2_div,
    ← EReal.coe_one, ← EReal.coe_add, Ideal.log_coe, if_neg (not_le.mpr (by positivity)), ← EReal.coe_zero, ← EReal.coe_strictMono.monotone.map_min,
    ← EReal.coe_mul, ← EReal.coe_sub]
  congr 1
  unfold lsg
  rw [sub_div, ← div_eq_mul_inv]
  congr 1
  rcases le_total r 0 with h | h
  · rw [min_eq_left h, min_eq_left (div_nonpos_of_nonpos_of_nonneg h hp.le)]
  · rw [min_eq_right h, min_eq_right (div_nonneg h hp.le), zero_div]

/-- The reference's softplus at a real, less its sign: the log of the sigmoid of the negated argument. -/
theorem softplus_coe (y : ℝ) : max (y : EReal) 0 + Ideal.log1p (Ideal.exp (-(max (y : EReal) (-(y : EReal))))) = ((-lsg (-y) : ℝ) : EReal) := by
  rw [max_neg, ← EReal.coe_neg, Ideal.exp_coe]
  show _ + Ideal.log (1 + _) = _
  rw [← EReal.coe_one, ← EReal.coe_add, Ideal.log_coe, if_neg (not_le.mpr (by positivity)), ← EReal.coe_zero, ← EReal.coe_strictMono.monotone.map_max, ← EReal.coe_add]
  congr 1
  unfold lsg
  rw [abs_neg, neg_sub]
  rcases le_total y 0 with h | h
  · rw [max_eq_right h, min_eq_right (by linarith)]; ring
  · rw [max_eq_left h, min_eq_left (by linarith)]; ring

/-! ## The rows of the arguments -/

/-- An argument: two batches of 4096 positions, sixteen heads of 128 features. -/
abbrev Arg4 := (⟨4, ![2, 4096, 16, 128]⟩ : Shape).Idx → EReal

/-- Every entry of an argument is a real number. -/
def Fin4 (q : Arg4) : Prop := ∀ j, q j = (((q j).toReal : ℝ) : EReal)

/-- The scores of the query at position `i`, head `h` of batch `b`, by key position. -/
def rowR (q k : Arg4) (b : Fin 2) (h : Fin 16) (i : Fin 4096) (s : ℕ) : ℝ :=
  (∑ d : Fin 128, (q (ix4 b i h d)).toReal * (k (ix4 b ⟨s % 4096, Nat.mod_lt _ (by norm_num)⟩ h d)).toReal) * scl

/-- Feature `d` of the values of head `h` of batch `b`, by key position. -/
def rowV (v : Arg4) (b : Fin 2) (h : Fin 16) (d : Fin 128) (s : ℕ) : EReal := v (ix4 b ⟨s % 4096, Nat.mod_lt _ (by norm_num)⟩ h d)

/-- The less-than comparison of two words that hold small naturals. -/
theorem cmpi_slt (i j : ℕ) (hi : i < 4096) (hj : j < 4096) : IntOp.cmpi CmpIPredicate.slt (BitVec.ofNat 32 j) (BitVec.ofNat 32 i) = if j < i then 1#1 else 0#1 := by
  show BitVec.ofBool (BitVec.slt _ _) = _
  rw [BitVec.slt_eq_decide, BitVec.toInt_eq_toNat_of_lt (by simp; omega), BitVec.toInt_eq_toNat_of_lt (by simp; omega),
    BitVec.toNat_ofNat, BitVec.toNat_ofNat, Nat.mod_eq_of_lt (by omega), Nat.mod_eq_of_lt (by omega)]
  split <;> rename_i h
  · rw [decide_eq_true (by exact_mod_cast h)]; rfl
  · rw [decide_eq_false (by exact_mod_cast h)]; rfl

/-- A choice by a proposition's bit. -/
theorem select_ite {α : Type} (p : Prop) [Decidable p] (a b : α) : Scalar.select (if p then 1#1 else 0#1) a b = if p then a else b := by
  split <;> rfl

end Cert.Att
-- ==== Proof.Host.lean ====
module

public import proofs.«01_k».proof.Proof.Launch
public import proofs.«01_k».proof.Proof.Row
public import Idealize.ShloMosaic.Lib.Pointwise

@[expose] public section

noncomputable section

/-! What the host's operations leave in the arrays the kernel reads. -/

namespace Cert.Att

open Cert.KernelIdeal
open Idealize.ShloMosaic Idealize.ShloMosaic.TcCoe Idealize.ShloMosaic.StableHlo

open Facts₀ Facts

/-- The queries, multiplied by the scale and divided by log 2. -/
def qS (q : FVec Ideal S2x4096x16x128 .f32) : FVec Ideal S2x4096x16x128 .f32 :=
  Host.divf (mulf q (broadcastInDim S2x4096x16x128 ![] bcast_S_S2x4096x16x128 (constant S_ .f32 0x3DB504F3#32)))
    (broadcastInDim S2x4096x16x128 ![] bcast_S_S2x4096x16x128 (Host.log (constant (F := Ideal) S_ .f32 0x40000000#32)))

/-- One argument as rows of heads, side by side. -/
def flat (x : FVec Ideal S2x4096x16x128 .f32) : FVec Ideal S8192x2048 .bf16 :=
  truncf .bf16 (shapeCast S8192x2048 x shapeCasts_S2x4096x16x128_S8192x2048) bitsLt_bf16_f32

/-- Queries, keys and values in one array. -/
def qkv (q k v : FVec Ideal S2x4096x16x128 .f32) : FVec Ideal S8192x6144 .bf16 :=
  concatenate S8192x6144 1 [⟨S8192x2048, flat (qS q)⟩, ⟨S8192x2048, flat k⟩, ⟨S8192x2048, flat v⟩] concatenates_S8192x2048_S8192x2048_S8192x2048_S8192x6144_d1

/-- One where the row is later than the column, zero elsewhere. -/
def later : FVec Ideal S256x256 .bf16 :=
  truncf .bf16 (select (cmpi .sgt (iotaInDim S256x256 32 0) (iotaInDim S256x256 32 1))
    (broadcastInDim S256x256 ![] bcast_S_S256x256 (constant (F := Ideal) S_ .f32 0x3F800000#32))
    (broadcastInDim S256x256 ![] bcast_S_S256x256 (constant (F := Ideal) S_ .f32 0x00000000#32))) bitsLt_bf16_f32

variable (m : (ℓ : Loc nD τ sig) → ℓ.ty.Contents (Elt Ideal)) (c : Dev nD)

/-- The kernel's first array holds the three arguments. -/
theorem V_qkv : Gen.V m c main_v11 = qkv (m ((c : Thread nD τ).loc main_arg0)) (m ((c : Thread nD τ).loc main_arg1)) (m ((c : Thread nD τ).loc main_arg2)) := by
  unfold Gen.V
  simp only [Gen.hostOps0, Gen.hostOps0_1, Gen.hostOps0_2, List.flatten_cons, List.flatten_nil, List.append_nil, List.cons_append, List.nil_append,
    TRef.binary, TRef.nullary, TRef.ternary, TRef.unary, TRef.toBuf, TRef.ofBuf, cast_eq]
  after_results
  rfl

/-- The kernel's second array says which positions are later. -/
theorem V_later : Gen.V m c main_v16 = later := by
  unfold Gen.V
  simp only [Gen.hostOps0, Gen.hostOps0_1, Gen.hostOps0_2, List.flatten_cons, List.flatten_nil, List.append_nil, List.cons_append, List.nil_append,
    TRef.binary, TRef.nullary, TRef.ternary, TRef.unary, TRef.toBuf, TRef.ofBuf, cast_eq]
  after_results_simp <;> rfl

/-- Which positions are later, read at one place. -/
theorem later_apply (y y' : Fin 256) : later (ix2 y y') = ((if y.val > y'.val then 1 else 0 : ℝ) : EReal) := by
  pointwise [later]
  refine (congrArg (fun w => Scalar.select w (1 : EReal) 0) (cmpi_slt y.val y'.val (by omega) (by omega))).trans ?_
  rw [select_ite]
  split <;> rename_i h
  · exact EReal.coe_one.symm
  · exact EReal.coe_zero.symm

/-- The scaled queries, read at one place. -/
theorem qS_apply (q : Arg4) (b : Fin 2) (i : Fin 4096) (h : Fin 16) (d : Fin 128) : qS q (ix4 b i h d) = Ideal.div (q (ix4 b i h d) * ((scl : ℝ) : EReal)) ((Real.log 2 : ℝ) : EReal) := by
  pointwise [qS]
  rw [bits_scl, bits_two, Ideal.log_coe, if_neg (by norm_num)]

/-- One argument flattened, read at one place. -/
theorem flat_apply (x : Arg4) (r : Fin 8192) (s : Fin 2048) :
    flat x (ix2 r s) = x (ix4 ⟨r.val / 4096, by omega⟩ ⟨r.val % 4096, by omega⟩ ⟨s.val / 128, by omega⟩ ⟨s.val % 128, by omega⟩) := by
  pointwise [flat]

/-- The first third of the columns. -/
theorem qkv_q (q k v : Arg4) (r : Fin 8192) (s : Fin 6144) (h : s.val < 2048) : qkv q k v (ix2 r s) = flat (qS q) (ix2 r ⟨s.val, h⟩) := by
  pointwise [qkv]
  rw [dif_pos h]

/-- The second third. -/
theorem qkv_k (q k v : Arg4) (r : Fin 8192) (s : Fin 6144) (h : 2048 ≤ s.val) (h' : s.val < 4096) : qkv q k v (ix2 r s) = flat k (ix2 r ⟨s.val - 2048, by omega⟩) := by
  pointwise [qkv]
  rw [dif_neg (by omega), dif_pos (by omega)]

/-- The last third. -/
theorem qkv_v (q k v : Arg4) (r : Fin 8192) (s : Fin 6144) (h : 4096 ≤ s.val) : qkv q k v (ix2 r s) = flat v (ix2 r ⟨s.val - 4096, by omega⟩) := by
  pointwise [qkv]
  rw [dif_neg (by omega), dif_neg (by omega)]
  exact congrArg (flat v) (congrArg (ix2 r) (Fin.ext (by show s.val - 2048 - 2048 = s.val - 4096; omega)))

end Cert.Att

end
-- ==== Proof.Tile.lean ====
module

public import proofs.«01_k».proof.Proof.Stage
public import proofs.«01_k».proof.Proof.Row
public import Idealize.ShloMosaic.PureOps.IdealRules
public import Idealize.ShloMosaic.Lib.Pointwise

@[expose] public section

noncomputable section

/-! The tiles' values over the extended reals, read at one position. -/

namespace Cert.Att

open Cert.KernelIdeal
open Idealize.ShloMosaic Idealize.ShloMosaic.TcCoe
open Idealize.ShloMosaic.VecWindow

open Facts₀ Facts

/-- The named constant's value. -/
theorem named_log2e : (Named.named (F := Ideal) Cert.KernelIdeal.κ "log2e" (φ := .f32) 0x3FB8AA3B#32) = (((Real.log 2)⁻¹ : ℝ) : EReal) :=
  IdealRules.named_const.ideal_named_scalar _ _ _ _ rfl

/-- A logit: the inner product of a query row and a key row. -/
theorem zT_apply (x y : FVec Ideal S256x128 .bf16) (i j : Fin 256) : zT x y (ix2 i j) = ∑ k : Fin 128, x (ix2 i k) * y (ix2 j k) := by
  pointwise [zT]

/-- The log of the sigmoid of a real logit, both in base two. -/
theorem lbT_apply (z : FVec Ideal S256x256 .f32) (i j : Fin 256) (r : ℝ) (h : z (ix2 i j) = ((r / Real.log 2 : ℝ) : EReal)) :
    lbT z (ix2 i j) = ((lsg r / Real.log 2 : ℝ) : EReal) := by
  pointwise [lbT]
  rw [named_log2e, h]
  exact lb_coe r

/-- The log of one minus the sigmoid of a real logit, both in base two. -/
theorem lbT_sub (z : FVec Ideal S256x256 .f32) (i j : Fin 256) (r : ℝ) (h : z (ix2 i j) = ((r / Real.log 2 : ℝ) : EReal)) :
    lbT z (ix2 i j) - z (ix2 i j) = ((lsg (-r) / Real.log 2 : ℝ) : EReal) := by
  rw [lbT_apply z i j r h, h, ← EReal.coe_sub, lsg_neg, sub_div]

/-- A tile off the diagonal in the first scratch array. -/
theorem aP_apply (z : FVec Ideal S256x256 .f32) (i j : Fin 256) : aP z (ix4 0 0 i j) = lbT z (ix2 i j) := by
  pointwise [aP]

/-- A tile off the diagonal in the second scratch array. -/
theorem bP_apply (z : FVec Ideal S256x256 .f32) (i j : Fin 256) : bP z (ix4 0 0 i j) = lbT z (ix2 i j) - z (ix2 i j) := by
  pointwise [bP]

/-- A tile on the diagonal in the first scratch array. -/
theorem aD_apply (z : FVec Ideal S256x256 .f32) (i j : Fin 256) : aD z (ix4 0 0 i j) = if j.val < i.val then lbT z (ix2 i j) else ⊥ := by
  pointwise [aD, maskT]
  rw [cmpi_slt _ _ (by omega) (by omega), select_ite, bits_bot]

/-- A tile on the diagonal in the second scratch array. -/
theorem bD_apply (z : FVec Ideal S256x256 .f32) (i j : Fin 256) : bD z (ix4 0 0 i j) = if j.val < i.val then lbT z (ix2 i j) - z (ix2 i j) else 0 := by
  pointwise [bD, maskT]
  rw [cmpi_slt _ _ (by omega) (by omega), select_ite]

/-- The sums over the later columns: a product with the triangle. -/
theorem sufT_apply (b : FVec Ideal S1x1x256x256 .bf16) (u : FVec Ideal S256x256 .bf16) (i j : Fin 256) :
    sufT b u (ix2 i j) = ∑ k : Fin 256, b (ix4 0 0 i k) * u (ix2 k j) := by
  pointwise [sufT]

/-- The carry after a tile. -/
theorem cyT_apply (b : FVec Ideal S1x1x256x256 .bf16) (u : FVec Ideal S256x256 .bf16) (cy : FVec Ideal S256x1 .f32) (i : Fin 256) :
    cyT b u cy (ix2 i 0) = cy (ix2 i 0) + sufT b u (ix2 i 0) + b (ix4 0 0 i 0) := by
  pointwise [cyT]

/-- The accumulator after a tile. -/
theorem acT_apply (a : FVec Ideal S1x1x256x256 .f32) (b : FVec Ideal S1x1x256x256 .bf16) (v : FVec Ideal S256x128 .bf16) (u : FVec Ideal S256x256 .bf16)
    (cy : FVec Ideal S256x1 .f32) (ac : FVec Ideal S256x128 .f32) (i : Fin 256) (d : Fin 128) :
    acT a b v u cy ac (ix2 i d)
      = ac (ix2 i d) + ∑ k : Fin 256, Ideal.exp2 (a (ix4 0 0 i k) + sufT b u (ix2 i k) + cy (ix2 i 0)) * v (ix2 k d) := by
  pointwise [acT]
  rfl

/-- What the proof assumes of one row of the blocks: its logits are real, in base two, its values are named, the triangle is one. -/
structure RowOk (X3 : Vec Ideal S1024x512 .bf16) (X4 X5 : Vec Ideal S4096x512 .bf16) (X6 : Vec Ideal S256x256 .bf16)
    (j qi h : ℕ) (x : Fin 256) (d : Fin 128) (r : ℕ → ℝ) (v : ℕ → EReal) : Prop where
  z : ∀ n ≤ qi, ∀ y : Fin 256, zT (qW X3 j h) (kW X4 n h) (ix2 x y) = ((r (256 * n + y.val) / Real.log 2 : ℝ) : EReal)
  v : ∀ n ≤ qi, ∀ y : Fin 256, kW X5 n h (ix2 y d) = v (256 * n + y.val)
  u : ∀ y y' : Fin 256, uW X6 (ix2 y y') = ((if y.val > y'.val then 1 else 0 : ℝ) : EReal)

section
variable {X3 : Vec Ideal S1024x512 .bf16} {X4 X5 : Vec Ideal S4096x512 .bf16} {X6 : Vec Ideal S256x256 .bf16}
  {j qi h : ℕ} {x : Fin 256} {d : Fin 128} {r : ℕ → ℝ} {v : ℕ → EReal} (H : RowOk X3 X4 X5 X6 j qi h x d r v)
include H

/-- Tile `t` of the first scratch array along the row. -/
theorem tA_apply (t : ℕ) (ht : t ≤ qi) (y : Fin 256) : tA X3 X4 j qi t h (ix4 0 0 x y)
    = if 256 * (qi - t) + y.val < 256 * qi + x.val then ((lsg (r (256 * (qi - t) + y.val)) / Real.log 2 : ℝ) : EReal) else ⊥ := by
  have hx := x.isLt
  have hy := y.isLt
  cases t with
  | zero =>
    show aD _ _ = _
    rw [aD_apply, lbT_apply _ _ _ _ (H.z qi le_rfl y)]
    simp only [Nat.sub_zero, Nat.add_lt_add_iff_left]
  | succ t =>
    show aP _ _ = _
    rw [aP_apply, lbT_apply _ _ _ _ (H.z (qi - (t + 1)) (by omega) y), if_pos (by omega)]

/-- Tile `t` of the second scratch array along the row. -/
theorem tB_apply (t : ℕ) (ht : t ≤ qi) (y : Fin 256) : tB X3 X4 j qi t h (ix4 0 0 x y)
    = ((lrem r (256 * qi + x.val) (256 * (qi - t) + y.val) / Real.log 2 : ℝ) : EReal) := by
  have hx := x.isLt
  have hy := y.isLt
  unfold lrem
  cases t with
  | zero =>
    show bD _ _ = _
    rw [bD_apply, lbT_sub _ _ _ _ (H.z qi le_rfl y)]
    simp only [Nat.sub_zero, Nat.add_lt_add_iff_left]
    split
    · rfl
    · rw [zero_div, EReal.coe_zero]
  | succ t =>
    show bP _ _ = _
    rw [bP_apply, lbT_sub _ _ _ _ (H.z (qi - (t + 1)) (by omega) y), if_pos (by omega)]

/-- The sums over the later columns of tile `t`. -/
theorem suf_apply (t : ℕ) (ht : t ≤ qi) (y : Fin 256) : sufT (tB X3 X4 j qi t h) (uW X6) (ix2 x y)
    = (((∑ s ∈ Finset.Ico (256 * (qi - t) + y.val + 1) (256 * (qi - t + 1)), lrem r (256 * qi + x.val) s) / Real.log 2 : ℝ) : EReal) := by
  rw [sufT_apply, ← sum_later _ _ _ y.isLt, Finset.sum_div, coe_sum]
  refine Finset.sum_congr rfl fun k _ => ?_
  rw [tB_apply H t ht k, H.u, ← EReal.coe_mul]
  congr 1
  ring

/-- The carry after `t` tiles. -/
theorem carry_apply (t : ℕ) (ht : t ≤ qi + 1) : (hd X3 X4 X5 X6 j qi h t).1 (ix2 x 0)
    = (((∑ s ∈ Finset.Ico (256 * (qi + 1 - t)) (256 * (qi + 1)), lrem r (256 * qi + x.val) s) / Real.log 2 : ℝ) : EReal) := by
  induction t with
  | zero =>
    rw [Nat.sub_zero, Finset.Ico_self, Finset.sum_empty]
    pointwise [hd]
    simp
  | succ t ih =>
    show cyT _ _ _ _ = _
    rw [cyT_apply, ih (by omega), suf_apply H t (by omega), tB_apply H t (by omega), ← EReal.coe_add, ← EReal.coe_add,
      show qi + 1 - (t + 1) = qi - t by omega, show qi + 1 - t = qi - t + 1 by omega,
      ← Finset.sum_Ico_consecutive _ (by omega : 256 * (qi - t) ≤ 256 * (qi - t + 1)) (by omega : 256 * (qi - t + 1) ≤ 256 * (qi + 1)),
      Finset.sum_eq_sum_Ico_succ_bot (by omega : 256 * (qi - t) < 256 * (qi - t + 1))]
    congr 1
    show _ / _ + _ / _ + _ / _ = _ / _
    simp only [Fin.val_zero, add_zero]
    ring

/-- The weight of a key of tile `t`. -/
theorem wgt_apply (t : ℕ) (ht : t ≤ qi) (y : Fin 256) :
    Ideal.exp2 (tA X3 X4 j qi t h (ix4 0 0 x y) + sufT (tB X3 X4 j qi t h) (uW X6) (ix2 x y) + (hd X3 X4 X5 X6 j qi h t).1 (ix2 x 0))
      = ((wgt r (256 * qi + x.val) (256 * (qi + 1)) (256 * (qi - t) + y.val) : ℝ) : EReal) := by
  have hy := y.isLt
  rw [tA_apply H t ht, suf_apply H t ht, carry_apply H t (by omega)]
  unfold wgt
  split
  · rw [← EReal.coe_add, ← EReal.coe_add, ← add_div, ← add_div, exp2_div, show qi + 1 - t = qi - t + 1 by omega, add_assoc,
      Finset.sum_Ico_consecutive _ (by omega) (by omega)]
  · rw [EReal.bot_add, EReal.bot_add, Ideal.exp2_bot, EReal.coe_zero]

/-- The accumulator after `t` tiles. -/
theorem acc_apply (t : ℕ) (ht : t ≤ qi + 1) : (hd X3 X4 X5 X6 j qi h t).2 (ix2 x d)
    = ∑ s ∈ Finset.Ico (256 * (qi + 1 - t)) (256 * (qi + 1)), ((wgt r (256 * qi + x.val) (256 * (qi + 1)) s : ℝ) : EReal) * v s := by
  induction t with
  | zero =>
    rw [Nat.sub_zero, Finset.Ico_self, Finset.sum_empty]
    pointwise [hd]
  | succ t ih =>
    show acT _ _ _ _ _ _ _ = _
    rw [acT_apply, ih (by omega), show qi + 1 - (t + 1) = qi - t by omega, show qi + 1 - t = qi - t + 1 by omega,
      ← Finset.sum_Ico_consecutive _ (by omega : 256 * (qi - t) ≤ 256 * (qi - t + 1)) (by omega : 256 * (qi - t + 1) ≤ 256 * (qi + 1)),
      ← sum_tile, add_comm]
    congr 1
    refine Finset.sum_congr rfl fun k _ => ?_
    rw [wgt_apply H t (by omega), H.v _ (by omega)]

/-- The row after its last tile is the attention. -/
theorem row_apply (hq : qi < 16) : (hd X3 X4 X5 X6 j qi h (qi + 1)).2 (ix2 x d) = att r v (256 * qi + x.val) := by
  have hx := x.isLt
  rw [acc_apply H (qi + 1) le_rfl, Nat.sub_self, Nat.mul_zero, att_of _ _ _ _ (by omega) (by omega)]

end

end Cert.Att
-- ==== Proof.Blocks.lean ====
module

public import proofs.«01_k».proof.Proof.Host
public import proofs.«01_k».proof.Proof.Tile

@[expose] public section

noncomputable section

/-! Where each grid point's blocks lie in their arrays. -/

namespace Cert.Att

open Cert.KernelIdeal
open Idealize.ShloMosaic Idealize.ShloMosaic.TcCoe
open Idealize.ShloMosaic.VecWindow

open Facts₀ Facts

/-- The block coordinates of the attention's windows at a grid point: 16 points per batch, 4 per group of heads. -/
theorem index_att : ∀ t : Fin cfg0.N, (grid0.coords t 2).val = t.val % 4
    ∧ win0_0.index t (0 : Fin 2) = t.val / 16 * 4 + t.val % 4 ∧ win0_0.index t (1 : Fin 2) = t.val / 4 % 4
    ∧ win0_1.index t (0 : Fin 2) = t.val / 16 ∧ win0_1.index t (1 : Fin 2) = 4 + t.val / 4 % 4
    ∧ win0_2.index t (0 : Fin 2) = t.val / 16 ∧ win0_2.index t (1 : Fin 2) = 8 + t.val / 4 % 4
    ∧ win0_3.index t (0 : Fin 2) = 0 ∧ win0_3.index t (1 : Fin 2) = 0
    ∧ win0_6.index t (0 : Fin 2) = t.val / 16 * 4 + t.val % 4 ∧ win0_6.index t (1 : Fin 2) = t.val / 4 % 4 := by
  decide +kernel

/-- The block coordinates of the weights' windows at a grid point. -/
theorem index_w : ∀ t : Fin cfg0.N, win0_4.index t (0 : Fin 3) = t.val / 16 ∧ win0_4.index t (1 : Fin 3) = t.val % 16 ∧ win0_4.index t (2 : Fin 3) = 0
    ∧ win0_5.index t (0 : Fin 3) = t.val / 16 ∧ win0_5.index t (1 : Fin 3) = t.val % 16 ∧ win0_5.index t (2 : Fin 3) = 0
    ∧ win0_7.index t (0 : Fin 3) = t.val / 16 ∧ win0_7.index t (1 : Fin 3) = t.val % 16 ∧ win0_7.index t (2 : Fin 3) = 0
    ∧ win0_8.index t (0 : Fin 3) = t.val / 16 ∧ win0_8.index t (1 : Fin 3) = t.val % 16 ∧ win0_8.index t (2 : Fin 3) = 0 := by
  decide +kernel

/-- There are 32 grid points. -/
theorem N_lt (t : Fin cfg0.N) : t.val < 32 := t.isLt

variable (m : (ℓ : Loc nD τ sig) → ℓ.ty.Contents (Elt Ideal)) (c : Dev nD)

/-- A query block's entry. -/
theorem iblk_q (t : Fin cfg0.N) (x : Fin 1024) (y : Fin 512) : (Gen.iblk m c 0 t : FVec Ideal S1024x512 .bf16) (ix2 x y)
    = (Gen.V m c main_v11 : FVec Ideal S8192x6144 .bf16) (ix2 ⟨(t.val / 16 * 4 + t.val % 4) * 1024 + x.val, by have := N_lt t; omega⟩ ⟨(t.val / 4 % 4) * 512 + y.val, by omega⟩) := by
  obtain ⟨-, h0, h1, -⟩ := index_att t
  show Gen.V m c main_v11 (((cfg0.win 0).blk t).view.emb (ix2 x y)) = _
  congr 1
  funext a
  apply Fin.ext
  match a with
  | ⟨0, _⟩ => show win0_0.index t (0 : Fin 2) * 1024 + 1 * x.val = (t.val / 16 * 4 + t.val % 4) * 1024 + x.val; rw [h0, Nat.one_mul]
  | ⟨1, _⟩ => show win0_0.index t (1 : Fin 2) * 512 + 1 * y.val = (t.val / 4 % 4) * 512 + y.val; rw [h1, Nat.one_mul]

/-- A key block's entry. -/
theorem iblk_k (t : Fin cfg0.N) (x : Fin 4096) (y : Fin 512) : (Gen.iblk m c 1 t : FVec Ideal S4096x512 .bf16) (ix2 x y)
    = (Gen.V m c main_v11 : FVec Ideal S8192x6144 .bf16) (ix2 ⟨(t.val / 16) * 4096 + x.val, by have := N_lt t; omega⟩ ⟨(4 + t.val / 4 % 4) * 512 + y.val, by omega⟩) := by
  obtain ⟨-, -, -, h0, h1, -⟩ := index_att t
  show Gen.V m c main_v11 (((cfg0.win 1).blk t).view.emb (ix2 x y)) = _
  congr 1
  funext a
  apply Fin.ext
  match a with
  | ⟨0, _⟩ => show win0_1.index t (0 : Fin 2) * 4096 + 1 * x.val = (t.val / 16) * 4096 + x.val; rw [h0, Nat.one_mul]
  | ⟨1, _⟩ => show win0_1.index t (1 : Fin 2) * 512 + 1 * y.val = (4 + t.val / 4 % 4) * 512 + y.val; rw [h1, Nat.one_mul]

/-- A value block's entry. -/
theorem iblk_v (t : Fin cfg0.N) (x : Fin 4096) (y : Fin 512) : (Gen.iblk m c 2 t : FVec Ideal S4096x512 .bf16) (ix2 x y)
    = (Gen.V m c main_v11 : FVec Ideal S8192x6144 .bf16) (ix2 ⟨(t.val / 16) * 4096 + x.val, by have := N_lt t; omega⟩ ⟨(8 + t.val / 4 % 4) * 512 + y.val, by omega⟩) := by
  obtain ⟨-, -, -, -, -, h0, h1, -⟩ := index_att t
  show Gen.V m c main_v11 (((cfg0.win 2).blk t).view.emb (ix2 x y)) = _
  congr 1
  funext a
  apply Fin.ext
  match a with
  | ⟨0, _⟩ => show win0_2.index t (0 : Fin 2) * 4096 + 1 * x.val = (t.val / 16) * 4096 + x.val; rw [h0, Nat.one_mul]
  | ⟨1, _⟩ => show win0_2.index t (1 : Fin 2) * 512 + 1 * y.val = (8 + t.val / 4 % 4) * 512 + y.val; rw [h1, Nat.one_mul]

/-- The block of later positions is the whole array. -/
theorem iblk_u (t : Fin cfg0.N) (x y : Fin 256) : (Gen.iblk m c 3 t : FVec Ideal S256x256 .bf16) (ix2 x y)
    = (Gen.V m c main_v16 : FVec Ideal S256x256 .bf16) (ix2 x y) := by
  obtain ⟨-, -, -, -, -, -, -, h0, h1, -⟩ := index_att t
  show Gen.V m c main_v16 (((cfg0.win 3).blk t).view.emb (ix2 x y)) = _
  congr 1
  funext a
  apply Fin.ext
  match a with
  | ⟨0, _⟩ => show win0_3.index t (0 : Fin 2) * 256 + 1 * x.val = x.val; rw [h0]; omega
  | ⟨1, _⟩ => show win0_3.index t (1 : Fin 2) * 256 + 1 * y.val = y.val; rw [h1]; omega

/-- Rows of a sub-tile, read at one place. -/
theorem qW_apply (X : FVec Ideal S1024x512 .bf16) (j h : ℕ) (x : Fin 256) (y : Fin 128) :
    qW X j h (ix2 x y) = X (ix2 ⟨256 * (j % 4) + x.val, by omega⟩ ⟨128 * (h % 4) + y.val, by omega⟩) := by
  unfold qW window
  refine congrArg X (funext fun a => Fin.ext ?_)
  match a with
  | ⟨0, _⟩ => show 256 * (j % 4) + 1 * x.val = 256 * (j % 4) + x.val; omega
  | ⟨1, _⟩ => show 128 * (h % 4) + 1 * y.val = 128 * (h % 4) + y.val; omega

/-- Rows of a tile, read at one place. -/
theorem kW_apply (X : FVec Ideal S4096x512 .bf16) (n h : ℕ) (x : Fin 256) (y : Fin 128) :
    kW X n h (ix2 x y) = X (ix2 ⟨256 * (n % 16) + x.val, by omega⟩ ⟨128 * (h % 4) + y.val, by omega⟩) := by
  unfold kW window
  refine congrArg X (funext fun a => Fin.ext ?_)
  match a with
  | ⟨0, _⟩ => show 256 * (n % 16) + 1 * x.val = 256 * (n % 16) + x.val; omega
  | ⟨1, _⟩ => show 128 * (h % 4) + 1 * y.val = 128 * (h % 4) + y.val; omega

/-- The block of later positions, read at one place. -/
theorem uW_apply (X : FVec Ideal S256x256 .bf16) (y y' : Fin 256) : uW X (ix2 y y') = X (ix2 y y') := by
  unfold uW
  rw [window_all _ _ (by intro a; fin_cases a <;> rfl)]
  pointwise

/-- The queries as launched. -/
abbrev argQ : Arg4 := m ((c : Thread nD τ).loc main_arg0)
/-- The keys as launched. -/
abbrev argK : Arg4 := m ((c : Thread nD τ).loc main_arg1)
/-- The values as launched. -/
abbrev argV : Arg4 := m ((c : Thread nD τ).loc main_arg2)

/-- The batch of a grid point. -/
def batch (t : Fin cfg0.N) : Fin 2 := ⟨t.val / 16, by have := N_lt t; omega⟩

/-- Head `h` of a grid point's group of heads. -/
def head (t : Fin cfg0.N) (h : ℕ) : Fin 16 := ⟨4 * (t.val / 4 % 4) + h % 4, by omega⟩

/-- The position of row `x` of sub-tile `j` of a grid point's rows. -/
def pos (t : Fin cfg0.N) (j : ℕ) (x : Fin 256) : Fin 4096 := ⟨256 * (4 * (t.val % 4) + j % 4) + x.val, by omega⟩

/-- A query, scaled, as the kernel reads it. -/
theorem blk_q (t : Fin cfg0.N) (j h : ℕ) (x : Fin 256) (y : Fin 128) : qW (Gen.iblk m c 0 t : FVec Ideal S1024x512 .bf16) j h (ix2 x y)
    = Ideal.div (argQ m c (ix4 (batch t) (pos t j x) (head t h) y) * ((scl : ℝ) : EReal)) ((Real.log 2 : ℝ) : EReal) := by
  rw [qW_apply, iblk_q, V_qkv, qkv_q _ _ _ _ _ (by show (t.val / 4 % 4) * 512 + (128 * (h % 4) + y.val) < 2048; omega), flat_apply, qS_apply]
  congr 3
  refine congr (congr (congr (congrArg ix4 (Fin.ext ?_)) (Fin.ext ?_)) (Fin.ext ?_)) (Fin.ext ?_)
  · show ((t.val / 16 * 4 + t.val % 4) * 1024 + (256 * (j % 4) + x.val)) / 4096 = t.val / 16; omega
  · show ((t.val / 16 * 4 + t.val % 4) * 1024 + (256 * (j % 4) + x.val)) % 4096 = 256 * (4 * (t.val % 4) + j % 4) + x.val; omega
  · show ((t.val / 4 % 4) * 512 + (128 * (h % 4) + y.val)) / 128 = 4 * (t.val / 4 % 4) + h % 4; omega
  · show ((t.val / 4 % 4) * 512 + (128 * (h % 4) + y.val)) % 128 = y.val; omega

/-- A key, as the kernel reads it. -/
theorem blk_k (t : Fin cfg0.N) (n h : ℕ) (hn : n < 16) (x : Fin 256) (y : Fin 128) : kW (Gen.iblk m c 1 t : FVec Ideal S4096x512 .bf16) n h (ix2 x y)
    = argK m c (ix4 (batch t) ⟨(256 * n + x.val) % 4096, Nat.mod_lt _ (by norm_num)⟩ (head t h) y) := by
  rw [kW_apply, iblk_k, V_qkv, qkv_k _ _ _ _ _ (by show 2048 ≤ (4 + t.val / 4 % 4) * 512 + (128 * (h % 4) + y.val); omega)
    (by show (4 + t.val / 4 % 4) * 512 + (128 * (h % 4) + y.val) < 4096; omega), flat_apply]
  refine congrArg _ (congr (congr (congr (congrArg ix4 (Fin.ext ?_)) (Fin.ext ?_)) (Fin.ext ?_)) (Fin.ext ?_))
  · show ((t.val / 16) * 4096 + (256 * (n % 16) + x.val)) / 4096 = t.val / 16; omega
  · show ((t.val / 16) * 4096 + (256 * (n % 16) + x.val)) % 4096 = (256 * n + x.val) % 4096; omega
  · show ((4 + t.val / 4 % 4) * 512 + (128 * (h % 4) + y.val) - 2048) / 128 = 4 * (t.val / 4 % 4) + h % 4; omega
  · show ((4 + t.val / 4 % 4) * 512 + (128 * (h % 4) + y.val) - 2048) % 128 = y.val; omega

/-- A value, as the kernel reads it. -/
theorem blk_v (t : Fin cfg0.N) (n h : ℕ) (hn : n < 16) (x : Fin 256) (y : Fin 128) : kW (Gen.iblk m c 2 t : FVec Ideal S4096x512 .bf16) n h (ix2 x y)
    = rowV (argV m c) (batch t) (head t h) y (256 * n + x.val) := by
  rw [kW_apply, iblk_v, V_qkv, qkv_v _ _ _ _ _ (by show 4096 ≤ (8 + t.val / 4 % 4) * 512 + (128 * (h % 4) + y.val); omega), flat_apply, rowV]
  refine congrArg _ (congr (congr (congr (congrArg ix4 (Fin.ext ?_)) (Fin.ext ?_)) (Fin.ext ?_)) (Fin.ext ?_))
  · show ((t.val / 16) * 4096 + (256 * (n % 16) + x.val)) / 4096 = t.val / 16; omega
  · show ((t.val / 16) * 4096 + (256 * (n % 16) + x.val)) % 4096 = (256 * n + x.val) % 4096; omega
  · show ((8 + t.val / 4 % 4) * 512 + (128 * (h % 4) + y.val) - 4096) / 128 = 4 * (t.val / 4 % 4) + h % 4; omega
  · show ((8 + t.val / 4 % 4) * 512 + (128 * (h % 4) + y.val) - 4096) % 128 = y.val; omega

/-- Every row of a grid point's blocks is as the tiles' lemmas need it, if queries and keys are real. -/
theorem rowOk (hq : Fin4 (argQ m c)) (hk : Fin4 (argK m c)) (t : Fin cfg0.N) (j h : ℕ) (hj : j < 4) (x : Fin 256) (d : Fin 128) :
    RowOk (Gen.iblk m c 0 t) (Gen.iblk m c 1 t) (Gen.iblk m c 2 t) (Gen.iblk m c 3 t) j (4 * (t.val % 4) + j) h x d
      (rowR (argQ m c) (argK m c) (batch t) (head t h) (pos t j x))
      (rowV (argV m c) (batch t) (head t h) d) where
  z n hn y := by
    rw [zT_apply, rowR, Finset.sum_mul, Finset.sum_div, coe_sum]
    refine Finset.sum_congr rfl fun e _ => ?_
    rw [blk_q, blk_k _ _ _ _ _ (by omega), hq, hk, ← EReal.coe_mul, Ideal.div_coe log2_pos.ne', ← EReal.coe_mul, ← EReal.coe_mul, EReal.toReal_coe, EReal.toReal_coe]
    congr 1
    ring
  v n hn y := blk_v m c t n h (by omega) y d
  u y y' := by
    exact (uW_apply _ y y').trans ((iblk_u m c t y y').trans ((congrFun (V_later m c) _).trans (later_apply y y')))

end Cert.Att

end
-- ==== Proof.RefVal.lean ====
module

public import proofs.«01_k».proof.Proof.Row
public import proofs.«01_k».proof.Proof.Gen.ReferenceIdeal.Run
public import Idealize.ShloMosaic.Lib.Pointwise

@[expose] public section

noncomputable section

/-! The reference's attention, over the extended reals, read at one position. -/

namespace Cert.Att.Ref

open Cert.ReferenceIdeal Cert.ReferenceIdeal.Gen
open Idealize.ShloMosaic Idealize.ShloMosaic.TcCoe

/-- A four-dimensional argument. -/
abbrev Arg := FVec Ideal S2x4096x16x128 .f32
/-- A square of scores per batch and head. -/
abbrev Sq := FVec Ideal S2x16x4096x4096 .f32

/-- A constant spread over the scores. -/
def spread (b : BitVec 32) : Sq := broadcastInDim S2x16x4096x4096 ![] bcast_S_S2x16x4096x4096 (constant S_ .f32 b)

/-- An argument with its heads outside its positions. -/
def heads (q : Arg) : FVec Ideal S2x16x4096x128 .f32 := transpose S2x16x4096x128 [0, 2, 1, 3] q transposes_S2x4096x16x128_S2x16x4096x128_0_2_1_3

/-- The scores. -/
def score (q k : Arg) : Sq :=
  mulf (Host.dotGeneral dot_S2x16x4096x128_S2x16x4096x128_S2x16x4096x4096_3_3_2_2_01_01 none (heads q) (heads k)) (spread 0x3DB504F3#32)

/-- The log of the sigmoid of the negated argument, negated. -/
def soft (y : Sq) : Sq :=
  select (cmpf .une (subf y (spread 0x00000000#32)) (subf y (spread 0x00000000#32))) (addf y (spread 0x00000000#32))
    (addf (maximumf y (spread 0x00000000#32)) (Host.log1p (Host.exp (Host.negf (Host.absf (subf y (spread 0x00000000#32)))))))

/-- Which keys lie strictly before the query. -/
def before : IVec S2x16x4096x4096 1 :=
  broadcastInDim S2x16x4096x4096 ![2, 3] bcast_S4096x4096_S2x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The log of one minus the sigmoid, masked. -/
def rest (z : Sq) : Sq :=
  select before (Host.negf (soft (Host.negf (Host.negf z)))) (broadcastInDim S2x16x4096x4096 ![] bcast_S_S2x16x4096x4096 (id (constant S_ .f32 0x00000000#32)))

/-- The sums over a key and the later ones. -/
def sums (x : Sq) : Sq :=
  Host.reduceWindowAdd ![1, 1, 1, 4096] ![1, 1, 1, 1] ![0, 0, 0, 0] ![0, 0, 0, 4095] x (broadcastInDim S_ ![] bcast_S_S_ (constant S_ .f32 0x00000000#32)) reduceWindows_S2x16x4096x4096_S2x16x4096x4096_w1s1p0_0_w1s1p0_0_w1s1p0_0_w4096s1p0_4095 h_S_

/-- The weights. -/
def weight (z : Sq) : Sq :=
  select before (Host.exp (addf (Host.negf (soft (Host.negf z))) (subf (sums (rest z)) (rest z)))) (spread 0x00000000#32)

/-- The result, flattened. -/
def out (q k v : Arg) : FVec Ideal S8192x2048 .bf16 :=
  truncf .bf16 (shapeCast S8192x2048 (transpose S2x4096x16x128 [0, 2, 1, 3] (Host.dotGeneral dot_S2x16x4096x4096_S2x16x4096x128_S2x16x4096x128_3_2_2_3_01_01 none (weight (score q k)) (heads v)) transposes_S2x16x4096x128_S2x4096x16x128_0_2_1_3) shapeCasts_S2x4096x16x128_S8192x2048) bitsLt_bf16_f32

set_option maxRecDepth 8192 in
/-- The reference's first result is that. -/
theorem res_eq (m : (ℓ : Loc nD τ sig) → Buf (Elt Ideal) ℓ) (c : Dev nD) : Value.res_main_v24 (F := Ideal) m c
    = out (m ((c.tc : Thread nD τ).loc main_arg0)) (m ((c.tc : Thread nD τ).loc main_arg1)) (m ((c.tc : Thread nD τ).loc main_arg2)) := rfl

/-- A score of real queries and keys. -/
theorem score_apply {q k : Arg} (hq : Fin4 q) (hk : Fin4 k) (b : Fin 2) (h : Fin 16) (i s : Fin 4096) :
    score q k (ix4 b h i s) = ((rowR q k b h i s.val : ℝ) : EReal) := by
  pointwise [score, heads, spread]
  have hs : (⟨s.val % 4096, Nat.mod_lt _ (by norm_num)⟩ : Fin 4096) = s := Fin.ext (Nat.mod_eq_of_lt s.isLt)
  unfold rowR
  rw [bits_scl, EReal.coe_mul, coe_sum, hs]
  congr 1
  refine Finset.sum_congr rfl fun d _ => ?_
  rw [EReal.coe_mul, ← hq, ← hk]

/-- The softplus at a real. -/
theorem soft_apply (y : Sq) (j : S2x16x4096x4096.Idx) (x : ℝ) (h : y j = (x : EReal)) : soft y j = ((-lsg (-x) : ℝ) : EReal) := by
  pointwise [soft, spread]
  rw [if_neg (by simp), h]
  exact softplus_coe x

/-- The mask as a choice. -/
theorem before_apply (b : Fin 2) (h : Fin 16) (i s : Fin 4096) : before (ix4 b h i s) = if s.val < i.val then 1#1 else 0#1 := by
  pointwise [before]
  exact cmpi_slt _ _ i.isLt s.isLt

/-- What a key adds to the sums. -/
theorem rest_apply (z : Sq) (b : Fin 2) (h : Fin 16) (i s : Fin 4096) (r : ℕ → ℝ) (hz : z (ix4 b h i s) = ((r s.val : ℝ) : EReal)) :
    rest z (ix4 b h i s) = ((lrem r i.val s.val : ℝ) : EReal) := by
  pointwise [rest]
  rw [before_apply, select_ite, soft_apply _ _ (r s.val) (by pointwise; rw [hz]; simp)]
  unfold lrem
  split
  · rw [← EReal.coe_neg, neg_neg]
  · rw [EReal.coe_zero]
    exact bits_zero

/-- A fold of additions is the sum. -/
theorem foldl_add {M ι : Type*} [AddCommMonoid M] (g : ι → M) (l : List ι) (v : M) : l.foldl (fun r n => r + g n) v = v + (l.map g).sum := by
  induction l generalizing v with
  | nil => simp
  | cons a l ih => rw [List.foldl_cons, ih, List.map_cons, List.sum_cons, add_assoc]

/-- The running sums from the end, of real entries. -/
theorem sums_apply (x : Sq) (b : Fin 2) (h : Fin 16) (i s : Fin 4096) (f : ℕ → ℝ) (hx : ∀ s' : Fin 4096, x (ix4 b h i s') = ((f s'.val : ℝ) : EReal)) :
    sums x (ix4 b h i s) = ((∑ s' ∈ Finset.Ico s.val 4096, f s' : ℝ) : EReal) := by
  unfold sums Host.reduceWindowAdd
  rw [Ideal.hostReduceWindowAdd_def]
  unfold Ideal.hostReduceWindowAdd Host.reduceWindow
  have hv : (broadcastInDim S_ ![] bcast_S_S_ (constant (F := Ideal) S_ .f32 0x00000000#32)) (Shape.Idx.first h_S_) = (0 : EReal) := by
    pointwise
  dsimp only
  rw [foldl_add, hv, zero_add, ← Fin.sum_univ_def]
  refine (Finset.sum_congr rfl (g := fun n => (fun w : (⟨4, ![1, 1, 1, 4096]⟩ : Shape).Idx =>
    ((if s.val + (w 3).val < 4096 then f (s.val + (w 3).val) else 0 : ℝ) : EReal)) ((Shape.rowMajor ⟨4, ![1, 1, 1, 4096]⟩).symm n)) fun n _ => ?_).trans ?_
  · let w : (⟨4, ![1, 1, 1, 4096]⟩ : Shape).Idx := (Shape.rowMajor ⟨4, ![1, 1, 1, 4096]⟩).symm n
    have w0 : (w 0).val < 1 := (w 0).isLt
    have w1 : (w 1).val < 1 := (w 1).isLt
    have w2 : (w 2).val < 1 := (w 2).isLt
    dsimp only
    split
    · rename_i hin
      have h3 : s.val * 1 + (w 3).val - 0 < 4096 := (hin 3).2
      rw [if_pos (show s.val + (w 3).val < 4096 by omega), ← hx ⟨s.val + (w 3).val, by omega⟩]
      congr 1
      funext a
      apply Fin.ext
      match a with
      | ⟨0, _⟩ => show b.val * 1 + (w 0).val - 0 = b.val; omega
      | ⟨1, _⟩ => show h.val * 1 + (w 1).val - 0 = h.val; omega
      | ⟨2, _⟩ => show i.val * 1 + (w 2).val - 0 = i.val; omega
      | ⟨3, _⟩ => show s.val * 1 + (w 3).val - 0 = s.val + (w 3).val; omega
    · rename_i hin
      rw [if_neg, EReal.coe_zero]
      intro (hlt : s.val + (w 3).val < 4096)
      refine hin fun a => ?_
      match a with
      | ⟨0, _⟩ => exact ⟨Nat.zero_le _, show b.val * 1 + (w 0).val - 0 < 2 by omega⟩
      | ⟨1, _⟩ => exact ⟨Nat.zero_le _, show h.val * 1 + (w 1).val - 0 < 16 by omega⟩
      | ⟨2, _⟩ => exact ⟨Nat.zero_le _, show i.val * 1 + (w 2).val - 0 < 4096 by omega⟩
      | ⟨3, _⟩ => exact ⟨Nat.zero_le _, show s.val * 1 + (w 3).val - 0 < 4096 by omega⟩
  refine (Equiv.sum_comp (Shape.rowMajor ⟨4, ![1, 1, 1, 4096]⟩).symm (fun w : (⟨4, ![1, 1, 1, 4096]⟩ : Shape).Idx =>
    ((if s.val + (w 3).val < 4096 then f (s.val + (w 3).val) else 0 : ℝ) : EReal))).trans ?_
  rw [sum_idx4]
  simp only [Fin.sum_univ_one, ix4_3]
  rw [← coe_sum]
  congr 1
  have e : ∑ n ∈ Finset.range 4096, (if s.val + n < 4096 then f (s.val + n) else 0) = ∑ n ∈ Finset.range (4096 - s.val), f (s.val + n) := by
    rw [← Finset.sum_filter]
    refine Finset.sum_congr ?_ fun _ _ => rfl
    ext n
    simp only [Finset.mem_filter, Finset.mem_range]
    omega
  show (∑ k : Fin 4096, if s.val + k.val < 4096 then f (s.val + k.val) else 0) = _
  rw [Fin.sum_univ_eq_sum_range (fun n => if s.val + n < 4096 then f (s.val + n) else 0), Finset.sum_Ico_eq_sum_range, e]

/-- The weight of a key. -/
theorem weight_apply (z : Sq) (b : Fin 2) (h : Fin 16) (i s : Fin 4096) (r : ℕ → ℝ) (hz : ∀ s' : Fin 4096, z (ix4 b h i s') = ((r s'.val : ℝ) : EReal)) :
    weight z (ix4 b h i s) = ((wgt r i.val 4096 s.val : ℝ) : EReal) := by
  pointwise [weight, spread]
  rw [before_apply, select_ite, soft_apply _ _ (-r s.val) (by pointwise; rw [hz]; simp), sums_apply _ b h i s (lrem r i.val) (fun s' => rest_apply z b h i s' r (hz s')),
    rest_apply z b h i s r (hz s)]
  unfold wgt
  split
  · rw [← EReal.coe_neg, ← EReal.coe_sub, ← EReal.coe_add, Ideal.exp_coe, Finset.sum_eq_sum_Ico_succ_bot s.isLt, neg_neg, neg_neg, add_sub_cancel_left]
  · rw [EReal.coe_zero]

/-- The reference's result at a position. -/
theorem out_apply {q k : Arg} (hq : Fin4 q) (hk : Fin4 k) (v : Arg) (i : Fin 8192) (s : Fin 2048) : out q k v (ix2 i s)
    = att (rowR q k ⟨i.val / 4096, by omega⟩ ⟨s.val / 128, by omega⟩ ⟨i.val % 4096, by omega⟩) (rowV v ⟨i.val / 4096, by omega⟩ ⟨s.val / 128, by omega⟩ ⟨s.val % 128, by omega⟩) (i.val % 4096) := by
  pointwise [out, heads]
  unfold att
  rw [Finset.sum_range]
  refine Finset.sum_congr rfl fun x _ => ?_
  rw [weight_apply _ _ _ _ _ _ (fun s' => score_apply hq hk _ _ _ s')]
  congr 1
  unfold rowV
  congr 2
  exact Fin.ext (Nat.mod_eq_of_lt x.isLt).symm

end Cert.Att.Ref
-- ==== Proof.Arr.lean ====
module

public import proofs.«01_k».proof.Proof.Blocks
public import proofs.«01_k».proof.Proof.RefVal

@[expose] public section

noncomputable section

/-! The arrays the grid leaves: the attention, and the two weights at a shorter float type. -/

namespace Cert.Att

open Cert.KernelIdeal
open Idealize.ShloMosaic Idealize.ShloMosaic.TcCoe
open Idealize.ShloMosaic.VecWindow

open Facts₀ Facts

variable (m : (ℓ : Loc nD τ sig) → ℓ.ty.Contents (Elt Ideal)) (c : Dev nD)

/-- The first output row and column of a grid point's block, moved by a row and a column. -/
def at6 (t : Fin cfg0.N) (x : Fin 1024) (y : Fin 512) : S8192x2048.Idx :=
  ix2 ⟨(t.val / 16 * 4 + t.val % 4) * 1024 + x.val, by have := N_lt t; omega⟩ ⟨(t.val / 4 % 4) * 512 + y.val, by omega⟩

theorem emb6 (t : Fin cfg0.N) (x : Fin 1024) (y : Fin 512) : ((cfg0.win 6).blk t).view.emb (ix2 x y) = at6 t x y := by
  obtain ⟨-, -, -, -, -, -, -, -, -, h0, h1⟩ := index_att t
  funext a
  apply Fin.ext
  match a with
  | ⟨0, _⟩ => show win0_6.index t (0 : Fin 2) * 1024 + 1 * x.val = (t.val / 16 * 4 + t.val % 4) * 1024 + x.val; rw [h0, Nat.one_mul]
  | ⟨1, _⟩ => show win0_6.index t (1 : Fin 2) * 512 + 1 * y.val = (t.val / 4 % 4) * 512 + y.val; rw [h1, Nat.one_mul]

/-- A grid point's output rows are the attention's rows at its place. -/
theorem oBlk_apply (hq : Fin4 (argQ m c)) (hk : Fin4 (argK m c)) (t : Fin cfg0.N) (x : Fin 1024) (y : Fin 512) :
    oBlk (F := Ideal) (Gen.iblk m c 0 t) (Gen.iblk m c 1 t) (Gen.iblk m c 2 t) (Gen.iblk m c 3 t) (grid0.coords t 2).val (ix2 x y)
      = Ref.out (argQ m c) (argK m c) (argV m c) (at6 t x y) := by
  have ht := N_lt t
  refine Eq.trans ?_ (Ref.out_apply hq hk (argV m c) ⟨(t.val / 16 * 4 + t.val % 4) * 1024 + x.val, by omega⟩ ⟨(t.val / 4 % 4) * 512 + y.val, by omega⟩).symm
  show (hd _ _ _ _ (x.val / 256) (4 * (grid0.coords t 2).val + x.val / 256) (y.val / 128) (x.val / 256 + 4 * (grid0.coords t 2).val + 1)).2 (box x.val y.val) = _
  rw [(index_att t).1, Nat.add_comm (x.val / 256) (4 * (t.val % 4))]
  have hb : box x.val y.val = ix2 (⟨x.val % 256, by omega⟩ : Fin 256) (⟨y.val % 128, by omega⟩ : Fin 128) := by
    funext a; apply Fin.ext
    match a with
    | ⟨0, _⟩ => rfl
    | ⟨1, _⟩ => rfl
  rw [hb, row_apply (rowOk m c hq hk t (x.val / 256) (y.val / 128) (by omega) ⟨x.val % 256, by omega⟩ ⟨y.val % 128, by omega⟩) (by omega)]
  have e0 : batch t = ⟨((t.val / 16 * 4 + t.val % 4) * 1024 + x.val) / 4096, by omega⟩ := Fin.ext (by show t.val / 16 = ((t.val / 16 * 4 + t.val % 4) * 1024 + x.val) / 4096; omega)
  have e1 : head t (y.val / 128) = ⟨((t.val / 4 % 4) * 512 + y.val) / 128, by omega⟩ := Fin.ext (by show 4 * (t.val / 4 % 4) + y.val / 128 % 4 = ((t.val / 4 % 4) * 512 + y.val) / 128; omega)
  have e2 : pos t (x.val / 256) ⟨x.val % 256, by omega⟩ = ⟨((t.val / 16 * 4 + t.val % 4) * 1024 + x.val) % 4096, by omega⟩ := Fin.ext (by show 256 * (4 * (t.val % 4) + x.val / 256 % 4) + x.val % 256 = ((t.val / 16 * 4 + t.val % 4) * 1024 + x.val) % 4096; omega)
  have e3 : (⟨y.val % 128, by omega⟩ : Fin 128) = ⟨((t.val / 4 % 4) * 512 + y.val) % 128, by omega⟩ := Fin.ext (by show y.val % 128 = ((t.val / 4 % 4) * 512 + y.val) % 128; omega)
  have e4 : 256 * (4 * (t.val % 4) + x.val / 256) + x.val % 256 = ((t.val / 16 * 4 + t.val % 4) * 1024 + x.val) % 4096 := by omega
  rw [e0, e1, e2, e3]
  exact congrArg (att _ _) e4

/-- What a grid point writes to the first result is the attention's block there. -/
theorem flushed6 (hq : Fin4 (argQ m c)) (hk : Fin4 (argK m c)) (t : Fin cfg0.N) :
    (dats m 0 c).flushed 6 t = ((cfg0.win 6).blk t).view.read (Elt Ideal) (Ref.out (argQ m c) (argK m c) (argV m c)) := by
  show (cfg0.win 6).cut (grid0.coords t) ((dats m 0 c).after 6 t) = _
  rw [after0_6]
  refine funext fun (j : S1024x512.Idx) => ?_
  rw [eq_ix2 j]
  refine (oBlk_apply m c hq hk t (j 0) (j 1)).trans ?_
  exact (congrArg (Ref.out (argQ m c) (argK m c) (argV m c)) (emb6 t (j 0) (j 1))).symm

/-- Every place of the first result lies in some grid point's block. -/
theorem cover6 (i : S8192x2048.Idx) : ∃ t : Fin cfg0.N, (cfg0.win 6).flush t = true ∧ i ∈ ((cfg0.win 6).blk t).view.set := by
  have hr : (i 0).val < 8192 := (i 0).isLt
  have hs : (i 1).val < 2048 := (i 1).isLt
  let t : Fin cfg0.N := ⟨(i 0).val / 4096 * 16 + (i 1).val / 512 * 4 + (i 0).val / 1024 % 4, by show _ < 32; omega⟩
  refine ⟨t, Gen.flush0_6 t, ?_⟩
  have h := ((cfg0.win 6).blk t).view.emb_mem_set (ix2 (⟨(i 0).val % 1024, by omega⟩ : Fin 1024) (⟨(i 1).val % 512, by omega⟩ : Fin 512))
  rw [emb6] at h
  have e : at6 t ⟨(i 0).val % 1024, by omega⟩ ⟨(i 1).val % 512, by omega⟩ = i := by
    funext a; apply Fin.ext
    match a with
    | ⟨0, _⟩ => show (((i 0).val / 4096 * 16 + (i 1).val / 512 * 4 + (i 0).val / 1024 % 4) / 16 * 4 + ((i 0).val / 4096 * 16 + (i 1).val / 512 * 4 + (i 0).val / 1024 % 4) % 4) * 1024 + (i 0).val % 1024 = (i 0).val; omega
    | ⟨1, _⟩ => show (((i 0).val / 4096 * 16 + (i 1).val / 512 * 4 + (i 0).val / 1024 % 4) / 4 % 4) * 512 + (i 1).val % 512 = (i 1).val; omega
  rwa [e] at h

/-- The first result after the whole grid: the attention. -/
theorem final6 (hq : Fin4 (argQ m c)) (hk : Fin4 (argK m c)) : (dats m 0 c).arrAt 6 cfg0.N = Ref.out (argQ m c) (argK m c) (argV m c) :=
  (dats m 0 c).arrAt_eq_of_cover 6 _ (fun t _ => flushed6 m c hq hk t) cover6

/-- The first two layers' first weights, at the shorter float type. -/
def w1 : FVec Ideal S2x2048x8192 .bf16 := fun z => (m ((c : Thread nD τ).loc main_arg3) : FVec Ideal S4x2048x8192 .f32) (ix3 ⟨(z 0).val, by have : (z 0).val < 2 := (z 0).isLt; omega⟩ (z 1) (z 2))

/-- The first two layers' second weights, at the shorter float type. -/
def w2 : FVec Ideal S2x8192x2048 .bf16 := fun z => (m ((c : Thread nD τ).loc main_arg4) : FVec Ideal S4x8192x2048 .f32) (ix3 ⟨(z 0).val, by have : (z 0).val < 2 := (z 0).isLt; omega⟩ (z 1) (z 2))

/-- Over the extended reals the first weight's slab is unchanged. -/
theorem cast1_apply (X : FVec Ideal S1x128x8192 .f32) (j : S1x128x8192.Idx) : cast1 (F := Ideal) X j = X j := by
  unfold cast1
  rw [window_all _ _ (by intro a; fin_cases a <;> rfl), eq_ix3 j]
  pointwise

/-- Over the extended reals the second weight's slab is unchanged. -/
theorem cast2_apply (X : FVec Ideal S1x512x2048 .f32) (j : S1x512x2048.Idx) : cast2 (F := Ideal) X j = X j := by
  unfold cast2
  rw [window_all _ _ (by intro a; fin_cases a <;> rfl), eq_ix3 j]
  pointwise

/-- The place in the first weight's result of an entry of a grid point's slab. -/
def at7 (t : Fin cfg0.N) (j : S1x128x8192.Idx) : S2x2048x8192.Idx :=
  ix3 ⟨t.val / 16 * 1 + (j 0).val, by have := N_lt t; have : (j 0).val < 1 := (j 0).isLt; omega⟩ ⟨t.val % 16 * 128 + (j 1).val, by have : (j 1).val < 128 := (j 1).isLt; omega⟩ (j 2)

theorem emb7 (t : Fin cfg0.N) (j : S1x128x8192.Idx) : ((cfg0.win 7).blk t).view.emb j = at7 t j := by
  obtain ⟨-, -, -, -, -, -, h0, h1, h2, -⟩ := index_w t
  funext a
  apply Fin.ext
  match a with
  | ⟨0, _⟩ => show win0_7.index t (0 : Fin 3) * 1 + 1 * (j 0).val = t.val / 16 * 1 + (j 0).val; rw [h0]; omega
  | ⟨1, _⟩ => show win0_7.index t (1 : Fin 3) * 128 + 1 * (j 1).val = t.val % 16 * 128 + (j 1).val; rw [h1]; omega
  | ⟨2, _⟩ => show win0_7.index t (2 : Fin 3) * 8192 + 1 * (j 2).val = (j 2).val; rw [h2]; omega

/-- A slab of the first weight as the kernel reads it. -/
theorem iblk_w1 (t : Fin cfg0.N) (j : S1x128x8192.Idx) : (Gen.iblk m c 4 t : FVec Ideal S1x128x8192 .f32) j = w1 m c (at7 t j) := by
  obtain ⟨h0, h1, h2, -⟩ := index_w t
  show Gen.V m c main_arg3 (((cfg0.win 4).blk t).view.emb j) = _
  rw [Gen.V_main_arg3]
  unfold w1
  congr 1
  funext a
  apply Fin.ext
  match a with
  | ⟨0, _⟩ => show win0_4.index t (0 : Fin 3) * 1 + 1 * (j 0).val = t.val / 16 * 1 + (j 0).val; rw [h0]; omega
  | ⟨1, _⟩ => show win0_4.index t (1 : Fin 3) * 128 + 1 * (j 1).val = t.val % 16 * 128 + (j 1).val; rw [h1]; omega
  | ⟨2, _⟩ => show win0_4.index t (2 : Fin 3) * 8192 + 1 * (j 2).val = (j 2).val; rw [h2]; omega

/-- What a grid point writes to the second result is the first weight's slab. -/
theorem flushed7 (t : Fin cfg0.N) : (dats m 0 c).flushed 7 t = ((cfg0.win 7).blk t).view.read (Elt Ideal) (w1 m c) := by
  show (cfg0.win 7).cut (grid0.coords t) ((dats m 0 c).after 7 t) = _
  rw [after0_7]
  refine funext fun (j : S1x128x8192.Idx) => ?_
  exact (cast1_apply _ j).trans ((iblk_w1 m c t j).trans (congrArg (w1 m c) (emb7 t j)).symm)

/-- Every place of the second result lies in some grid point's block. -/
theorem cover7 (i : S2x2048x8192.Idx) : ∃ t : Fin cfg0.N, (cfg0.win 7).flush t = true ∧ i ∈ ((cfg0.win 7).blk t).view.set := by
  have hr : (i 0).val < 2 := (i 0).isLt
  have hs : (i 1).val < 2048 := (i 1).isLt
  let t : Fin cfg0.N := ⟨(i 0).val * 16 + (i 1).val / 128, by show _ < 32; omega⟩
  refine ⟨t, Gen.flush0_7 t, ?_⟩
  have h := ((cfg0.win 7).blk t).view.emb_mem_set (ix3 (⟨0, by omega⟩ : Fin 1) (⟨(i 1).val % 128, by omega⟩ : Fin 128) (i 2))
  rw [emb7] at h
  have e : at7 t (ix3 (⟨0, by omega⟩ : Fin 1) (⟨(i 1).val % 128, by omega⟩ : Fin 128) (i 2)) = i := by
    funext a; apply Fin.ext
    match a with
    | ⟨0, _⟩ => show ((i 0).val * 16 + (i 1).val / 128) / 16 * 1 + 0 = (i 0).val; omega
    | ⟨1, _⟩ => show ((i 0).val * 16 + (i 1).val / 128) % 16 * 128 + (i 1).val % 128 = (i 1).val; omega
    | ⟨2, _⟩ => rfl
  rwa [e] at h

/-- The second result after the whole grid: the first weight of the first two layers. -/
theorem final7 : (dats m 0 c).arrAt 7 cfg0.N = w1 m c :=
  (dats m 0 c).arrAt_eq_of_cover 7 _ (fun t _ => flushed7 m c t) cover7

/-- The place in the second weight's result of an entry of a grid point's slab. -/
def at8 (t : Fin cfg0.N) (j : S1x512x2048.Idx) : S2x8192x2048.Idx :=
  ix3 ⟨t.val / 16 * 1 + (j 0).val, by have := N_lt t; have : (j 0).val < 1 := (j 0).isLt; omega⟩ ⟨t.val % 16 * 512 + (j 1).val, by have : (j 1).val < 512 := (j 1).isLt; omega⟩ (j 2)

theorem emb8 (t : Fin cfg0.N) (j : S1x512x2048.Idx) : ((cfg0.win 8).blk t).view.emb j = at8 t j := by
  obtain ⟨-, -, -, -, -, -, -, -, -, h0, h1, h2⟩ := index_w t
  funext a
  apply Fin.ext
  match a with
  | ⟨0, _⟩ => show win0_8.index t (0 : Fin 3) * 1 + 1 * (j 0).val = t.val / 16 * 1 + (j 0).val; rw [h0]; omega
  | ⟨1, _⟩ => show win0_8.index t (1 : Fin 3) * 512 + 1 * (j 1).val = t.val % 16 * 512 + (j 1).val; rw [h1]; omega
  | ⟨2, _⟩ => show win0_8.index t (2 : Fin 3) * 2048 + 1 * (j 2).val = (j 2).val; rw [h2]; omega

/-- A slab of the second weight as the kernel reads it. -/
theorem iblk_w2 (t : Fin cfg0.N) (j : S1x512x2048.Idx) : (Gen.iblk m c 5 t : FVec Ideal S1x512x2048 .f32) j = w2 m c (at8 t j) := by
  obtain ⟨-, -, -, h0, h1, h2, -⟩ := index_w t
  show Gen.V m c main_arg4 (((cfg0.win 5).blk t).view.emb j) = _
  rw [Gen.V_main_arg4]
  unfold w2
  congr 1
  funext a
  apply Fin.ext
  match a with
  | ⟨0, _⟩ => show win0_5.index t (0 : Fin 3) * 1 + 1 * (j 0).val = t.val / 16 * 1 + (j 0).val; rw [h0]; omega
  | ⟨1, _⟩ => show win0_5.index t (1 : Fin 3) * 512 + 1 * (j 1).val = t.val % 16 * 512 + (j 1).val; rw [h1]; omega
  | ⟨2, _⟩ => show win0_5.index t (2 : Fin 3) * 2048 + 1 * (j 2).val = (j 2).val; rw [h2]; omega

/-- What a grid point writes to the third result is the second weight's slab. -/
theorem flushed8 (t : Fin cfg0.N) : (dats m 0 c).flushed 8 t = ((cfg0.win 8).blk t).view.read (Elt Ideal) (w2 m c) := by
  show (cfg0.win 8).cut (grid0.coords t) ((dats m 0 c).after 8 t) = _
  rw [after0_8]
  refine funext fun (j : S1x512x2048.Idx) => ?_
  exact (cast2_apply _ j).trans ((iblk_w2 m c t j).trans (congrArg (w2 m c) (emb8 t j)).symm)

/-- Every place of the third result lies in some grid point's block. -/
theorem cover8 (i : S2x8192x2048.Idx) : ∃ t : Fin cfg0.N, (cfg0.win 8).flush t = true ∧ i ∈ ((cfg0.win 8).blk t).view.set := by
  have hr : (i 0).val < 2 := (i 0).isLt
  have hs : (i 1).val < 8192 := (i 1).isLt
  let t : Fin cfg0.N := ⟨(i 0).val * 16 + (i 1).val / 512, by show _ < 32; omega⟩
  refine ⟨t, Gen.flush0_8 t, ?_⟩
  have h := ((cfg0.win 8).blk t).view.emb_mem_set (ix3 (⟨0, by omega⟩ : Fin 1) (⟨(i 1).val % 512, by omega⟩ : Fin 512) (i 2))
  rw [emb8] at h
  have e : at8 t (ix3 (⟨0, by omega⟩ : Fin 1) (⟨(i 1).val % 512, by omega⟩ : Fin 512) (i 2)) = i := by
    funext a; apply Fin.ext
    match a with
    | ⟨0, _⟩ => show ((i 0).val * 16 + (i 1).val / 512) / 16 * 1 + 0 = (i 0).val; omega
    | ⟨1, _⟩ => show ((i 0).val * 16 + (i 1).val / 512) % 16 * 512 + (i 1).val % 512 = (i 1).val; omega
    | ⟨2, _⟩ => rfl
  rwa [e] at h

/-- The third result after the whole grid: the second weight of the first two layers. -/
theorem final8 : (dats m 0 c).arrAt 8 cfg0.N = w2 m c :=
  (dats m 0 c).arrAt_eq_of_cover 8 _ (fun t _ => flushed8 m c t) cover8

/-- The reference's slice of the first weights is the kernel's second result. -/
theorem w1_slice (h : S4x2048x8192.Slices ![0, 0, 0] S2x2048x8192) :
    truncf (F := Ideal) .bf16 (extractStridedSlice S2x2048x8192 ![0, 0, 0] (m ((c : Thread nD τ).loc main_arg3) : FVec Ideal S4x2048x8192 .f32) h) bitsLt_bf16_f32 = w1 m c := by
  refine funext fun (j : S2x2048x8192.Idx) => ?_
  rw [eq_ix3 j]
  pointwise [w1]

/-- The reference's slice of the second weights is the kernel's third result. -/
theorem w2_slice (h : S4x8192x2048.Slices ![0, 0, 0] S2x8192x2048) :
    truncf (F := Ideal) .bf16 (extractStridedSlice S2x8192x2048 ![0, 0, 0] (m ((c : Thread nD τ).loc main_arg4) : FVec Ideal S4x8192x2048 .f32) h) bitsLt_bf16_f32 = w2 m c := by
  refine funext fun (j : S2x8192x2048.Idx) => ?_
  rw [eq_ix3 j]
  pointwise [w2]

end Cert.Att

end
-- ==== Proof.Finite.lean ====
module

public import proofs.«01_k».proof.Pre_finite_qk
public import proofs.«01_k».proof.Proof.Row
public import Idealize.ShloMosaic.Lib.Pointwise

@[expose] public section

noncomputable section

/-! What the precondition says: every query and every key is a real number. -/

namespace Cert.Att

open Idealize.ShloMosaic

/-- The shape relation the precondition states. -/
instance finite_facts : Cert.Pre_finite_qk.Facts := ⟨by decide⟩

/-- A number whose absolute value is below infinity is real. -/
theorem real_of_abs (x : EReal) (h : max x (-x) < ⊤) : x = ((x.toReal : ℝ) : EReal) := by
  refine (EReal.coe_toReal ?_ ?_).symm
  · rintro rfl
    simp at h
  · rintro rfl
    simp at h

/-- The precondition read at every place. -/
theorem finite_of_pre (q k v : Arg4) (a : FVec Ideal Cert.Pre_finite_qk.S4x2048x8192 .f32) (b : FVec Ideal Cert.Pre_finite_qk.S4x8192x2048 .f32)
    (h : Cert.Pre_finite_qk.fn (F := Ideal) q k v a b = fun _ => 1#1) : Fin4 q ∧ Fin4 k := by
  have key : ∀ j, max (q j) (-(q j)) < ⊤ ∧ max (k j) (-(k j)) < ⊤ := by
    intro j
    have hj := congrFun h j
    rw [eq_ix4 j] at hj
    revert hj
    pointwise [Cert.Pre_finite_qk.fn]
    rw [bits_top]
    intro hj
    have hb : ∀ x y : Bool, IntOp.andi (BitVec.ofBool x) (BitVec.ofBool y) = 1#1 → x = true ∧ y = true := by decide
    exact ⟨of_decide_eq_true (hb _ _ hj).1, of_decide_eq_true (hb _ _ hj).2⟩
  exact ⟨fun j => real_of_abs _ (key j).1, fun j => real_of_abs _ (key j).2⟩

end Cert.Att

end
-- ==== Proof.KFrame.lean ====
/- The frame of the program as printed, from the run of the idealized one: the two programs are one text, read at the
   instance whose named constant is its printed word. -/
module

public import proofs.«01_k».proof.Defs
public import proofs.«01_k».proof.Proof.Gen.Kernel
public import proofs.«01_k».proof.Proof.Launch

@[expose] public section

noncomputable section

namespace Cert.Att

open Idealize.ShloMosaic Idealize.SL.Sem

/-- A named constant read as its printed word. -/
@[reducible] def asWord {F : FTy → Type} [FloatOps F] : Named F := ⟨fun _ _ _ b => Scalar.ofBits _ b⟩

/-- What the frame says of the program as printed. -/
def KStmt : Prop := @Cert.quiescent_Kernel Cert.Kernel.Gen.facts

/-- What the run of the idealized program's text says where its named constant is its printed word. -/
def IStmt : Prop :=
  ∀ (m : (ℓ : Loc Cert.KernelIdeal.nD Cert.KernelIdeal.τ Cert.KernelIdeal.sig) → Buf (Elt Bits) ℓ) (g : Dev Cert.KernelIdeal.nD → PrngReg), True →
    θ_run (@Cert.KernelIdeal.defs Bits _ asWord Cert.KernelIdeal.Gen.facts) (onTc (τ := Cert.KernelIdeal.τ) (@Cert.KernelIdeal.main Bits _ Cert.KernelIdeal.Gen.facts)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem istmt : IStmt := fun m g _ => @frame_all Bits _ asWord m g

theorem same : KStmt = IStmt := by sl_kernel_rfl

theorem kernel_frame : @Cert.quiescent_Kernel Cert.Kernel.Gen.facts := (congrArg id same).mpr istmt

end Cert.Att

end
-- ==== Proof.Norm.lean ====
module

public import Idealize.ShloMosaic.PureOps.Ideal
public import Idealize.ShloMosaic.Lib.Pointwise
public import Idealize.ShloMosaic.Lib.VecWindow
public import Idealize.ShloMosaic.Lib.Pipeline.ValueKit
public import Idealize.ShloMosaic.Lib.Pipeline.ReadBack

@[expose] public section

noncomputable section

/-! What the calls share: a normalized row, a flattened position, and sums by chunks. -/

namespace Cert.Lin

open Idealize.ShloMosaic
open scoped BigOperators

/-- One over the root of a row's mean square, the small constant added. -/
def inv (x : Fin 2048 → EReal) : EReal := Ideal.rsqrt (Ideal.div (∑ k, x k * x k) (Ideal.ofBits .f32 0x45000000#32) + Ideal.ofBits .f32 0x358637BD#32)

/-- The reciprocal of a head's root mean square. -/
def hinv (z : Fin 128 → EReal) : EReal := Ideal.rsqrt (Ideal.div (∑ k, z k * z k) (Ideal.ofBits .f32 0x43000000#32) + Ideal.ofBits .f32 0x358637BD#32)

/-- A row normalized, with its gains. -/
def nrm (x g : Fin 2048 → EReal) (d : Fin 2048) : EReal := x d * inv x * g d

/-- A hidden unit: what is positive of a sum, squared. -/
def unit (xn w : Fin 2048 → EReal) : EReal := max (∑ d, xn d * w d) 0 * max (∑ d, xn d * w d) 0

/-- A row of the two sequences laid end to end. -/
def hrow (h : FVec Ideal ⟨3, ![2, 4096, 2048]⟩ .f32) (r : Fin 8192) (d : Fin 2048) : EReal := h (ix3 ⟨r.val / 4096, by omega⟩ ⟨r.val % 4096, by omega⟩ d)

/-- One entry of the MLP's result. -/
def mlp (x g : Fin 2048 → EReal) (wi : Fin 2048 → Fin 8192 → EReal) (wo : Fin 8192 → Fin 2048 → EReal) (s : Fin 2048) : EReal :=
  x s + ∑ j, unit (nrm x g) (fun d => wi d j) * wo j s

/-- The whole of a buffer, read after a store of the whole. -/
theorem whole_load {sig : RefSig} {κ : Kind} {sp : Space} {s : Shape} {e : EltTy} (v : Memref sig κ sp s e) (hv : v.IsWhole) {off : Fin s.rank → ℕ}
    (inb : ∀ a, off a + s.size a ≤ s.size a) (x : Vec Ideal s e) :
    v.view.readAt (Elt Ideal) (Rect.unit off s.size inb).toLoadRect (hv.unread x) = x :=
  (View.readAt_full _ _ _).trans (hv.read_unread x)

/-- A sum over one chunk is a sum over the naturals it covers. -/
theorem sum_chunk {M : Type*} [AddCommMonoid M] (f : ℕ → M) (w n : ℕ) : ∑ k : Fin w, f (w * n + k.val) = ∑ s ∈ Finset.Ico (w * n) (w * (n + 1)), f s := by
  rw [Finset.sum_Ico_eq_sum_range, show w * (n + 1) - w * n = w by rw [Nat.mul_add, Nat.mul_one, Nat.add_sub_cancel_left], Fin.sum_univ_eq_sum_range (fun k => f (w * n + k))]

/-- The chunks so far and the next. -/
theorem sum_next {M : Type*} [AddCommMonoid M] (f : ℕ → M) (w n : ℕ) :
    (∑ s ∈ Finset.range (w * n), f s) + ∑ k : Fin w, f (w * n + k.val) = ∑ s ∈ Finset.range (w * (n + 1)), f s := by
  rw [sum_chunk, Finset.range_eq_Ico, Finset.range_eq_Ico, Finset.sum_Ico_consecutive _ (Nat.zero_le _) (Nat.mul_le_mul_left w (Nat.le_succ n))]

/-- A quarter of the normalized rows, from a row on. -/
def rowsFrom (xs : FVec Ideal ⟨2, ![1024, 2048]⟩ .bf16) (o : ℕ) (ho : o + 256 ≤ 1024) : FVec Ideal ⟨2, ![256, 2048]⟩ .bf16 :=
  fun j => xs (ix2 ⟨o + (j 0).val, by have := (j 0).isLt; show o + (j 0).val < 1024; have h : (j 0).val < 256 := (j 0).isLt; omega⟩ (j 1))

/-- A load of a quarter. -/
theorem ld_rows (xs : Vec Ideal ⟨2, ![1024, 2048]⟩ .bf16) (o : ℕ) (inb : ∀ a, (![o, 0] : Fin 2 → ℕ) a + (![256, 2048] : Fin 2 → ℕ) a ≤ (![1024, 2048] : Fin 2 → ℕ) a) :
    View.ld xs (Rect.unit (s := ⟨2, ![1024, 2048]⟩) ![o, 0] ![256, 2048] inb) = rowsFrom xs o (inb 0) := by
  funext j
  refine congrArg xs (funext fun a => Fin.ext ?_)
  match a with
  | ⟨0, _⟩ => show o + 1 * (j 0).val = o + (j 0).val; omega
  | ⟨1, _⟩ => show 0 + 1 * (j 1).val = (j 1).val; omega

theorem rowsFrom_at (xs : FVec Ideal ⟨2, ![1024, 2048]⟩ .bf16) (o : ℕ) (ho : o + 256 ≤ 1024) (a : Fin 256) (d : Fin 2048) (b : Fin 1024) (h : b.val = o + a.val) :
    rowsFrom xs o ho (ix2 a d) = xs (ix2 b d) := by
  refine congrArg xs (congrArg (ix2 · d) (Fin.ext h.symm))

end Cert.Lin
-- ==== Proof.MlpKer.lean ====
module

public import proofs.«01_k».proof.Proof.Gen.MlpIdeal.Value
public import proofs.«01_k».proof.Proof.Norm

@[expose] public section

noncomputable section

/-! What one step of the MLP's kernel leaves, and the array it ends with. -/

namespace Cert.MlpVal

open Cert.MlpIdeal
open Facts₀ Facts
open Cert.Lin
open Idealize.ShloMosaic Idealize.ShloMosaic.TcCoe

variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S1x1024x2048 .bf16) (harg5 : arg5.IsWhole) (arg6 : Memref sig .tc .vmem S512x2048 .f32) (harg6 : arg6.IsWhole)
  (arg7 : Memref sig .tc .vmem S512x2048 .bf16) (harg7 : arg7.IsWhole)
  (x0 : Vec Ideal S512x2048 .f32) (x1 : Vec Ideal S1x2048 .f32) (x2 : Vec Ideal S1x2048x1024 .bf16) (x3 : Vec Ideal S1x1024x2048 .bf16) (xo : Vec Ideal S512x2048 .f32) (xs : Vec Ideal S512x2048 .bf16)

/-- The first step of a block of rows leaves the normalized rows in the scratch. -/
theorem sout_A (hc : Gen.cond0_0 i) :
    Gen.sout0_A_0 c i arg2 harg2 arg3 harg3 arg4 harg4 arg5 harg5 arg6 harg6 arg7 harg7 hc x0 x1 x2 x3 = Gen.k0_pay2 x0 x1 := by
  unfold Gen.sout0_A_0 Gen.kernelRun0_A Gen.kernelRun0_A.sl.HS0_1
  refine (View.read_writes_full (s := S512x2048) _ _ _ _ _).trans ?_
  exact congrArg₂ Gen.k0_pay2 (whole_load arg2 harg2 _ x0) (whole_load arg3 harg3 _ x1)

theorem pay3_congr {a a' : Vec Ideal S512x2048 .bf16} {b b' : Vec Ideal S1x2048x1024 .bf16} {d d' : Vec Ideal S512x2048 .f32} {e e' : Vec Ideal S1x1024x2048 .bf16}
    (ha : a = a') (hb : b = b') (hd : d = d') (he : e = e') : Gen.k0_pay3 a b d e = Gen.k0_pay3 a' b' d' e' := by rw [ha, hb, hd, he]

/-- A later step adds to what the step before left. -/
theorem out_B (hc : ¬ Gen.cond0_0 i) :
    Gen.out0_B_4 c i arg2 harg2 arg3 harg3 arg4 harg4 arg5 harg5 arg6 harg6 arg7 harg7 hc x0 x1 x2 x3 xo xs = Gen.k0_pay3 xs x2 xo x3 := by
  unfold Gen.out0_B_4 Gen.kernelRun0_B
  refine (View.read_writes_full (s := S512x2048) _ _ _ _ _).trans ?_
  exact pay3_congr (whole_load arg7 harg7 _ xs) (whole_load arg4 harg4 _ x2) (whole_load arg6 harg6 _ xo) (whole_load arg5 harg5 _ x3)

/-- The first step starts from the rows themselves. -/
theorem out_A (hc : Gen.cond0_0 i) :
    Gen.out0_A_4 c i arg2 harg2 arg3 harg3 arg4 harg4 arg5 harg5 arg6 harg6 arg7 harg7 hc x0 x1 x2 x3 = Gen.k0_pay3 (Gen.k0_pay2 x0 x1) x2 (Gen.k0_pay1 x0) x3 := by
  unfold Gen.out0_A_4 Gen.kernelRun0_A
  refine (View.read_writes_full (s := S512x2048) _ _ _ _ _).trans ?_
  refine pay3_congr ?_ (whole_load arg4 harg4 _ x2) ?_ (whole_load arg5 harg5 _ x3)
  · unfold Gen.kernelRun0_A.sl.v3 Gen.kernelRun0_A.sl.HS0_1
    refine (View.readCov_full (s := S512x2048) _ _ _ _ _).trans ?_
    exact congrArg₂ Gen.k0_pay2 (whole_load arg2 harg2 _ x0) (whole_load arg3 harg3 _ x1)
  · unfold Gen.kernelRun0_A.sl.v10 Gen.kernelRun0_A.sl.H4_1
    refine (View.readCov_full (s := S512x2048) _ _ _ _ _).trans ?_
    exact congrArg Gen.k0_pay1 (whole_load arg2 harg2 _ x0)

/-! One step, entry by entry. -/

section Step

variable (x : FVec Ideal S512x2048 .f32) (g : FVec Ideal S1x2048 .f32) (xn : FVec Ideal S512x2048 .bf16) (o : FVec Ideal S512x2048 .f32) (w1 : FVec Ideal S1x2048x1024 .bf16) (w2 : FVec Ideal S1x1024x2048 .bf16)

theorem pay1_at (a : Fin 512) (s : Fin 2048) : Gen.k0_pay1 (F := Ideal) x (ix2 a s) = x (ix2 a s) := by
  unfold Gen.k0_pay1
  pointwise

theorem pay2_at (a : Fin 512) (s : Fin 2048) : Gen.k0_pay2 (F := Ideal) x g (ix2 a s) = nrm (fun d => x (ix2 a d)) (fun d => g (ix2 0 d)) s := by
  unfold Gen.k0_pay2 Gen.k0_pay1
  pointwise
  rfl

theorem pay3_at (a : Fin 512) (s : Fin 2048) : Gen.k0_pay3 (F := Ideal) xn w1 o w2 (ix2 a s)
    = o (ix2 a s) + ∑ j : Fin 1024, unit (fun d => xn (ix2 a d)) (fun d => w1 (ix3 0 d j)) * w2 (ix3 0 j s) := by
  unfold Gen.k0_pay3
  pointwise
  rfl

end Step

/-! Where each grid point's blocks lie, eight points per block of rows. -/

theorem index_all : ∀ t : Fin cfg0.N, win0_0.index t (0 : Fin 2) = t.val / 8 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 8
    ∧ win0_3.index t (0 : Fin 3) = 0 ∧ win0_3.index t (1 : Fin 3) = t.val % 8 ∧ win0_3.index t (2 : Fin 3) = 0 := by
  decide +kernel

theorem N_lt (t : Fin cfg0.N) : t.val < 128 := t.isLt

end Cert.MlpVal

namespace Cert.MlpVal

open Cert.MlpIdeal
open Facts₀ Facts
open Cert.Lin
open Idealize.ShloMosaic Idealize.ShloMosaic.TcCoe

variable (m : (ℓ : Loc nD τ sig) → ℓ.ty.Contents (Elt Ideal)) (c : Dev nD)

/-- The rows. -/
abbrev aH : FVec Ideal S2x4096x2048 .f32 := m ((c : Thread nD τ).loc main_arg0)
/-- The gains. -/
abbrev aG : FVec Ideal S4x2048 .f32 := m ((c : Thread nD τ).loc main_arg1)
/-- The weights in. -/
abbrev aI : FVec Ideal S4x2048x8192 .f32 := m ((c : Thread nD τ).loc main_arg2)
/-- The weights out. -/
abbrev aO : FVec Ideal S4x8192x2048 .f32 := m ((c : Thread nD τ).loc main_arg3)

/-- The arrays the kernel reads. -/
theorem V_h : Gen.V m c main_v0 = (shapeCast S8192x2048 (aH m c) shapeCasts_S2x4096x2048_S8192x2048 : FVec Ideal S8192x2048 .f32) := by
  unfold Gen.V
  simp only [Gen.hostOps0, List.flatten_cons, List.flatten_nil, List.append_nil, List.cons_append, List.nil_append]
  after_results
  rfl
theorem V_g : Gen.V m c main_v7 = (shapeCast S1x2048 (shapeCast S2048 (extractStridedSlice S1x2048 ![3, 0] (aG m c) slices_S4x2048_S1x2048_3_0) shapeCasts_S1x2048_S2048) shapeCasts_S2048_S1x2048 : FVec Ideal S1x2048 .f32) := by
  unfold Gen.V
  simp only [Gen.hostOps0, List.flatten_cons, List.flatten_nil, List.append_nil, List.cons_append, List.nil_append]
  after_results
  rfl
theorem V_i : Gen.V m c main_v4 = (truncf .bf16 (extractStridedSlice S1x2048x8192 ![3, 0, 0] (aI m c) slices_S4x2048x8192_S1x2048x8192_3_0_0) bitsLt_bf16_f32 : FVec Ideal S1x2048x8192 .bf16) := by
  unfold Gen.V
  simp only [Gen.hostOps0, List.flatten_cons, List.flatten_nil, List.append_nil, List.cons_append, List.nil_append]
  after_results
theorem V_o : Gen.V m c main_v6 = (truncf .bf16 (extractStridedSlice S1x8192x2048 ![3, 0, 0] (aO m c) slices_S4x8192x2048_S1x8192x2048_3_0_0) bitsLt_bf16_f32 : FVec Ideal S1x8192x2048 .bf16) := by
  unfold Gen.V
  simp only [Gen.hostOps0, List.flatten_cons, List.flatten_nil, List.append_nil, List.cons_append, List.nil_append]
  after_results

theorem V_h_at (r : Fin 8192) (d : Fin 2048) : (Gen.V m c main_v0 : FVec Ideal S8192x2048 .f32) (ix2 r d) = hrow (aH m c) r d := by
  rw [V_h]
  pointwise
  rfl
theorem V_g_at (d : Fin 2048) : (Gen.V m c main_v7 : FVec Ideal S1x2048 .f32) (ix2 0 d) = aG m c (ix2 3 d) := by
  rw [V_g]
  pointwise
theorem V_i_at (d : Fin 2048) (j : Fin 8192) : (Gen.V m c main_v4 : FVec Ideal S1x2048x8192 .bf16) (ix3 0 d j) = aI m c (ix3 3 d j) := by
  rw [V_i]
  pointwise
theorem V_o_at (j : Fin 8192) (d : Fin 2048) : (Gen.V m c main_v6 : FVec Ideal S1x8192x2048 .bf16) (ix3 0 j d) = aO m c (ix3 3 j d) := by
  rw [V_o]
  pointwise

/-- The row of an array that a block's row is. -/
def rowOf (n : ℕ) (hn : n < cfg0.N) (a : Fin 512) : Fin 8192 := ⟨(n / 8) * 512 + a.val, by have := N_lt ⟨n, hn⟩; dsimp only at this; omega⟩

theorem iblk_h (t : Fin cfg0.N) (a : Fin 512) (d : Fin 2048) : (Gen.iblk m c 0 t : FVec Ideal S512x2048 .f32) (ix2 a d)
    = hrow (aH m c) (rowOf t.val t.isLt a) d := by
  refine Eq.trans ?_ (V_h_at m c _ _)
  obtain ⟨h0, h1, -⟩ := index_all t
  show Gen.V m c main_v0 (((cfg0.win 0).blk t).view.emb (ix2 a d)) = Gen.V m c main_v0 (ix2 (rowOf t.val t.isLt a) d)
  congr 1
  funext b
  apply Fin.ext
  match b with
  | ⟨0, _⟩ => show win0_0.index t (0 : Fin 2) * 512 + 1 * a.val = (t.val / 8) * 512 + a.val; rw [h0, Nat.one_mul]
  | ⟨1, _⟩ => show win0_0.index t (1 : Fin 2) * 2048 + 1 * d.val = d.val; omega

theorem iblk_g (t : Fin cfg0.N) (d : Fin 2048) : (Gen.iblk m c 1 t : FVec Ideal S1x2048 .f32) (ix2 0 d)
    = aG m c (ix2 3 d) := by
  refine Eq.trans ?_ (V_g_at m c d)
  obtain ⟨-, -, h0, h1, -⟩ := index_all t
  show Gen.V m c main_v7 (((cfg0.win 1).blk t).view.emb (ix2 0 d)) = Gen.V m c main_v7 (ix2 0 d)
  congr 1
  funext b
  apply Fin.ext
  match b with
  | ⟨0, _⟩ => show win0_1.index t (0 : Fin 2) * 1 + 1 * 0 = 0; omega
  | ⟨1, _⟩ => show win0_1.index t (1 : Fin 2) * 2048 + 1 * d.val = d.val; omega

theorem iblk_i (t : Fin cfg0.N) (d : Fin 2048) (j : Fin 1024) : (Gen.iblk m c 2 t : FVec Ideal S1x2048x1024 .bf16) (ix3 0 d j)
    = aI m c (ix3 3 d ⟨1024 * (t.val % 8) + j.val, by omega⟩) := by
  refine Eq.trans ?_ (V_i_at m c _ _)
  obtain ⟨-, -, -, -, h0, h1, h2, -⟩ := index_all t
  show Gen.V m c main_v4 (((cfg0.win 2).blk t).view.emb (ix3 0 d j)) = Gen.V m c main_v4 (ix3 0 d ⟨1024 * (t.val % 8) + j.val, by omega⟩)
  congr 1
  funext b
  apply Fin.ext
  match b with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 1024 + 1 * j.val = 1024 * (t.val % 8) + j.val; omega

theorem iblk_o (t : Fin cfg0.N) (j : Fin 1024) (d : Fin 2048) : (Gen.iblk m c 3 t : FVec Ideal S1x1024x2048 .bf16) (ix3 0 j d)
    = aO m c (ix3 3 ⟨1024 * (t.val % 8) + j.val, by omega⟩ d) := by
  refine Eq.trans ?_ (V_o_at m c _ _)
  obtain ⟨-, -, -, -, -, -, -, h0, h1, h2⟩ := index_all t
  show Gen.V m c main_v6 (((cfg0.win 3).blk t).view.emb (ix3 0 j d)) = Gen.V m c main_v6 (ix3 0 ⟨1024 * (t.val % 8) + j.val, by omega⟩ d)
  congr 1
  funext b
  apply Fin.ext
  match b with
  | ⟨0, _⟩ => show win0_3.index t (0 : Fin 3) * 1 + 1 * 0 = 0; omega
  | ⟨1, _⟩ => show win0_3.index t (1 : Fin 3) * 1024 + 1 * j.val = 1024 * (t.val % 8) + j.val; omega
  | ⟨2, _⟩ => show win0_3.index t (2 : Fin 3) * 2048 + 1 * d.val = d.val; omega

/-- What one hidden unit adds to an entry, the units as naturals. -/
def term (r : Fin 8192) (s : Fin 2048) (j : ℕ) : EReal :=
  if h : j < 8192 then unit (nrm (hrow (aH m c) r) fun d => aG m c (ix2 3 d)) (fun d => aI m c (ix3 3 d ⟨j, h⟩)) * aO m c (ix3 3 ⟨j, h⟩ s) else 0

/-- What one step computes at a point, from what the normalized rows and the output held. -/
theorem step_at (t : Fin cfg0.N) (xn : FVec Ideal S512x2048 .bf16) (o : FVec Ideal S512x2048 .f32)
    (hx : ∀ a d, xn (ix2 a d) = nrm (hrow (aH m c) (rowOf t.val t.isLt a)) (fun d => aG m c (ix2 3 d)) d) (a : Fin 512) (s : Fin 2048) :
    Gen.k0_pay3 (F := Ideal) xn (Gen.iblk m c 2 t) o (Gen.iblk m c 3 t) (ix2 a s)
      = o (ix2 a s) + ∑ j : Fin 1024, term m c (rowOf t.val t.isLt a) s (1024 * (t.val % 8) + j.val) := by
  rw [pay3_at]
  congr 1
  refine Finset.sum_congr rfl fun j _ => ?_
  unfold term
  rw [dif_pos (by omega), iblk_o]
  simp only [hx, iblk_i]

/-- The normalized rows, as a point finds them. -/
theorem norm_at (t : Fin cfg0.N) (a : Fin 512) (d : Fin 2048) :
    Gen.k0_pay2 (F := Ideal) (Gen.iblk m c 0 t) (Gen.iblk m c 1 t) (ix2 a d) = nrm (hrow (aH m c) (rowOf t.val t.isLt a)) (fun d => aG m c (ix2 3 d)) d := by
  rw [pay2_at]
  simp only [iblk_h, iblk_g]

/-- What the output's block and the scratch hold after each point. -/
theorem fold_at : ∀ (n : ℕ) (hn : n < cfg0.N),
    (∀ (a : Fin 512) (s : Fin 2048), ((Gen.outsAt0 m c n hn).1 : FVec Ideal S512x2048 .f32) (ix2 a s)
      = hrow (aH m c) (rowOf n hn a) s + ∑ j ∈ Finset.range (1024 * (n % 8 + 1)), term m c (rowOf n hn a) s j)
    ∧ ∀ (a : Fin 512) (d : Fin 2048), ((Gen.outsAt0 m c n hn).2 : FVec Ideal S512x2048 .bf16) (ix2 a d)
      = nrm (hrow (aH m c) (rowOf n hn a)) (fun d => aG m c (ix2 3 d)) d := by
  have hA : ∀ (t : Fin cfg0.N), t.val % 8 = 0 →
      (∀ (a : Fin 512) (s : Fin 2048), ((Gen.outsAt0 m c t.val t.isLt).1 : FVec Ideal S512x2048 .f32) (ix2 a s)
        = hrow (aH m c) (rowOf t.val t.isLt a) s + ∑ j ∈ Finset.range (1024 * (t.val % 8 + 1)), term m c (rowOf t.val t.isLt a) s j)
      ∧ ∀ (a : Fin 512) (d : Fin 2048), ((Gen.outsAt0 m c t.val t.isLt).2 : FVec Ideal S512x2048 .bf16) (ix2 a d)
        = nrm (hrow (aH m c) (rowOf t.val t.isLt a)) (fun d => aG m c (ix2 3 d)) d := by
    intro t h0
    rw [Gen.outsAt0_A m c t h0, out_A, sout_A]
    refine ⟨fun a s => ?_, fun a d => norm_at m c t a d⟩
    dsimp only
    rw [step_at m c t _ _ (fun a d => norm_at m c t a d), pay1_at, iblk_h, ← sum_next, h0, Nat.mul_zero, Finset.range_zero, Finset.sum_empty, zero_add]
  intro n
  induction n with
  | zero => exact fun hn => hA ⟨0, hn⟩ rfl
  | succ n ih =>
    intro hn
    by_cases h0 : (n + 1) % 8 = 0
    · exact hA ⟨n + 1, hn⟩ h0
    · obtain ⟨i1, i2⟩ := ih (Nat.lt_of_succ_lt hn)
      have hr : ∀ a, rowOf n (Nat.lt_of_succ_lt hn) a = rowOf (n + 1) hn a := fun a => Fin.ext (by
        show (n / 8) * 512 + a.val = ((n + 1) / 8) * 512 + a.val
        rw [show (n + 1) / 8 = n / 8 by omega])
      have hm : (n + 1) % 8 = n % 8 + 1 := by omega
      have e := Gen.outsAt0_B m c ⟨n + 1, hn⟩ h0
      rw [out_B] at e
      refine ⟨fun a s => ?_, fun a d => ?_⟩
      · rw [e]
        refine (step_at m c ⟨n + 1, hn⟩ _ _ (fun a d => (i2 a d).trans (by rw [hr])) a s).trans ?_
        show ((Gen.outsAt0 m c n _).1 : FVec Ideal S512x2048 .f32) (ix2 a s) + _ = _
        rw [i1, hr, add_assoc, hm]
        exact congrArg _ (sum_next (term m c (rowOf (n + 1) hn a) s) 1024 (n % 8 + 1))
      · rw [e]
        exact (i2 a d).trans (by rw [hr])

/-- The array the kernel ends with, entry by entry. -/
theorem G_at (r : Fin 8192) (s : Fin 2048) : (Value.G4 m c : FVec Ideal S8192x2048 .f32) (ix2 r s)
    = mlp (hrow (aH m c) r) (fun d => aG m c (ix2 3 d)) (fun d j => aI m c (ix3 3 d j)) (fun j s => aO m c (ix3 3 j s)) s := by
  have hp : 8 * (r.val / 512) + 7 < cfg0.N := by show _ < 128; omega
  have hG : (Value.G4 m c : FVec Ideal S8192x2048 .f32) (ix2 r s) = (Gen.outsAt0 m c (8 * (r.val / 512) + 7) hp).1 (ix2 ⟨r.val % 512, by omega⟩ s) := by
    have hpt : Value.pt4Of (ix2 r s) = 8 * (r.val / 512) + 7 := by
      show 8 * (1 * (r.val / 512 - 0) + 1 * (s.val / 2048 - 0)) + 7 = _
      omega
    have hloc : Value.loc4Of (ix2 r s) = ix2 ⟨r.val % 512, by omega⟩ s := by
      funext b
      match b with
      | ⟨0, _⟩ => rfl
      | ⟨1, _⟩ => exact Fin.ext (Nat.mod_eq_of_lt s.isLt)
    unfold Value.G4
    rw [dif_pos (hpt.symm ▸ hp), hloc, Value.outsAt0_sweep, Value.fold0_congr m c _ _ _ _ hpt]
  rw [hG, (fold_at m c _ hp).1]
  have hr : rowOf (8 * (r.val / 512) + 7) hp ⟨r.val % 512, by omega⟩ = r := Fin.ext (by
    show ((8 * (r.val / 512) + 7) / 8) * 512 + r.val % 512 = r.val; omega)
  rw [hr, show (8 * (r.val / 512) + 7) % 8 = 7 by omega, show 1024 * (7 + 1) = 8192 by norm_num, Finset.sum_range]
  unfold mlp
  refine congrArg (hrow (aH m c) r s + ·) (Finset.sum_congr rfl fun j _ => ?_)
  exact dif_pos j.isLt

end Cert.MlpVal
-- ==== Proof.MlpRef.lean ====
module

public import proofs.«01_k».proof.Proof.Norm
public import proofs.«01_k».proof.Proof.Gen.MlpReferenceIdeal.Run

@[expose] public section

noncomputable section

/-! The reference's MLP, over the extended reals, read at one position. -/

namespace Cert.MlpVal.Ref

open Cert.MlpReferenceIdeal Cert.MlpReferenceIdeal.Gen
open Cert.Lin
open Idealize.ShloMosaic Idealize.SL.Sem Idealize.ShloMosaic.TcCoe

/-- The normalized rows. -/
def normed (h : FVec Ideal S2x4096x2048 .f32) (g : FVec Ideal S4x2048 .f32) : FVec Ideal S2x4096x2048 .f32 :=
  mulf (mulf h (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf h h) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast S2048 (extractStridedSlice S1x2048 ![3, 0] g slices_S4x2048_S1x2048_3_0) shapeCasts_S1x2048_S2048)))

/-- The hidden units. -/
def hidden (h : FVec Ideal S2x4096x2048 .f32) (g : FVec Ideal S4x2048 .f32) (wi : FVec Ideal S4x2048x8192 .f32) : FVec Ideal S2x4096x8192 .f32 :=
  mulf (maximumf (Host.dotGeneral dot_S2x4096x2048_S2048x8192_S2x4096x8192_2_0_01_1_n_n none (normed h g) (shapeCast S2048x8192 (extractStridedSlice S1x2048x8192 ![3, 0, 0] wi slices_S4x2048x8192_S1x2048x8192_3_0_0) shapeCasts_S1x2048x8192_S2048x8192)) (broadcastInDim S2x4096x8192 ![] bcast_S_S2x4096x8192 (constant S_ .f32 0x00000000#32))) (maximumf (Host.dotGeneral dot_S2x4096x2048_S2048x8192_S2x4096x8192_2_0_01_1_n_n none (normed h g) (shapeCast S2048x8192 (extractStridedSlice S1x2048x8192 ![3, 0, 0] wi slices_S4x2048x8192_S1x2048x8192_3_0_0) shapeCasts_S1x2048x8192_S2048x8192)) (broadcastInDim S2x4096x8192 ![] bcast_S_S2x4096x8192 (constant S_ .f32 0x00000000#32)))

/-- The result. -/
def out (h : FVec Ideal S2x4096x2048 .f32) (g : FVec Ideal S4x2048 .f32) (wi : FVec Ideal S4x2048x8192 .f32) (wo : FVec Ideal S4x8192x2048 .f32) : FVec Ideal S8192x2048 .f32 :=
  shapeCast S8192x2048 (addf h (Host.dotGeneral dot_S2x4096x8192_S8192x2048_S2x4096x2048_2_0_01_1_n_n none (hidden h g wi) (shapeCast S8192x2048 (extractStridedSlice S1x8192x2048 ![3, 0, 0] wo slices_S4x8192x2048_S1x8192x2048_3_0_0) shapeCasts_S1x8192x2048_S8192x2048))) shapeCasts_S2x4096x2048_S8192x2048

variable (h : FVec Ideal S2x4096x2048 .f32) (g : FVec Ideal S4x2048 .f32) (wi : FVec Ideal S4x2048x8192 .f32) (wo : FVec Ideal S4x8192x2048 .f32)

theorem normed_at (b : Fin 2) (i : Fin 4096) (d : Fin 2048) : normed h g (ix3 b i d) = nrm (fun d => h (ix3 b i d)) (fun d => g (ix2 3 d)) d := by
  unfold normed
  pointwise
  rfl

theorem hidden_at (b : Fin 2) (i : Fin 4096) (j : Fin 8192) :
    hidden h g wi (ix3 b i j) = Cert.Lin.unit (nrm (fun d => h (ix3 b i d)) fun d => g (ix2 3 d)) (fun d => wi (ix3 3 d j)) := by
  unfold hidden
  pointwise
  simp only [normed_at]
  rfl

/-- The result, entry by entry. -/
theorem out_at (r : Fin 8192) (s : Fin 2048) : out h g wi wo (ix2 r s)
    = mlp (hrow h r) (fun d => g (ix2 3 d)) (fun d j => wi (ix3 3 d j)) (fun j s => wo (ix3 3 j s)) s := by
  unfold out
  pointwise
  simp only [hidden_at]
  rfl

/-- The run's result is this term. -/
theorem run_out (m : (ℓ : Loc nD τ sig) → ℓ.ty.Contents (Elt Ideal)) (ρ : Dev nD → PrngReg) :
    θ_run defs (onTc (τ := τ) (main (F := Ideal))) ⟨m, fun _ => 0, ρ⟩ fun r => ∀ c : Dev nD,
      r.2.mem ((c.tc : Thread nD τ).loc main_v24) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.MlpReferenceIdeal.Value.run (F := Ideal) m ρ

end Cert.MlpVal.Ref
-- ==== Proof.QkvKer.lean ====
module

public import proofs.«01_k».proof.Proof.Gen.QkvIdeal.Value
public import Idealize.ShloMosaic.Lib.Pipeline.ValueKit
public import proofs.«01_k».proof.Proof.Norm
public import proofs.«01_k».proof.Proof.Row

@[expose] public section

noncomputable section

/-! What one step of the attention's projection leaves, and the array it ends with. -/

namespace Cert.QkvVal

open Cert.QkvIdeal
open Facts₀ Facts
open Cert.Lin
open Idealize.ShloMosaic Idealize.ShloMosaic.TcCoe

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x2048x1024 .f32) (harg4 : arg4.IsWhole) (arg5 : Memref sig .tc .vmem S1x1x128 .f32) (harg5 : arg5.IsWhole)
  (arg6 : Memref sig .tc .vmem S1024x1024 .bf16) (harg6 : arg6.IsWhole) (arg7 : Memref sig .tc .vmem S1024x2048 .bf16) (harg7 : arg7.IsWhole)
  (x0 : Vec Ideal S1024x2048 .f32) (x1 : Vec Ideal S1x2048 .f32) (x2 : Vec Ideal S1x2048x1024 .f32) (x3 : Vec Ideal S1x1x128 .f32) (xs : Vec Ideal S1024x2048 .bf16)

/-- The first step of a block of rows leaves the normalized rows in the scratch. -/
theorem sout_A (hc : Gen.cond0_0 i) :
    Gen.sout0_A_0 c i arg2 harg2 arg3 harg3 arg4 harg4 arg5 harg5 arg6 harg6 arg7 harg7 hc x0 x1 x2 x3 = Gen.k0_pay3 x0 x1 := by
  frame_out

/-- A head divided by its root mean square, and its gains; where the bit is set, the gains alone. -/
theorem head_at (v3 : BitVec 1) (S : FVec Ideal S256x128 .f32) (g : FVec Ideal S1x1x128 .f32) (a : Fin 256) (e : Fin 128) :
    (truncf .bf16 (mulf (mulf S (broadcastTo S256x128 (Scalar.select v3 (broadcast S256x1 (FloatOps.ofBits .f32 0x3F800000#32))
        (rsqrt (addf (divf (shapeCast S256x1 (multiReduction .add [1] S256 (mulf S S) 0x00000000#32 Gen.reduces_S256x128_S256 (.inl rfl) rfl) Gen.shapeCasts_S256_S256x1)
          (broadcast S256x1 (FloatOps.ofBits .f32 0x43000000#32))) (broadcast S256x1 (FloatOps.ofBits .f32 0x358637BD#32))))) Gen.broadcasts_S256x1_S256x128))
        (broadcastTo S256x128 (shapeCast S1x128 g Gen.shapeCasts_S1x1x128_S1x128) Gen.broadcasts_S1x128_S256x128)) Gen.bitsLt_bf16_f32 : FVec Ideal S256x128 .bf16) (ix2 a e)
      = S (ix2 a e) * Scalar.select v3 1 (hinv fun e => S (ix2 a e)) * g (ix3 0 0 e) := by
  by_cases hv : v3 = 1
  · simp only [Scalar.select, if_pos hv]
    pointwise
    try rfl
    try exact congrArg (S (ix2 a e) * · * g (ix3 0 0 e)) Cert.Att.bits_one
  · simp only [Scalar.select, if_neg hv]
    pointwise
    rfl

/-- The products of rows with a block of weights. -/
def prods (xs : FVec Ideal S1024x2048 .bf16) (w : FVec Ideal S1x2048x1024 .f32) (a s : Fin 1024) : EReal := ∑ d : Fin 2048, xs (ix2 a d) * w (ix3 0 d s)

/-- A head's part of the products of a quarter of the rows. -/
theorem part_at (xs : FVec Ideal S1024x2048 .bf16) (w : FVec Ideal S1x2048x1024 .f32) (o : ℕ) (ho : o + 256 ≤ 1024) (co : ℕ) (sl : S256x1024.Slices ![0, co] S256x128) (a : Fin 256) (e : Fin 128)
    (b s : Fin 1024) (hb : b.val = o + a.val) (hs : s.val = co + e.val) :
    (extractStridedSlice S256x128 ![0, co] (matmul dot_S256x2048_S2048x1024_S256x1024_1_0_0_1_n_n none (rowsFrom xs o ho)
        (truncf .bf16 (shapeCast S2048x1024 w Gen.shapeCasts_S1x2048x1024_S2048x1024) Gen.bitsLt_bf16_f32) (constant S256x1024 .f32 0x00000000#32)) sl : FVec Ideal S256x128 .f32) (ix2 a e)
      = prods xs w b s := by
  have h : ∀ s' : Fin 1024, (matmul dot_S256x2048_S2048x1024_S256x1024_1_0_0_1_n_n none (rowsFrom xs o ho)
        (truncf .bf16 (shapeCast S2048x1024 w Gen.shapeCasts_S1x2048x1024_S2048x1024) Gen.bitsLt_bf16_f32) (constant S256x1024 .f32 0x00000000#32) : FVec Ideal S256x1024 .f32) (ix2 a s') = prods xs w b s' := by
    intro s'
    pointwise
    refine Finset.sum_congr rfl fun d _ => ?_
    rw [rowsFrom_at xs o ho a d b hb]
    try rfl
  refine Eq.trans ?_ (h s)
  generalize (matmul dot_S256x2048_S2048x1024_S256x1024_1_0_0_1_n_n none (rowsFrom xs o ho)
        (truncf .bf16 (shapeCast S2048x1024 w Gen.shapeCasts_S1x2048x1024_S2048x1024) Gen.bitsLt_bf16_f32) (constant S256x1024 .f32 0x00000000#32) : FVec Ideal S256x1024 .f32) = Z
  refine congrArg Z (funext fun b' => Fin.ext ?_)
  match b' with
  | ⟨0, _⟩ => exact Nat.zero_add _
  | ⟨1, _⟩ => exact hs.symm

/-- One entry of a step's block. -/
def val (v3 : BitVec 1) (xs : FVec Ideal S1024x2048 .bf16) (w : FVec Ideal S1x2048x1024 .f32) (g : FVec Ideal S1x1x128 .f32) : FVec Ideal S1024x1024 .bf16 := fun j =>
  prods xs w (j 0) (j 1) * Scalar.select v3 1 (hinv fun e => prods xs w (j 0) ⟨128 * ((j 1).val / 128) + e.val, by have h : (j 1).val < 1024 := (j 1).isLt; omega⟩)
    * g (ix3 0 0 ⟨(j 1).val % 128, by omega⟩)

/-- One store's piece, entry by entry. -/
theorem piece_at (v3 : BitVec 1) (xs : FVec Ideal S1024x2048 .bf16) (w : FVec Ideal S1x2048x1024 .f32) (g : FVec Ideal S1x1x128 .f32) (o : ℕ) (ho : o + 256 ≤ 1024) (co : ℕ) (hm : co % 128 = 0) (sl : S256x1024.Slices ![0, co] S256x128)
    (x : S256x128.Idx) (j : S1024x1024.Idx) (h0 : (j 0).val = o + (x 0).val) (h1 : (j 1).val = co + (x 1).val)
    (S : FVec Ideal S256x128 .f32)
    (hS : S = extractStridedSlice S256x128 ![0, co] (matmul dot_S256x2048_S2048x1024_S256x1024_1_0_0_1_n_n none (rowsFrom xs o ho)
        (truncf .bf16 (shapeCast S2048x1024 w Gen.shapeCasts_S1x2048x1024_S2048x1024) Gen.bitsLt_bf16_f32) (constant S256x1024 .f32 0x00000000#32)) sl) :
    (truncf .bf16 (mulf (mulf S (broadcastTo S256x128 (Scalar.select v3 (broadcast S256x1 (FloatOps.ofBits .f32 0x3F800000#32))
        (rsqrt (addf (divf (shapeCast S256x1 (multiReduction .add [1] S256 (mulf S S) 0x00000000#32 Gen.reduces_S256x128_S256 (.inl rfl) rfl) Gen.shapeCasts_S256_S256x1)
          (broadcast S256x1 (FloatOps.ofBits .f32 0x43000000#32))) (broadcast S256x1 (FloatOps.ofBits .f32 0x358637BD#32))))) Gen.broadcasts_S256x1_S256x128))
        (broadcastTo S256x128 (shapeCast S1x128 g Gen.shapeCasts_S1x1x128_S1x128) Gen.broadcasts_S1x128_S256x128)) Gen.bitsLt_bf16_f32 : FVec Ideal S256x128 .bf16) x
      = val v3 xs w g j := by
  have hx : (x 1).val < 128 := (x 1).isLt
  have hj : (j 1).val < 1024 := (j 1).isLt
  have hp : ∀ e : Fin 128, S (ix2 (x 0) e) = prods xs w (j 0) ⟨128 * ((j 1).val / 128) + e.val, by omega⟩ := fun e => by
    rw [hS]
    exact part_at xs w o ho co sl (x 0) e (j 0) _ h0 (by show 128 * ((j 1).val / 128) + e.val = co + e.val; omega)
  have hq : S (ix2 (x 0) (x 1)) = prods xs w (j 0) (j 1) := by
    rw [hS]
    exact part_at xs w o ho co sl (x 0) (x 1) (j 0) (j 1) h0 h1
  rw [eq_ix2 x]
  refine (head_at v3 S g (x 0) (x 1)).trans ?_
  rw [hq, funext hp, show (x 1 : Fin 128) = ⟨(j 1).val % 128, by omega⟩ from Fin.ext (by show (x 1).val = (j 1).val % 128; omega)]
  rfl

/-- Every step leaves the heads of the products of the rows of the scratch. -/
theorem out_B (hc : ¬ Gen.cond0_0 i) :
    Gen.out0_B_4 c i arg2 harg2 arg3 harg3 arg4 harg4 arg5 harg5 arg6 harg6 arg7 harg7 hc x0 x1 x2 x3 xs
      = val (Scalar.cmpi .sge (BitVec.ofNat 32 (i 1).val) 4#32) xs x2 x3 := by
  funext j
  frame_out
  simp only [ld_rows]
  canon_tiles x h
  all_goals
    open_payloads
    first
      | exact piece_at _ xs x2 x3 _ _ _ (by decide) _ x j h0 h1 _ rfl
      | exact piece_at _ xs x2 x3 0 _ _ (by decide) _ x j (h0.trans (Nat.zero_add _).symm) h1 _ rfl
      | exact piece_at _ xs x2 x3 _ _ 0 (by decide) _ x j h0 (h1.trans (Nat.zero_add _).symm) _ rfl
      | exact piece_at _ xs x2 x3 0 _ 0 (by decide) _ x j (h0.trans (Nat.zero_add _).symm) (h1.trans (Nat.zero_add _).symm) _ rfl

/-- So does the first step of a block of rows, over the rows it normalized. -/
theorem out_A (hc : Gen.cond0_0 i) :
    Gen.out0_A_4 c i arg2 harg2 arg3 harg3 arg4 harg4 arg5 harg5 arg6 harg6 arg7 harg7 hc x0 x1 x2 x3
      = val (Scalar.cmpi .sge (BitVec.ofNat 32 (i 1).val) 4#32) (Gen.k0_pay3 x0 x1) x2 x3 := by
  funext j
  frame_out
  repeat rw [View.readCov_fill _ _ _ _ _ (by decide)]
  generalize Gen.k0_pay3 x0 x1 = xs
  simp only [ld_rows]
  canon_tiles x h
  all_goals
    open_payloads
    first
      | exact piece_at _ xs x2 x3 _ _ _ (by decide) _ x j h0 h1 _ rfl
      | exact piece_at _ xs x2 x3 0 _ _ (by decide) _ x j (h0.trans (Nat.zero_add _).symm) h1 _ rfl
      | exact piece_at _ xs x2 x3 _ _ 0 (by decide) _ x j h0 (h1.trans (Nat.zero_add _).symm) _ rfl
      | exact piece_at _ xs x2 x3 0 _ 0 (by decide) _ x j (h0.trans (Nat.zero_add _).symm) (h1.trans (Nat.zero_add _).symm) _ rfl

theorem pay3_at (x : FVec Ideal S1024x2048 .f32) (g : FVec Ideal S1x2048 .f32) (a : Fin 1024) (s : Fin 2048) : Gen.k0_pay3 (F := Ideal) x g (ix2 a s) = nrm (fun d => x (ix2 a d)) (fun d => g (ix2 0 d)) s := by
  unfold Gen.k0_pay3
  pointwise
  rfl

/-! Where each grid point's blocks lie, six points per block of rows. -/

theorem index_all : ∀ t : Fin cfg0.N, win0_0.index t (0 : Fin 2) = t.val / 6 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 6
    ∧ win0_3.index t (0 : Fin 3) = t.val % 6 / 2 ∧ win0_3.index t (1 : Fin 3) = 0 ∧ win0_3.index t (2 : Fin 3) = 0 := by
  decide +kernel

/-- The bit is set where the columns are the values'. -/
theorem bit_all : ∀ t : Fin cfg0.N, Scalar.cmpi .sge (BitVec.ofNat 32 (grid0.coords t 1).val) 4#32 = 1 ↔ ¬ t.val % 6 < 4 := by
  decide +kernel

theorem N_lt (t : Fin cfg0.N) : t.val < 48 := t.isLt

end Cert.QkvVal

namespace Cert.QkvVal

open Cert.QkvIdeal
open Facts₀ Facts
open Cert.Lin
open Idealize.ShloMosaic Idealize.ShloMosaic.TcCoe

variable (m : (ℓ : Loc nD τ sig) → ℓ.ty.Contents (Elt Ideal)) (c : Dev nD)

/-- The rows. -/
abbrev aH : FVec Ideal S2x4096x2048 .f32 := m ((c : Thread nD τ).loc main_arg0)
/-- The gains. -/
abbrev aG : FVec Ideal S4x2048 .f32 := m ((c : Thread nD τ).loc main_arg1)
/-- The weights. -/
abbrev aI : FVec Ideal S2x2048x6144 .f32 := m ((c : Thread nD τ).loc main_arg2)
/-- The queries' gains. -/
abbrev aQ : FVec Ideal S2x128 .f32 := m ((c : Thread nD τ).loc main_arg3)
/-- The keys' gains. -/
abbrev aK : FVec Ideal S2x128 .f32 := m ((c : Thread nD τ).loc main_arg4)

/-- The arrays the kernel reads. -/
theorem V_h : Gen.V m c main_v0 = (shapeCast S8192x2048 (aH m c) shapeCasts_S2x4096x2048_S8192x2048 : FVec Ideal S8192x2048 .f32) := by
  unfold Gen.V
  simp only [Gen.hostOps0, List.flatten_cons, List.flatten_nil, List.append_nil, List.cons_append, List.nil_append]
  after_results
  rfl
theorem V_g : Gen.V m c main_v13 = (shapeCast S1x2048 (shapeCast S2048 (extractStridedSlice S1x2048 ![0, 0] (aG m c) slices_S4x2048_S1x2048_0_0) shapeCasts_S1x2048_S2048) shapeCasts_S2048_S1x2048 : FVec Ideal S1x2048 .f32) := by
  unfold Gen.V
  simp only [Gen.hostOps0, List.flatten_cons, List.flatten_nil, List.append_nil, List.cons_append, List.nil_append]
  after_results
  rfl
theorem V_i : Gen.V m c main_arg2 = aI m c := Gen.V_main_arg2 m c
theorem V_s : Gen.V m c main_v12 = (shapeCast S3x1x128 (concatenate S3x128 0
    [⟨S1x128, (broadcastInDim S1x128 ![1] bcast_S128_S1x128_1 (shapeCast S128 (extractStridedSlice S1x128 ![0, 0] (aQ m c) slices_S2x128_S1x128_0_0) shapeCasts_S1x128_S128) : FVec Ideal S1x128 .f32)⟩,
     ⟨S1x128, (broadcastInDim S1x128 ![1] bcast_S128_S1x128_1 (shapeCast S128 (extractStridedSlice S1x128 ![0, 0] (aK m c) slices_S2x128_S1x128_0_0) shapeCasts_S1x128_S128) : FVec Ideal S1x128 .f32)⟩,
     ⟨S1x128, (broadcastInDim S1x128 ![1] bcast_S128_S1x128_1 (broadcastInDim S128 ![] bcast_S_S128 (constant S_ .f32 0x3F800000#32)) : FVec Ideal S1x128 .f32)⟩]
    concatenates_S1x128_S1x128_S1x128_S3x128_d0) shapeCasts_S3x128_S3x1x128 : FVec Ideal S3x1x128 .f32) := by
  unfold Gen.V
  simp only [Gen.hostOps0, List.flatten_cons, List.flatten_nil, List.append_nil, List.cons_append, List.nil_append]
  after_results
  rfl

/-- The gains of a part's heads: the queries', the keys' and, for the values, ones. -/
def gain (q k : FVec Ideal S2x128 .f32) (p : Fin 3) (e : Fin 128) : EReal := if p.val < 1 then q (ix2 0 e) else if p.val < 2 then k (ix2 0 e) else 1

theorem V_h_at (r : Fin 8192) (d : Fin 2048) : (Gen.V m c main_v0 : FVec Ideal S8192x2048 .f32) (ix2 r d) = hrow (aH m c) r d := by
  rw [V_h]
  pointwise
  rfl
theorem V_g_at (d : Fin 2048) : (Gen.V m c main_v13 : FVec Ideal S1x2048 .f32) (ix2 0 d) = aG m c (ix2 0 d) := by
  rw [V_g]
  pointwise
theorem V_s_at (p : Fin 3) (e : Fin 128) : (Gen.V m c main_v12 : FVec Ideal S3x1x128 .f32) (ix3 p 0 e) = gain (aQ m c) (aK m c) p e := by
  rw [V_s]
  pointwise
  unfold gain
  split_ifs <;> first | rfl | omega

/-- The row of an array that a block's row is. -/
def rowOf (n : ℕ) (hn : n < cfg0.N) (a : Fin 1024) : Fin 8192 := ⟨(n / 6) * 1024 + a.val, by have := N_lt ⟨n, hn⟩; dsimp only at this; omega⟩

/-- The column of the weights that a block's column is. -/
def colOf (n : ℕ) (b : Fin 1024) : Fin 6144 := ⟨1024 * (n % 6) + b.val, by omega⟩

theorem iblk_h (t : Fin cfg0.N) (a : Fin 1024) (d : Fin 2048) : (Gen.iblk m c 0 t : FVec Ideal S1024x2048 .f32) (ix2 a d)
    = hrow (aH m c) (rowOf t.val t.isLt a) d := by
  refine Eq.trans ?_ (V_h_at m c _ _)
  obtain ⟨h0, h1, -⟩ := index_all t
  show Gen.V m c main_v0 (((cfg0.win 0).blk t).view.emb (ix2 a d)) = Gen.V m c main_v0 (ix2 (rowOf t.val t.isLt a) d)
  congr 1
  funext b
  apply Fin.ext
  match b with
  | ⟨0, _⟩ => show win0_0.index t (0 : Fin 2) * 1024 + 1 * a.val = (t.val / 6) * 1024 + a.val; rw [h0, Nat.one_mul]
  | ⟨1, _⟩ => show win0_0.index t (1 : Fin 2) * 2048 + 1 * d.val = d.val; omega

theorem iblk_g (t : Fin cfg0.N) (d : Fin 2048) : (Gen.iblk m c 1 t : FVec Ideal S1x2048 .f32) (ix2 0 d)
    = aG m c (ix2 0 d) := by
  refine Eq.trans ?_ (V_g_at m c d)
  obtain ⟨-, -, h0, h1, -⟩ := index_all t
  show Gen.V m c main_v13 (((cfg0.win 1).blk t).view.emb (ix2 0 d)) = Gen.V m c main_v13 (ix2 0 d)
  congr 1
  funext b
  apply Fin.ext
  match b with
  | ⟨0, _⟩ => show win0_1.index t (0 : Fin 2) * 1 + 1 * 0 = 0; omega
  | ⟨1, _⟩ => show win0_1.index t (1 : Fin 2) * 2048 + 1 * d.val = d.val; omega

theorem iblk_i (t : Fin cfg0.N) (d : Fin 2048) (j : Fin 1024) : (Gen.iblk m c 2 t : FVec Ideal S1x2048x1024 .f32) (ix3 0 d j)
    = aI m c (ix3 0 d (colOf t.val j)) := by
  refine Eq.trans ?_ (congrFun (V_i m c) _)
  obtain ⟨-, -, -, -, h0, h1, h2, -⟩ := index_all t
  show Gen.V m c main_arg2 (((cfg0.win 2).blk t).view.emb (ix3 0 d j)) = Gen.V m c main_arg2 (ix3 0 d (colOf t.val j))
  congr 1
  funext b
  apply Fin.ext
  match b with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 1024 + 1 * j.val = 1024 * (t.val % 6) + j.val; omega

theorem iblk_s (t : Fin cfg0.N) (e : Fin 128) : (Gen.iblk m c 3 t : FVec Ideal S1x1x128 .f32) (ix3 0 0 e)
    = gain (aQ m c) (aK m c) ⟨t.val % 6 / 2, by omega⟩ e := by
  refine Eq.trans ?_ (V_s_at m c _ _)
  obtain ⟨-, -, -, -, -, -, -, h0, h1, h2⟩ := index_all t
  show Gen.V m c main_v12 (((cfg0.win 3).blk t).view.emb (ix3 0 0 e)) = Gen.V m c main_v12 (ix3 ⟨t.val % 6 / 2, by omega⟩ 0 e)
  congr 1
  funext b
  apply Fin.ext
  match b with
  | ⟨0, _⟩ => show win0_3.index t (0 : Fin 3) * 1 + 1 * 0 = t.val % 6 / 2; omega
  | ⟨1, _⟩ => show win0_3.index t (1 : Fin 3) * 1 + 1 * 0 = 0; omega
  | ⟨2, _⟩ => show win0_3.index t (2 : Fin 3) * 128 + 1 * e.val = e.val; omega

/-- The normalized rows, as a point finds them. -/
theorem norm_at (t : Fin cfg0.N) (a : Fin 1024) (d : Fin 2048) :
    Gen.k0_pay3 (F := Ideal) (Gen.iblk m c 0 t) (Gen.iblk m c 1 t) (ix2 a d) = nrm (hrow (aH m c) (rowOf t.val t.isLt a)) (fun d => aG m c (ix2 0 d)) d := by
  rw [pay3_at]
  simp only [iblk_h, iblk_g]

/-- One entry of the product. -/
def ent (r : Fin 8192) (s : Fin 6144) : EReal := ∑ d : Fin 2048, nrm (hrow (aH m c) r) (fun d => aG m c (ix2 0 d)) d * aI m c (ix3 0 d s)

/-- One entry of the result: queries and keys by their heads' root mean squares, values as they are. -/
def res (P : Fin 6144 → EReal) (q k : FVec Ideal S2x128 .f32) (s : Fin 6144) : EReal :=
  P s * (if s.val < 4096 then hinv (fun e => P ⟨128 * (s.val / 128) + e.val, by omega⟩) else 1) * gain q k ⟨s.val / 2048, by omega⟩ ⟨s.val % 128, by omega⟩

/-- What a step leaves at a point, from normalized rows. -/
theorem step_at (t : Fin cfg0.N) (xn : FVec Ideal S1024x2048 .bf16)
    (hx : ∀ a d, xn (ix2 a d) = nrm (hrow (aH m c) (rowOf t.val t.isLt a)) (fun d => aG m c (ix2 0 d)) d) (a s : Fin 1024) :
    val (Scalar.cmpi .sge (BitVec.ofNat 32 (grid0.coords t 1).val) 4#32) xn (Gen.iblk m c 2 t) (Gen.iblk m c 3 t) (ix2 a s)
      = res (ent m c (rowOf t.val t.isLt a)) (aQ m c) (aK m c) (colOf t.val s) := by
  have hp : ∀ s', prods xn (Gen.iblk m c 2 t) a s' = ent m c (rowOf t.val t.isLt a) (colOf t.val s') := fun s' =>
    Finset.sum_congr rfl fun d _ => congrArg₂ (· * ·) (hx a d) (iblk_i m c t d s')
  have ht := N_lt t
  unfold val res
  refine congrArg₂ (· * ·) (congrArg₂ (· * ·) (hp s) ?_) ?_
  · have e1 : (fun e : Fin 128 => prods xn (Gen.iblk m c 2 t) a ⟨128 * (s.val / 128) + e.val, by omega⟩)
        = fun e : Fin 128 => ent m c (rowOf t.val t.isLt a) ⟨128 * ((colOf t.val s).val / 128) + e.val, by have := (colOf t.val s).isLt; omega⟩ := funext fun e => by
      rw [hp]
      refine congrArg _ (Fin.ext ?_)
      show 1024 * (t.val % 6) + (128 * (s.val / 128) + e.val) = 128 * ((1024 * (t.val % 6) + s.val) / 128) + e.val
      omega
    show Scalar.select _ 1 (hinv fun e : Fin 128 => prods xn (Gen.iblk m c 2 t) a ⟨128 * (s.val / 128) + e.val, by omega⟩) = _
    rw [e1]
    unfold Scalar.select
    have hb := bit_all t
    have hc : (colOf t.val s).val < 4096 ↔ t.val % 6 < 4 := by
      show 1024 * (t.val % 6) + s.val < 4096 ↔ _
      omega
    by_cases h : t.val % 6 < 4
    · rw [if_neg (fun h' => hb.mp h' h), if_pos (hc.mpr h)]
    · rw [if_pos (hb.mpr h), if_neg (fun h' => h (hc.mp h'))]
  · refine (iblk_s m c t _).trans (congrArg₂ (gain _ _) (Fin.ext ?_) (Fin.ext ?_))
    · show t.val % 6 / 2 = (1024 * (t.val % 6) + s.val) / 2048
      omega
    · show s.val % 128 = (1024 * (t.val % 6) + s.val) % 128
      omega

/-- What the output's block and the scratch hold after each point. -/
theorem fold_at : ∀ (n : ℕ) (hn : n < cfg0.N),
    (∀ (a : Fin 1024) (s : Fin 1024), ((Gen.outsAt0 m c n hn).1 : FVec Ideal S1024x1024 .bf16) (ix2 a s) = res (ent m c (rowOf n hn a)) (aQ m c) (aK m c) (colOf n s))
    ∧ ∀ (a : Fin 1024) (d : Fin 2048), ((Gen.outsAt0 m c n hn).2 : FVec Ideal S1024x2048 .bf16) (ix2 a d)
      = nrm (hrow (aH m c) (rowOf n hn a)) (fun d => aG m c (ix2 0 d)) d := by
  have hA : ∀ (t : Fin cfg0.N), t.val % 6 = 0 →
      (∀ (a : Fin 1024) (s : Fin 1024), ((Gen.outsAt0 m c t.val t.isLt).1 : FVec Ideal S1024x1024 .bf16) (ix2 a s) = res (ent m c (rowOf t.val t.isLt a)) (aQ m c) (aK m c) (colOf t.val s))
      ∧ ∀ (a : Fin 1024) (d : Fin 2048), ((Gen.outsAt0 m c t.val t.isLt).2 : FVec Ideal S1024x2048 .bf16) (ix2 a d)
        = nrm (hrow (aH m c) (rowOf t.val t.isLt a)) (fun d => aG m c (ix2 0 d)) d := by
    intro t h0
    rw [Gen.outsAt0_A m c t h0, sout_A, out_A]
    exact ⟨fun a s => step_at m c t _ (fun a d => norm_at m c t a d) a s, fun a d => norm_at m c t a d⟩
  intro n
  induction n with
  | zero => exact fun hn => hA ⟨0, hn⟩ rfl
  | succ n ih =>
    intro hn
    by_cases h0 : (n + 1) % 6 = 0
    · exact hA ⟨n + 1, hn⟩ h0
    · have i2 := (ih (Nat.lt_of_succ_lt hn)).2
      have hr : ∀ a, rowOf n (Nat.lt_of_succ_lt hn) a = rowOf (n + 1) hn a := fun a => Fin.ext (by
        show (n / 6) * 1024 + a.val = ((n + 1) / 6) * 1024 + a.val
        rw [show (n + 1) / 6 = n / 6 by omega])
      have e := Gen.outsAt0_B m c ⟨n + 1, hn⟩ h0
      rw [out_B] at e
      refine ⟨fun a s => ?_, fun a d => ?_⟩
      · rw [e]
        exact step_at m c ⟨n + 1, hn⟩ _ (fun a d => (i2 a d).trans (by rw [hr])) a s
      · rw [e]
        exact (i2 a d).trans (by rw [hr])

/-- The array the kernel ends with, entry by entry. -/
theorem G_at (r : Fin 8192) (s : Fin 6144) : (Value.G4 m c : FVec Ideal S8192x6144 .bf16) (ix2 r s) = res (ent m c r) (aQ m c) (aK m c) s := by
  have hp : 6 * (r.val / 1024) + s.val / 1024 < cfg0.N := by show _ < 48; omega
  have hG : (Value.G4 m c : FVec Ideal S8192x6144 .bf16) (ix2 r s) = (Gen.outsAt0 m c (6 * (r.val / 1024) + s.val / 1024) hp).1 (ix2 ⟨r.val % 1024, by omega⟩ ⟨s.val % 1024, by omega⟩) := by
    have hpt : Value.pt4Of (ix2 r s) = 6 * (r.val / 1024) + s.val / 1024 := by
      show 6 * (r.val / 1024 - 0) + 1 * (s.val / 1024 - 0) = _
      omega
    have hloc : Value.loc4Of (ix2 r s) = ix2 ⟨r.val % 1024, by omega⟩ ⟨s.val % 1024, by omega⟩ := by
      funext b
      match b with
      | ⟨0, _⟩ => rfl
      | ⟨1, _⟩ => rfl
    unfold Value.G4
    rw [dif_pos (hpt.symm ▸ hp), hloc, Value.outsAt0_sweep, Value.fold0_congr m c _ _ _ _ hpt]
  rw [hG, (fold_at m c _ hp).1]
  have hr : rowOf (6 * (r.val / 1024) + s.val / 1024) hp ⟨r.val % 1024, by omega⟩ = r := Fin.ext (by
    show ((6 * (r.val / 1024) + s.val / 1024) / 6) * 1024 + r.val % 1024 = r.val; omega)
  have hs : colOf (6 * (r.val / 1024) + s.val / 1024) ⟨s.val % 1024, by omega⟩ = s := Fin.ext (by
    show 1024 * ((6 * (r.val / 1024) + s.val / 1024) % 6) + s.val % 1024 = s.val; omega)
  rw [hr, hs]

end Cert.QkvVal
-- ==== Proof.QkvRef.lean ====
module

public import proofs.«01_k».proof.Proof.QkvKer
public import proofs.«01_k».proof.Proof.Gen.QkvReferenceIdeal.Run

@[expose] public section

noncomputable section

/-! The reference's projection for the attention, over the extended reals, read at one position. -/

namespace Cert.QkvVal.Ref

open Cert.QkvReferenceIdeal Cert.QkvReferenceIdeal.Gen
open Cert.Lin
open Idealize.ShloMosaic Idealize.SL.Sem Idealize.ShloMosaic.TcCoe

/-- The normalized rows. -/
def normed (h : FVec Ideal S2x4096x2048 .f32) (g : FVec Ideal S4x2048 .f32) : FVec Ideal S2x4096x2048 .f32 :=
  mulf (mulf h (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf h h) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast S2048 (extractStridedSlice S1x2048 ![0, 0] g slices_S4x2048_S1x2048_0_0) shapeCasts_S1x2048_S2048)))

/-- A part's heads, each by its root mean square, with its gains. -/
def heads (x : FVec Ideal S2x4096x2048 .f32) (g : FVec Ideal S2x128 .f32) : FVec Ideal S2x4096x2048 .f32 :=
  shapeCast S2x4096x2048 (mulf (mulf (shapeCast S2x4096x16x128 x shapeCasts_S2x4096x2048_S2x4096x16x128) (broadcastInDim S2x4096x16x128 ![0, 1, 2, 3] bcast_S2x4096x16x1_S2x4096x16x128_0_1_2_3 (Host.rsqrt (addf (Host.divf (broadcastInDim S2x4096x16x1 ![0, 1, 2] bcast_S2x4096x16_S2x4096x16x1_0_1_2 (Host.reduceAdd (mulf (shapeCast S2x4096x16x128 x shapeCasts_S2x4096x2048_S2x4096x16x128) (shapeCast S2x4096x16x128 x shapeCasts_S2x4096x2048_S2x4096x16x128)) (constant S_ .f32 0x00000000#32) reducesTo_S2x4096x16x128_S2x4096x16_d3 h_S_)) (broadcastInDim S2x4096x16x1 ![] bcast_S_S2x4096x16x1 (constant S_ .f32 0x43000000#32))) (broadcastInDim S2x4096x16x1 ![] bcast_S_S2x4096x16x1 (constant S_ .f32 0x358637BD#32)))))) (broadcastInDim S2x4096x16x128 ![0, 1, 2, 3] bcast_S1x1x1x128_S2x4096x16x128_0_1_2_3 (broadcastInDim S1x1x1x128 ![3] bcast_S128_S1x1x1x128_3 (shapeCast S128 (extractStridedSlice S1x128 ![0, 0] g slices_S2x128_S1x128_0_0) shapeCasts_S1x128_S128)))) shapeCasts_S2x4096x16x128_S2x4096x2048

/-- The products. -/
def prod (h : FVec Ideal S2x4096x2048 .f32) (g : FVec Ideal S4x2048 .f32) (w : FVec Ideal S2x2048x6144 .f32) : FVec Ideal S2x4096x6144 .f32 :=
  Host.dotGeneral dot_S2x4096x2048_S2048x6144_S2x4096x6144_2_0_01_1_n_n none (normed h g) (shapeCast S2048x6144 (extractStridedSlice S1x2048x6144 ![0, 0, 0] w slices_S2x2048x6144_S1x2048x6144_0_0_0) shapeCasts_S1x2048x6144_S2048x6144)

/-- The result. -/
def out (h : FVec Ideal S2x4096x2048 .f32) (g : FVec Ideal S4x2048 .f32) (w : FVec Ideal S2x2048x6144 .f32) (q k : FVec Ideal S2x128 .f32) : FVec Ideal S8192x6144 .bf16 :=
  truncf .bf16 (shapeCast S8192x6144 (concatenate S2x4096x6144 2
    [⟨S2x4096x2048, heads (extractStridedSlice S2x4096x2048 ![0, 0, 0] (prod h g w) slices_S2x4096x6144_S2x4096x2048_0_0_0) q⟩,
     ⟨S2x4096x2048, heads (extractStridedSlice S2x4096x2048 ![0, 0, 2048] (prod h g w) slices_S2x4096x6144_S2x4096x2048_0_0_2048) k⟩,
     ⟨S2x4096x2048, extractStridedSlice S2x4096x2048 ![0, 0, 4096] (prod h g w) slices_S2x4096x6144_S2x4096x2048_0_0_4096⟩]
    concatenates_S2x4096x2048_S2x4096x2048_S2x4096x2048_S2x4096x6144_d2) shapeCasts_S2x4096x6144_S8192x6144) bitsLt_bf16_f32

variable (h : FVec Ideal S2x4096x2048 .f32) (g : FVec Ideal S4x2048 .f32) (w : FVec Ideal S2x2048x6144 .f32) (q k : FVec Ideal S2x128 .f32)

theorem normed_at (b : Fin 2) (i : Fin 4096) (d : Fin 2048) : normed h g (ix3 b i d) = nrm (fun d => h (ix3 b i d)) (fun d => g (ix2 0 d)) d := by
  unfold normed
  pointwise
  rfl

theorem prod_at (b : Fin 2) (i : Fin 4096) (s : Fin 6144) : prod h g w (ix3 b i s) = ∑ d : Fin 2048, nrm (fun d => h (ix3 b i d)) (fun d => g (ix2 0 d)) d * w (ix3 0 d s) := by
  unfold prod
  pointwise
  simp only [normed_at]

theorem heads_at (x : FVec Ideal S2x4096x2048 .f32) (b : Fin 2) (i : Fin 4096) (s : Fin 2048) :
    heads x q (ix3 b i s) = x (ix3 b i s) * hinv (fun e => x (ix3 b i ⟨s.val / 128 * 128 + e.val, by omega⟩)) * q (ix2 0 ⟨s.val % 128, by omega⟩) := by
  unfold heads
  pointwise
  rfl

/-- The heads of a part that starts at a column, by the whole's columns. -/
theorem heads_part (x : FVec Ideal S2x4096x2048 .f32) (P : Fin 6144 → EReal) (o : ℕ) (ho : o + 2048 ≤ 6144) (hm : o % 128 = 0) (b : Fin 2) (i : Fin 4096)
    (hx : ∀ s : Fin 2048, x (ix3 b i s) = P ⟨o + s.val, by omega⟩) (s : Fin 2048) (t : Fin 6144) (ht : t.val = o + s.val) :
    heads x q (ix3 b i s) = P t * hinv (fun e => P ⟨128 * (t.val / 128) + e.val, by omega⟩) * q (ix2 0 ⟨t.val % 128, by omega⟩) := by
  rw [heads_at]
  have h1 : x (ix3 b i s) = P t := (hx s).trans (congrArg P (Fin.ext ht.symm))
  have h2 : (fun e : Fin 128 => x (ix3 b i ⟨s.val / 128 * 128 + e.val, by omega⟩)) = fun e : Fin 128 => P ⟨128 * (t.val / 128) + e.val, by omega⟩ := funext fun e =>
    (hx _).trans (congrArg P (Fin.ext (by show o + (s.val / 128 * 128 + e.val) = 128 * (t.val / 128) + e.val; omega)))
  have h3 : (⟨s.val % 128, by omega⟩ : Fin 128) = ⟨t.val % 128, by omega⟩ := Fin.ext (by show s.val % 128 = t.val % 128; omega)
  rw [h1, h2, h3]

/-- The result, entry by entry. -/
theorem out_at (r : Fin 8192) (s : Fin 6144) : out h g w q k (ix2 r s)
    = res (fun s => ∑ d : Fin 2048, nrm (hrow h r) (fun d => g (ix2 0 d)) d * w (ix3 0 d s)) q k s := by
  suffices H : ∀ P : Fin 6144 → EReal, (∀ t : Fin 6144, prod h g w (ix3 ⟨r.val / 4096, by omega⟩ ⟨r.val % 4096, by omega⟩ t) = P t) → out h g w q k (ix2 r s) = res P q k s from
    H _ fun t => prod_at h g w _ _ t
  intro P hP
  unfold out
  pointwise
  unfold res gain
  by_cases h1 : s.val < 2048
  · rw [dif_pos h1, if_pos (show s.val < 4096 by omega), if_pos (show s.val / 2048 < 1 by omega)]
    refine heads_part q _ P 0 (by omega) (by omega) _ _ (fun t => ?_) _ s (Nat.zero_add _).symm
    pointwise
    exact hP _
  · rw [dif_neg h1]
    by_cases h2 : s.val - 2048 < 2048
    · rw [dif_pos h2, if_pos (show s.val < 4096 by omega), if_neg (show ¬ s.val / 2048 < 1 by omega), if_pos (show s.val / 2048 < 2 by omega)]
      refine heads_part k _ P 2048 (by omega) (by omega) _ _ (fun t => ?_) _ s (by show s.val = 2048 + (s.val - 2048); omega)
      pointwise
      exact hP _
    · rw [dif_neg h2, if_neg (show ¬ s.val < 4096 by omega), if_neg (show ¬ s.val / 2048 < 1 by omega), if_neg (show ¬ s.val / 2048 < 2 by omega), mul_one, mul_one]
      refine (hP _).trans (congrArg P (Fin.ext ?_))
      show 4096 + (s.val - 2048 - 2048) = s.val
      omega

/-- The run's result is this term. -/
theorem run_out (m : (ℓ : Loc nD τ sig) → ℓ.ty.Contents (Elt Ideal)) (ρ : Dev nD → PrngReg) :
    θ_run defs (onTc (τ := τ) (main (F := Ideal))) ⟨m, fun _ => 0, ρ⟩ fun r => ∀ c : Dev nD,
      r.2.mem ((c.tc : Thread nD τ).loc main_v57) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.QkvReferenceIdeal.Value.run (F := Ideal) m ρ

end Cert.QkvVal.Ref
-- ==== Proof.OutVal.lean ====
module

public import proofs.«01_k».proof.Proof.Gen.OutReferenceIdeal.Run
public import proofs.«01_k».proof.Proof.Gen.OutIdeal.Value
public import Idealize.ShloMosaic.Lib.Pipeline.ValueKit
public import proofs.«01_k».proof.Proof.Norm

@[expose] public section

noncomputable section

/-! The attention's output projection: the array the kernel ends with, and the reference's. -/

namespace Cert.OutVal

open Cert.OutIdeal
open Facts₀ Facts
open Cert.Lin
open Idealize.ShloMosaic Idealize.ShloMosaic.TcCoe Idealize.SL.Sem

/-- One step: the rows' product with the weights, added to the carried rows. -/
theorem step_at (x : FVec Ideal S512x2048 .bf16) (w : FVec Ideal S1x2048x2048 .bf16) (r : FVec Ideal S512x2048 .f32) (a : Fin 512) (b : Fin 2048) :
    (Gen.out0_3 (F := Ideal) x w r : FVec Ideal S512x2048 .f32) (ix2 a b) = r (ix2 a b) + ∑ d : Fin 2048, x (ix2 a d) * w (ix3 0 d b) := by
  unfold Gen.out0_3
  have e2 : (![0, 0] : Fin 2 → ℕ) = fun _ => 0 := by decide
  have e3 : (![0, 0, 0] : Fin 3 → ℕ) = fun _ => 0 := by decide
  rw [View.canon_unit_zero e2, View.ld_unit_zero e2, View.ld_unit_zero e2, View.ld_unit_zero e3]
  unfold Gen.k0_pay1
  pointwise

/-- Where each grid point's blocks lie. -/
theorem index_all : ∀ t : Fin cfg0.N, win0_0.index t (0 : Fin 2) = t.val / 1 ∧ win0_0.index t (1 : Fin 2) = 0
    ∧ win0_1.index t (0 : Fin 3) = 0 ∧ win0_1.index t (1 : Fin 3) = 0 ∧ win0_1.index t (2 : Fin 3) = t.val % 1
    ∧ win0_2.index t (0 : Fin 2) = t.val / 1 ∧ win0_2.index t (1 : Fin 2) = t.val % 1
    ∧ win0_3.index t (0 : Fin 2) = t.val / 1 ∧ win0_3.index t (1 : Fin 2) = t.val % 1 := by
  decide +kernel

theorem flush_all : ∀ t : Fin cfg0.N, (cfg0.win 3).flush t = true := by
  decide +kernel

theorem N_lt (t : Fin cfg0.N) : t.val < 16 := t.isLt

variable (m : (ℓ : Loc nD τ sig) → ℓ.ty.Contents (Elt Ideal)) (c : Dev nD)

/-- The rows. -/
abbrev aX : FVec Ideal S2x4096x2048 .f32 := m ((c : Thread nD τ).loc main_arg0)
/-- The weights out. -/
abbrev aW : FVec Ideal S2x2048x2048 .f32 := m ((c : Thread nD τ).loc main_arg1)
/-- The carried rows. -/
abbrev aR : FVec Ideal S2x4096x2048 .f32 := m ((c : Thread nD τ).loc main_arg2)

/-- The arrays the kernel reads. -/
theorem V_x : Gen.V m c main_v1 = (truncf .bf16 (shapeCast S8192x2048 (aX m c) shapeCasts_S2x4096x2048_S8192x2048 : FVec Ideal S8192x2048 .f32) bitsLt_bf16_f32 : FVec Ideal S8192x2048 .bf16) := by
  unfold Gen.V
  simp only [Gen.hostOps0, List.flatten_cons, List.flatten_nil, List.append_nil, List.cons_append, List.nil_append]
  after_results
  rfl
theorem V_w : Gen.V m c main_v2 = (truncf .bf16 (aW m c) bitsLt_bf16_f32 : FVec Ideal S2x2048x2048 .bf16) := by
  unfold Gen.V
  simp only [Gen.hostOps0, List.flatten_cons, List.flatten_nil, List.append_nil, List.cons_append, List.nil_append]
  after_results
theorem V_r : Gen.V m c main_v3 = (shapeCast S8192x2048 (aR m c) shapeCasts_S2x4096x2048_S8192x2048 : FVec Ideal S8192x2048 .f32) := by
  unfold Gen.V
  simp only [Gen.hostOps0, List.flatten_cons, List.flatten_nil, List.append_nil, List.cons_append, List.nil_append]
  after_results
  rfl

/-- Where a row of the two sequences lies. -/
def bOf (r : Fin 8192) : Fin 2 := ⟨r.val / 4096, by omega⟩
def iOf (r : Fin 8192) : Fin 4096 := ⟨r.val % 4096, by omega⟩

theorem V_x_at (r : Fin 8192) (d : Fin 2048) : (Gen.V m c main_v1 : FVec Ideal S8192x2048 .bf16) (ix2 r d) = aX m c (ix3 (bOf r) (iOf r) d) := by
  rw [V_x]
  pointwise
  rfl
theorem V_w_at (l : Fin 2) (d : Fin 2048) (s : Fin 2048) : (Gen.V m c main_v2 : FVec Ideal S2x2048x2048 .bf16) (ix3 l d s) = aW m c (ix3 l d s) := by
  rw [V_w]
  pointwise
theorem V_r_at (r : Fin 8192) (s : Fin 2048) : (Gen.V m c main_v3 : FVec Ideal S8192x2048 .f32) (ix2 r s) = aR m c (ix3 (bOf r) (iOf r) s) := by
  rw [V_r]
  pointwise
  rfl

/-- The row of an array that a block's row is, and the column a block's column is. -/
def rowOf (t : Fin cfg0.N) (a : Fin 512) : Fin 8192 := ⟨(t.val / 1) * 512 + a.val, by have := N_lt t; omega⟩
def colOf (t : Fin cfg0.N) (b : Fin 2048) : Fin 2048 := ⟨(t.val % 1) * 2048 + b.val, by omega⟩

theorem iblk_x (t : Fin cfg0.N) (a : Fin 512) (d : Fin 2048) : (Gen.iblk m c 0 t : FVec Ideal S512x2048 .bf16) (ix2 a d)
    = aX m c (ix3 (bOf (rowOf t a)) (iOf (rowOf t a)) d) := by
  refine Eq.trans ?_ (V_x_at m c _ _)
  obtain ⟨h0, h1, -⟩ := index_all t
  show Gen.V m c main_v1 (((cfg0.win 0).blk t).view.emb (ix2 a d)) = Gen.V m c main_v1 (ix2 (rowOf t a) d)
  congr 1
  funext b
  apply Fin.ext
  match b with
  | ⟨0, _⟩ => show win0_0.index t (0 : Fin 2) * 512 + 1 * a.val = (t.val / 1) * 512 + a.val; rw [h0, Nat.one_mul]
  | ⟨1, _⟩ => show win0_0.index t (1 : Fin 2) * 2048 + 1 * d.val = d.val; omega

theorem iblk_w (t : Fin cfg0.N) (d : Fin 2048) (b : Fin 2048) : (Gen.iblk m c 1 t : FVec Ideal S1x2048x2048 .bf16) (ix3 0 d b)
    = aW m c (ix3 0 d (colOf t b)) := by
  refine Eq.trans ?_ (V_w_at m c _ _ _)
  obtain ⟨-, -, h0, h1, h2, -⟩ := index_all t
  show Gen.V m c main_v2 (((cfg0.win 1).blk t).view.emb (ix3 0 d b)) = Gen.V m c main_v2 (ix3 0 d (colOf t b))
  congr 1
  funext e
  apply Fin.ext
  match e with
  | ⟨0, _⟩ => show win0_1.index t (0 : Fin 3) * 1 + 1 * 0 = 0; omega
  | ⟨1, _⟩ => show win0_1.index t (1 : Fin 3) * 2048 + 1 * d.val = d.val; omega
  | ⟨2, _⟩ => show win0_1.index t (2 : Fin 3) * 2048 + 1 * b.val = (t.val % 1) * 2048 + b.val; rw [h2, Nat.one_mul]

theorem iblk_r (t : Fin cfg0.N) (a : Fin 512) (b : Fin 2048) : (Gen.iblk m c 2 t : FVec Ideal S512x2048 .f32) (ix2 a b)
    = aR m c (ix3 (bOf (rowOf t a)) (iOf (rowOf t a)) (colOf t b)) := by
  refine Eq.trans ?_ (V_r_at m c _ _)
  obtain ⟨-, -, -, -, -, h0, h1, -⟩ := index_all t
  show Gen.V m c main_v3 (((cfg0.win 2).blk t).view.emb (ix2 a b)) = Gen.V m c main_v3 (ix2 (rowOf t a) (colOf t b))
  congr 1
  funext e
  apply Fin.ext
  match e with
  | ⟨0, _⟩ => show win0_2.index t (0 : Fin 2) * 512 + 1 * a.val = (t.val / 1) * 512 + a.val; rw [h0, Nat.one_mul]
  | ⟨1, _⟩ => show win0_2.index t (1 : Fin 2) * 2048 + 1 * b.val = (t.val % 1) * 2048 + b.val; rw [h1, Nat.one_mul]

/-- One entry of the result. -/
def ent (r : Fin 8192) (s : Fin 2048) : EReal :=
  aR m c (ix3 (bOf r) (iOf r) s) + ∑ d : Fin 2048, aX m c (ix3 (bOf r) (iOf r) d) * aW m c (ix3 0 d s)

/-- The array the kernel ends with. -/
def G : FVec Ideal S8192x2048 .f32 := fun j => ent m c (j 0) (j 1)

theorem step_ent (t : Fin cfg0.N) (a : Fin 512) (b : Fin 2048) :
    (Gen.out0_3 (F := Ideal) (Gen.iblk m c 0 t) (Gen.iblk m c 1 t) (Gen.iblk m c 2 t) : FVec Ideal S512x2048 .f32) (ix2 a b) = ent m c (rowOf t a) (colOf t b) :=
  (step_at _ _ _ a b).trans (congrArg₂ (· + ·) (iblk_r m c t a b) (Finset.sum_congr rfl fun d _ => congrArg₂ (· * ·) (iblk_x m c t a d) (iblk_w m c t d b)))

/-- Reading the result's array at an entry of a point's block. -/
theorem entry_at (t : Fin cfg0.N) (a : Fin 512) (b : Fin 2048) :
    ((Gen.dats m 0 c).arrAt 3 cfg0.N : FVec Ideal S8192x2048 .f32) (ix2 (rowOf t a) (colOf t b)) = ent m c (rowOf t a) (colOf t b) := by
  obtain ⟨-, -, -, -, -, -, -, h0, h1⟩ := index_all t
  have hi : (((cfg0.win 3).blk t).view.emb (ix2 a b) : S8192x2048.Idx) = ix2 (rowOf t a) (colOf t b) := by
    funext e
    apply Fin.ext
    match e with
    | ⟨0, _⟩ => show win0_3.index t (0 : Fin 2) * 512 + 1 * a.val = (t.val / 1) * 512 + a.val; rw [h0, Nat.one_mul]
    | ⟨1, _⟩ => show win0_3.index t (1 : Fin 2) * 2048 + 1 * b.val = (t.val % 1) * 2048 + b.val; rw [h1, Nat.one_mul]
  rw [← hi]
  refine (congrFun ((Value.blocks3 m c t (flush_all t)).trans (Value.flushed3 m c t)) (ix2 a b)).trans ?_
  exact (step_ent m c t a b)

theorem final : ((Gen.dats m 0 c).arrAt 3 cfg0.N : FVec Ideal S8192x2048 .f32) = G m c := by
  funext j
  have hp : 1 * ((j 0).val / 512) + (j 1).val / 2048 < cfg0.N := by
    have h0 : (j 0).val < 8192 := (j 0).isLt
    have h1 : (j 1).val < 2048 := (j 1).isLt
    show _ < 16; omega
  have h0 : rowOf ⟨_, hp⟩ ⟨(j 0).val % 512, by omega⟩ = j 0 := Fin.ext (by
    have h1 : (j 1).val < 2048 := (j 1).isLt
    show ((1 * ((j 0).val / 512) + (j 1).val / 2048) / 1) * 512 + (j 0).val % 512 = (j 0).val; omega)
  have h1 : colOf ⟨_, hp⟩ ⟨(j 1).val % 2048, by omega⟩ = j 1 := Fin.ext (by
    have h1 : (j 1).val < 2048 := (j 1).isLt
    show ((1 * ((j 0).val / 512) + (j 1).val / 2048) % 1) * 2048 + (j 1).val % 2048 = (j 1).val; omega)
  have e := entry_at m c ⟨_, hp⟩ ⟨(j 0).val % 512, by omega⟩ ⟨(j 1).val % 2048, by omega⟩
  rw [h0, h1] at e
  rw [eq_ix2 j]
  exact e

/-- The run's result is this array. -/
theorem run (ρ : Dev nD → PrngReg) :
    θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks (F := Ideal) m ρ)

end Cert.OutVal

namespace Cert.OutVal.Ref

open Cert.OutReferenceIdeal Cert.OutReferenceIdeal.Gen
open Idealize.ShloMosaic Idealize.SL.Sem Idealize.ShloMosaic.TcCoe

/-- The reference's result. -/
def out (x : FVec Ideal S2x4096x2048 .f32) (w : FVec Ideal S2x2048x2048 .f32) (r : FVec Ideal S2x4096x2048 .f32) : FVec Ideal S8192x2048 .f32 :=
  shapeCast S8192x2048 (addf r (Host.dotGeneral dot_S2x4096x2048_S2048x2048_S2x4096x2048_2_0_01_1_n_n none x (shapeCast S2048x2048 (extractStridedSlice S1x2048x2048 ![0, 0, 0] w slices_S2x2048x2048_S1x2048x2048_0_0_0) shapeCasts_S1x2048x2048_S2048x2048))) shapeCasts_S2x4096x2048_S8192x2048

/-- The reference's result, entry by entry. -/
theorem out_at (x : FVec Ideal S2x4096x2048 .f32) (w : FVec Ideal S2x2048x2048 .f32) (r : FVec Ideal S2x4096x2048 .f32) (i : Fin 8192) (s : Fin 2048) : out x w r (ix2 i s)
    = r (ix3 (bOf i) (iOf i) s) + ∑ d : Fin 2048, x (ix3 (bOf i) (iOf i) d) * w (ix3 0 d s) := by
  unfold out
  pointwise
  rfl

/-- The run's result is this term. -/
theorem run_out (m : (ℓ : Loc nD τ sig) → ℓ.ty.Contents (Elt Ideal)) (ρ : Dev nD → PrngReg) :
    θ_run defs (onTc (τ := τ) (main (F := Ideal))) ⟨m, fun _ => 0, ρ⟩ fun r => ∀ c : Dev nD,
      r.2.mem ((c.tc : Thread nD τ).loc main_v4) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.OutReferenceIdeal.Value.run (F := Ideal) m ρ

end Cert.OutVal.Ref
-- ==== Proof.SsdKer.lean ====
module

public import proofs.«01_k».proof.Proof.Gen.SsdInIdeal.Value
public import Idealize.ShloMosaic.Lib.Pipeline.ValueKit
public import proofs.«01_k».proof.Proof.Norm

@[expose] public section

noncomputable section

/-! What one step of the scan's projection leaves, and the array it ends with. -/

namespace Cert.SsdVal

open Cert.SsdInIdeal
open Facts₀ Facts
open Cert.Lin
open Idealize.ShloMosaic Idealize.ShloMosaic.TcCoe

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S1024x1024 .bf16) (harg5 : arg5.IsWhole) (arg6 : Memref sig .tc .vmem S1024x2048 .bf16) (harg6 : arg6.IsWhole)
  (x0 : Vec Ideal S1024x2048 .f32) (x1 : Vec Ideal S1x2048 .f32) (x2 : Vec Ideal S1x2048x1024 .bf16) (xs : Vec Ideal S1024x2048 .bf16)

/-- The first step of a block of rows leaves the normalized rows in the scratch. -/
theorem sout_A (hc : Gen.cond0_0 i) :
    Gen.sout0_A_0 c i arg2 harg2 arg3 harg3 arg4 harg4 arg5 harg5 arg6 harg6 hc x0 x1 x2 = Gen.k0_pay1 x0 x1 := by
  frame_out

/-- One product of a quarter of the rows. -/
theorem prod_at (xs : FVec Ideal S1024x2048 .bf16) (w : FVec Ideal S1x2048x1024 .bf16) (o : ℕ) (ho : o + 256 ≤ 1024) (x : S256x1024.Idx) (a b : Fin 1024) (ha : a.val = o + (x 0).val) (hb : b.val = (x 1).val) :
    (truncf .bf16 (matmul dot_S256x2048_S2048x1024_S256x1024_1_0_0_1_n_n none (rowsFrom xs o ho) (shapeCast S2048x1024 w Gen.shapeCasts_S1x2048x1024_S2048x1024) (constant S256x1024 .f32 0x00000000#32)) Gen.bitsLt_bf16_f32 : FVec Ideal S256x1024 .bf16) x
      = ∑ d : Fin 2048, xs (ix2 a d) * w (ix3 0 d b) := by
  rw [eq_ix2 x]
  pointwise
  refine Finset.sum_congr rfl fun d _ => ?_
  rw [rowsFrom_at xs o ho (x 0) d a ha]
  rw [show b = (x 1) from Fin.ext hb]
  try rfl

/-- Every step leaves the products of the rows of the scratch. -/
theorem out_B (hc : ¬ Gen.cond0_0 i) (j : S1024x1024.Idx) :
    Gen.out0_B_3 c i arg2 harg2 arg3 harg3 arg4 harg4 arg5 harg5 arg6 harg6 hc x0 x1 x2 xs j = ∑ d : Fin 2048, (xs (ix2 (j 0) d) : EReal) * x2 (ix3 0 d (j 1)) := by
  frame_out
  simp only [ld_rows]
  canon_tiles x h
  all_goals
    open_payloads
    first
      | exact prod_at xs x2 _ _ x (j 0) (j 1) h0 h1
      | exact prod_at xs x2 0 _ x (j 0) (j 1) (h0.trans (Nat.zero_add _).symm) h1

/-- So does the first step of a block of rows, over the rows it normalized. -/
theorem out_A (hc : Gen.cond0_0 i) (j : S1024x1024.Idx) :
    Gen.out0_A_3 c i arg2 harg2 arg3 harg3 arg4 harg4 arg5 harg5 arg6 harg6 hc x0 x1 x2 j = ∑ d : Fin 2048, (Gen.k0_pay1 x0 x1 (ix2 (j 0) d) : EReal) * x2 (ix3 0 d (j 1)) := by
  frame_out
  repeat rw [View.readCov_fill _ _ _ _ _ (by decide)]
  generalize Gen.k0_pay1 x0 x1 = xs
  simp only [ld_rows]
  canon_tiles x h
  all_goals
    open_payloads
    first
      | exact prod_at xs x2 _ _ x (j 0) (j 1) h0 h1
      | exact prod_at xs x2 0 _ x (j 0) (j 1) (h0.trans (Nat.zero_add _).symm) h1

/-- The products of rows with a block of weights. -/
def prods (xs : FVec Ideal S1024x2048 .bf16) (w : FVec Ideal S1x2048x1024 .bf16) : FVec Ideal S1024x1024 .bf16 :=
  fun j => ∑ d : Fin 2048, xs (ix2 (j 0) d) * w (ix3 0 d (j 1))

theorem out_B_eq (hc : ¬ Gen.cond0_0 i) :
    Gen.out0_B_3 c i arg2 harg2 arg3 harg3 arg4 harg4 arg5 harg5 arg6 harg6 hc x0 x1 x2 xs = prods xs x2 :=
  funext fun j => out_B c i arg2 harg2 arg3 harg3 arg4 harg4 arg5 harg5 arg6 harg6 x0 x1 x2 xs hc j

theorem out_A_eq (hc : Gen.cond0_0 i) :
    Gen.out0_A_3 c i arg2 harg2 arg3 harg3 arg4 harg4 arg5 harg5 arg6 harg6 hc x0 x1 x2 = prods (Gen.k0_pay1 x0 x1) x2 :=
  funext fun j => out_A c i arg2 harg2 arg3 harg3 arg4 harg4 arg5 harg5 arg6 harg6 x0 x1 x2 hc j

theorem prods_at (xs : FVec Ideal S1024x2048 .bf16) (w : FVec Ideal S1x2048x1024 .bf16) (a b : Fin 1024) :
    prods xs w (ix2 a b) = ∑ d : Fin 2048, xs (ix2 a d) * w (ix3 0 d b) := rfl

theorem pay1_at (x : FVec Ideal S1024x2048 .f32) (g : FVec Ideal S1x2048 .f32) (a : Fin 1024) (s : Fin 2048) : Gen.k0_pay1 (F := Ideal) x g (ix2 a s) = nrm (fun d => x (ix2 a d)) (fun d => g (ix2 0 d)) s := by
  unfold Gen.k0_pay1
  pointwise
  rfl

/-! Where each grid point's blocks lie, ten points per block of rows. -/

theorem index_all : ∀ t : Fin cfg0.N, win0_0.index t (0 : Fin 2) = t.val / 10 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 10 := by
  decide +kernel

theorem N_lt (t : Fin cfg0.N) : t.val < 80 := t.isLt

end Cert.SsdVal

namespace Cert.SsdVal

open Cert.SsdInIdeal
open Facts₀ Facts
open Cert.Lin
open Idealize.ShloMosaic Idealize.ShloMosaic.TcCoe

variable (m : (ℓ : Loc nD τ sig) → ℓ.ty.Contents (Elt Ideal)) (c : Dev nD)

/-- The rows. -/
abbrev aH : FVec Ideal S2x4096x2048 .f32 := m ((c : Thread nD τ).loc main_arg0)
/-- The gains. -/
abbrev aG : FVec Ideal S4x2048 .f32 := m ((c : Thread nD τ).loc main_arg1)
/-- The weights in. -/
abbrev aI : FVec Ideal S1x2048x10304 .f32 := m ((c : Thread nD τ).loc main_arg2)

/-- The arrays the kernel reads. -/
theorem V_h : Gen.V m c main_v0 = (shapeCast S8192x2048 (aH m c) shapeCasts_S2x4096x2048_S8192x2048 : FVec Ideal S8192x2048 .f32) := by
  unfold Gen.V
  simp only [Gen.hostOps0, List.flatten_cons, List.flatten_nil, List.append_nil, List.cons_append, List.nil_append]
  after_results
  rfl
theorem V_g : Gen.V m c main_v4 = (shapeCast S1x2048 (shapeCast S2048 (extractStridedSlice S1x2048 ![2, 0] (aG m c) slices_S4x2048_S1x2048_2_0) shapeCasts_S1x2048_S2048) shapeCasts_S2048_S1x2048 : FVec Ideal S1x2048 .f32) := by
  unfold Gen.V
  simp only [Gen.hostOps0, List.flatten_cons, List.flatten_nil, List.append_nil, List.cons_append, List.nil_append]
  after_results
  rfl
theorem V_i : Gen.V m c main_v3 = (truncf .bf16 (aI m c) bitsLt_bf16_f32 : FVec Ideal S1x2048x10304 .bf16) := by
  unfold Gen.V
  simp only [Gen.hostOps0, List.flatten_cons, List.flatten_nil, List.append_nil, List.cons_append, List.nil_append]
  after_results

theorem V_h_at (r : Fin 8192) (d : Fin 2048) : (Gen.V m c main_v0 : FVec Ideal S8192x2048 .f32) (ix2 r d) = hrow (aH m c) r d := by
  rw [V_h]
  pointwise
  rfl
theorem V_g_at (d : Fin 2048) : (Gen.V m c main_v4 : FVec Ideal S1x2048 .f32) (ix2 0 d) = aG m c (ix2 2 d) := by
  rw [V_g]
  pointwise
theorem V_i_at (d : Fin 2048) (j : Fin 10304) : (Gen.V m c main_v3 : FVec Ideal S1x2048x10304 .bf16) (ix3 0 d j) = aI m c (ix3 0 d j) := by
  rw [V_i]
  pointwise

/-- The row of an array that a block's row is. -/
def rowOf (n : ℕ) (hn : n < cfg0.N) (a : Fin 1024) : Fin 8192 := ⟨(n / 10) * 1024 + a.val, by have := N_lt ⟨n, hn⟩; dsimp only at this; omega⟩

/-- The column of the weights that a block's column is. -/
def colOf (n : ℕ) (b : Fin 1024) : Fin 10304 := ⟨1024 * (n % 10) + b.val, by omega⟩

theorem iblk_h (t : Fin cfg0.N) (a : Fin 1024) (d : Fin 2048) : (Gen.iblk m c 0 t : FVec Ideal S1024x2048 .f32) (ix2 a d)
    = hrow (aH m c) (rowOf t.val t.isLt a) d := by
  refine Eq.trans ?_ (V_h_at m c _ _)
  obtain ⟨h0, h1, -⟩ := index_all t
  show Gen.V m c main_v0 (((cfg0.win 0).blk t).view.emb (ix2 a d)) = Gen.V m c main_v0 (ix2 (rowOf t.val t.isLt a) d)
  congr 1
  funext b
  apply Fin.ext
  match b with
  | ⟨0, _⟩ => show win0_0.index t (0 : Fin 2) * 1024 + 1 * a.val = (t.val / 10) * 1024 + a.val; rw [h0, Nat.one_mul]
  | ⟨1, _⟩ => show win0_0.index t (1 : Fin 2) * 2048 + 1 * d.val = d.val; omega

theorem iblk_g (t : Fin cfg0.N) (d : Fin 2048) : (Gen.iblk m c 1 t : FVec Ideal S1x2048 .f32) (ix2 0 d)
    = aG m c (ix2 2 d) := by
  refine Eq.trans ?_ (V_g_at m c d)
  obtain ⟨-, -, h0, h1, -⟩ := index_all t
  show Gen.V m c main_v4 (((cfg0.win 1).blk t).view.emb (ix2 0 d)) = Gen.V m c main_v4 (ix2 0 d)
  congr 1
  funext b
  apply Fin.ext
  match b with
  | ⟨0, _⟩ => show win0_1.index t (0 : Fin 2) * 1 + 1 * 0 = 0; omega
  | ⟨1, _⟩ => show win0_1.index t (1 : Fin 2) * 2048 + 1 * d.val = d.val; omega

/-- The weights' block, which the array's edge never cuts. -/
theorem iblk_i (t : Fin cfg0.N) (d : Fin 2048) (j : Fin 1024) : (Gen.X0_2 m c t : FVec Ideal S1x2048x1024 .bf16) (ix3 0 d j)
    = aI m c (ix3 0 d (colOf t.val j)) := by
  refine Eq.trans ?_ (V_i_at m c _ _)
  obtain ⟨-, -, -, -, h0, h1, h2⟩ := index_all t
  unfold Gen.X0_2 Pipeline.Window.fill
  rw [dif_pos (Gen.moved0_2 t _)]
  show Gen.V m c main_v3 (((cfg0.win 2).blk t).view.emb _) = Gen.V m c main_v3 (ix3 0 d (colOf t.val j))
  congr 1
  funext b
  apply Fin.ext
  match b with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 1024 + 1 * j.val = 1024 * (t.val % 10) + j.val; omega

/-- The normalized rows, as a point finds them. -/
theorem norm_at (t : Fin cfg0.N) (a : Fin 1024) (d : Fin 2048) :
    Gen.k0_pay1 (F := Ideal) (Gen.iblk m c 0 t) (Gen.iblk m c 1 t) (ix2 a d) = nrm (hrow (aH m c) (rowOf t.val t.isLt a)) (fun d => aG m c (ix2 2 d)) d := by
  rw [pay1_at]
  simp only [iblk_h, iblk_g]

/-- One entry of the product, for any column of the weights. -/
def ent (r : Fin 8192) (s : Fin 10304) : EReal := ∑ d : Fin 2048, nrm (hrow (aH m c) r) (fun d => aG m c (ix2 2 d)) d * aI m c (ix3 0 d s)

/-- What the output's block and the scratch hold after each point. -/
theorem fold_at : ∀ (n : ℕ) (hn : n < cfg0.N),
    (∀ (a : Fin 1024) (s : Fin 1024), ((Gen.outsAt0 m c n hn).1 : FVec Ideal S1024x1024 .bf16) (ix2 a s) = ent m c (rowOf n hn a) (colOf n s))
    ∧ ∀ (a : Fin 1024) (d : Fin 2048), ((Gen.outsAt0 m c n hn).2 : FVec Ideal S1024x2048 .bf16) (ix2 a d)
      = nrm (hrow (aH m c) (rowOf n hn a)) (fun d => aG m c (ix2 2 d)) d := by
  have hA : ∀ (t : Fin cfg0.N), t.val % 10 = 0 →
      (∀ (a : Fin 1024) (s : Fin 1024), ((Gen.outsAt0 m c t.val t.isLt).1 : FVec Ideal S1024x1024 .bf16) (ix2 a s) = ent m c (rowOf t.val t.isLt a) (colOf t.val s))
      ∧ ∀ (a : Fin 1024) (d : Fin 2048), ((Gen.outsAt0 m c t.val t.isLt).2 : FVec Ideal S1024x2048 .bf16) (ix2 a d)
        = nrm (hrow (aH m c) (rowOf t.val t.isLt a)) (fun d => aG m c (ix2 2 d)) d := by
    intro t h0
    rw [Gen.outsAt0_A m c t h0, sout_A, out_A_eq]
    refine ⟨fun a s => ?_, fun a d => norm_at m c t a d⟩
    refine (prods_at _ _ a s).trans (Finset.sum_congr rfl fun d _ => ?_)
    exact congrArg₂ (· * ·) (norm_at m c t a d) (iblk_i m c t d s)
  intro n
  induction n with
  | zero => exact fun hn => hA ⟨0, hn⟩ rfl
  | succ n ih =>
    intro hn
    by_cases h0 : (n + 1) % 10 = 0
    · exact hA ⟨n + 1, hn⟩ h0
    · have i2 := (ih (Nat.lt_of_succ_lt hn)).2
      have hr : ∀ a, rowOf n (Nat.lt_of_succ_lt hn) a = rowOf (n + 1) hn a := fun a => Fin.ext (by
        show (n / 10) * 1024 + a.val = ((n + 1) / 10) * 1024 + a.val
        rw [show (n + 1) / 10 = n / 10 by omega])
      have e := Gen.outsAt0_B m c ⟨n + 1, hn⟩ h0
      rw [out_B_eq] at e
      refine ⟨fun a s => ?_, fun a d => ?_⟩
      · rw [e]
        refine (prods_at _ _ a s).trans (Finset.sum_congr rfl fun d _ => ?_)
        exact congrArg₂ (· * ·) ((i2 a d).trans (by rw [hr])) (iblk_i m c ⟨n + 1, hn⟩ d s)
      · rw [e]
        exact (i2 a d).trans (by rw [hr])

/-- The array the kernel ends with, entry by entry. -/
theorem G_at (r : Fin 8192) (s : Fin 10240) : (Value.G3 m c : FVec Ideal S8192x10240 .bf16) (ix2 r s) = ent m c r ⟨s.val, by omega⟩ := by
  have hp : 10 * (r.val / 1024) + s.val / 1024 < cfg0.N := by show _ < 80; omega
  have hG : (Value.G3 m c : FVec Ideal S8192x10240 .bf16) (ix2 r s) = (Gen.outsAt0 m c (10 * (r.val / 1024) + s.val / 1024) hp).1 (ix2 ⟨r.val % 1024, by omega⟩ ⟨s.val % 1024, by omega⟩) := by
    have hpt : Value.pt3Of (ix2 r s) = 10 * (r.val / 1024) + s.val / 1024 := by
      show 10 * (r.val / 1024 - 0) + 1 * (s.val / 1024 - 0) = _
      omega
    have hloc : Value.loc3Of (ix2 r s) = ix2 ⟨r.val % 1024, by omega⟩ ⟨s.val % 1024, by omega⟩ := by
      funext b
      match b with
      | ⟨0, _⟩ => rfl
      | ⟨1, _⟩ => rfl
    unfold Value.G3
    rw [dif_pos (hpt.symm ▸ hp), hloc, Value.outsAt0_sweep, Value.fold0_congr m c _ _ _ _ hpt]
  rw [hG, (fold_at m c _ hp).1]
  refine congrArg₂ (ent m c) (Fin.ext ?_) (Fin.ext ?_)
  · show ((10 * (r.val / 1024) + s.val / 1024) / 10) * 1024 + r.val % 1024 = r.val; omega
  · show 1024 * ((10 * (r.val / 1024) + s.val / 1024) % 10) + s.val % 1024 = s.val; omega

end Cert.SsdVal
-- ==== Proof.SsdRef.lean ====
module

public import proofs.«01_k».proof.Proof.Norm
public import proofs.«01_k».proof.Proof.Gen.SsdInReferenceIdeal.Run

@[expose] public section

noncomputable section

/-! The reference's projection for the scan, over the extended reals, read at one position. -/

namespace Cert.SsdVal.Ref

open Cert.SsdInReferenceIdeal Cert.SsdInReferenceIdeal.Gen
open Cert.Lin
open Idealize.ShloMosaic Idealize.SL.Sem Idealize.ShloMosaic.TcCoe

/-- The normalized rows. -/
def normed (h : FVec Ideal S2x4096x2048 .f32) (g : FVec Ideal S4x2048 .f32) : FVec Ideal S2x4096x2048 .f32 :=
  mulf (mulf h (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf h h) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast S2048 (extractStridedSlice S1x2048 ![2, 0] g slices_S4x2048_S1x2048_2_0) shapeCasts_S1x2048_S2048)))

/-- The result. -/
def out (h : FVec Ideal S2x4096x2048 .f32) (g : FVec Ideal S4x2048 .f32) (wi : FVec Ideal S1x2048x10304 .f32) : FVec Ideal S8192x10240 .bf16 :=
  truncf .bf16 (shapeCast S8192x10240 (extractStridedSlice S2x4096x10240 ![0, 0, 0] (Host.dotGeneral dot_S2x4096x2048_S2048x10304_S2x4096x10304_2_0_01_1_n_n none (normed h g) (shapeCast S2048x10304 wi shapeCasts_S1x2048x10304_S2048x10304)) slices_S2x4096x10304_S2x4096x10240_0_0_0) shapeCasts_S2x4096x10240_S8192x10240) bitsLt_bf16_f32

variable (h : FVec Ideal S2x4096x2048 .f32) (g : FVec Ideal S4x2048 .f32) (wi : FVec Ideal S1x2048x10304 .f32)

theorem normed_at (b : Fin 2) (i : Fin 4096) (d : Fin 2048) : normed h g (ix3 b i d) = nrm (fun d => h (ix3 b i d)) (fun d => g (ix2 2 d)) d := by
  unfold normed
  pointwise
  rfl

/-- The result, entry by entry. -/
theorem out_at (r : Fin 8192) (s : Fin 10240) : out h g wi (ix2 r s)
    = ∑ d : Fin 2048, nrm (hrow h r) (fun d => g (ix2 2 d)) d * wi (ix3 0 d ⟨s.val, by omega⟩) := by
  unfold out
  pointwise
  simp only [normed_at]
  rfl

/-- The run's result is this term. -/
theorem run_out (m : (ℓ : Loc nD τ sig) → ℓ.ty.Contents (Elt Ideal)) (ρ : Dev nD → PrngReg) :
    θ_run defs (onTc (τ := τ) (main (F := Ideal))) ⟨m, fun _ => 0, ρ⟩ fun r => ∀ c : Dev nD,
      r.2.mem ((c.tc : Thread nD τ).loc main_v19) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.SsdInReferenceIdeal.Value.run (F := Ideal) m ρ

end Cert.SsdVal.Ref
-- ==== Proof.SsdOutVal.lean ====
module

public import proofs.«01_k».proof.Proof.Gen.SsdOutReferenceIdeal.Run
public import proofs.«01_k».proof.Proof.Gen.SsdOutIdeal.Value
public import Idealize.ShloMosaic.Lib.Pipeline.ValueKit
public import proofs.«01_k».proof.Proof.Norm

@[expose] public section

noncomputable section

/-! The scan's output projection: the array the kernel ends with, and the reference's. -/

namespace Cert.SsdOutVal

open Cert.SsdOutIdeal
open Facts₀ Facts
open Cert.Lin
open Idealize.ShloMosaic Idealize.ShloMosaic.TcCoe Idealize.SL.Sem

/-- One step: the rows' product with the weights, added to the carried rows. -/
theorem step_at (x : FVec Ideal S1024x4096 .bf16) (w : FVec Ideal S1x4096x512 .bf16) (r : FVec Ideal S1024x512 .f32) (a : Fin 1024) (b : Fin 512) :
    (Gen.out0_3 (F := Ideal) x w r : FVec Ideal S1024x512 .f32) (ix2 a b) = r (ix2 a b) + ∑ d : Fin 4096, x (ix2 a d) * w (ix3 0 d b) := by
  unfold Gen.out0_3
  have e2 : (![0, 0] : Fin 2 → ℕ) = fun _ => 0 := by decide
  have e3 : (![0, 0, 0] : Fin 3 → ℕ) = fun _ => 0 := by decide
  rw [View.canon_unit_zero e2, View.ld_unit_zero e2, View.ld_unit_zero e2, View.ld_unit_zero e3]
  unfold Gen.k0_pay1
  pointwise

/-- Where each grid point's blocks lie. -/
theorem index_all : ∀ t : Fin cfg0.N, win0_0.index t (0 : Fin 2) = t.val / 4 ∧ win0_0.index t (1 : Fin 2) = 0
    ∧ win0_1.index t (0 : Fin 3) = 0 ∧ win0_1.index t (1 : Fin 3) = 0 ∧ win0_1.index t (2 : Fin 3) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4 := by
  decide +kernel

theorem flush_all : ∀ t : Fin cfg0.N, (cfg0.win 3).flush t = true := by
  decide +kernel

theorem N_lt (t : Fin cfg0.N) : t.val < 32 := t.isLt

variable (m : (ℓ : Loc nD τ sig) → ℓ.ty.Contents (Elt Ideal)) (c : Dev nD)

/-- The rows. -/
abbrev aX : FVec Ideal S2x4096x4096 .f32 := m ((c : Thread nD τ).loc main_arg0)
/-- The weights out. -/
abbrev aW : FVec Ideal S1x4096x2048 .f32 := m ((c : Thread nD τ).loc main_arg1)
/-- The carried rows. -/
abbrev aR : FVec Ideal S2x4096x2048 .f32 := m ((c : Thread nD τ).loc main_arg2)

/-- The arrays the kernel reads. -/
theorem V_x : Gen.V m c main_v1 = (truncf .bf16 (shapeCast S8192x4096 (aX m c) shapeCasts_S2x4096x4096_S8192x4096 : FVec Ideal S8192x4096 .f32) bitsLt_bf16_f32 : FVec Ideal S8192x4096 .bf16) := by
  unfold Gen.V
  simp only [Gen.hostOps0, List.flatten_cons, List.flatten_nil, List.append_nil, List.cons_append, List.nil_append]
  after_results
  rfl
theorem V_w : Gen.V m c main_v2 = (truncf .bf16 (aW m c) bitsLt_bf16_f32 : FVec Ideal S1x4096x2048 .bf16) := by
  unfold Gen.V
  simp only [Gen.hostOps0, List.flatten_cons, List.flatten_nil, List.append_nil, List.cons_append, List.nil_append]
  after_results
theorem V_r : Gen.V m c main_v3 = (shapeCast S8192x2048 (aR m c) shapeCasts_S2x4096x2048_S8192x2048 : FVec Ideal S8192x2048 .f32) := by
  unfold Gen.V
  simp only [Gen.hostOps0, List.flatten_cons, List.flatten_nil, List.append_nil, List.cons_append, List.nil_append]
  after_results
  rfl

/-- Where a row of the two sequences lies. -/
def bOf (r : Fin 8192) : Fin 2 := ⟨r.val / 4096, by omega⟩
def iOf (r : Fin 8192) : Fin 4096 := ⟨r.val % 4096, by omega⟩

theorem V_x_at (r : Fin 8192) (d : Fin 4096) : (Gen.V m c main_v1 : FVec Ideal S8192x4096 .bf16) (ix2 r d) = aX m c (ix3 (bOf r) (iOf r) d) := by
  rw [V_x]
  pointwise
  rfl
theorem V_w_at (l : Fin 1) (d : Fin 4096) (s : Fin 2048) : (Gen.V m c main_v2 : FVec Ideal S1x4096x2048 .bf16) (ix3 l d s) = aW m c (ix3 l d s) := by
  rw [V_w]
  pointwise
theorem V_r_at (r : Fin 8192) (s : Fin 2048) : (Gen.V m c main_v3 : FVec Ideal S8192x2048 .f32) (ix2 r s) = aR m c (ix3 (bOf r) (iOf r) s) := by
  rw [V_r]
  pointwise
  rfl

/-- The row of an array that a block's row is, and the column a block's column is. -/
def rowOf (t : Fin cfg0.N) (a : Fin 1024) : Fin 8192 := ⟨(t.val / 4) * 1024 + a.val, by have := N_lt t; omega⟩
def colOf (t : Fin cfg0.N) (b : Fin 512) : Fin 2048 := ⟨(t.val % 4) * 512 + b.val, by omega⟩

theorem iblk_x (t : Fin cfg0.N) (a : Fin 1024) (d : Fin 4096) : (Gen.iblk m c 0 t : FVec Ideal S1024x4096 .bf16) (ix2 a d)
    = aX m c (ix3 (bOf (rowOf t a)) (iOf (rowOf t a)) d) := by
  refine Eq.trans ?_ (V_x_at m c _ _)
  obtain ⟨h0, h1, -⟩ := index_all t
  show Gen.V m c main_v1 (((cfg0.win 0).blk t).view.emb (ix2 a d)) = Gen.V m c main_v1 (ix2 (rowOf t a) d)
  congr 1
  funext b
  apply Fin.ext
  match b with
  | ⟨0, _⟩ => show win0_0.index t (0 : Fin 2) * 1024 + 1 * a.val = (t.val / 4) * 1024 + a.val; rw [h0, Nat.one_mul]
  | ⟨1, _⟩ => show win0_0.index t (1 : Fin 2) * 4096 + 1 * d.val = d.val; omega

theorem iblk_w (t : Fin cfg0.N) (d : Fin 4096) (b : Fin 512) : (Gen.iblk m c 1 t : FVec Ideal S1x4096x512 .bf16) (ix3 0 d b)
    = aW m c (ix3 0 d (colOf t b)) := by
  refine Eq.trans ?_ (V_w_at m c _ _ _)
  obtain ⟨-, -, h0, h1, h2, -⟩ := index_all t
  show Gen.V m c main_v2 (((cfg0.win 1).blk t).view.emb (ix3 0 d b)) = Gen.V m c main_v2 (ix3 0 d (colOf t b))
  congr 1
  funext e
  apply Fin.ext
  match e with
  | ⟨0, _⟩ => show win0_1.index t (0 : Fin 3) * 1 + 1 * 0 = 0; omega
  | ⟨1, _⟩ => show win0_1.index t (1 : Fin 3) * 4096 + 1 * d.val = d.val; omega
  | ⟨2, _⟩ => show win0_1.index t (2 : Fin 3) * 512 + 1 * b.val = (t.val % 4) * 512 + b.val; rw [h2, Nat.one_mul]

theorem iblk_r (t : Fin cfg0.N) (a : Fin 1024) (b : Fin 512) : (Gen.iblk m c 2 t : FVec Ideal S1024x512 .f32) (ix2 a b)
    = aR m c (ix3 (bOf (rowOf t a)) (iOf (rowOf t a)) (colOf t b)) := by
  refine Eq.trans ?_ (V_r_at m c _ _)
  obtain ⟨-, -, -, -, -, h0, h1, -⟩ := index_all t
  show Gen.V m c main_v3 (((cfg0.win 2).blk t).view.emb (ix2 a b)) = Gen.V m c main_v3 (ix2 (rowOf t a) (colOf t b))
  congr 1
  funext e
  apply Fin.ext
  match e with
  | ⟨0, _⟩ => show win0_2.index t (0 : Fin 2) * 1024 + 1 * a.val = (t.val / 4) * 1024 + a.val; rw [h0, Nat.one_mul]
  | ⟨1, _⟩ => show win0_2.index t (1 : Fin 2) * 512 + 1 * b.val = (t.val % 4) * 512 + b.val; rw [h1, Nat.one_mul]

/-- One entry of the result. -/
def ent (r : Fin 8192) (s : Fin 2048) : EReal :=
  aR m c (ix3 (bOf r) (iOf r) s) + ∑ d : Fin 4096, aX m c (ix3 (bOf r) (iOf r) d) * aW m c (ix3 0 d s)

/-- The array the kernel ends with. -/
def G : FVec Ideal S8192x2048 .f32 := fun j => ent m c (j 0) (j 1)

theorem step_ent (t : Fin cfg0.N) (a : Fin 1024) (b : Fin 512) :
    (Gen.out0_3 (F := Ideal) (Gen.iblk m c 0 t) (Gen.iblk m c 1 t) (Gen.iblk m c 2 t) : FVec Ideal S1024x512 .f32) (ix2 a b) = ent m c (rowOf t a) (colOf t b) :=
  (step_at _ _ _ a b).trans (congrArg₂ (· + ·) (iblk_r m c t a b) (Finset.sum_congr rfl fun d _ => congrArg₂ (· * ·) (iblk_x m c t a d) (iblk_w m c t d b)))

/-- Reading the result's array at an entry of a point's block. -/
theorem entry_at (t : Fin cfg0.N) (a : Fin 1024) (b : Fin 512) :
    ((Gen.dats m 0 c).arrAt 3 cfg0.N : FVec Ideal S8192x2048 .f32) (ix2 (rowOf t a) (colOf t b)) = ent m c (rowOf t a) (colOf t b) := by
  obtain ⟨-, -, -, -, -, -, -, h0, h1⟩ := index_all t
  have hi : (((cfg0.win 3).blk t).view.emb (ix2 a b) : S8192x2048.Idx) = ix2 (rowOf t a) (colOf t b) := by
    funext e
    apply Fin.ext
    match e with
    | ⟨0, _⟩ => show win0_3.index t (0 : Fin 2) * 1024 + 1 * a.val = (t.val / 4) * 1024 + a.val; rw [h0, Nat.one_mul]
    | ⟨1, _⟩ => show win0_3.index t (1 : Fin 2) * 512 + 1 * b.val = (t.val % 4) * 512 + b.val; rw [h1, Nat.one_mul]
  rw [← hi]
  refine (congrFun ((Value.blocks3 m c t (flush_all t)).trans (Value.flushed3 m c t)) (ix2 a b)).trans ?_
  exact (step_ent m c t a b)

theorem final : ((Gen.dats m 0 c).arrAt 3 cfg0.N : FVec Ideal S8192x2048 .f32) = G m c := by
  funext j
  have hp : 4 * ((j 0).val / 1024) + (j 1).val / 512 < cfg0.N := by
    have h0 : (j 0).val < 8192 := (j 0).isLt
    have h1 : (j 1).val < 2048 := (j 1).isLt
    show _ < 32; omega
  have h0 : rowOf ⟨_, hp⟩ ⟨(j 0).val % 1024, by omega⟩ = j 0 := Fin.ext (by
    have h1 : (j 1).val < 2048 := (j 1).isLt
    show ((4 * ((j 0).val / 1024) + (j 1).val / 512) / 4) * 1024 + (j 0).val % 1024 = (j 0).val; omega)
  have h1 : colOf ⟨_, hp⟩ ⟨(j 1).val % 512, by omega⟩ = j 1 := Fin.ext (by
    have h1 : (j 1).val < 2048 := (j 1).isLt
    show ((4 * ((j 0).val / 1024) + (j 1).val / 512) % 4) * 512 + (j 1).val % 512 = (j 1).val; omega)
  have e := entry_at m c ⟨_, hp⟩ ⟨(j 0).val % 1024, by omega⟩ ⟨(j 1).val % 512, by omega⟩
  rw [h0, h1] at e
  rw [eq_ix2 j]
  exact e

/-- The run's result is this array. -/
theorem run (ρ : Dev nD → PrngReg) :
    θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks (F := Ideal) m ρ)

end Cert.SsdOutVal

namespace Cert.SsdOutVal.Ref

open Cert.SsdOutReferenceIdeal Cert.SsdOutReferenceIdeal.Gen
open Idealize.ShloMosaic Idealize.SL.Sem Idealize.ShloMosaic.TcCoe

/-- The reference's result. -/
def out (x : FVec Ideal S2x4096x4096 .f32) (w : FVec Ideal S1x4096x2048 .f32) (r : FVec Ideal S2x4096x2048 .f32) : FVec Ideal S8192x2048 .f32 :=
  shapeCast S8192x2048 (addf r (Host.dotGeneral dot_S2x4096x4096_S4096x2048_S2x4096x2048_2_0_01_1_n_n none x (shapeCast S4096x2048 w shapeCasts_S1x4096x2048_S4096x2048))) shapeCasts_S2x4096x2048_S8192x2048

/-- The reference's result, entry by entry. -/
theorem out_at (x : FVec Ideal S2x4096x4096 .f32) (w : FVec Ideal S1x4096x2048 .f32) (r : FVec Ideal S2x4096x2048 .f32) (i : Fin 8192) (s : Fin 2048) : out x w r (ix2 i s)
    = r (ix3 (bOf i) (iOf i) s) + ∑ d : Fin 4096, x (ix3 (bOf i) (iOf i) d) * w (ix3 0 d s) := by
  unfold out
  pointwise
  rfl

/-- The run's result is this term. -/
theorem run_out (m : (ℓ : Loc nD τ sig) → ℓ.ty.Contents (Elt Ideal)) (ρ : Dev nD → PrngReg) :
    θ_run defs (onTc (τ := τ) (main (F := Ideal))) ⟨m, fun _ => 0, ρ⟩ fun r => ∀ c : Dev nD,
      r.2.mem ((c.tc : Thread nD τ).loc main_v3) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.SsdOutReferenceIdeal.Value.run (F := Ideal) m ρ

end Cert.SsdOutVal.Ref
-- ==== Proof.GmInKer.lean ====
module

public import proofs.«01_k».proof.Proof.Gen.GmInIdeal.Value
public import Idealize.ShloMosaic.Lib.Pipeline.ValueKit
public import proofs.«01_k».proof.Proof.Norm

@[expose] public section

noncomputable section

/-! What one step of the gated branch's first projection leaves, and the array it ends with. -/

namespace Cert.GmInVal

open Cert.GmInIdeal
open Facts₀ Facts
open Cert.Lin
open Idealize.ShloMosaic Idealize.ShloMosaic.TcCoe

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S1024x1024 .bf16) (harg5 : arg5.IsWhole) (arg6 : Memref sig .tc .vmem S1024x2048 .bf16) (harg6 : arg6.IsWhole)
  (x0 : Vec Ideal S1024x2048 .f32) (x1 : Vec Ideal S1x2048 .f32) (x2 : Vec Ideal S1x2048x1024 .bf16) (xs : Vec Ideal S1024x2048 .bf16)

/-- The first step of a block of rows leaves the normalized rows in the scratch. -/
theorem sout_A (hc : Gen.cond0_0 i) :
    Gen.sout0_A_0 c i arg2 harg2 arg3 harg3 arg4 harg4 arg5 harg5 arg6 harg6 hc x0 x1 x2 = Gen.k0_pay3 x0 x1 := by
  frame_out

/-- The exact GELU, as the kernel writes it, at one position. -/
def gel (y : EReal) : EReal := Ideal.ofBits .f32 0x3F000000#32 * y * (Ideal.ofBits .f32 0x3F800000#32 + Ideal.erf (y * Ideal.ofBits .f32 0x3F3504F3#32))

/-- The exact GELU, as the kernel writes it, of a block. -/
def gelB (y : FVec Ideal S256x1024 .f32) : FVec Ideal S256x1024 .bf16 :=
  truncf .bf16 (mulf (mulf (broadcast S256x1024 (Scalar.ofBits .f32 0x3F000000#32)) y) (addf (broadcast S256x1024 (Scalar.ofBits .f32 0x3F800000#32)) (erf (mulf y (broadcast S256x1024 (Scalar.ofBits .f32 0x3F3504F3#32)))))) Gen.bitsLt_bf16_f32

/-- One product of a quarter of the rows, and its GELU. -/
theorem prod_at (xs : FVec Ideal S1024x2048 .bf16) (w : FVec Ideal S1x2048x1024 .bf16) (o : ℕ) (ho : o + 256 ≤ 1024) (x : S256x1024.Idx) (a b : Fin 1024) (ha : a.val = o + (x 0).val) (hb : b.val = (x 1).val) :
    gelB (matmul dot_S256x2048_S2048x1024_S256x1024_1_0_0_1_n_n none (rowsFrom xs o ho) (shapeCast S2048x1024 w Gen.shapeCasts_S1x2048x1024_S2048x1024) (constant S256x1024 .f32 0x00000000#32)) x
      = gel (∑ d : Fin 2048, xs (ix2 a d) * w (ix3 0 d b)) := by
  have e : (matmul dot_S256x2048_S2048x1024_S256x1024_1_0_0_1_n_n none (rowsFrom xs o ho) (shapeCast S2048x1024 w Gen.shapeCasts_S1x2048x1024_S2048x1024) (constant S256x1024 .f32 0x00000000#32) : FVec Ideal S256x1024 .f32) x
      = ∑ d : Fin 2048, xs (ix2 a d) * w (ix3 0 d b) := by
    rw [eq_ix2 x]
    pointwise
    refine Finset.sum_congr rfl fun d _ => ?_
    rw [rowsFrom_at xs o ho (x 0) d a ha]
    rw [show b = (x 1) from Fin.ext hb]
    try rfl
  exact congrArg gel e

/-- Every step leaves the products of the rows of the scratch. -/
theorem out_B (hc : ¬ Gen.cond0_0 i) (j : S1024x1024.Idx) :
    Gen.out0_B_3 c i arg2 harg2 arg3 harg3 arg4 harg4 arg5 harg5 arg6 harg6 hc x0 x1 x2 xs j = gel (∑ d : Fin 2048, (xs (ix2 (j 0) d) : EReal) * x2 (ix3 0 d (j 1))) := by
  frame_out
  simp only [ld_rows]
  canon_tiles x h
  all_goals
    open_payloads
    first
      | exact prod_at xs x2 _ _ x (j 0) (j 1) h0 h1
      | exact prod_at xs x2 0 _ x (j 0) (j 1) (h0.trans (Nat.zero_add _).symm) h1

/-- So does the first step of a block of rows, over the rows it normalized. -/
theorem out_A (hc : Gen.cond0_0 i) (j : S1024x1024.Idx) :
    Gen.out0_A_3 c i arg2 harg2 arg3 harg3 arg4 harg4 arg5 harg5 arg6 harg6 hc x0 x1 x2 j = gel (∑ d : Fin 2048, (Gen.k0_pay3 x0 x1 (ix2 (j 0) d) : EReal) * x2 (ix3 0 d (j 1))) := by
  frame_out
  repeat rw [View.readCov_fill _ _ _ _ _ (by decide)]
  generalize Gen.k0_pay3 x0 x1 = xs
  simp only [ld_rows]
  canon_tiles x h
  all_goals
    open_payloads
    first
      | exact prod_at xs x2 _ _ x (j 0) (j 1) h0 h1
      | exact prod_at xs x2 0 _ x (j 0) (j 1) (h0.trans (Nat.zero_add _).symm) h1

/-- The products of rows with a block of weights. -/
def prods (xs : FVec Ideal S1024x2048 .bf16) (w : FVec Ideal S1x2048x1024 .bf16) : FVec Ideal S1024x1024 .bf16 :=
  fun j => gel (∑ d : Fin 2048, xs (ix2 (j 0) d) * w (ix3 0 d (j 1)))

theorem out_B_eq (hc : ¬ Gen.cond0_0 i) :
    Gen.out0_B_3 c i arg2 harg2 arg3 harg3 arg4 harg4 arg5 harg5 arg6 harg6 hc x0 x1 x2 xs = prods xs x2 :=
  funext fun j => out_B c i arg2 harg2 arg3 harg3 arg4 harg4 arg5 harg5 arg6 harg6 x0 x1 x2 xs hc j

theorem out_A_eq (hc : Gen.cond0_0 i) :
    Gen.out0_A_3 c i arg2 harg2 arg3 harg3 arg4 harg4 arg5 harg5 arg6 harg6 hc x0 x1 x2 = prods (Gen.k0_pay3 x0 x1) x2 :=
  funext fun j => out_A c i arg2 harg2 arg3 harg3 arg4 harg4 arg5 harg5 arg6 harg6 x0 x1 x2 hc j

theorem prods_at (xs : FVec Ideal S1024x2048 .bf16) (w : FVec Ideal S1x2048x1024 .bf16) (a b : Fin 1024) :
    prods xs w (ix2 a b) = gel (∑ d : Fin 2048, xs (ix2 a d) * w (ix3 0 d b)) := rfl

theorem pay3_at (x : FVec Ideal S1024x2048 .f32) (g : FVec Ideal S1x2048 .f32) (a : Fin 1024) (s : Fin 2048) : Gen.k0_pay3 (F := Ideal) x g (ix2 a s) = nrm (fun d => x (ix2 a d)) (fun d => g (ix2 0 d)) s := by
  unfold Gen.k0_pay3
  pointwise
  rfl

/-! Where each grid point's blocks lie, four points per block of rows. -/

theorem index_all : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 4 := by
  decide +kernel

theorem N_lt (t : Fin cfg0.N) : t.val < 32 := t.isLt

end Cert.GmInVal

namespace Cert.GmInVal

open Cert.GmInIdeal
open Facts₀ Facts
open Cert.Lin
open Idealize.ShloMosaic Idealize.ShloMosaic.TcCoe

variable (m : (ℓ : Loc nD τ sig) → ℓ.ty.Contents (Elt Ideal)) (c : Dev nD)

/-- The rows. -/
abbrev aH : FVec Ideal S2x4096x2048 .f32 := m ((c : Thread nD τ).loc main_arg0)
/-- The gains. -/
abbrev aG : FVec Ideal S4x2048 .f32 := m ((c : Thread nD τ).loc main_arg1)
/-- The weights in. -/
abbrev aI : FVec Ideal S1x2048x4096 .f32 := m ((c : Thread nD τ).loc main_arg2)

/-- The arrays the kernel reads. -/
theorem V_h : Gen.V m c main_v0 = (shapeCast S8192x2048 (aH m c) shapeCasts_S2x4096x2048_S8192x2048 : FVec Ideal S8192x2048 .f32) := by
  unfold Gen.V
  simp only [Gen.hostOps0, List.flatten_cons, List.flatten_nil, List.append_nil, List.cons_append, List.nil_append]
  after_results
  rfl
theorem V_g : Gen.V m c main_v4 = (shapeCast S1x2048 (shapeCast S2048 (extractStridedSlice S1x2048 ![1, 0] (aG m c) slices_S4x2048_S1x2048_1_0) shapeCasts_S1x2048_S2048) shapeCasts_S2048_S1x2048 : FVec Ideal S1x2048 .f32) := by
  unfold Gen.V
  simp only [Gen.hostOps0, List.flatten_cons, List.flatten_nil, List.append_nil, List.cons_append, List.nil_append]
  after_results
  rfl
theorem V_i : Gen.V m c main_v3 = (truncf .bf16 (aI m c) bitsLt_bf16_f32 : FVec Ideal S1x2048x4096 .bf16) := by
  unfold Gen.V
  simp only [Gen.hostOps0, List.flatten_cons, List.flatten_nil, List.append_nil, List.cons_append, List.nil_append]
  after_results

theorem V_h_at (r : Fin 8192) (d : Fin 2048) : (Gen.V m c main_v0 : FVec Ideal S8192x2048 .f32) (ix2 r d) = hrow (aH m c) r d := by
  rw [V_h]
  pointwise
  rfl
theorem V_g_at (d : Fin 2048) : (Gen.V m c main_v4 : FVec Ideal S1x2048 .f32) (ix2 0 d) = aG m c (ix2 1 d) := by
  rw [V_g]
  pointwise
theorem V_i_at (d : Fin 2048) (j : Fin 4096) : (Gen.V m c main_v3 : FVec Ideal S1x2048x4096 .bf16) (ix3 0 d j) = aI m c (ix3 0 d j) := by
  rw [V_i]
  pointwise

/-- The row of an array that a block's row is. -/
def rowOf (n : ℕ) (hn : n < cfg0.N) (a : Fin 1024) : Fin 8192 := ⟨(n / 4) * 1024 + a.val, by have := N_lt ⟨n, hn⟩; dsimp only at this; omega⟩

/-- The column of the weights that a block's column is. -/
def colOf (n : ℕ) (b : Fin 1024) : Fin 4096 := ⟨1024 * (n % 4) + b.val, by omega⟩

theorem iblk_h (t : Fin cfg0.N) (a : Fin 1024) (d : Fin 2048) : (Gen.iblk m c 0 t : FVec Ideal S1024x2048 .f32) (ix2 a d)
    = hrow (aH m c) (rowOf t.val t.isLt a) d := by
  refine Eq.trans ?_ (V_h_at m c _ _)
  obtain ⟨h0, h1, -⟩ := index_all t
  show Gen.V m c main_v0 (((cfg0.win 0).blk t).view.emb (ix2 a d)) = Gen.V m c main_v0 (ix2 (rowOf t.val t.isLt a) d)
  congr 1
  funext b
  apply Fin.ext
  match b with
  | ⟨0, _⟩ => show win0_0.index t (0 : Fin 2) * 1024 + 1 * a.val = (t.val / 4) * 1024 + a.val; rw [h0, Nat.one_mul]
  | ⟨1, _⟩ => show win0_0.index t (1 : Fin 2) * 2048 + 1 * d.val = d.val; omega

theorem iblk_g (t : Fin cfg0.N) (d : Fin 2048) : (Gen.iblk m c 1 t : FVec Ideal S1x2048 .f32) (ix2 0 d)
    = aG m c (ix2 1 d) := by
  refine Eq.trans ?_ (V_g_at m c d)
  obtain ⟨-, -, h0, h1, -⟩ := index_all t
  show Gen.V m c main_v4 (((cfg0.win 1).blk t).view.emb (ix2 0 d)) = Gen.V m c main_v4 (ix2 0 d)
  congr 1
  funext b
  apply Fin.ext
  match b with
  | ⟨0, _⟩ => show win0_1.index t (0 : Fin 2) * 1 + 1 * 0 = 0; omega
  | ⟨1, _⟩ => show win0_1.index t (1 : Fin 2) * 2048 + 1 * d.val = d.val; omega

theorem iblk_i (t : Fin cfg0.N) (d : Fin 2048) (j : Fin 1024) : (Gen.iblk m c 2 t : FVec Ideal S1x2048x1024 .bf16) (ix3 0 d j)
    = aI m c (ix3 0 d (colOf t.val j)) := by
  refine Eq.trans ?_ (V_i_at m c _ _)
  obtain ⟨-, -, -, -, h0, h1, h2⟩ := index_all t
  show Gen.V m c main_v3 (((cfg0.win 2).blk t).view.emb (ix3 0 d j)) = Gen.V m c main_v3 (ix3 0 d (colOf t.val j))
  congr 1
  funext b
  apply Fin.ext
  match b with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 1024 + 1 * j.val = 1024 * (t.val % 4) + j.val; omega

/-- The normalized rows, as a point finds them. -/
theorem norm_at (t : Fin cfg0.N) (a : Fin 1024) (d : Fin 2048) :
    Gen.k0_pay3 (F := Ideal) (Gen.iblk m c 0 t) (Gen.iblk m c 1 t) (ix2 a d) = nrm (hrow (aH m c) (rowOf t.val t.isLt a)) (fun d => aG m c (ix2 1 d)) d := by
  rw [pay3_at]
  simp only [iblk_h, iblk_g]

/-- One entry of the product, for any column of the weights. -/
def ent (r : Fin 8192) (s : Fin 4096) : EReal := gel (∑ d : Fin 2048, nrm (hrow (aH m c) r) (fun d => aG m c (ix2 1 d)) d * aI m c (ix3 0 d s))

/-- What the output's block and the scratch hold after each point. -/
theorem fold_at : ∀ (n : ℕ) (hn : n < cfg0.N),
    (∀ (a : Fin 1024) (s : Fin 1024), ((Gen.outsAt0 m c n hn).1 : FVec Ideal S1024x1024 .bf16) (ix2 a s) = ent m c (rowOf n hn a) (colOf n s))
    ∧ ∀ (a : Fin 1024) (d : Fin 2048), ((Gen.outsAt0 m c n hn).2 : FVec Ideal S1024x2048 .bf16) (ix2 a d)
      = nrm (hrow (aH m c) (rowOf n hn a)) (fun d => aG m c (ix2 1 d)) d := by
  have hA : ∀ (t : Fin cfg0.N), t.val % 4 = 0 →
      (∀ (a : Fin 1024) (s : Fin 1024), ((Gen.outsAt0 m c t.val t.isLt).1 : FVec Ideal S1024x1024 .bf16) (ix2 a s) = ent m c (rowOf t.val t.isLt a) (colOf t.val s))
      ∧ ∀ (a : Fin 1024) (d : Fin 2048), ((Gen.outsAt0 m c t.val t.isLt).2 : FVec Ideal S1024x2048 .bf16) (ix2 a d)
        = nrm (hrow (aH m c) (rowOf t.val t.isLt a)) (fun d => aG m c (ix2 1 d)) d := by
    intro t h0
    rw [Gen.outsAt0_A m c t h0, sout_A, out_A_eq]
    refine ⟨fun a s => ?_, fun a d => norm_at m c t a d⟩
    refine (prods_at _ _ a s).trans (congrArg gel <| Finset.sum_congr rfl fun d _ => ?_)
    exact congrArg₂ (· * ·) (norm_at m c t a d) (iblk_i m c t d s)
  intro n
  induction n with
  | zero => exact fun hn => hA ⟨0, hn⟩ rfl
  | succ n ih =>
    intro hn
    by_cases h0 : (n + 1) % 4 = 0
    · exact hA ⟨n + 1, hn⟩ h0
    · have i2 := (ih (Nat.lt_of_succ_lt hn)).2
      have hr : ∀ a, rowOf n (Nat.lt_of_succ_lt hn) a = rowOf (n + 1) hn a := fun a => Fin.ext (by
        show (n / 4) * 1024 + a.val = ((n + 1) / 4) * 1024 + a.val
        rw [show (n + 1) / 4 = n / 4 by omega])
      have e := Gen.outsAt0_B m c ⟨n + 1, hn⟩ h0
      rw [out_B_eq] at e
      refine ⟨fun a s => ?_, fun a d => ?_⟩
      · rw [e]
        refine (prods_at _ _ a s).trans (congrArg gel <| Finset.sum_congr rfl fun d _ => ?_)
        exact congrArg₂ (· * ·) ((i2 a d).trans (by rw [hr])) (iblk_i m c ⟨n + 1, hn⟩ d s)
      · rw [e]
        exact (i2 a d).trans (by rw [hr])

/-- The array the kernel ends with, entry by entry. -/
theorem G_at (r : Fin 8192) (s : Fin 4096) : (Value.G3 m c : FVec Ideal S8192x4096 .bf16) (ix2 r s) = ent m c r ⟨s.val, by omega⟩ := by
  have hp : 4 * (r.val / 1024) + s.val / 1024 < cfg0.N := by show _ < 32; omega
  have hG : (Value.G3 m c : FVec Ideal S8192x4096 .bf16) (ix2 r s) = (Gen.outsAt0 m c (4 * (r.val / 1024) + s.val / 1024) hp).1 (ix2 ⟨r.val % 1024, by omega⟩ ⟨s.val % 1024, by omega⟩) := by
    have hpt : Value.pt3Of (ix2 r s) = 4 * (r.val / 1024) + s.val / 1024 := by
      show 4 * (r.val / 1024 - 0) + 1 * (s.val / 1024 - 0) = _
      omega
    have hloc : Value.loc3Of (ix2 r s) = ix2 ⟨r.val % 1024, by omega⟩ ⟨s.val % 1024, by omega⟩ := by
      funext b
      match b with
      | ⟨0, _⟩ => rfl
      | ⟨1, _⟩ => rfl
    unfold Value.G3
    rw [dif_pos (hpt.symm ▸ hp), hloc, Value.outsAt0_sweep, Value.fold0_congr m c _ _ _ _ hpt]
  rw [hG, (fold_at m c _ hp).1]
  refine congrArg₂ (ent m c) (Fin.ext ?_) (Fin.ext ?_)
  · show ((4 * (r.val / 1024) + s.val / 1024) / 4) * 1024 + r.val % 1024 = r.val; omega
  · show 1024 * ((4 * (r.val / 1024) + s.val / 1024) % 4) + s.val % 1024 = s.val; omega

end Cert.GmInVal
-- ==== Proof.GmInRef.lean ====
module

public import proofs.«01_k».proof.Proof.GmInKer
public import proofs.«01_k».proof.Proof.Row
public import Idealize.ShloMosaic.PureOps.Ideal.Laws
public import proofs.«01_k».proof.Proof.Gen.GmInReferenceIdeal.Run

@[expose] public section

noncomputable section

/-! The reference's first projection of the gated branch, over the extended reals, read at one position. -/

namespace Cert.GmInVal.Ref

open Cert.GmInReferenceIdeal Cert.GmInReferenceIdeal.Gen
open Cert.Lin
open Idealize.ShloMosaic Idealize.SL.Sem Idealize.ShloMosaic.TcCoe

/-- The normalized rows. -/
def normed (h : FVec Ideal S2x4096x2048 .f32) (g : FVec Ideal S4x2048 .f32) : FVec Ideal S2x4096x2048 .f32 :=
  mulf (mulf h (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf h h) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast S2048 (extractStridedSlice S1x2048 ![1, 0] g slices_S4x2048_S1x2048_1_0) shapeCasts_S1x2048_S2048)))

/-- The projected rows. -/
def proj (h : FVec Ideal S2x4096x2048 .f32) (g : FVec Ideal S4x2048 .f32) (wi : FVec Ideal S1x2048x4096 .f32) : FVec Ideal S2x4096x4096 .f32 :=
  Host.dotGeneral dot_S2x4096x2048_S2048x4096_S2x4096x4096_2_0_01_1_n_n none (normed h g) (shapeCast S2048x4096 wi shapeCasts_S1x2048x4096_S2048x4096)

/-- The exact GELU, as the reference writes it. -/
def gelR (p : FVec Ideal S2x4096x4096 .f32) : FVec Ideal S2x4096x4096 .f32 :=
  mulf (mulf (broadcastInDim S2x4096x4096 ![] bcast_S_S2x4096x4096 (constant S_ .f32 0x3F000000#32)) p) (Host.erfc (mulf (Host.negf p) (broadcastInDim S2x4096x4096 ![] bcast_S_S2x4096x4096 (constant S_ .f32 0x3F3504F3#32))))

/-- The result. -/
def out (h : FVec Ideal S2x4096x2048 .f32) (g : FVec Ideal S4x2048 .f32) (wi : FVec Ideal S1x2048x4096 .f32) : FVec Ideal S8192x4096 .bf16 :=
  truncf .bf16 (shapeCast S8192x4096 (gelR (proj h g wi)) shapeCasts_S2x4096x4096_S8192x4096) bitsLt_bf16_f32

variable (h : FVec Ideal S2x4096x2048 .f32) (g : FVec Ideal S4x2048 .f32) (wi : FVec Ideal S1x2048x4096 .f32)

theorem normed_at (b : Fin 2) (i : Fin 4096) (d : Fin 2048) : normed h g (ix3 b i d) = nrm (fun d => h (ix3 b i d)) (fun d => g (ix2 1 d)) d := by
  unfold normed
  pointwise
  rfl

theorem proj_at (b : Fin 2) (i : Fin 4096) (s : Fin 4096) : proj h g wi (ix3 b i s) = ∑ d : Fin 2048, nrm (fun d => h (ix3 b i d)) (fun d => g (ix2 1 d)) d * wi (ix3 0 d s) := by
  unfold proj
  pointwise
  simp only [normed_at]
  try rfl

/-- The two spellings of the GELU agree. -/
theorem gelR_at (p : FVec Ideal S2x4096x4096 .f32) (j : S2x4096x4096.Idx) : gelR p j = gel (p j) := by
  show Ideal.ofBits .f32 0x3F000000#32 * p j * Ideal.erfc (-(p j) * Ideal.ofBits .f32 0x3F3504F3#32) = gel (p j)
  unfold gel
  rw [EReal.neg_mul, Ideal.erfc_neg, Cert.Att.bits_one]

/-- The result, entry by entry. -/
theorem out_at (r : Fin 8192) (s : Fin 4096) : out h g wi (ix2 r s)
    = gel (∑ d : Fin 2048, nrm (hrow h r) (fun d => g (ix2 1 d)) d * wi (ix3 0 d s)) := by
  unfold out
  pointwise
  rw [gelR_at, proj_at]
  rfl

/-- The run's result is this term. -/
theorem run_out (m : (ℓ : Loc nD τ sig) → ℓ.ty.Contents (Elt Ideal)) (ρ : Dev nD → PrngReg) :
    θ_run defs (onTc (τ := τ) (main (F := Ideal))) ⟨m, fun _ => 0, ρ⟩ fun r => ∀ c : Dev nD,
      r.2.mem ((c.tc : Thread nD τ).loc main_v25) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.GmInReferenceIdeal.Value.run (F := Ideal) m ρ

end Cert.GmInVal.Ref
-- ==== Proof.GateRef.lean ====
module

public import proofs.«01_k».proof.Proof.Gen.GmGateReferenceIdeal.Run
public import proofs.«01_k».proof.Proof.Norm
public import proofs.«01_k».proof.Proof.Row

@[expose] public section

noncomputable section

/-! The gate's reference, entry by entry. -/

namespace Cert.GateVal

open Idealize.ShloMosaic Cert.Lin

/-- The at-most comparison of two words that hold small naturals. -/
theorem sle_bit (i j : ℕ) (hi : i < 4096) (hj : j < 4096) : BitVec.ofBool (BitVec.sle (BitVec.ofNat 32 j) (BitVec.ofNat 32 i)) = if j ≤ i then 1#1 else 0#1 := by
  rw [BitVec.sle_eq_decide, BitVec.toInt_eq_toNat_of_lt (by simp; omega), BitVec.toInt_eq_toNat_of_lt (by simp; omega),
    BitVec.toNat_ofNat, BitVec.toNat_ofNat, Nat.mod_eq_of_lt (by omega), Nat.mod_eq_of_lt (by omega)]
  split <;> rename_i h
  · rw [decide_eq_true (by exact_mod_cast h)]; rfl
  · rw [decide_eq_false (by exact_mod_cast h)]; rfl

theorem cmpi_sle (i j : ℕ) (hi : i < 4096) (hj : j < 4096) : IntOp.cmpi CmpIPredicate.sle (BitVec.ofNat 32 j) (BitVec.ofNat 32 i) = if j ≤ i then 1#1 else 0#1 :=
  sle_bit i j hi hj

theorem cmpi_sge (i j : ℕ) (hi : i < 4096) (hj : j < 4096) : IntOp.cmpi CmpIPredicate.sge (BitVec.ofNat 32 i) (BitVec.ofNat 32 j) = if j ≤ i then 1#1 else 0#1 :=
  sle_bit i j hi hj

/-- A gated value: a first half times the mix, by a head's lower triangle, of a chunk's second halves, and a bias. -/
def mix (u : EReal) (a : Fin 128) (w v : Fin 128 → EReal) (b : EReal) : EReal := u * ((∑ k : Fin 128, (if k.val ≤ a.val then w k else 0) * v k) + b)

/-- The row's sequence, its place there, and the chunk's rows. -/
def bOf (r : Fin 8192) : Fin 2 := ⟨r.val / 4096, by omega⟩
def iOf (r : Fin 8192) : Fin 4096 := ⟨r.val % 4096, by omega⟩
def cOf (r : Fin 8192) (k : Fin 128) : Fin 4096 := ⟨r.val % 4096 / 128 * 128 + k.val, by omega⟩
def aOf (r : Fin 8192) : Fin 128 := ⟨r.val % 4096 % 128, by omega⟩
def hOf (d : Fin 2048) : Fin 16 := ⟨d.val / 128, by omega⟩

/-- The gated row's value at a feature. -/
def gte (uv : FVec Ideal ⟨3, ![2, 4096, 4096]⟩ .f32) (g : FVec Ideal ⟨2, ![1, 2048]⟩ .f32) (w : FVec Ideal ⟨4, ![1, 16, 128, 128]⟩ .f32) (bs : FVec Ideal ⟨3, ![1, 16, 128]⟩ .f32)
    (r : Fin 8192) (d : Fin 2048) : EReal :=
  mix (uv (ix3 (bOf r) (iOf r) ⟨d.val, by omega⟩)) (aOf r) (fun k => w (ix4 0 (hOf d) (aOf r) k))
    (fun k => nrm (fun d => uv (ix3 (bOf r) (cOf r k) ⟨2048 + d.val, by omega⟩)) (fun d => g (ix2 0 d)) d) (bs (ix3 0 (hOf d) (aOf r)))

/-- One entry of the result. -/
def ent (uv : FVec Ideal ⟨3, ![2, 4096, 4096]⟩ .f32) (g : FVec Ideal ⟨2, ![1, 2048]⟩ .f32) (w : FVec Ideal ⟨4, ![1, 16, 128, 128]⟩ .f32) (bs : FVec Ideal ⟨3, ![1, 16, 128]⟩ .f32)
    (h : FVec Ideal ⟨3, ![2, 4096, 2048]⟩ .f32) (wo : FVec Ideal ⟨3, ![1, 2048, 2048]⟩ .f32) (r : Fin 8192) (s : Fin 2048) : EReal :=
  h (ix3 (bOf r) (iOf r) s) + ∑ d, gte uv g w bs r d * wo (ix3 0 d s)

end Cert.GateVal

namespace Cert.GateVal.Ref

open Cert.GmGateReferenceIdeal Cert.GmGateReferenceIdeal.Gen
open Cert.Lin
open Idealize.ShloMosaic Idealize.SL.Sem Idealize.ShloMosaic.TcCoe

/-- The second half of the rows, normalized. -/
def vn (uv : FVec Ideal S2x4096x4096 .f32) (g : FVec Ideal S1x2048 .f32) : FVec Ideal S2x4096x2048 .f32 :=
  mulf (mulf (extractStridedSlice S2x4096x2048 ![0, 0, 2048] uv slices_S2x4096x4096_S2x4096x2048_0_0_2048) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (extractStridedSlice S2x4096x2048 ![0, 0, 2048] uv slices_S2x4096x4096_S2x4096x2048_0_0_2048) (extractStridedSlice S2x4096x2048 ![0, 0, 2048] uv slices_S2x4096x4096_S2x4096x2048_0_0_2048)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The lower triangle of the weights. -/
def wl (w : FVec Ideal S1x16x128x128 .f32) : FVec Ideal S16x128x128 .f32 :=
  select (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ w shapeCasts_S1x16x128x128_S16x128x128) (broadcastInDim S16x128x128 ![] bcast_S_S16x128x128 (id (constant S_ .f32 0x00000000#32)))

/-- The gated rows, by sequence, chunk, place, head and lane. -/
def gated (uv : FVec Ideal S2x4096x4096 .f32) (v : FVec Ideal S2x4096x2048 .f32) (w : FVec Ideal S16x128x128 .f32) (bs : FVec Ideal S1x16x128 .f32) : FVec Ideal S2x32x128x16x128 .f32 :=
  mulf (shapeCast _ (extractStridedSlice S2x4096x2048 ![0, 0, 0] uv slices_S2x4096x4096_S2x4096x2048_0_0_0) shapeCasts_S2x4096x2048_S2x32x128x16x128) (addf (transpose S2x32x128x16x128 [1, 2, 4, 0, 3] (Host.dotGeneral dot_S2x32x128x16x128_S16x128x128_S16x2x32x128x128_2_2_014_1_3_0 none (shapeCast _ v shapeCasts_S2x4096x2048_S2x32x128x16x128) w) transposes_S16x2x32x128x128_S2x32x128x16x128_1_2_4_0_3) (broadcastInDim S2x32x128x16x128 ![0, 1, 2, 3, 4] bcast_S1x1x128x16x1_S2x32x128x16x128_0_1_2_3_4 (broadcastInDim S1x1x128x16x1 ![2, 3, 4] bcast_S128x16x1_S1x1x128x16x1_2_3_4 (broadcastInDim S128x16x1 ![0, 1] bcast_S128x16_S128x16x1_0_1 (transpose S128x16 [1, 0] (shapeCast _ bs shapeCasts_S1x16x128_S16x128) transposes_S16x128_S128x16_1_0)))))

/-- The reference's result. -/
def out (uv : FVec Ideal S2x4096x4096 .f32) (g : FVec Ideal S1x2048 .f32) (w : FVec Ideal S1x16x128x128 .f32) (bs : FVec Ideal S1x16x128 .f32) (r : FVec Ideal S2x4096x2048 .f32) (wo : FVec Ideal S1x2048x2048 .f32) : FVec Ideal S8192x2048 .f32 :=
  shapeCast S8192x2048 (addf r (Host.dotGeneral dot_S2x4096x2048_S2048x2048_S2x4096x2048_2_0_01_1_n_n none (shapeCast S2x4096x2048 (gated uv (vn uv g) (wl w) bs) shapeCasts_S2x32x128x16x128_S2x4096x2048) (shapeCast S2048x2048 wo shapeCasts_S1x2048x2048_S2048x2048))) shapeCasts_S2x4096x2048_S8192x2048

theorem vn_at (uv : FVec Ideal S2x4096x4096 .f32) (g : FVec Ideal S1x2048 .f32) (b : Fin 2) (i : Fin 4096) (d : Fin 2048) :
    vn uv g (ix3 b i d) = nrm (fun d => uv (ix3 b i ⟨2048 + d.val, by omega⟩)) (fun d => g (ix2 0 d)) d := by
  unfold vn
  pointwise
  rfl

theorem wl_at (w : FVec Ideal S1x16x128x128 .f32) (h : Fin 16) (a k : Fin 128) :
    wl w (ix3 h a k) = if k.val ≤ a.val then w (ix4 0 h a k) else 0 := by
  unfold wl
  pointwise
  have e : IntOp.addi (BitVec.ofNat 32 a.val) 0#32 = BitVec.ofNat 32 a.val := BitVec.add_zero _
  rw [e, cmpi_sge _ _ (by omega) (by omega), Cert.Att.select_ite, Cert.Att.select_ite]
  exact congrArg (fun z => if k.val ≤ a.val then w (ix4 0 h a k) else z) Cert.Att.bits_zero

theorem gated_at (uv : FVec Ideal S2x4096x4096 .f32) (v : FVec Ideal S2x4096x2048 .f32) (w : FVec Ideal S16x128x128 .f32) (bs : FVec Ideal S1x16x128 .f32)
    (b : Fin 2) (n : Fin 32) (a : Fin 128) (h : Fin 16) (e : Fin 128) :
    gated uv v w bs (ix5 b n a h e) = uv (ix3 b ⟨n.val * 128 + a.val, by omega⟩ ⟨h.val * 128 + e.val, by omega⟩)
      * ((∑ k : Fin 128, v (ix3 b ⟨n.val * 128 + k.val, by omega⟩ ⟨h.val * 128 + e.val, by omega⟩) * w (ix3 h a k)) + bs (ix3 0 h a)) := by
  unfold gated
  pointwise

theorem gte_at (uv : FVec Ideal S2x4096x4096 .f32) (g : FVec Ideal S1x2048 .f32) (w : FVec Ideal S1x16x128x128 .f32) (bs : FVec Ideal S1x16x128 .f32) (i : Fin 8192) (d : Fin 2048) :
    gated uv (vn uv g) (wl w) bs (ix5 (bOf i) ⟨i.val % 4096 / 128, by omega⟩ (aOf i) (hOf d) ⟨d.val % 128, by omega⟩) = gte uv g w bs i d := by
  have e0 : (⟨d.val / 128 * 128 + d.val % 128, by omega⟩ : Fin 2048) = d := Fin.ext (Nat.div_add_mod' _ _)
  have e1 : (⟨d.val / 128 * 128 + d.val % 128, by omega⟩ : Fin 4096) = ⟨d.val, by omega⟩ := Fin.ext (Nat.div_add_mod' _ _)
  have e2 : (⟨i.val % 4096 / 128 * 128 + i.val % 4096 % 128, by omega⟩ : Fin 4096) = iOf i := Fin.ext (Nat.div_add_mod' _ _)
  refine (gated_at _ _ _ _ _ _ _ _ _).trans ?_
  refine congrArg₂ (· * ·) (congrArg₂ (fun y z => uv (ix3 (bOf i) y z)) e2 e1) (congrArg (· + _) (Finset.sum_congr rfl fun k _ => ?_))
  refine (mul_comm _ _).trans (congrArg₂ (· * ·) (wl_at _ _ _ _) ?_)
  refine (vn_at _ _ _ _ _).trans ?_
  exact congrArg (nrm _ _) e0

theorem out_at (uv : FVec Ideal S2x4096x4096 .f32) (g : FVec Ideal S1x2048 .f32) (w : FVec Ideal S1x16x128x128 .f32) (bs : FVec Ideal S1x16x128 .f32) (r : FVec Ideal S2x4096x2048 .f32) (wo : FVec Ideal S1x2048x2048 .f32) (i : Fin 8192) (s : Fin 2048) :
    out uv g w bs r wo (ix2 i s) = ent uv g w bs r wo i s := by
  have e : ∀ d : Fin 2048, _ := gte_at uv g w bs i
  unfold out
  revert e
  generalize gated uv (vn uv g) (wl w) bs = y
  intro e
  pointwise
  exact congrArg (_ + ·) (Finset.sum_congr rfl fun d _ => congrArg (· * _) (e d))

/-- The run's result is this term. -/
theorem run_out (m : (ℓ : Loc nD τ sig) → ℓ.ty.Contents (Elt Ideal)) (ρ : Dev nD → PrngReg) :
    θ_run defs (onTc (τ := τ) (main (F := Ideal))) ⟨m, fun _ => 0, ρ⟩ fun r => ∀ c : Dev nD,
      r.2.mem ((c.tc : Thread nD τ).loc main_v36) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.GmGateReferenceIdeal.Value.run (F := Ideal) m ρ

end Cert.GateVal.Ref
-- ==== Proof.GateKer.lean ====
module

public import proofs.«01_k».proof.Proof.Gen.GmGateIdeal.Value
public import Idealize.ShloMosaic.Lib.Pipeline.ValueKit
public import proofs.«01_k».proof.Proof.GateRef

@[expose] public section

noncomputable section

/-! The gate's kernel: what one grid point leaves. -/

namespace Cert.GateVal

open Cert.GmGateIdeal
open Facts₀ Facts
open Cert.Lin
open Idealize.ShloMosaic Idealize.ShloMosaic.TcCoe

/-- One tile of the gated rows, as the kernel computes it. -/
def gateB (w : FVec Ideal S1x128x128 .f32) (b : FVec Ideal S128x1 .f32) (v u : FVec Ideal S128x128 .bf16) : FVec Ideal S128x128 .bf16 :=
  shapeCast S128x128 (truncf .bf16 (mulf (extf .f32 (shapeCast S128x128 u Gen.shapeCasts_S128x128_S128x128 : FVec Ideal S128x128 .bf16) Gen.bitsLt_bf16_f32)
    (addf (matmul dot_S128x128_S128x128_S128x128_1_0_0_1_n_n none
        (truncf .bf16 (select Gen.k0_pay2 (shapeCast S128x128 w Gen.shapeCasts_S1x128x128_S128x128) (broadcast S128x128 (Scalar.ofBits .f32 0x00000000#32)) : FVec Ideal S128x128 .f32) Gen.bitsLt_bf16_f32 : FVec Ideal S128x128 .bf16)
        v (constant S128x128 .f32 0x00000000#32))
      (broadcastTo S128x128 (shapeCast S128x1 b Gen.shapeCasts_S128x1_S128x1) Gen.broadcasts_S128x1_S128x128)) : FVec Ideal S128x128 .f32) Gen.bitsLt_bf16_f32 : FVec Ideal S128x128 .bf16) Gen.shapeCasts_S128x128_S128x128

theorem gateB_at (w : FVec Ideal S1x128x128 .f32) (b : FVec Ideal S128x1 .f32) (v u : FVec Ideal S128x128 .bf16) (a e : Fin 128) :
    gateB w b v u (ix2 a e) = mix (u (ix2 a e)) a (fun k => w (ix3 0 a k)) (fun k => v (ix2 k e)) (b (ix2 a 0)) := by
  unfold gateB Gen.k0_pay2
  pointwise
  refine congrArg (fun z => u (ix2 a e) * (z + b (ix2 a 0))) (Finset.sum_congr rfl fun k _ => ?_)
  rw [cmpi_sle _ _ (by omega) (by omega), Cert.Att.select_ite]
  split
  · rfl
  · exact (zero_mul _).symm

/-- The gated rows, from the first halves, the normalized second halves, the weights and the biases. -/
def gated (u v : FVec Ideal S256x2048 .bf16) (w : FVec Ideal S16x128x128 .f32) (b : FVec Ideal S128x16 .f32) : FVec Ideal S256x2048 .bf16 := fun y =>
  mix (u y) ⟨(y 0).val % 128, by omega⟩ (fun k => w (ix3 (⟨(y 1).val / 128, by have h : (y 1).val < 2048 := (y 1).isLt; omega⟩ : Fin 16) (⟨(y 0).val % 128, by omega⟩ : Fin 128) k))
    (fun k => v (ix2 (⟨(y 0).val / 128 * 128 + k.val, by have h : (y 0).val < 256 := (y 0).isLt; omega⟩ : Fin 256) (y 1)))
    (b (ix2 (⟨(y 0).val % 128, by omega⟩ : Fin 128) (⟨(y 1).val / 128, by have h : (y 1).val < 2048 := (y 1).isLt; omega⟩ : Fin 16)))

/-- A tile of the gated rows, at its place. -/
theorem piece_at (u v : FVec Ideal S256x2048 .bf16) (w : FVec Ideal S16x128x128 .f32) (b : FVec Ideal S128x16 .f32) (o p g : ℕ) (hp : p = g * 128) (ho : o % 128 = 0)
    (i0 : ∀ a, (![g, 0, 0] : Fin 3 → ℕ) a + (![1, 128, 128] : Fin 3 → ℕ) a ≤ S16x128x128.size a)
    (i1 : ∀ a, (![0, g] : Fin 2 → ℕ) a + (![128, 1] : Fin 2 → ℕ) a ≤ S128x16.size a)
    (i2 : ∀ a, (![o, p] : Fin 2 → ℕ) a + (![128, 128] : Fin 2 → ℕ) a ≤ S256x2048.size a)
    (x : S128x128.Idx) (y : S256x2048.Idx) (h0 : (y 0).val = o + (x 0).val) (h1 : (y 1).val = p + (x 1).val) :
    gateB (View.ld (Val := Elt Ideal) (e' := .f32) w (Rect.unit (s := S16x128x128) ![g, 0, 0] ![1, 128, 128] i0)) (View.ld (Val := Elt Ideal) (e' := .f32) b (Rect.unit (s := S128x16) ![0, g] ![128, 1] i1))
      (View.ld (Val := Elt Ideal) (e' := .bf16) v (Rect.unit (s := S256x2048) ![o, p] ![128, 128] i2)) (View.ld (Val := Elt Ideal) (e' := .bf16) u (Rect.unit (s := S256x2048) ![o, p] ![128, 128] i2)) x = gated u v w b y := by
  have hx0 : (x 0).val < 128 := (x 0).isLt
  have hx1 : (x 1).val < 128 := (x 1).isLt
  have ea : (⟨(y 0).val % 128, by omega⟩ : Fin 128) = x 0 := Fin.ext (by show (y 0).val % 128 = (x 0).val; omega)
  have eg : (y 1).val / 128 = g := by omega
  rw [eq_ix2 x]
  refine (gateB_at _ _ _ _ _ _).trans ?_
  unfold gated
  rw [ea]
  have e1 : View.ld (Val := Elt Ideal) (e' := .bf16) u (Rect.unit (s := S256x2048) ![o, p] ![128, 128] i2) (ix2 (x 0) (x 1)) = u y := by
    refine View.ld_unit_apply_of _ _ _ _ _ _ fun a => ?_
    match a with
    | ⟨0, _⟩ => exact h0
    | ⟨1, _⟩ => exact h1
  have e2 : ∀ k : Fin 128, View.ld (Val := Elt Ideal) (e' := .f32) w (Rect.unit (s := S16x128x128) ![g, 0, 0] ![1, 128, 128] i0) (ix3 0 (x 0) k) = w (ix3 (⟨(y 1).val / 128, by have h : (y 1).val < 2048 := (y 1).isLt; omega⟩ : Fin 16) (x 0) k) := by
    intro k
    refine View.ld_unit_apply_of _ _ _ _ _ _ fun a => ?_
    match a with
    | ⟨0, _⟩ => exact eg
    | ⟨1, _⟩ => exact (Nat.zero_add _).symm
    | ⟨2, _⟩ => exact (Nat.zero_add _).symm
  have e3 : ∀ k : Fin 128, View.ld (Val := Elt Ideal) (e' := .bf16) v (Rect.unit (s := S256x2048) ![o, p] ![128, 128] i2) (ix2 k (x 1)) = v (ix2 (⟨(y 0).val / 128 * 128 + k.val, by have h : (y 0).val < 256 := (y 0).isLt; omega⟩ : Fin 256) (y 1)) := by
    intro k
    refine View.ld_unit_apply_of _ _ _ _ _ _ fun a => ?_
    match a with
    | ⟨0, _⟩ => show (y 0).val / 128 * 128 + k.val = o + k.val; omega
    | ⟨1, _⟩ => exact h1
  have e4 : View.ld (Val := Elt Ideal) (e' := .f32) b (Rect.unit (s := S128x16) ![0, g] ![128, 1] i1) (ix2 (x 0) 0) = b (ix2 (x 0) (⟨(y 1).val / 128, by have h : (y 1).val < 2048 := (y 1).isLt; omega⟩ : Fin 16)) := by
    refine View.ld_unit_apply_of _ _ _ _ _ _ fun a => ?_
    match a with
    | ⟨0, _⟩ => exact (Nat.zero_add _).symm
    | ⟨1, _⟩ => exact eg
  rw [e1, e4, funext e2, funext e3]

/-- The product with the weights out, added to the carried rows. -/
theorem prod_at (r : FVec Ideal S256x2048 .f32) (y : FVec Ideal S256x2048 .bf16) (wo : FVec Ideal S1x2048x2048 .bf16) (a : Fin 256) (s : Fin 2048) :
    Gen.k0_pay78 r y wo (ix2 a s) = r (ix2 a s) + ∑ d : Fin 2048, y (ix2 a d) * wo (ix3 0 d s) := by
  unfold Gen.k0_pay78
  pointwise

variable (c : Dev nD) (i : grid0.Coords)
  (arg1 : Memref sig .tc .vmem S256x2048 .bf16) (harg1 : arg1.IsWhole) (arg2 : Memref sig .tc .vmem S256x2048 .bf16) (harg2 : arg2.IsWhole)
  (arg3 : Memref sig .tc .vmem S1x2048 .f32) (harg3 : arg3.IsWhole) (arg4 : Memref sig .tc .vmem S16x128x128 .f32) (harg4 : arg4.IsWhole)
  (arg5 : Memref sig .tc .vmem S128x16 .f32) (harg5 : arg5.IsWhole) (arg6 : Memref sig .tc .vmem S256x2048 .f32) (harg6 : arg6.IsWhole)
  (arg7 : Memref sig .tc .vmem S1x2048x2048 .bf16) (harg7 : arg7.IsWhole) (arg8 : Memref sig .tc .vmem S256x2048 .f32) (harg8 : arg8.IsWhole)
  (arg9 : Memref sig .tc .vmem S256x2048 .bf16) (harg9 : arg9.IsWhole) (arg10 : Memref sig .tc .vmem S256x2048 .bf16) (harg10 : arg10.IsWhole)
  (x0 x1 : Vec Ideal S256x2048 .bf16) (x2 : Vec Ideal S1x2048 .f32) (x3 : Vec Ideal S16x128x128 .f32) (x4 : Vec Ideal S128x16 .f32) (x5 : Vec Ideal S256x2048 .f32) (x6 : Vec Ideal S1x2048x2048 .bf16)

set_option maxHeartbeats 4000000 in
/-- One step's rows. -/
theorem out_A (a : Fin 256) (s : Fin 2048) :
    Gen.out0_A_7 (F := Ideal) c i arg1 harg1 arg2 harg2 arg3 harg3 arg4 harg4 arg5 harg5 arg6 harg6 arg7 harg7 arg8 harg8 arg9 harg9 arg10 harg10 x0 x1 x2 x3 x4 x5 x6 (ix2 a s)
      = x5 (ix2 a s) + ∑ d : Fin 2048, gated x0 (Gen.k0_pay1 x1 x2) x3 x4 (ix2 a d) * x6 (ix3 0 d s) := by
  frame_out
  repeat rw [View.readCov_fill _ _ _ _ _ (by decide)]
  generalize Gen.k0_pay1 x1 x2 = xs
  rw [View.readCov_eq_canon']
  refine (prod_at _ _ _ a s).trans (congrArg (_ + ·) (Finset.sum_congr rfl fun d _ => congrArg (· * _) ?_))
  refine Eq.trans (congrArg (View.canon _) (?_ : _ = ix2 a d)) ?_
  · funext e
    apply Fin.ext
    match e with
    | ⟨0, _⟩ => show 0 + 1 * a.val = a.val; omega
    | ⟨1, _⟩ => show 0 + 1 * d.val = d.val; omega
  · generalize (ix2 a d : S256x2048.Idx) = y
    canon_tiles x h
    all_goals
      open_payloads
      exact piece_at x0 xs x3 x4 _ _ _ (by decide) (by decide) _ _ _ x y (by omega) (by omega)

end Cert.GateVal
-- ==== Proof.GateVal.lean ====
module

public import proofs.«01_k».proof.Proof.GateKer

@[expose] public section

noncomputable section

/-! The gate and its output projection: the array the kernel ends with. -/

namespace Cert.GateVal

open Cert.GmGateIdeal
open Facts₀ Facts
open Cert.Lin
open Idealize.ShloMosaic Idealize.ShloMosaic.TcCoe Idealize.SL.Sem

/-- The normalized second halves. -/
theorem norm_at (v : FVec Ideal S256x2048 .bf16) (g : FVec Ideal S1x2048 .f32) (a : Fin 256) (d : Fin 2048) :
    Gen.k0_pay1 (F := Ideal) v g (ix2 a d) = nrm (fun d => v (ix2 a d)) (fun d => g (ix2 0 d)) d := by
  unfold Gen.k0_pay1
  pointwise
  rfl

/-- Where each grid point's blocks lie. -/
theorem index_all : ∀ t : Fin cfg0.N, win0_0.index t (0 : Fin 2) = t.val ∧ win0_0.index t (1 : Fin 2) = 0
    ∧ win0_1.index t (0 : Fin 2) = t.val ∧ win0_1.index t (1 : Fin 2) = 1
    ∧ win0_5.index t (0 : Fin 2) = t.val ∧ win0_5.index t (1 : Fin 2) = 0
    ∧ win0_7.index t (0 : Fin 2) = t.val ∧ win0_7.index t (1 : Fin 2) = 0 := by
  decide +kernel

theorem index_whole : ∀ t : Fin cfg0.N, win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_6.index t (0 : Fin 3) = 0 ∧ win0_6.index t (1 : Fin 3) = 0 ∧ win0_6.index t (2 : Fin 3) = 0 := by
  decide +kernel

theorem flush_all : ∀ t : Fin cfg0.N, (cfg0.win 7).flush t = true := by
  decide +kernel

theorem N_lt (t : Fin cfg0.N) : t.val < 32 := t.isLt

variable (m : (ℓ : Loc nD τ sig) → ℓ.ty.Contents (Elt Ideal)) (c : Dev nD)

/-- The two halves of the rows. -/
abbrev aU : FVec Ideal S2x4096x4096 .f32 := m ((c : Thread nD τ).loc main_arg0)
/-- The gains. -/
abbrev aG : FVec Ideal S1x2048 .f32 := m ((c : Thread nD τ).loc main_arg1)
/-- The heads' weights over a chunk's places. -/
abbrev aW : FVec Ideal S1x16x128x128 .f32 := m ((c : Thread nD τ).loc main_arg2)
/-- Their biases. -/
abbrev aB : FVec Ideal S1x16x128 .f32 := m ((c : Thread nD τ).loc main_arg3)
/-- The carried rows. -/
abbrev aR : FVec Ideal S2x4096x2048 .f32 := m ((c : Thread nD τ).loc main_arg4)
/-- The weights out. -/
abbrev aO : FVec Ideal S1x2048x2048 .f32 := m ((c : Thread nD τ).loc main_arg5)

/-- The arrays the kernel reads. -/
theorem V_u : Gen.V m c main_v1 = (truncf .bf16 (shapeCast S8192x4096 (aU m c) shapeCasts_S2x4096x4096_S8192x4096 : FVec Ideal S8192x4096 .f32) bitsLt_bf16_f32 : FVec Ideal S8192x4096 .bf16) := by
  unfold Gen.V
  simp only [Gen.hostOps0, List.flatten_cons, List.flatten_nil, List.append_nil, List.cons_append, List.nil_append]
  after_results
  rfl
theorem V_g : Gen.V m c main_v7 = (shapeCast S1x2048 (shapeCast S2048 (aG m c) shapeCasts_S1x2048_S2048 : FVec Ideal S2048 .f32) shapeCasts_S2048_S1x2048 : FVec Ideal S1x2048 .f32) := by
  unfold Gen.V
  simp only [Gen.hostOps0, List.flatten_cons, List.flatten_nil, List.append_nil, List.cons_append, List.nil_append]
  after_results
  rfl
theorem V_w : Gen.V m c main_v3 = (shapeCast S16x128x128 (aW m c) shapeCasts_S1x16x128x128_S16x128x128 : FVec Ideal S16x128x128 .f32) := by
  unfold Gen.V
  simp only [Gen.hostOps0, List.flatten_cons, List.flatten_nil, List.append_nil, List.cons_append, List.nil_append]
  after_results
  rfl
theorem V_b : Gen.V m c main_v8 = (transpose S128x16 [1, 0] (shapeCast S16x128 (aB m c) shapeCasts_S1x16x128_S16x128 : FVec Ideal S16x128 .f32) transposes_S16x128_S128x16_1_0 : FVec Ideal S128x16 .f32) := by
  unfold Gen.V
  simp only [Gen.hostOps0, List.flatten_cons, List.flatten_nil, List.append_nil, List.cons_append, List.nil_append]
  after_results
  rfl
theorem V_r : Gen.V m c main_v5 = (shapeCast S8192x2048 (aR m c) shapeCasts_S2x4096x2048_S8192x2048 : FVec Ideal S8192x2048 .f32) := by
  unfold Gen.V
  simp only [Gen.hostOps0, List.flatten_cons, List.flatten_nil, List.append_nil, List.cons_append, List.nil_append]
  after_results
  rfl
theorem V_o : Gen.V m c main_v6 = (truncf .bf16 (aO m c) bitsLt_bf16_f32 : FVec Ideal S1x2048x2048 .bf16) := by
  unfold Gen.V
  simp only [Gen.hostOps0, List.flatten_cons, List.flatten_nil, List.append_nil, List.cons_append, List.nil_append]
  after_results

theorem V_u_at (r : Fin 8192) (d : Fin 4096) : (Gen.V m c main_v1 : FVec Ideal S8192x4096 .bf16) (ix2 r d) = aU m c (ix3 (bOf r) (iOf r) d) := by
  rw [V_u]
  pointwise
  rfl
theorem V_g_at (d : Fin 2048) : (Gen.V m c main_v7 : FVec Ideal S1x2048 .f32) (ix2 0 d) = aG m c (ix2 0 d) := by
  rw [V_g]
  pointwise
theorem V_w_at (h : Fin 16) (a k : Fin 128) : (Gen.V m c main_v3 : FVec Ideal S16x128x128 .f32) (ix3 h a k) = aW m c (ix4 0 h a k) := by
  rw [V_w]
  pointwise
theorem V_b_at (a : Fin 128) (h : Fin 16) : (Gen.V m c main_v8 : FVec Ideal S128x16 .f32) (ix2 a h) = aB m c (ix3 0 h a) := by
  rw [V_b]
  pointwise
theorem V_r_at (r : Fin 8192) (s : Fin 2048) : (Gen.V m c main_v5 : FVec Ideal S8192x2048 .f32) (ix2 r s) = aR m c (ix3 (bOf r) (iOf r) s) := by
  rw [V_r]
  pointwise
  rfl
theorem V_o_at (d s : Fin 2048) : (Gen.V m c main_v6 : FVec Ideal S1x2048x2048 .bf16) (ix3 0 d s) = aO m c (ix3 0 d s) := by
  rw [V_o]
  pointwise

/-- The row of an array that a block's row is. -/
def rowOf (t : Fin cfg0.N) (a : Fin 256) : Fin 8192 := ⟨t.val * 256 + a.val, by have := N_lt t; omega⟩

theorem iblk_u (t : Fin cfg0.N) (a : Fin 256) (d : Fin 2048) : (Gen.iblk m c 0 t : FVec Ideal S256x2048 .bf16) (ix2 a d) = aU m c (ix3 (bOf (rowOf t a)) (iOf (rowOf t a)) ⟨d.val, by omega⟩) := by
  refine Eq.trans ?_ (V_u_at m c _ _)
  obtain ⟨h0, h1, -⟩ := index_all t
  show Gen.V m c main_v1 (((cfg0.win 0).blk t).view.emb (ix2 a d)) = Gen.V m c main_v1 (ix2 (rowOf t a) ⟨d.val, by omega⟩)
  congr 1
  funext b
  apply Fin.ext
  match b with
  | ⟨0, _⟩ => show win0_0.index t (0 : Fin 2) * 256 + 1 * a.val = t.val * 256 + a.val; omega
  | ⟨1, _⟩ => show win0_0.index t (1 : Fin 2) * 2048 + 1 * d.val = d.val; omega

theorem iblk_u2 (t : Fin cfg0.N) (a : Fin 256) (d : Fin 2048) : (Gen.iblk m c 1 t : FVec Ideal S256x2048 .bf16) (ix2 a d) = aU m c (ix3 (bOf (rowOf t a)) (iOf (rowOf t a)) ⟨2048 + d.val, by omega⟩) := by
  refine Eq.trans ?_ (V_u_at m c _ _)
  obtain ⟨-, -, h0, h1, -⟩ := index_all t
  show Gen.V m c main_v1 (((cfg0.win 1).blk t).view.emb (ix2 a d)) = Gen.V m c main_v1 (ix2 (rowOf t a) ⟨2048 + d.val, by omega⟩)
  congr 1
  funext b
  apply Fin.ext
  match b with
  | ⟨0, _⟩ => show win0_1.index t (0 : Fin 2) * 256 + 1 * a.val = t.val * 256 + a.val; omega
  | ⟨1, _⟩ => show win0_1.index t (1 : Fin 2) * 2048 + 1 * d.val = 2048 + d.val; omega

theorem iblk_g (t : Fin cfg0.N) (d : Fin 2048) : (Gen.iblk m c 2 t : FVec Ideal S1x2048 .f32) (ix2 0 d) = aG m c (ix2 0 d) := by
  refine Eq.trans ?_ (V_g_at m c _)
  obtain ⟨h0, h1, -⟩ := index_whole t
  show Gen.V m c main_v7 (((cfg0.win 2).blk t).view.emb (ix2 0 d)) = Gen.V m c main_v7 (ix2 0 d)
  congr 1
  funext b
  apply Fin.ext
  match b with
  | ⟨0, _⟩ => show win0_2.index t (0 : Fin 2) * 1 + 1 * 0 = 0; omega
  | ⟨1, _⟩ => show win0_2.index t (1 : Fin 2) * 2048 + 1 * d.val = d.val; omega

theorem iblk_w (t : Fin cfg0.N) (h : Fin 16) (a k : Fin 128) : (Gen.iblk m c 3 t : FVec Ideal S16x128x128 .f32) (ix3 h a k) = aW m c (ix4 0 h a k) := by
  refine Eq.trans ?_ (V_w_at m c _ _ _)
  obtain ⟨-, -, h0, h1, h2, -⟩ := index_whole t
  show Gen.V m c main_v3 (((cfg0.win 3).blk t).view.emb (ix3 h a k)) = Gen.V m c main_v3 (ix3 h a k)
  congr 1
  funext b
  apply Fin.ext
  match b with
  | ⟨0, _⟩ => show win0_3.index t (0 : Fin 3) * 16 + 1 * h.val = h.val; omega
  | ⟨1, _⟩ => show win0_3.index t (1 : Fin 3) * 128 + 1 * a.val = a.val; omega
  | ⟨2, _⟩ => show win0_3.index t (2 : Fin 3) * 128 + 1 * k.val = k.val; omega

theorem iblk_b (t : Fin cfg0.N) (a : Fin 128) (h : Fin 16) : (Gen.iblk m c 4 t : FVec Ideal S128x16 .f32) (ix2 a h) = aB m c (ix3 0 h a) := by
  refine Eq.trans ?_ (V_b_at m c _ _)
  obtain ⟨-, -, -, -, -, h0, h1, -⟩ := index_whole t
  show Gen.V m c main_v8 (((cfg0.win 4).blk t).view.emb (ix2 a h)) = Gen.V m c main_v8 (ix2 a h)
  congr 1
  funext b
  apply Fin.ext
  match b with
  | ⟨0, _⟩ => show win0_4.index t (0 : Fin 2) * 128 + 1 * a.val = a.val; omega
  | ⟨1, _⟩ => show win0_4.index t (1 : Fin 2) * 16 + 1 * h.val = h.val; omega

theorem iblk_r (t : Fin cfg0.N) (a : Fin 256) (s : Fin 2048) : (Gen.iblk m c 5 t : FVec Ideal S256x2048 .f32) (ix2 a s) = aR m c (ix3 (bOf (rowOf t a)) (iOf (rowOf t a)) s) := by
  refine Eq.trans ?_ (V_r_at m c _ _)
  obtain ⟨-, -, -, -, h0, h1, -⟩ := index_all t
  show Gen.V m c main_v5 (((cfg0.win 5).blk t).view.emb (ix2 a s)) = Gen.V m c main_v5 (ix2 (rowOf t a) s)
  congr 1
  funext b
  apply Fin.ext
  match b with
  | ⟨0, _⟩ => show win0_5.index t (0 : Fin 2) * 256 + 1 * a.val = t.val * 256 + a.val; omega
  | ⟨1, _⟩ => show win0_5.index t (1 : Fin 2) * 2048 + 1 * s.val = s.val; omega

theorem iblk_o (t : Fin cfg0.N) (d s : Fin 2048) : (Gen.iblk m c 6 t : FVec Ideal S1x2048x2048 .bf16) (ix3 0 d s) = aO m c (ix3 0 d s) := by
  refine Eq.trans ?_ (V_o_at m c _ _)
  obtain ⟨-, -, -, -, -, -, -, h0, h1, h2⟩ := index_whole t
  show Gen.V m c main_v6 (((cfg0.win 6).blk t).view.emb (ix3 0 d s)) = Gen.V m c main_v6 (ix3 0 d s)
  congr 1
  funext b
  apply Fin.ext
  match b with
  | ⟨0, _⟩ => show win0_6.index t (0 : Fin 3) * 1 + 1 * 0 = 0; omega
  | ⟨1, _⟩ => show win0_6.index t (1 : Fin 3) * 2048 + 1 * d.val = d.val; omega
  | ⟨2, _⟩ => show win0_6.index t (2 : Fin 3) * 2048 + 1 * s.val = s.val; omega

/-- The array the kernel ends with. -/
def G : FVec Ideal S8192x2048 .f32 := fun j => ent (aU m c) (aG m c) (aW m c) (aB m c) (aR m c) (aO m c) (j 0) (j 1)

/-- The gated rows of a grid point are those of its rows. -/
theorem gated_gte (t : Fin cfg0.N) (a : Fin 256) (d : Fin 2048) :
    gated (Gen.iblk m c 0 t) (Gen.k0_pay1 (Gen.iblk m c 1 t) (Gen.iblk m c 2 t)) (Gen.iblk m c 3 t) (Gen.iblk m c 4 t) (ix2 a d)
      = gte (aU m c) (aG m c) (aW m c) (aB m c) (rowOf t a) d := by
  have ht := N_lt t
  have ea : (⟨a.val % 128, by omega⟩ : Fin 128) = aOf (rowOf t a) := Fin.ext (by show a.val % 128 = (t.val * 256 + a.val) % 4096 % 128; omega)
  have eb : ∀ k : Fin 128, bOf (rowOf t ⟨a.val / 128 * 128 + k.val, by omega⟩) = bOf (rowOf t a) := fun k => Fin.ext (by
    show (t.val * 256 + (a.val / 128 * 128 + k.val)) / 4096 = (t.val * 256 + a.val) / 4096; omega)
  have ei : ∀ k : Fin 128, iOf (rowOf t ⟨a.val / 128 * 128 + k.val, by omega⟩) = cOf (rowOf t a) k := fun k => Fin.ext (by
    show (t.val * 256 + (a.val / 128 * 128 + k.val)) % 4096 = (t.val * 256 + a.val) % 4096 / 128 * 128 + k.val; omega)
  have e1 : ∀ k : Fin 128, Gen.k0_pay1 (Gen.iblk m c 1 t) (Gen.iblk m c 2 t) (ix2 (⟨a.val / 128 * 128 + k.val, by omega⟩ : Fin 256) d)
      = nrm (fun d => aU m c (ix3 (bOf (rowOf t a)) (cOf (rowOf t a) k) ⟨2048 + d.val, by omega⟩)) (fun d => aG m c (ix2 0 d)) d := by
    intro k
    refine (norm_at _ _ _ _).trans (congrArg₂ (fun x g => nrm x g d) (funext fun e => ?_) (funext fun e => iblk_g m c t e))
    refine (iblk_u2 m c t _ e).trans ?_
    rw [eb k, ei k]
  have e2 : ∀ k : Fin 128, (Gen.iblk m c 3 t : FVec Ideal S16x128x128 .f32) (ix3 (hOf d) (aOf (rowOf t a)) k) = aW m c (ix4 0 (hOf d) (aOf (rowOf t a)) k) := fun k => iblk_w m c t _ _ _
  show mix ((Gen.iblk m c 0 t : FVec Ideal S256x2048 .bf16) (ix2 a d)) ⟨a.val % 128, _⟩ (fun k => (Gen.iblk m c 3 t : FVec Ideal S16x128x128 .f32) (ix3 (hOf d) ⟨a.val % 128, _⟩ k))
    (fun k => Gen.k0_pay1 (Gen.iblk m c 1 t) (Gen.iblk m c 2 t) (ix2 (⟨a.val / 128 * 128 + k.val, _⟩ : Fin 256) d)) ((Gen.iblk m c 4 t : FVec Ideal S128x16 .f32) (ix2 ⟨a.val % 128, _⟩ (hOf d))) = _
  rw [ea, funext e1, funext e2, iblk_u, iblk_b]
  rfl

/-- Reading the result's array at an entry of a point's block. -/
theorem entry_at (t : Fin cfg0.N) (a : Fin 256) (s : Fin 2048) :
    ((Gen.dats m 0 c).arrAt 7 cfg0.N : FVec Ideal S8192x2048 .f32) (ix2 (rowOf t a) s) = ent (aU m c) (aG m c) (aW m c) (aB m c) (aR m c) (aO m c) (rowOf t a) s := by
  obtain ⟨-, -, -, -, -, -, h0, h1⟩ := index_all t
  have hi : (((cfg0.win 7).blk t).view.emb (ix2 a s) : S8192x2048.Idx) = ix2 (rowOf t a) s := by
    funext e
    apply Fin.ext
    match e with
    | ⟨0, _⟩ => show win0_7.index t (0 : Fin 2) * 256 + 1 * a.val = t.val * 256 + a.val; omega
    | ⟨1, _⟩ => show win0_7.index t (1 : Fin 2) * 2048 + 1 * s.val = s.val; omega
  rw [← hi]
  refine (congrFun ((Value.blocks7 m c t (flush_all t)).trans (Value.flushed7_A m c t)) (ix2 a s)).trans ?_
  refine (out_A c (grid0.coords t) _ _ _ _ _ _ _ _ _ _ _ _ _ _ _ _ _ _ _ _ (Gen.iblk m c 0 t) (Gen.iblk m c 1 t) (Gen.iblk m c 2 t) (Gen.iblk m c 3 t) (Gen.iblk m c 4 t) (Gen.iblk m c 5 t) (Gen.iblk m c 6 t) a s).trans ?_
  exact congrArg₂ (· + ·) (iblk_r m c t a s) (Finset.sum_congr rfl fun d _ => congrArg₂ (· * ·) (gated_gte m c t a d) (iblk_o m c t d s))

theorem final : ((Gen.dats m 0 c).arrAt 7 cfg0.N : FVec Ideal S8192x2048 .f32) = G m c := by
  funext j
  have hp : (j 0).val / 256 < cfg0.N := by
    have h0 : (j 0).val < 8192 := (j 0).isLt
    show _ < 32; omega
  have h0 : rowOf ⟨_, hp⟩ ⟨(j 0).val % 256, by omega⟩ = j 0 := Fin.ext (by
    show (j 0).val / 256 * 256 + (j 0).val % 256 = (j 0).val; omega)
  have e := entry_at m c ⟨_, hp⟩ ⟨(j 0).val % 256, by omega⟩ (j 1)
  rw [h0] at e
  rw [eq_ix2 j]
  exact e

/-- The run's result is this array. -/
theorem run (ρ : Dev nD → PrngReg) :
    θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks (F := Ideal) m ρ)

end Cert.GateVal
-- ==== Proof.SsdDtVal.lean ====
module

public import proofs.«01_k».proof.Proof.Gen.SsdDtReferenceIdeal.Run
public import proofs.«01_k».proof.Proof.Gen.SsdDtIdeal.Value
public import Idealize.ShloMosaic.Lib.Pipeline.ValueKit
public import proofs.«01_k».proof.Proof.Norm
public import proofs.«01_k».proof.Proof.Row

@[expose] public section

noncomputable section

/-! The projection to the scan's step sizes: the array the kernel ends with, and the reference's. -/

namespace Cert.SsdDtVal

open Cert.Lin
open Idealize.ShloMosaic

/-- A weight of the step sizes' columns, zero past the last. -/
def wdt (w : FVec Ideal ⟨3, ![1, 2048, 10304]⟩ .f32) (d : Fin 2048) (s : Fin 128) : EReal :=
  if h : s.val < 64 then w (ix3 0 d ⟨10240 + s.val, by omega⟩) else 0

/-- The padding's value. -/
theorem fill_zero : (FloatOps.sitofp .f32 (0#32 : BitVec 32) : Ideal .f32) = (0 : EReal) := by
  show (((0#32 : BitVec 32).toInt : ℝ) : EReal) = 0
  simp

/-- One entry of the result. -/
def ent (h : FVec Ideal ⟨3, ![2, 4096, 2048]⟩ .f32) (g : FVec Ideal ⟨2, ![4, 2048]⟩ .f32) (w : FVec Ideal ⟨3, ![1, 2048, 10304]⟩ .f32) (r : Fin 8192) (s : Fin 128) : EReal :=
  ∑ d : Fin 2048, nrm (hrow h r) (fun d => g (ix2 2 d)) d * wdt w d s

end Cert.SsdDtVal

namespace Cert.SsdDtVal

open Cert.SsdDtIdeal
open Facts₀ Facts
open Cert.Lin
open Idealize.ShloMosaic Idealize.ShloMosaic.TcCoe Idealize.SL.Sem

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x2048x128 .bf16) (harg4 : arg4.IsWhole) (arg5 : Memref sig .tc .vmem S1024x128 .f32) (harg5 : arg5.IsWhole) (arg6 : Memref sig .tc .vmem S1024x2048 .bf16) (harg6 : arg6.IsWhole)
  (x0 : Vec Ideal S1024x2048 .f32) (x1 : Vec Ideal S1x2048 .f32) (x2 : Vec Ideal S1x2048x128 .bf16)

/-- One product of a quarter of the rows. -/
theorem prod_at (xs : FVec Ideal S1024x2048 .bf16) (w : FVec Ideal S1x2048x128 .bf16) (o : ℕ) (ho : o + 256 ≤ 1024) (x : S256x128.Idx) (a : Fin 1024) (b : Fin 128) (ha : a.val = o + (x 0).val) (hb : b.val = (x 1).val) :
    (matmul dot_S256x2048_S2048x128_S256x128_1_0_0_1_n_n none (rowsFrom xs o ho) (shapeCast S2048x128 w Gen.shapeCasts_S1x2048x128_S2048x128) (constant S256x128 .f32 0x00000000#32) : FVec Ideal S256x128 .f32) x
      = ∑ d : Fin 2048, xs (ix2 a d) * w (ix3 0 d b) := by
  rw [eq_ix2 x]
  pointwise
  refine Finset.sum_congr rfl fun d _ => ?_
  rw [rowsFrom_at xs o ho (x 0) d a ha]
  rw [show b = (x 1) from Fin.ext hb]
  try rfl

/-- Every step leaves the products of the rows it normalized. -/
theorem out_A (hc : Gen.cond0_0 i) (j : S1024x128.Idx) :
    Gen.out0_A_3 c i arg2 harg2 arg3 harg3 arg4 harg4 arg5 harg5 arg6 harg6 hc x0 x1 x2 j = ∑ d : Fin 2048, (Gen.k0_pay1 x0 x1 (ix2 (j 0) d) : EReal) * x2 (ix3 0 d (j 1)) := by
  frame_out
  repeat rw [View.readCov_fill _ _ _ _ _ (by decide)]
  generalize Gen.k0_pay1 x0 x1 = xs
  simp only [ld_rows]
  canon_tiles x h
  all_goals
    open_payloads
    first
      | exact prod_at xs x2 _ _ x (j 0) (j 1) h0 h1
      | exact prod_at xs x2 0 _ x (j 0) (j 1) (h0.trans (Nat.zero_add _).symm) h1

theorem pay1_at (x : FVec Ideal S1024x2048 .f32) (g : FVec Ideal S1x2048 .f32) (a : Fin 1024) (s : Fin 2048) : Gen.k0_pay1 (F := Ideal) x g (ix2 a s) = nrm (fun d => x (ix2 a d)) (fun d => g (ix2 0 d)) s := by
  unfold Gen.k0_pay1
  pointwise
  rfl

/-- Where each grid point's blocks lie. -/
theorem index_all : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 := by
  decide +kernel

theorem flush_all : ∀ t : Fin cfg0.N, (cfg0.win 3).flush t = true := by
  decide +kernel

theorem N_lt (t : Fin cfg0.N) : t.val < 8 := t.isLt

end Cert.SsdDtVal

namespace Cert.SsdDtVal

open Cert.SsdDtIdeal
open Facts₀ Facts
open Cert.Lin
open Idealize.ShloMosaic Idealize.ShloMosaic.TcCoe Idealize.SL.Sem

variable (m : (ℓ : Loc nD τ sig) → ℓ.ty.Contents (Elt Ideal)) (c : Dev nD)

/-- The rows. -/
abbrev aH : FVec Ideal S2x4096x2048 .f32 := m ((c : Thread nD τ).loc main_arg0)
/-- The gains. -/
abbrev aG : FVec Ideal S4x2048 .f32 := m ((c : Thread nD τ).loc main_arg1)
/-- The weights in. -/
abbrev aI : FVec Ideal S1x2048x10304 .f32 := m ((c : Thread nD τ).loc main_arg2)

/-- The arrays the kernel reads. -/
theorem V_h : Gen.V m c main_v5 = (shapeCast S8192x2048 (aH m c) shapeCasts_S2x4096x2048_S8192x2048 : FVec Ideal S8192x2048 .f32) := by
  unfold Gen.V
  simp only [Gen.hostOps0, List.flatten_cons, List.flatten_nil, List.append_nil, List.cons_append, List.nil_append]
  after_results
  rfl
theorem V_g : Gen.V m c main_v8 = (shapeCast S1x2048 (shapeCast S2048 (extractStridedSlice S1x2048 ![2, 0] (aG m c) slices_S4x2048_S1x2048_2_0) shapeCasts_S1x2048_S2048) shapeCasts_S2048_S1x2048 : FVec Ideal S1x2048 .f32) := by
  unfold Gen.V
  simp only [Gen.hostOps0, List.flatten_cons, List.flatten_nil, List.append_nil, List.cons_append, List.nil_append]
  after_results
  rfl
theorem V_i : Gen.V m c main_v4 = (broadcastInDim S1x2048x128 ![1, 2] bcast_S2048x128_S1x2048x128_1_2 (truncf .bf16 (pad S2048x128 ![0, 0] ![0, 64] ![0, 0] (shapeCast S2048x64 (extractStridedSlice S1x2048x64 ![0, 0, 10240] (aI m c) slices_S1x2048x10304_S1x2048x64_0_0_10240) shapeCasts_S1x2048x64_S2048x64 : FVec Ideal S2048x64 .f32) (sitofp .f32 (constantI S_ 32 0#32)) pads_S2048x64_S2048x128_000_0640 h_S_ : FVec Ideal S2048x128 .f32) bitsLt_bf16_f32 : FVec Ideal S2048x128 .bf16) : FVec Ideal S1x2048x128 .bf16) := by
  unfold Gen.V
  simp only [Gen.hostOps0, StableHlo.TRef.binary, StableHlo.TRef.unary, StableHlo.TRef.toBuf, StableHlo.TRef.ofBuf, cast_eq, List.flatten_cons, List.flatten_nil, List.append_nil, List.cons_append, List.nil_append]
  after_results
  rfl

theorem V_h_at (r : Fin 8192) (d : Fin 2048) : (Gen.V m c main_v5 : FVec Ideal S8192x2048 .f32) (ix2 r d) = hrow (aH m c) r d := by
  rw [V_h]
  pointwise
  rfl
theorem V_g_at (d : Fin 2048) : (Gen.V m c main_v8 : FVec Ideal S1x2048 .f32) (ix2 0 d) = aG m c (ix2 2 d) := by
  rw [V_g]
  pointwise
theorem V_i_at (d : Fin 2048) (j : Fin 128) : (Gen.V m c main_v4 : FVec Ideal S1x2048x128 .bf16) (ix3 0 d j) = wdt (aI m c) d j := by
  rw [V_i]
  pointwise
  unfold wdt
  split
  · rfl
  · exact fill_zero

/-- The row of an array that a block's row is. -/
def rowOf (t : Fin cfg0.N) (a : Fin 1024) : Fin 8192 := ⟨t.val * 1024 + a.val, by have := N_lt t; omega⟩

theorem iblk_h (t : Fin cfg0.N) (a : Fin 1024) (d : Fin 2048) : (Gen.iblk m c 0 t : FVec Ideal S1024x2048 .f32) (ix2 a d)
    = hrow (aH m c) (rowOf t a) d := by
  refine Eq.trans ?_ (V_h_at m c _ _)
  obtain ⟨h0, h1, -⟩ := index_all t
  show Gen.V m c main_v5 (((cfg0.win 0).blk t).view.emb (ix2 a d)) = Gen.V m c main_v5 (ix2 (rowOf t a) d)
  congr 1
  funext b
  apply Fin.ext
  match b with
  | ⟨0, _⟩ => show win0_0.index t (0 : Fin 2) * 1024 + 1 * a.val = t.val * 1024 + a.val; omega
  | ⟨1, _⟩ => show win0_0.index t (1 : Fin 2) * 2048 + 1 * d.val = d.val; omega

theorem iblk_g (t : Fin cfg0.N) (d : Fin 2048) : (Gen.iblk m c 1 t : FVec Ideal S1x2048 .f32) (ix2 0 d)
    = aG m c (ix2 2 d) := by
  refine Eq.trans ?_ (V_g_at m c d)
  obtain ⟨-, -, h0, h1, -⟩ := index_all t
  show Gen.V m c main_v8 (((cfg0.win 1).blk t).view.emb (ix2 0 d)) = Gen.V m c main_v8 (ix2 0 d)
  congr 1
  funext b
  apply Fin.ext
  match b with
  | ⟨0, _⟩ => show win0_1.index t (0 : Fin 2) * 1 + 1 * 0 = 0; omega
  | ⟨1, _⟩ => show win0_1.index t (1 : Fin 2) * 2048 + 1 * d.val = d.val; omega

theorem iblk_i (t : Fin cfg0.N) (d : Fin 2048) (j : Fin 128) : (Gen.iblk m c 2 t : FVec Ideal S1x2048x128 .bf16) (ix3 0 d j)
    = wdt (aI m c) d j := by
  refine Eq.trans ?_ (V_i_at m c _ _)
  obtain ⟨-, -, -, -, h0, h1, h2, -⟩ := index_all t
  show Gen.V m c main_v4 (((cfg0.win 2).blk t).view.emb (ix3 0 d j)) = Gen.V m c main_v4 (ix3 0 d j)
  congr 1
  funext b
  apply Fin.ext
  match b with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 128 + 1 * j.val = j.val; omega

/-- The normalized rows of a point. -/
theorem norm_at (t : Fin cfg0.N) (a : Fin 1024) (d : Fin 2048) :
    Gen.k0_pay1 (F := Ideal) (Gen.iblk m c 0 t) (Gen.iblk m c 1 t) (ix2 a d) = nrm (hrow (aH m c) (rowOf t a)) (fun d => aG m c (ix2 2 d)) d := by
  rw [pay1_at]
  simp only [iblk_h, iblk_g]

/-- The array the kernel ends with. -/
def G : FVec Ideal S8192x128 .f32 := fun j => ent (aH m c) (aG m c) (aI m c) (j 0) (j 1)

/-- Reading the result's array at an entry of a point's block. -/
theorem entry_at (t : Fin cfg0.N) (a : Fin 1024) (s : Fin 128) :
    ((Gen.dats m 0 c).arrAt 3 cfg0.N : FVec Ideal S8192x128 .f32) (ix2 (rowOf t a) s) = ent (aH m c) (aG m c) (aI m c) (rowOf t a) s := by
  obtain ⟨-, -, -, -, -, -, -, h0, h1⟩ := index_all t
  have hi : (((cfg0.win 3).blk t).view.emb (ix2 a s) : S8192x128.Idx) = ix2 (rowOf t a) s := by
    funext e
    apply Fin.ext
    match e with
    | ⟨0, _⟩ => show win0_3.index t (0 : Fin 2) * 1024 + 1 * a.val = t.val * 1024 + a.val; omega
    | ⟨1, _⟩ => show win0_3.index t (1 : Fin 2) * 128 + 1 * s.val = s.val; omega
  rw [← hi]
  refine (congrFun ((Value.blocks3 m c t (flush_all t)).trans (Value.flushed3_A m c t)) (ix2 a s)).trans ?_
  refine (out_A c (grid0.coords t) _ _ _ _ _ _ _ _ _ _ (Gen.iblk m c 0 t) (Gen.iblk m c 1 t) (Gen.iblk m c 2 t) _ (ix2 a s)).trans ?_
  exact Finset.sum_congr rfl fun d _ => congrArg₂ (· * ·) (norm_at m c t a d) (iblk_i m c t d s)

theorem final : ((Gen.dats m 0 c).arrAt 3 cfg0.N : FVec Ideal S8192x128 .f32) = G m c := by
  funext j
  have hp : (j 0).val / 1024 < cfg0.N := by
    have h0 : (j 0).val < 8192 := (j 0).isLt
    show _ < 8; omega
  have h0 : rowOf ⟨_, hp⟩ ⟨(j 0).val % 1024, by omega⟩ = j 0 := Fin.ext (by
    show (j 0).val / 1024 * 1024 + (j 0).val % 1024 = (j 0).val; omega)
  have e := entry_at m c ⟨_, hp⟩ ⟨(j 0).val % 1024, by omega⟩ (j 1)
  rw [h0] at e
  rw [eq_ix2 j]
  exact e

/-- The run's result is this array. -/
theorem run (ρ : Dev nD → PrngReg) :
    θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks (F := Ideal) m ρ)

end Cert.SsdDtVal

namespace Cert.SsdDtVal.Ref

open Cert.SsdDtReferenceIdeal Cert.SsdDtReferenceIdeal.Gen
open Cert.Lin
open Idealize.ShloMosaic Idealize.SL.Sem Idealize.ShloMosaic.TcCoe

/-- The normalized rows. -/
def normed (h : FVec Ideal S2x4096x2048 .f32) (g : FVec Ideal S4x2048 .f32) : FVec Ideal S2x4096x2048 .f32 :=
  mulf (mulf h (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf h h) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast S2048 (extractStridedSlice S1x2048 ![2, 0] g slices_S4x2048_S1x2048_2_0) shapeCasts_S1x2048_S2048)))

/-- The result. -/
def out (h : FVec Ideal S2x4096x2048 .f32) (g : FVec Ideal S4x2048 .f32) (wi : FVec Ideal S1x2048x10304 .f32) : FVec Ideal S8192x128 .f32 :=
  pad S8192x128 ![0, 0] ![0, 64] ![0, 0] (shapeCast S8192x64 (extractStridedSlice S2x4096x64 ![0, 0, 10240] (Host.dotGeneral dot_S2x4096x2048_S2048x10304_S2x4096x10304_2_0_01_1_n_n none (normed h g) (shapeCast S2048x10304 wi shapeCasts_S1x2048x10304_S2048x10304)) slices_S2x4096x10304_S2x4096x64_0_0_10240) shapeCasts_S2x4096x64_S8192x64) (sitofp .f32 (constantI S_ 32 0#32)) pads_S8192x64_S8192x128_000_0640 h_S_

variable (h : FVec Ideal S2x4096x2048 .f32) (g : FVec Ideal S4x2048 .f32) (wi : FVec Ideal S1x2048x10304 .f32)

theorem normed_at (b : Fin 2) (i : Fin 4096) (d : Fin 2048) : normed h g (ix3 b i d) = nrm (fun d => h (ix3 b i d)) (fun d => g (ix2 2 d)) d := by
  unfold normed
  pointwise
  rfl

/-- The result, entry by entry. -/
theorem out_at (r : Fin 8192) (s : Fin 128) : out h g wi (ix2 r s) = ent h g wi r s := by
  unfold out
  pointwise
  unfold ent
  split <;> rename_i hs
  · refine Finset.sum_congr rfl fun d _ => congrArg₂ (· * ·) (normed_at h g _ _ d) ?_
    exact (show wdt wi d s = wi (ix3 0 d ⟨10240 + s.val, by omega⟩) from dif_pos hs).symm
  · refine fill_zero.trans (Finset.sum_eq_zero fun d _ => ?_).symm
    exact (congrArg (_ * ·) (dif_neg hs)).trans (mul_zero _)

/-- The run's result is this term. -/
theorem run_out (m : (ℓ : Loc nD τ sig) → ℓ.ty.Contents (Elt Ideal)) (ρ : Dev nD → PrngReg) :
    θ_run defs (onTc (τ := τ) (main (F := Ideal))) ⟨m, fun _ => 0, ρ⟩ fun r => ∀ c : Dev nD,
      r.2.mem ((c.tc : Thread nD τ).loc main_v19) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.SsdDtReferenceIdeal.Value.run (F := Ideal) m ρ

end Cert.SsdDtVal.Ref
-- ==== Proof.lean ====
/- The claims of this certificate. -/
module

public import proofs.«01_k».proof.Defs
public import proofs.«01_k».proof.Proof.Arr
public import proofs.«01_k».proof.Proof.Finite
public import proofs.«01_k».proof.Proof.KFrame
public import proofs.«01_k».proof.Proof.Gen.ReferenceIdeal.Run
public import proofs.«01_k».proof.Proof.MlpKer
public import proofs.«01_k».proof.Proof.MlpRef
public import proofs.«01_k».proof.Proof.Gen.Mlp.Frame
public import proofs.«01_k».proof.Proof.Gen.Qkv.Frame
public import proofs.«01_k».proof.Proof.QkvKer
public import proofs.«01_k».proof.Proof.QkvRef
public import proofs.«01_k».proof.Proof.Gen.Out.Frame
public import proofs.«01_k».proof.Proof.OutVal
public import proofs.«01_k».proof.Proof.Gen.SsdIn.Frame
public import proofs.«01_k».proof.Proof.SsdKer
public import proofs.«01_k».proof.Proof.SsdRef
public import proofs.«01_k».proof.Proof.Gen.SsdOut.Frame
public import proofs.«01_k».proof.Proof.SsdOutVal
public import proofs.«01_k».proof.Proof.Gen.GmIn.Frame
public import proofs.«01_k».proof.Proof.GmInKer
public import proofs.«01_k».proof.Proof.GmInRef
public import proofs.«01_k».proof.Proof.Gen.GmGate.Frame
public import proofs.«01_k».proof.Proof.GateVal
public import proofs.«01_k».proof.Proof.Gen.SsdDt.Frame
public import proofs.«01_k».proof.Proof.SsdDtVal
public import Idealize.ShloMosaic.Lib.Quiescent

@[expose] public section

noncomputable section

namespace Cert.Proof

open Idealize.ShloMosaic Idealize.ShloMosaic.TcCoe Idealize.SL.Sem

/-- The idealized program runs, leaves its arguments and ends with every counter at zero. -/
theorem frame_kernel_ideal : @Cert.quiescent_KernelIdeal Cert.KernelIdeal.Gen.facts := fun m ρ _ => Cert.Att.frame_all m ρ

/-- So does the reference. -/
theorem frame_reference : @Cert.quiescent_ReferenceIdeal Cert.ReferenceIdeal.Gen.facts := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The kernel's constant is named what it stands for, the inverse of the logarithm of two. -/
theorem preserved : Cert.preserves_Kernel_KernelIdeal :=
  IdealRules.named_const.statement Cert.KernelIdeal.κ "log2e" .f32 0x3FB8AA3B#32 (((Real.log 2)⁻¹ : ℝ) : EReal) rfl

section
open Cert.KernelIdeal Cert.Att

/-- The idealized program's run, with its three results as values of its arguments. -/
theorem run_values (m : (ℓ : Loc nD τ sig) → Buf (Elt Ideal) ℓ) (ρ : Dev nD → PrngReg) (H : ∀ c : Dev nD, Fin4 (argQ m c) ∧ Fin4 (argK m c)) :
    θ_run (Cert.KernelIdeal.defs (F := Ideal)) (onTc (τ := τ) (Cert.KernelIdeal.main (F := Ideal))) ⟨m, fun _ => 0, ρ⟩ fun r => ∀ c : Dev nD,
      r.2.mem ((c : Thread nD τ).loc main_v17_0) = Ref.out (argQ m c) (argK m c) (argV m c)
      ∧ r.2.mem ((c : Thread nD τ).loc main_v17_1) = w1 m c
      ∧ r.2.mem ((c : Thread nD τ).loc main_v17_2) = w2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run Cert.KernelIdeal.defs _ _).mono (fun r h c => ⟨((h.1.1 c).1 6).trans (final6 m c (H c).1 (H c).2), ((h.1.1 c).1 7).trans (final7 m c), ((h.1.1 c).1 8).trans (final8 m c), h.2.1 c⟩)
    (θ_run_and (run_all m ρ) (frame_all m ρ))

end

/-- Where queries and keys are real, the idealized program and the reference end with the same attention and the same weights. -/
theorem equal : @Cert.algebraic_KernelIdeal_ReferenceIdeal_pre_finite_qk Cert.KernelIdeal.Gen.facts Cert.ReferenceIdeal.Gen.facts Cert.Att.finite_facts :=
  fun m g m' g' hp ha =>
    ⟨fun c => Cert.Att.Ref.out (Cert.Att.argQ m c) (Cert.Att.argK m c) (Cert.Att.argV m c), fun c => Cert.Att.w1 m c, fun c => Cert.Att.w2 m c,
      run_values m g fun c => Cert.Att.finite_of_pre _ _ _ _ _ (hp c),
      (θ_run Cert.ReferenceIdeal.defs _ _).mono (fun r h c => ⟨(h c).1.trans ((Cert.Att.Ref.res_eq m' c).trans (by rw [(ha c).1, (ha c).2.1, (ha c).2.2.1])),
        (h c).2.1.trans (by rw [(ha c).2.2.2.1]; exact Cert.Att.w1_slice m c _), (h c).2.2.1.trans (by rw [(ha c).2.2.2.2]; exact Cert.Att.w2_slice m c _), (h c).2.2.2⟩)
        (Cert.ReferenceIdeal.Value.run (F := Ideal) m' g')⟩

/-- The idealized MLP runs, leaves its arguments and ends with every counter at zero. -/
theorem frame_mlp_reference : @Cert.quiescent_MlpReferenceIdeal Cert.MlpReferenceIdeal.Gen.facts := fun m ρ _ =>
  (θ_run Cert.MlpReferenceIdeal.defs _ _).mono (fun r h => ⟨fun c => (h c).2,
      Idealize.ShloMosaic.sem_eq_zero_of_no_sems (by decide) r.2⟩)
    (Cert.MlpReferenceIdeal.Value.run (F := Ideal) m ρ)

section
open Cert.MlpVal

/-- The kernel's array and the reference's are one. -/
theorem mlp_same (m : (ℓ : Loc Cert.MlpIdeal.nD Cert.MlpIdeal.τ Cert.MlpIdeal.sig) → ℓ.ty.Contents (Elt Ideal)) (c : Dev Cert.MlpIdeal.nD) :
    Cert.MlpVal.Ref.out (aH m c) (aG m c) (aI m c) (aO m c) = Cert.MlpIdeal.Value.G4 m c :=
  funext fun j => by rw [eq_ix2 j]; exact (Cert.MlpVal.Ref.out_at _ _ _ _ _ _).trans (G_at m c _ _).symm

end

/-- The MLP's kernel and the reference end with the same rows. -/
theorem equal_mlp : @Cert.algebraic_MlpIdeal_MlpReferenceIdeal Cert.MlpIdeal.Gen.facts Cert.MlpReferenceIdeal.Gen.facts :=
  fun m g m' g' _ ha =>
    ⟨fun c => Cert.MlpIdeal.Value.G4 m c, Cert.MlpIdeal.Value.run (F := Ideal) m g,
      (θ_run Cert.MlpReferenceIdeal.defs _ _).mono (fun r h c => ⟨(h c).1.trans (by
          rw [(ha c).1, (ha c).2.1, (ha c).2.2.1, (ha c).2.2.2]; exact mlp_same m c), (h c).2⟩)
        (Cert.MlpVal.Ref.run_out m' g')⟩

/-! The queries, keys and values. -/

theorem frame_qkv_reference : @Cert.quiescent_QkvReferenceIdeal Cert.QkvReferenceIdeal.Gen.facts := fun m ρ _ =>
  (θ_run Cert.QkvReferenceIdeal.defs _ _).mono (fun r h => ⟨fun c => (h c).2,
      Idealize.ShloMosaic.sem_eq_zero_of_no_sems (by decide) r.2⟩)
    (Cert.QkvReferenceIdeal.Value.run (F := Ideal) m ρ)

section
open Cert.QkvVal

/-- The kernel's array and the reference's are one. -/
theorem qkv_same (m : (ℓ : Loc Cert.QkvIdeal.nD Cert.QkvIdeal.τ Cert.QkvIdeal.sig) → ℓ.ty.Contents (Elt Ideal)) (c : Dev Cert.QkvIdeal.nD) :
    Cert.QkvVal.Ref.out (aH m c) (aG m c) (aI m c) (aQ m c) (aK m c) = Cert.QkvIdeal.Value.G4 m c :=
  funext fun j => by rw [eq_ix2 j]; exact (Cert.QkvVal.Ref.out_at _ _ _ _ _ _ _).trans (G_at m c _ _).symm

end

/-- The kernel and the reference end with the same array. -/
theorem equal_qkv : @Cert.algebraic_QkvIdeal_QkvReferenceIdeal Cert.QkvIdeal.Gen.facts Cert.QkvReferenceIdeal.Gen.facts :=
  fun m g m' g' _ ha =>
    ⟨fun c => Cert.QkvIdeal.Value.G4 m c, Cert.QkvIdeal.Value.run (F := Ideal) m g,
      (θ_run Cert.QkvReferenceIdeal.defs _ _).mono (fun r h c => ⟨(h c).1.trans (by
          rw [(ha c).1, (ha c).2.1, (ha c).2.2.1, (ha c).2.2.2.1, (ha c).2.2.2.2]; exact qkv_same m c), (h c).2⟩)
        (Cert.QkvVal.Ref.run_out m' g')⟩

/-! The attention's output projection. -/

theorem frame_out_reference : @Cert.quiescent_OutReferenceIdeal Cert.OutReferenceIdeal.Gen.facts := fun m ρ _ =>
  (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

section
open Cert.OutVal

/-- The kernel's array and the reference's are one. -/
theorem out_same (m : (ℓ : Loc Cert.OutIdeal.nD Cert.OutIdeal.τ Cert.OutIdeal.sig) → ℓ.ty.Contents (Elt Ideal)) (c : Dev Cert.OutIdeal.nD) :
    Cert.OutVal.Ref.out (aX m c) (aW m c) (aR m c) = Cert.OutVal.G m c :=
  funext fun j => by rw [eq_ix2 j]; exact (Cert.OutVal.Ref.out_at _ _ _ _ _).trans rfl

end

/-- The kernel and the reference end with the same array. -/
theorem equal_out : @Cert.algebraic_OutIdeal_OutReferenceIdeal Cert.OutIdeal.Gen.facts Cert.OutReferenceIdeal.Gen.facts :=
  fun m g m' g' _ ha =>
    ⟨fun c => Cert.OutVal.G m c, Cert.OutVal.run m g,
      (θ_run Cert.OutReferenceIdeal.defs _ _).mono (fun r h c => ⟨(h c).1.trans (by
          rw [(ha c).1, (ha c).2.1, (ha c).2.2]; exact out_same m c), (h c).2⟩)
        (Cert.OutVal.Ref.run_out m' g')⟩

/-! The scan's projection. -/

theorem frame_ssd_in_reference : @Cert.quiescent_SsdInReferenceIdeal Cert.SsdInReferenceIdeal.Gen.facts := fun m ρ _ =>
  (θ_run Cert.SsdInReferenceIdeal.defs _ _).mono (fun r h => ⟨fun c => (h c).2,
      Idealize.ShloMosaic.sem_eq_zero_of_no_sems (by decide) r.2⟩)
    (Cert.SsdInReferenceIdeal.Value.run (F := Ideal) m ρ)

section
open Cert.SsdVal

/-- The kernel's array and the reference's are one. -/
theorem ssd_in_same (m : (ℓ : Loc Cert.SsdInIdeal.nD Cert.SsdInIdeal.τ Cert.SsdInIdeal.sig) → ℓ.ty.Contents (Elt Ideal)) (c : Dev Cert.SsdInIdeal.nD) :
    Cert.SsdVal.Ref.out (aH m c) (aG m c) (aI m c) = Cert.SsdInIdeal.Value.G3 m c :=
  funext fun j => by rw [eq_ix2 j]; exact (Cert.SsdVal.Ref.out_at _ _ _ _ _).trans (G_at m c _ _).symm

end

/-- The kernel and the reference end with the same array. -/
theorem equal_ssd_in : @Cert.algebraic_SsdInIdeal_SsdInReferenceIdeal Cert.SsdInIdeal.Gen.facts Cert.SsdInReferenceIdeal.Gen.facts :=
  fun m g m' g' _ ha =>
    ⟨fun c => Cert.SsdInIdeal.Value.G3 m c, Cert.SsdInIdeal.Value.run (F := Ideal) m g,
      (θ_run Cert.SsdInReferenceIdeal.defs _ _).mono (fun r h c => ⟨(h c).1.trans (by
          rw [(ha c).1, (ha c).2.1, (ha c).2.2]; exact ssd_in_same m c), (h c).2⟩)
        (Cert.SsdVal.Ref.run_out m' g')⟩

/-! The scan's output projection. -/

theorem frame_ssd_out_reference : @Cert.quiescent_SsdOutReferenceIdeal Cert.SsdOutReferenceIdeal.Gen.facts := fun m ρ _ =>
  (θ_run Cert.SsdOutReferenceIdeal.defs _ _).mono (fun r h => ⟨fun c => (h c).2,
      Idealize.ShloMosaic.sem_eq_zero_of_no_sems (by decide) r.2⟩)
    (Cert.SsdOutReferenceIdeal.Value.run (F := Ideal) m ρ)

section
open Cert.SsdOutVal

/-- The kernel's array and the reference's are one. -/
theorem ssd_out_same (m : (ℓ : Loc Cert.SsdOutIdeal.nD Cert.SsdOutIdeal.τ Cert.SsdOutIdeal.sig) → ℓ.ty.Contents (Elt Ideal)) (c : Dev Cert.SsdOutIdeal.nD) :
    Cert.SsdOutVal.Ref.out (aX m c) (aW m c) (aR m c) = Cert.SsdOutVal.G m c :=
  funext fun j => by rw [eq_ix2 j]; exact (Cert.SsdOutVal.Ref.out_at _ _ _ _ _).trans rfl

end

/-- The kernel and the reference end with the same array. -/
theorem equal_ssd_out : @Cert.algebraic_SsdOutIdeal_SsdOutReferenceIdeal Cert.SsdOutIdeal.Gen.facts Cert.SsdOutReferenceIdeal.Gen.facts :=
  fun m g m' g' _ ha =>
    ⟨fun c => Cert.SsdOutVal.G m c, Cert.SsdOutVal.run m g,
      (θ_run Cert.SsdOutReferenceIdeal.defs _ _).mono (fun r h c => ⟨(h c).1.trans (by
          rw [(ha c).1, (ha c).2.1, (ha c).2.2]; exact ssd_out_same m c), (h c).2⟩)
        (Cert.SsdOutVal.Ref.run_out m' g')⟩

/-! The gMLP's projection. -/

theorem frame_gm_in_reference : @Cert.quiescent_GmInReferenceIdeal Cert.GmInReferenceIdeal.Gen.facts := fun m ρ _ =>
  (θ_run Cert.GmInReferenceIdeal.defs _ _).mono (fun r h => ⟨fun c => (h c).2,
      Idealize.ShloMosaic.sem_eq_zero_of_no_sems (by decide) r.2⟩)
    (Cert.GmInReferenceIdeal.Value.run (F := Ideal) m ρ)

section
open Cert.GmInVal

/-- The kernel's array and the reference's are one. -/
theorem gm_in_same (m : (ℓ : Loc Cert.GmInIdeal.nD Cert.GmInIdeal.τ Cert.GmInIdeal.sig) → ℓ.ty.Contents (Elt Ideal)) (c : Dev Cert.GmInIdeal.nD) :
    Cert.GmInVal.Ref.out (aH m c) (aG m c) (aI m c) = Cert.GmInIdeal.Value.G3 m c :=
  funext fun j => by rw [eq_ix2 j]; exact (Cert.GmInVal.Ref.out_at _ _ _ _ _).trans (G_at m c _ _).symm

end

/-- The kernel and the reference end with the same array. -/
theorem equal_gm_in : @Cert.algebraic_GmInIdeal_GmInReferenceIdeal Cert.GmInIdeal.Gen.facts Cert.GmInReferenceIdeal.Gen.facts :=
  fun m g m' g' _ ha =>
    ⟨fun c => Cert.GmInIdeal.Value.G3 m c, Cert.GmInIdeal.Value.run (F := Ideal) m g,
      (θ_run Cert.GmInReferenceIdeal.defs _ _).mono (fun r h c => ⟨(h c).1.trans (by
          rw [(ha c).1, (ha c).2.1, (ha c).2.2]; exact gm_in_same m c), (h c).2⟩)
        (Cert.GmInVal.Ref.run_out m' g')⟩

/-! The gMLP's gate. -/

/-- The gate's reference stops with nothing in flight. -/
theorem frame_gm_gate_reference : @Cert.quiescent_GmGateReferenceIdeal Cert.GmGateReferenceIdeal.Gen.facts := fun m ρ _ =>
  (θ_run Cert.GmGateReferenceIdeal.defs _ _).mono (fun r h => ⟨fun c => (h c).2,
      Idealize.ShloMosaic.sem_eq_zero_of_no_sems (by decide) r.2⟩)
    (Cert.GmGateReferenceIdeal.Value.run (F := Ideal) m ρ)

/-- The reference's gated rows, projected and added, are the kernel's. -/
theorem gm_gate_same (m : (ℓ : Loc Cert.GmGateIdeal.nD Cert.GmGateIdeal.τ Cert.GmGateIdeal.sig) → ℓ.ty.Contents (Elt Ideal)) (c : Dev Cert.GmGateIdeal.nD) :
    Cert.GateVal.Ref.out (Cert.GateVal.aU m c) (Cert.GateVal.aG m c) (Cert.GateVal.aW m c) (Cert.GateVal.aB m c) (Cert.GateVal.aR m c) (Cert.GateVal.aO m c) = Cert.GateVal.G m c :=
  funext fun j => by rw [eq_ix2 j]; exact Cert.GateVal.Ref.out_at _ _ _ _ _ _ _ _

/-- The gate ends with its reference's array. -/
theorem equal_gm_gate : @Cert.algebraic_GmGateIdeal_GmGateReferenceIdeal Cert.GmGateIdeal.Gen.facts Cert.GmGateReferenceIdeal.Gen.facts :=
  fun m g m' g' _ ha =>
    ⟨fun c => Cert.GateVal.G m c, Cert.GateVal.run m g,
      (θ_run Cert.GmGateReferenceIdeal.defs _ _).mono (fun r h c => ⟨(h c).1.trans (by
          rw [(ha c).1, (ha c).2.1, (ha c).2.2.1, (ha c).2.2.2.1, (ha c).2.2.2.2.1, (ha c).2.2.2.2.2]; exact gm_gate_same m c), (h c).2⟩)
        (Cert.GateVal.Ref.run_out m' g')⟩

/-! The projection to the step sizes. -/

theorem frame_ssd_dt_reference : @Cert.quiescent_SsdDtReferenceIdeal Cert.SsdDtReferenceIdeal.Gen.facts := fun m ρ _ =>
  (θ_run Cert.SsdDtReferenceIdeal.defs _ _).mono (fun r h => ⟨fun c => (h c).2,
      Idealize.ShloMosaic.sem_eq_zero_of_no_sems (by decide) r.2⟩)
    (Cert.SsdDtReferenceIdeal.Value.run (F := Ideal) m ρ)

/-- The kernel's array and the reference's are one. -/
theorem ssd_dt_same (m : (ℓ : Loc Cert.SsdDtIdeal.nD Cert.SsdDtIdeal.τ Cert.SsdDtIdeal.sig) → ℓ.ty.Contents (Elt Ideal)) (c : Dev Cert.SsdDtIdeal.nD) :
    Cert.SsdDtVal.Ref.out (Cert.SsdDtVal.aH m c) (Cert.SsdDtVal.aG m c) (Cert.SsdDtVal.aI m c) = Cert.SsdDtVal.G m c :=
  funext fun j => by rw [eq_ix2 j]; exact Cert.SsdDtVal.Ref.out_at _ _ _ _ _

/-- The kernel and the reference end with the same array. -/
theorem equal_ssd_dt : @Cert.algebraic_SsdDtIdeal_SsdDtReferenceIdeal Cert.SsdDtIdeal.Gen.facts Cert.SsdDtReferenceIdeal.Gen.facts :=
  fun m g m' g' _ ha =>
    ⟨fun c => Cert.SsdDtVal.G m c, Cert.SsdDtVal.run m g,
      (θ_run Cert.SsdDtReferenceIdeal.defs _ _).mono (fun r h c => ⟨(h c).1.trans (by
          rw [(ha c).1, (ha c).2.1, (ha c).2.2]; exact ssd_dt_same m c), (h c).2⟩)
        (Cert.SsdDtVal.Ref.run_out m' g')⟩

/-- Everything claimed. -/
theorem claim : Cert.Claim :=
  ⟨Cert.Kernel.Gen.facts, Cert.KernelIdeal.Gen.facts, Cert.ReferenceIdeal.Gen.facts, Cert.Mlp.Gen.facts, Cert.MlpIdeal.Gen.facts, Cert.MlpReferenceIdeal.Gen.facts,
    Cert.Qkv.Gen.facts, Cert.QkvIdeal.Gen.facts, Cert.QkvReferenceIdeal.Gen.facts,
    Cert.Out.Gen.facts, Cert.OutIdeal.Gen.facts, Cert.OutReferenceIdeal.Gen.facts,
    Cert.SsdIn.Gen.facts, Cert.SsdInIdeal.Gen.facts, Cert.SsdInReferenceIdeal.Gen.facts,
    Cert.SsdOut.Gen.facts, Cert.SsdOutIdeal.Gen.facts, Cert.SsdOutReferenceIdeal.Gen.facts,
    Cert.GmIn.Gen.facts, Cert.GmInIdeal.Gen.facts, Cert.GmInReferenceIdeal.Gen.facts,
    Cert.GmGate.Gen.facts, Cert.GmGateIdeal.Gen.facts, Cert.GmGateReferenceIdeal.Gen.facts,
    Cert.SsdDt.Gen.facts, Cert.SsdDtIdeal.Gen.facts, Cert.SsdDtReferenceIdeal.Gen.facts,
    Cert.Att.finite_facts,
    Cert.Att.kernel_frame, frame_kernel_ideal, fun m ρ _ => frame_kernel_ideal m ρ trivial, frame_reference, fun m ρ _ => frame_reference m ρ trivial,
    fun m ρ _ => Cert.Mlp.Gen.frame m ρ, fun m ρ _ => Cert.MlpIdeal.Gen.frame m ρ, frame_mlp_reference,
    fun m ρ _ => Cert.Qkv.Gen.frame m ρ, fun m ρ _ => Cert.QkvIdeal.Gen.frame m ρ, frame_qkv_reference,
    fun m ρ _ => Cert.Out.Gen.frame m ρ, fun m ρ _ => Cert.OutIdeal.Gen.frame m ρ, frame_out_reference,
    fun m ρ _ => Cert.SsdIn.Gen.frame m ρ, fun m ρ _ => Cert.SsdInIdeal.Gen.frame m ρ, frame_ssd_in_reference,
    fun m ρ _ => Cert.SsdOut.Gen.frame m ρ, fun m ρ _ => Cert.SsdOutIdeal.Gen.frame m ρ, frame_ssd_out_reference,
    fun m ρ _ => Cert.GmIn.Gen.frame m ρ, fun m ρ _ => Cert.GmInIdeal.Gen.frame m ρ, frame_gm_in_reference,
    fun m ρ _ => Cert.GmGate.Gen.frame m ρ, fun m ρ _ => Cert.GmGateIdeal.Gen.frame m ρ, frame_gm_gate_reference,
    fun m ρ _ => Cert.SsdDt.Gen.frame m ρ, fun m ρ _ => Cert.SsdDtIdeal.Gen.frame m ρ, frame_ssd_dt_reference,
    preserved, equal, trivial, equal_mlp, trivial, equal_qkv, trivial, equal_out, trivial, equal_ssd_in, trivial, equal_ssd_out, trivial, equal_gm_in, trivial, equal_gm_gate, trivial, equal_ssd_dt⟩

end Cert.Proof

end
